-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4096 : Shape := ⟨1, ![4096]⟩
abbrev S4x2048x32 : Shape := ⟨3, ![4, 2048, 32]⟩
abbrev S4x32x32 : Shape := ⟨3, ![4, 32, 32]⟩
abbrev S4x32 : Shape := ⟨2, ![4, 32]⟩
abbrev S1x2048x32 : Shape := ⟨3, ![1, 2048, 32]⟩
abbrev S2048x32 : Shape := ⟨2, ![2048, 32]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S32x2048 : Shape := ⟨2, ![32, 2048]⟩
abbrev S2048x2048 : Shape := ⟨2, ![2048, 2048]⟩
abbrev S2048x4096 : Shape := ⟨2, ![2048, 4096]⟩
abbrev S4096x4096 : Shape := ⟨2, ![4096, 4096]⟩
abbrev S4096x21 : Shape := ⟨2, ![4096, 21]⟩
abbrev S4096x1 : Shape := ⟨2, ![4096, 1]⟩
abbrev S_ : Shape := ⟨0, ![]⟩

class Facts : Prop where
  slices_S4x2048x32_S1x2048x32_0_0_0 : S4x2048x32.Slices ![0, 0, 0] S1x2048x32
  shapeCasts_S1x2048x32_S2048x32 : S1x2048x32.ShapeCasts S2048x32
  slices_S4x32x32_S1x32x32_0_0_0 : S4x32x32.Slices ![0, 0, 0] S1x32x32
  shapeCasts_S1x32x32_S32x32 : S1x32x32.ShapeCasts S32x32
  transposes_S32x32_S32x32_1_0 : S32x32.Transposes [1, 0] S32x32
  slices_S4x32_S1x32_0_0 : S4x32.Slices ![0, 0] S1x32
  shapeCasts_S1x32_S32 : S1x32.ShapeCasts S32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  transposes_S2048x32_S32x2048_1_0 : S2048x32.Transposes [1, 0] S32x2048
  slices_S4x2048x32_S1x2048x32_1_0_0 : S4x2048x32.Slices ![1, 0, 0] S1x2048x32
  slices_S4x32x32_S1x32x32_1_0_0 : S4x32x32.Slices ![1, 0, 0] S1x32x32
  slices_S4x32_S1x32_1_0 : S4x32.Slices ![1, 0] S1x32
  concatenates_S2048x2048_S2048x2048_S2048x4096_d1 : Shape.Concatenates [S2048x2048, S2048x2048] S2048x4096 1
  slices_S4x2048x32_S1x2048x32_2_0_0 : S4x2048x32.Slices ![2, 0, 0] S1x2048x32
  slices_S4x32x32_S1x32x32_2_0_0 : S4x32x32.Slices ![2, 0, 0] S1x32x32
  slices_S4x32_S1x32_2_0 : S4x32.Slices ![2, 0] S1x32
  slices_S4x2048x32_S1x2048x32_3_0_0 : S4x2048x32.Slices ![3, 0, 0] S1x2048x32
  slices_S4x32x32_S1x32x32_3_0_0 : S4x32x32.Slices ![3, 0, 0] S1x32x32
  slices_S4x32_S1x32_3_0 : S4x32.Slices ![3, 0] S1x32
  concatenates_S2048x4096_S2048x4096_S4096x4096_d0 : Shape.Concatenates [S2048x4096, S2048x4096] S4096x4096 0
  sliceFits_S4096x4096_S4096x21 : S4096x4096.Slices (fun _ => 0) S4096x21
  slices_S4096x21_S4096x1_0_19 : S4096x21.Slices ![0, 19] S4096x1
  shapeCasts_S4096x1_S4096 : S4096x1.ShapeCasts S4096
  slices_S4096x21_S4096x1_0_20 : S4096x21.Slices ![0, 20] S4096x1
  bcast_S_S4096 : S_.BroadcastsInDim S4096 (![] : Fin 0 → Fin S4096.rank)
  dot_S2048x32_S32x32_S2048x32_1_0_0_1_n_n_wf : DotDims.WF S2048x32 S32x32 S2048x32 [1] [0] [0] [1] [] []
  dot_S2048x32_S32x2048_S2048x2048_1_0_0_1_n_n_wf : DotDims.WF S2048x32 S32x2048 S2048x2048 [1] [0] [0] [1] [] []

variable [Facts]

def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x2048_S2048x2048_1_0_0_1_n_n : DotDims S2048x32 S32x2048 S2048x2048 where
  lhsContracting := [1]
  rhsContracting := [0]
  lhsNonContracting := [0]
  rhsNonContracting := [1]
  lhsBatch := []
  rhsBatch := []
  wf := dot_S2048x32_S32x2048_S2048x2048_1_0_0_1_n_n_wf
def fn_part4 {F : FTy → Type} [FloatOps F] (main_v48 : FVec F S2048x4096 .f32) (main_v72 : FVec F S2048x2048 .f32) (main_v83 : FVec F S2048x32 .f32) (main_v95 : FVec F S32x2048 .f32) : IVec S4096 1 :=
  let main_v96 : FVec F S2048x2048 .f32 := (fun l r => Host.dotGeneral dot_S2048x32_S32x2048_S2048x2048_1_0_0_1_n_n none l r) main_v83 main_v95
  let main_v97 : FVec F S2048x4096 .f32 := (fun a b => concatenate S2048x4096 1 [⟨S2048x2048, a⟩, ⟨S2048x2048, b⟩] concatenates_S2048x2048_S2048x2048_S2048x4096_d1) main_v72 main_v96
  let main_v98 : FVec F S4096x4096 .f32 := (fun a b => concatenate S4096x4096 0 [⟨S2048x4096, a⟩, ⟨S2048x4096, b⟩] concatenates_S2048x4096_S2048x4096_S4096x4096_d0) main_v48 main_v97
  let main_values : FVec F S4096x21 .f32 := (fun x => (Host.topK S4096x21 1 (FloatOps.cmpfTotal .gt) x sliceFits_S4096x4096_S4096x21).1) main_v98
  let main_indices : IVec S4096x21 32 := (fun x => (Host.topK S4096x21 1 (FloatOps.cmpfTotal .gt) x sliceFits_S4096x4096_S4096x21).2) main_v98
  let main_v99 : FVec F S4096x1 .f32 := (extractStridedSlice S4096x1 ![0, 19] · slices_S4096x21_S4096x1_0_19) main_values
  let main_v100 : FVec F S4096 .f32 := shapeCast S4096 main_v99 shapeCasts_S4096x1_S4096
  let main_v101 : FVec F S4096x1 .f32 := (extractStridedSlice S4096x1 ![0, 20] · slices_S4096x21_S4096x1_0_20) main_values
  let main_v102 : FVec F S4096 .f32 := shapeCast S4096 main_v101 shapeCasts_S4096x1_S4096
  let main_v103 : IVec S4096 1 := cmpf .ogt main_v100 main_v102
  let main_v104 : FVec F S4096x1 .f32 := (extractStridedSlice S4096x1 ![0, 19] · slices_S4096x21_S4096x1_0_19) main_values
  let main_v105 : FVec F S4096 .f32 := shapeCast S4096 main_v104 shapeCasts_S4096x1_S4096
  let main_cst : FVec F S_ .f32 := constant S_ .f32 0x00000000#32
  let main_v106 : FVec F S4096 .f32 := broadcastInDim S4096 ![] bcast_S_S4096 main_cst
  let main_v107 : IVec S4096 1 := cmpf .oeq main_v105 main_v106
  let main_v108 : IVec S4096 1 := ori main_v103 main_v107
  main_v108

def fn_part3 {F : FTy → Type} [FloatOps F] (main_arg1 : FVec F S4x2048x32 .f32) (main_arg2 : FVec F S4x2048x32 .f32) (main_arg3 : FVec F S4x32x32 .f32) (main_arg4 : FVec F S4x32 .f32) (main_arg5 : FVec F S4x32x32 .f32) (main_arg6 : FVec F S4x32 .f32) (main_v48 : FVec F S2048x4096 .f32) (main_v59 : FVec F S2048x32 .f32) (main_v71 : FVec F S32x2048 .f32) : IVec S4096 1 :=
  let main_v72 : FVec F S2048x2048 .f32 := (fun l r => Host.dotGeneral dot_S2048x32_S32x2048_S2048x2048_1_0_0_1_n_n none l r) main_v59 main_v71
  let main_v73 : FVec F S1x2048x32 .f32 := (extractStridedSlice S1x2048x32 ![3, 0, 0] · slices_S4x2048x32_S1x2048x32_3_0_0) main_arg1
  let main_v74 : FVec F S2048x32 .f32 := shapeCast S2048x32 main_v73 shapeCasts_S1x2048x32_S2048x32
  let main_v75 : FVec F S1x32x32 .f32 := (extractStridedSlice S1x32x32 ![3, 0, 0] · slices_S4x32x32_S1x32x32_3_0_0) main_arg3
  let main_v76 : FVec F S32x32 .f32 := shapeCast S32x32 main_v75 shapeCasts_S1x32x32_S32x32
  let main_v77 : FVec F S32x32 .f32 := (transpose S32x32 [1, 0] · transposes_S32x32_S32x32_1_0) main_v76
  let main_v78 : FVec F S2048x32 .f32 := (fun l r => Host.dotGeneral dot_S2048x32_S32x32_S2048x32_1_0_0_1_n_n none l r) main_v74 main_v77
  let main_v79 : FVec F S1x32 .f32 := (extractStridedSlice S1x32 ![3, 0] · slices_S4x32_S1x32_3_0) main_arg4
  let main_v80 : FVec F S32 .f32 := shapeCast S32 main_v79 shapeCasts_S1x32_S32
  let main_v81 : FVec F S1x32 .f32 := broadcastInDim S1x32 ![1] bcast_S32_S1x32_1 main_v80
  let main_v82 : FVec F S2048x32 .f32 := broadcastInDim S2048x32 ![0, 1] bcast_S1x32_S2048x32_0_1 main_v81
  let main_v83 : FVec F S2048x32 .f32 := addf main_v78 main_v82
  let main_v84 : FVec F S1x2048x32 .f32 := (extractStridedSlice S1x2048x32 ![3, 0, 0] · slices_S4x2048x32_S1x2048x32_3_0_0) main_arg2
  let main_v85 : FVec F S2048x32 .f32 := shapeCast S2048x32 main_v84 shapeCasts_S1x2048x32_S2048x32
  let main_v86 : FVec F S1x32x32 .f32 := (extractStridedSlice S1x32x32 ![3, 0, 0] · slices_S4x32x32_S1x32x32_3_0_0) main_arg5
  let main_v87 : FVec F S32x32 .f32 := shapeCast S32x32 main_v86 shapeCasts_S1x32x32_S32x32
  let main_v88 : FVec F S32x32 .f32 := (transpose S32x32 [1, 0] · transposes_S32x32_S32x32_1_0) main_v87
  let main_v89 : FVec F S2048x32 .f32 := (fun l r => Host.dotGeneral dot_S2048x32_S32x32_S2048x32_1_0_0_1_n_n none l r) main_v85 main_v88
  let main_v90 : FVec F S1x32 .f32 := (extractStridedSlice S1x32 ![3, 0] · slices_S4x32_S1x32_3_0) main_arg6
  let main_v91 : FVec F S32 .f32 := shapeCast S32 main_v90 shapeCasts_S1x32_S32
  let main_v92 : FVec F S1x32 .f32 := broadcastInDim S1x32 ![1] bcast_S32_S1x32_1 main_v91
  let main_v93 : FVec F S2048x32 .f32 := broadcastInDim S2048x32 ![0, 1] bcast_S1x32_S2048x32_0_1 main_v92
  let main_v94 : FVec F S2048x32 .f32 := addf main_v89 main_v93
  let main_v95 : FVec F S32x2048 .f32 := (transpose S32x2048 [1, 0] · transposes_S2048x32_S32x2048_1_0) main_v94
  fn_part4 (F := F) main_v48 main_v72 main_v83 main_v95

def fn_part2 {F : FTy → Type} [FloatOps F] (main_arg1 : FVec F S4x2048x32 .f32) (main_arg2 : FVec F S4x2048x32 .f32) (main_arg3 : FVec F S4x32x32 .f32) (main_arg4 : FVec F S4x32 .f32) (main_arg5 : FVec F S4x32x32 .f32) (main_arg6 : FVec F S4x32 .f32) (main_v23 : FVec F S2048x2048 .f32) (main_v47 : FVec F S2048x2048 .f32) : IVec S4096 1 :=
  let main_v48 : FVec F S2048x4096 .f32 := (fun a b => concatenate S2048x4096 1 [⟨S2048x2048, a⟩, ⟨S2048x2048, b⟩] concatenates_S2048x2048_S2048x2048_S2048x4096_d1) main_v23 main_v47
  let main_v49 : FVec F S1x2048x32 .f32 := (extractStridedSlice S1x2048x32 ![2, 0, 0] · slices_S4x2048x32_S1x2048x32_2_0_0) main_arg1
  let main_v50 : FVec F S2048x32 .f32 := shapeCast S2048x32 main_v49 shapeCasts_S1x2048x32_S2048x32
  let main_v51 : FVec F S1x32x32 .f32 := (extractStridedSlice S1x32x32 ![2, 0, 0] · slices_S4x32x32_S1x32x32_2_0_0) main_arg3
  let main_v52 : FVec F S32x32 .f32 := shapeCast S32x32 main_v51 shapeCasts_S1x32x32_S32x32
  let main_v53 : FVec F S32x32 .f32 := (transpose S32x32 [1, 0] · transposes_S32x32_S32x32_1_0) main_v52
  let main_v54 : FVec F S2048x32 .f32 := (fun l r => Host.dotGeneral dot_S2048x32_S32x32_S2048x32_1_0_0_1_n_n none l r) main_v50 main_v53
  let main_v55 : FVec F S1x32 .f32 := (extractStridedSlice S1x32 ![2, 0] · slices_S4x32_S1x32_2_0) main_arg4
  let main_v56 : FVec F S32 .f32 := shapeCast S32 main_v55 shapeCasts_S1x32_S32
  let main_v57 : FVec F S1x32 .f32 := broadcastInDim S1x32 ![1] bcast_S32_S1x32_1 main_v56
  let main_v58 : FVec F S2048x32 .f32 := broadcastInDim S2048x32 ![0, 1] bcast_S1x32_S2048x32_0_1 main_v57
  let main_v59 : FVec F S2048x32 .f32 := addf main_v54 main_v58
  let main_v60 : FVec F S1x2048x32 .f32 := (extractStridedSlice S1x2048x32 ![2, 0, 0] · slices_S4x2048x32_S1x2048x32_2_0_0) main_arg2
  let main_v61 : FVec F S2048x32 .f32 := shapeCast S2048x32 main_v60 shapeCasts_S1x2048x32_S2048x32
  let main_v62 : FVec F S1x32x32 .f32 := (extractStridedSlice S1x32x32 ![2, 0, 0] · slices_S4x32x32_S1x32x32_2_0_0) main_arg5
  let main_v63 : FVec F S32x32 .f32 := shapeCast S32x32 main_v62 shapeCasts_S1x32x32_S32x32
  let main_v64 : FVec F S32x32 .f32 := (transpose S32x32 [1, 0] · transposes_S32x32_S32x32_1_0) main_v63
  let main_v65 : FVec F S2048x32 .f32 := (fun l r => Host.dotGeneral dot_S2048x32_S32x32_S2048x32_1_0_0_1_n_n none l r) main_v61 main_v64
  let main_v66 : FVec F S1x32 .f32 := (extractStridedSlice S1x32 ![2, 0] · slices_S4x32_S1x32_2_0) main_arg6
  let main_v67 : FVec F S32 .f32 := shapeCast S32 main_v66 shapeCasts_S1x32_S32
  let main_v68 : FVec F S1x32 .f32 := broadcastInDim S1x32 ![1] bcast_S32_S1x32_1 main_v67
  let main_v69 : FVec F S2048x32 .f32 := broadcastInDim S2048x32 ![0, 1] bcast_S1x32_S2048x32_0_1 main_v68
  let main_v70 : FVec F S2048x32 .f32 := addf main_v65 main_v69
  let main_v71 : FVec F S32x2048 .f32 := (transpose S32x2048 [1, 0] · transposes_S2048x32_S32x2048_1_0) main_v70
  fn_part3 (F := F) main_arg1 main_arg2 main_arg3 main_arg4 main_arg5 main_arg6 main_v48 main_v59 main_v71

def fn_part1 {F : FTy → Type} [FloatOps F] (main_arg1 : FVec F S4x2048x32 .f32) (main_arg2 : FVec F S4x2048x32 .f32) (main_arg3 : FVec F S4x32x32 .f32) (main_arg4 : FVec F S4x32 .f32) (main_arg5 : FVec F S4x32x32 .f32) (main_arg6 : FVec F S4x32 .f32) (main_v23 : FVec F S2048x2048 .f32) : IVec S4096 1 :=
  let main_v24 : FVec F S1x2048x32 .f32 := (extractStridedSlice S1x2048x32 ![1, 0, 0] · slices_S4x2048x32_S1x2048x32_1_0_0) main_arg1
  let main_v25 : FVec F S2048x32 .f32 := shapeCast S2048x32 main_v24 shapeCasts_S1x2048x32_S2048x32
  let main_v26 : FVec F S1x32x32 .f32 := (extractStridedSlice S1x32x32 ![1, 0, 0] · slices_S4x32x32_S1x32x32_1_0_0) main_arg3
  let main_v27 : FVec F S32x32 .f32 := shapeCast S32x32 main_v26 shapeCasts_S1x32x32_S32x32
  let main_v28 : FVec F S32x32 .f32 := (transpose S32x32 [1, 0] · transposes_S32x32_S32x32_1_0) main_v27
  let main_v29 : FVec F S2048x32 .f32 := (fun l r => Host.dotGeneral dot_S2048x32_S32x32_S2048x32_1_0_0_1_n_n none l r) main_v25 main_v28
  let main_v30 : FVec F S1x32 .f32 := (extractStridedSlice S1x32 ![1, 0] · slices_S4x32_S1x32_1_0) main_arg4
  let main_v31 : FVec F S32 .f32 := shapeCast S32 main_v30 shapeCasts_S1x32_S32
  let main_v32 : FVec F S1x32 .f32 := broadcastInDim S1x32 ![1] bcast_S32_S1x32_1 main_v31
  let main_v33 : FVec F S2048x32 .f32 := broadcastInDim S2048x32 ![0, 1] bcast_S1x32_S2048x32_0_1 main_v32
  let main_v34 : FVec F S2048x32 .f32 := addf main_v29 main_v33
  let main_v35 : FVec F S1x2048x32 .f32 := (extractStridedSlice S1x2048x32 ![1, 0, 0] · slices_S4x2048x32_S1x2048x32_1_0_0) main_arg2
  let main_v36 : FVec F S2048x32 .f32 := shapeCast S2048x32 main_v35 shapeCasts_S1x2048x32_S2048x32
  let main_v37 : FVec F S1x32x32 .f32 := (extractStridedSlice S1x32x32 ![1, 0, 0] · slices_S4x32x32_S1x32x32_1_0_0) main_arg5
  let main_v38 : FVec F S32x32 .f32 := shapeCast S32x32 main_v37 shapeCasts_S1x32x32_S32x32
  let main_v39 : FVec F S32x32 .f32 := (transpose S32x32 [1, 0] · transposes_S32x32_S32x32_1_0) main_v38
  let main_v40 : FVec F S2048x32 .f32 := (fun l r => Host.dotGeneral dot_S2048x32_S32x32_S2048x32_1_0_0_1_n_n none l r) main_v36 main_v39
  let main_v41 : FVec F S1x32 .f32 := (extractStridedSlice S1x32 ![1, 0] · slices_S4x32_S1x32_1_0) main_arg6
  let main_v42 : FVec F S32 .f32 := shapeCast S32 main_v41 shapeCasts_S1x32_S32
  let main_v43 : FVec F S1x32 .f32 := broadcastInDim S1x32 ![1] bcast_S32_S1x32_1 main_v42
  let main_v44 : FVec F S2048x32 .f32 := broadcastInDim S2048x32 ![0, 1] bcast_S1x32_S2048x32_0_1 main_v43
  let main_v45 : FVec F S2048x32 .f32 := addf main_v40 main_v44
  let main_v46 : FVec F S32x2048 .f32 := (transpose S32x2048 [1, 0] · transposes_S2048x32_S32x2048_1_0) main_v45
  let main_v47 : FVec F S2048x2048 .f32 := (fun l r => Host.dotGeneral dot_S2048x32_S32x2048_S2048x2048_1_0_0_1_n_n none l r) main_v34 main_v46
  fn_part2 (F := F) main_arg1 main_arg2 main_arg3 main_arg4 main_arg5 main_arg6 main_v23 main_v47

def fn {F : FTy → Type} [FloatOps F] (main_arg0 : IVec S4096 32) (main_arg1 : FVec F S4x2048x32 .f32) (main_arg2 : FVec F S4x2048x32 .f32) (main_arg3 : FVec F S4x32x32 .f32) (main_arg4 : FVec F S4x32 .f32) (main_arg5 : FVec F S4x32x32 .f32) (main_arg6 : FVec F S4x32 .f32) : IVec S4096 1 :=
  let main_v0 : FVec F S1x2048x32 .f32 := (extractStridedSlice S1x2048x32 ![0, 0, 0] · slices_S4x2048x32_S1x2048x32_0_0_0) main_arg1
  let main_v1 : FVec F S2048x32 .f32 := shapeCast S2048x32 main_v0 shapeCasts_S1x2048x32_S2048x32
  let main_v2 : FVec F S1x32x32 .f32 := (extractStridedSlice S1x32x32 ![0, 0, 0] · slices_S4x32x32_S1x32x32_0_0_0) main_arg3
  let main_v3 : FVec F S32x32 .f32 := shapeCast S32x32 main_v2 shapeCasts_S1x32x32_S32x32
  let main_v4 : FVec F S32x32 .f32 := (transpose S32x32 [1, 0] · transposes_S32x32_S32x32_1_0) main_v3
  let main_v5 : FVec F S2048x32 .f32 := (fun l r => Host.dotGeneral dot_S2048x32_S32x32_S2048x32_1_0_0_1_n_n none l r) main_v1 main_v4
  let main_v6 : FVec F S1x32 .f32 := (extractStridedSlice S1x32 ![0, 0] · slices_S4x32_S1x32_0_0) main_arg4
  let main_v7 : FVec F S32 .f32 := shapeCast S32 main_v6 shapeCasts_S1x32_S32
  let main_v8 : FVec F S1x32 .f32 := broadcastInDim S1x32 ![1] bcast_S32_S1x32_1 main_v7
  let main_v9 : FVec F S2048x32 .f32 := broadcastInDim S2048x32 ![0, 1] bcast_S1x32_S2048x32_0_1 main_v8
  let main_v10 : FVec F S2048x32 .f32 := addf main_v5 main_v9
  let main_v11 : FVec F S1x2048x32 .f32 := (extractStridedSlice S1x2048x32 ![0, 0, 0] · slices_S4x2048x32_S1x2048x32_0_0_0) main_arg2
  let main_v12 : FVec F S2048x32 .f32 := shapeCast S2048x32 main_v11 shapeCasts_S1x2048x32_S2048x32
  let main_v13 : FVec F S1x32x32 .f32 := (extractStridedSlice S1x32x32 ![0, 0, 0] · slices_S4x32x32_S1x32x32_0_0_0) main_arg5
  let main_v14 : FVec F S32x32 .f32 := shapeCast S32x32 main_v13 shapeCasts_S1x32x32_S32x32
  let main_v15 : FVec F S32x32 .f32 := (transpose S32x32 [1, 0] · transposes_S32x32_S32x32_1_0) main_v14
  let main_v16 : FVec F S2048x32 .f32 := (fun l r => Host.dotGeneral dot_S2048x32_S32x32_S2048x32_1_0_0_1_n_n none l r) main_v12 main_v15
  let main_v17 : FVec F S1x32 .f32 := (extractStridedSlice S1x32 ![0, 0] · slices_S4x32_S1x32_0_0) main_arg6
  let main_v18 : FVec F S32 .f32 := shapeCast S32 main_v17 shapeCasts_S1x32_S32
  let main_v19 : FVec F S1x32 .f32 := broadcastInDim S1x32 ![1] bcast_S32_S1x32_1 main_v18
  let main_v20 : FVec F S2048x32 .f32 := broadcastInDim S2048x32 ![0, 1] bcast_S1x32_S2048x32_0_1 main_v19
  let main_v21 : FVec F S2048x32 .f32 := addf main_v16 main_v20
  let main_v22 : FVec F S32x2048 .f32 := (transpose S32x2048 [1, 0] · transposes_S2048x32_S32x2048_1_0) main_v21
  let main_v23 : FVec F S2048x2048 .f32 := (fun l r => Host.dotGeneral dot_S2048x32_S32x2048_S2048x2048_1_0_0_1_n_n none l r) main_v10 main_v22
  fn_part1 (F := F) main_arg1 main_arg2 main_arg3 main_arg4 main_arg5 main_arg6 main_v23
-- ==== Kernel.lean ====
abbrev S4096 : Shape := ⟨1, ![4096]⟩
abbrev S4x2048x32 : Shape := ⟨3, ![4, 2048, 32]⟩
abbrev S4x32x32 : Shape := ⟨3, ![4, 32, 32]⟩
abbrev S4x32 : Shape := ⟨2, ![4, 32]⟩
abbrev S4x1x32 : Shape := ⟨3, ![4, 1, 32]⟩
abbrev S4096x4096 : Shape := ⟨2, ![4096, 4096]⟩
abbrev S2x512x32 : Shape := ⟨3, ![2, 512, 32]⟩
abbrev S2x2048x32 : Shape := ⟨3, ![2, 2048, 32]⟩
abbrev S2x32x32 : Shape := ⟨3, ![2, 32, 32]⟩
abbrev S2x1x32 : Shape := ⟨3, ![2, 1, 32]⟩
abbrev S512x4096 : Shape := ⟨2, ![512, 4096]⟩
abbrev S8x128 : Shape := ⟨2, ![8, 128]⟩
abbrev S1x512x32 : Shape := ⟨3, ![1, 512, 32]⟩
abbrev S512x32 : Shape := ⟨2, ![512, 32]⟩
abbrev S1x32x32 : Shape := ⟨3, ![1, 32, 32]⟩
abbrev S32x32 : Shape := ⟨2, ![32, 32]⟩
abbrev S1x1x32 : Shape := ⟨3, ![1, 1, 32]⟩
abbrev S1x32 : Shape := ⟨2, ![1, 32]⟩
abbrev S1x2048x32 : Shape := ⟨3, ![1, 2048, 32]⟩
abbrev S2048x32 : Shape := ⟨2, ![2048, 32]⟩
abbrev S2048x512 : Shape := ⟨2, ![2048, 512]⟩
abbrev S4096x512 : Shape := ⟨2, ![4096, 512]⟩
abbrev S32x16x8x512 : Shape := ⟨4, ![32, 16, 8, 512]⟩
abbrev S32x1x8x512 : Shape := ⟨4, ![32, 1, 8, 512]⟩
abbrev S32x8x512 : Shape := ⟨3, ![32, 8, 512]⟩
abbrev S16x8x512 : Shape := ⟨3, ![16, 8, 512]⟩
abbrev S8x8x512 : Shape := ⟨3, ![8, 8, 512]⟩
abbrev S4x8x512 : Shape := ⟨3, ![4, 8, 512]⟩
abbrev S2x8x512 : Shape := ⟨3, ![2, 8, 512]⟩
abbrev S1x8x512 : Shape := ⟨3, ![1, 8, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096, .i32⟩
  | .hbm, ⟨1, _⟩ => ⟨S4x2048x32, .f32⟩
  | .hbm, ⟨2, _⟩ => ⟨S4x2048x32, .f32⟩
  | .hbm, ⟨3, _⟩ => ⟨S4x32x32, .f32⟩
  | .hbm, ⟨4, _⟩ => ⟨S4x32, .f32⟩
  | .hbm, ⟨5, _⟩ => ⟨S4x32x32, .f32⟩
  | .hbm, ⟨6, _⟩ => ⟨S4x32, .f32⟩
  | .hbm, ⟨7, _⟩ => ⟨S4x1x32, .f32⟩
  | .hbm, ⟨8, _⟩ => ⟨S4x1x32, .f32⟩
  | .hbm, ⟨9, _⟩ => ⟨S4096x4096, .f32⟩
  | .local _ .vmem, ⟨0, _⟩ => ⟨S2x512x32, .f32⟩
  | .local _ .vmem, ⟨1, _⟩ => ⟨S2x512x32, .f32⟩
  | .local _ .vmem, ⟨2, _⟩ => ⟨S2x2048x32, .f32⟩
  | .local _ .vmem, ⟨3, _⟩ => ⟨S2x2048x32, .f32⟩
  | .local _ .vmem, ⟨4, _⟩ => ⟨S2x32x32, .f32⟩
  | .local _ .vmem, ⟨5, _⟩ => ⟨S2x32x32, .f32⟩
  | .local _ .vmem, ⟨6, _⟩ => ⟨S2x1x32, .f32⟩
  | .local _ .vmem, ⟨7, _⟩ => ⟨S2x1x32, .f32⟩
  | .local _ .vmem, ⟨8, _⟩ => ⟨S2x32x32, .f32⟩
  | .local _ .vmem, ⟨9, _⟩ => ⟨S2x32x32, .f32⟩
  | .local _ .vmem, ⟨10, _⟩ => ⟨S2x1x32, .f32⟩
  | .local _ .vmem, ⟨11, _⟩ => ⟨S2x1x32, .f32⟩
  | .local _ .vmem, ⟨12, _⟩ => ⟨S512x4096, .f32⟩
  | .local _ .vmem, ⟨13, _⟩ => ⟨S512x4096, .f32⟩
  | .local _ .vmem, ⟨14, _⟩ => ⟨S8x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096 : Shape := ⟨1, ![4096]⟩
abbrev S4x2048x32 : Shape := ⟨3, ![4, 2048, 32]⟩
abbrev S4x32x32 : Shape := ⟨3, ![4, 32, 32]⟩
abbrev S4x32 : Shape := ⟨2, ![4, 32]⟩
abbrev S1x2048x32 : Shape := ⟨3, ![1, 2048, 32]⟩
abbrev S2048x32 : Shape := ⟨2, ![2048, 32]⟩
abbrev S1x32x32 : Shape := ⟨3, ![1, 32, 32]⟩
abbrev S32x32 : Shape := ⟨2, ![32, 32]⟩
abbrev S1x32 : Shape := ⟨2, ![1, 32]⟩
abbrev S32 : Shape := ⟨1, ![32]⟩
abbrev S32x2048 : Shape := ⟨2, ![32, 2048]⟩
abbrev S2048x2048 : Shape := ⟨2, ![2048, 2048]⟩
abbrev S2048x4096 : Shape := ⟨2, ![2048, 4096]⟩
abbrev S4096x4096 : Shape := ⟨2, ![4096, 4096]⟩
abbrev S4096x20 : Shape := ⟨2, ![4096, 20]⟩
abbrev S4096x1 : Shape := ⟨2, ![4096, 1]⟩
abbrev S_ : Shape := ⟨0, ![]⟩
abbrev S4096x20x1 : Shape := ⟨3, ![4096, 20, 1]⟩
abbrev S4096x20x2 : Shape := ⟨3, ![4096, 20, 2]⟩

abbrev nBuf : Space → Nat
  | .hbm => 134
  | .vmem => 0
  | .smem => 0
  | _ => 0

abbrev hbmTy0_0 (i : Nat) : BufTy := match i % 128 with
  | 0 => ⟨S4096, .i32⟩
  | 1 => ⟨S4x2048x32, .f32⟩
  | 2 => ⟨S4x2048x32, .f32⟩
  | 3 => ⟨S4x32x32, .f32⟩
  | 4 => ⟨S4x32, .f32⟩
  | 5 => ⟨S4x32x32, .f32⟩
  | 6 => ⟨S4x32, .f32⟩
  | 7 => ⟨S1x2048x32, .f32⟩
  | 8 => ⟨S2048x32, .f32⟩
  | 9 => ⟨S1x32x32, .f32⟩
  | 10 => ⟨S32x32, .f32⟩
  | 11 => ⟨S32x32, .f32⟩
  | 12 => ⟨S2048x32, .f32⟩
  | 13 => ⟨S1x32, .f32⟩
  | 14 => ⟨S32, .f32⟩
  | 15 => ⟨S1x32, .f32⟩
  | 16 => ⟨S2048x32, .f32⟩
  | 17 => ⟨S2048x32, .f32⟩
  | 18 => ⟨S1x2048x32, .f32⟩
  | 19 => ⟨S2048x32, .f32⟩
  | 20 => ⟨S1x32x32, .f32⟩
  | 21 => ⟨S32x32, .f32⟩
  | 22 => ⟨S32x32, .f32⟩
  | 23 => ⟨S2048x32, .f32⟩
  | 24 => ⟨S1x32, .f32⟩
  | 25 => ⟨S32, .f32⟩
  | 26 => ⟨S1x32, .f32⟩
  | 27 => ⟨S2048x32, .f32⟩
  | 28 => ⟨S2048x32, .f32⟩
  | 29 => ⟨S32x2048, .f32⟩
  | 30 => ⟨S2048x2048, .f32⟩
  | 31 => ⟨S1x2048x32, .f32⟩
  | 32 => ⟨S2048x32, .f32⟩
  | 33 => ⟨S1x32x32, .f32⟩
  | 34 => ⟨S32x32, .f32⟩
  | 35 => ⟨S32x32, .f32⟩
  | 36 => ⟨S2048x32, .f32⟩
  | 37 => ⟨S1x32, .f32⟩
  | 38 => ⟨S32, .f32⟩
  | 39 => ⟨S1x32, .f32⟩
  | 40 => ⟨S2048x32, .f32⟩
  | 41 => ⟨S2048x32, .f32⟩
  | 42 => ⟨S1x2048x32, .f32⟩
  | 43 => ⟨S2048x32, .f32⟩
  | 44 => ⟨S1x32x32, .f32⟩
  | 45 => ⟨S32x32, .f32⟩
  | 46 => ⟨S32x32, .f32⟩
  | 47 => ⟨S2048x32, .f32⟩
  | 48 => ⟨S1x32, .f32⟩
  | 49 => ⟨S32, .f32⟩
  | 50 => ⟨S1x32, .f32⟩
  | 51 => ⟨S2048x32, .f32⟩
  | 52 => ⟨S2048x32, .f32⟩
  | 53 => ⟨S32x2048, .f32⟩
  | 54 => ⟨S2048x2048, .f32⟩
  | 55 => ⟨S2048x4096, .f32⟩
  | 56 => ⟨S1x2048x32, .f32⟩
  | 57 => ⟨S2048x32, .f32⟩
  | 58 => ⟨S1x32x32, .f32⟩
  | 59 => ⟨S32x32, .f32⟩
  | 60 => ⟨S32x32, .f32⟩
  | 61 => ⟨S2048x32, .f32⟩
  | 62 => ⟨S1x32, .f32⟩
  | 63 => ⟨S32, .f32⟩
  | 64 => ⟨S1x32, .f32⟩
  | 65 => ⟨S2048x32, .f32⟩
  | 66 => ⟨S2048x32, .f32⟩
  | 67 => ⟨S1x2048x32, .f32⟩
  | 68 => ⟨S2048x32, .f32⟩
  | 69 => ⟨S1x32x32, .f32⟩
  | 70 => ⟨S32x32, .f32⟩
  | 71 => ⟨S32x32, .f32⟩
  | 72 => ⟨S2048x32, .f32⟩
  | 73 => ⟨S1x32, .f32⟩
  | 74 => ⟨S32, .f32⟩
  | 75 => ⟨S1x32, .f32⟩
  | 76 => ⟨S2048x32, .f32⟩
  | 77 => ⟨S2048x32, .f32⟩
  | 78 => ⟨S32x2048, .f32⟩
  | 79 => ⟨S2048x2048, .f32⟩
  | 80 => ⟨S1x2048x32, .f32⟩
  | 81 => ⟨S2048x32, .f32⟩
  | 82 => ⟨S1x32x32, .f32⟩
  | 83 => ⟨S32x32, .f32⟩
  | 84 => ⟨S32x32, .f32⟩
  | 85 => ⟨S2048x32, .f32⟩
  | 86 => ⟨S1x32, .f32⟩
  | 87 => ⟨S32, .f32⟩
  | 88 => ⟨S1x32, .f32⟩
  | 89 => ⟨S2048x32, .f32⟩
  | 90 => ⟨S2048x32, .f32⟩
  | 91 => ⟨S1x2048x32, .f32⟩
  | 92 => ⟨S2048x32, .f32⟩
  | 93 => ⟨S1x32x32, .f32⟩
  | 94 => ⟨S32x32, .f32⟩
  | 95 => ⟨S32x32, .f32⟩
  | 96 => ⟨S2048x32, .f32⟩
  | 97 => ⟨S1x32, .f32⟩
  | 98 => ⟨S32, .f32⟩
  | 99 => ⟨S1x32, .f32⟩
  | 100 => ⟨S2048x32, .f32⟩
  | 101 => ⟨S2048x32, .f32⟩
  | 102 => ⟨S32x2048, .f32⟩
  | 103 => ⟨S2048x2048, .f32⟩
  | 104 => ⟨S2048x4096, .f32⟩
  | 105 => ⟨S4096x4096, .f32⟩
  | 106 => ⟨S4096x20, .f32⟩
  | 107 => ⟨S4096x20, .i32⟩
  | 108 => ⟨S4096, .i32⟩
  | 109 => ⟨S4096x1, .i32⟩
  | 110 => ⟨S_, .f32⟩
  | 111 => ⟨S4096x4096, .f32⟩
  | 112 => ⟨S_, .i32⟩
  | 113 => ⟨S4096x1, .i32⟩
  | 114 => ⟨S4096x1, .i1⟩
  | 115 => ⟨S_, .i32⟩
  | 116 => ⟨S4096x1, .i32⟩
  | 117 => ⟨S4096x1, .i32⟩
  | 118 => ⟨S4096x1, .i32⟩
  | 119 => ⟨S_, .i32⟩
  | 120 => ⟨S4096x20, .i32⟩
  | 121 => ⟨S4096x20, .i1⟩
  | 122 => ⟨S_, .i32⟩
  | 123 => ⟨S4096x20, .i32⟩
  | 124 => ⟨S4096x20, .i32⟩
  | 125 => ⟨S4096x20, .i32⟩
  | 126 => ⟨S4096x20, .i32⟩
  | 127 => ⟨S4096x20x1, .i32⟩
  | _ => ⟨S4096, .i32⟩

abbrev hbmTy0_1 (i : Nat) : BufTy := match i % 128 with
  | 0 => ⟨S4096x20x1, .i32⟩
  | 1 => ⟨S4096x20x2, .i32⟩
  | 2 => ⟨S_, .f32⟩
  | 3 => ⟨S4096x20, .f32⟩
  | 4 => ⟨S4096x4096, .f32⟩
  | 5 => ⟨S4096x4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_values : Ref sig .tc := ⟨.hbm, 106, rfl⟩
abbrev main_indices : Ref sig .tc := ⟨.hbm, 107, rfl⟩
abbrev main_v99 : Ref sig .tc := ⟨.hbm, 108, rfl⟩
abbrev main_v100 : Ref sig .tc := ⟨.hbm, 109, rfl⟩
abbrev main_cst : Ref sig .tc := ⟨.hbm, 110, rfl⟩
abbrev main_v101 : Ref sig .tc := ⟨.hbm, 111, rfl⟩
abbrev main_c : Ref sig .tc := ⟨.hbm, 112, rfl⟩
abbrev main_v102 : Ref sig .tc := ⟨.hbm, 113, rfl⟩
abbrev main_v103 : Ref sig .tc := ⟨.hbm, 114, rfl⟩
abbrev main_c_0 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_c_1 : Ref sig .tc := ⟨.hbm, 119, rfl⟩
abbrev main_v107 : Ref sig .tc := ⟨.hbm, 120, rfl⟩
abbrev main_v108 : Ref sig .tc := ⟨.hbm, 121, rfl⟩
abbrev main_c_2 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_3 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩

abbrev nD : Nat := 1
abbrev τ : Topo := Topo.v7x

variable {F : FTy → Type} [FloatOps F]
-- ==== Proof.Network.lean ====
/- The kernel's comparator network as functions of a list of values, and what it computes.
   A list is a function of its position. A list of numbers is read through the thresholds its entries reach: a descending list is
   the one whose entry `i` reaches `τ` exactly when `i` is less than a count `c τ`. Under that reading a maximum is a disjunction and
   a minimum a conjunction, so that a merge of two descending lists is checked over all pairs of counts. -/
module

public import Idealize.ShloMosaic.PureOps.Ideal
public import Mathlib.Algebra.BigOperators.Intervals

@[expose] public section

noncomputable section

namespace Cert.Proof

universe u v

section Model
variable {α : Type u} (mx mn : α → α → α)

/-- One level of a half-cleaner: positions `k` apart are put in order. -/
def halver (k : ℕ) (t : ℕ → α) (i : ℕ) : α :=
  if i &&& k = 0 then mx (t i) (t (i + k)) else mn (t (i - k)) (t i)

/-- The levels of half-cleaners of a list of 32, one after another. -/
def clean1 (t : ℕ → α) : ℕ → α := halver mx mn 16 t
def clean2 (t : ℕ → α) : ℕ → α := halver mx mn 8 (clean1 mx mn t)
def clean3 (t : ℕ → α) : ℕ → α := halver mx mn 4 (clean2 mx mn t)
def clean4 (t : ℕ → α) : ℕ → α := halver mx mn 2 (clean3 mx mn t)
/-- All five levels. -/
def clean (t : ℕ → α) : ℕ → α := halver mx mn 1 (clean4 mx mn t)

/-- Two lists of 20 laid against one another: the second from position 31 downwards. -/
def meet20 (a b : ℕ → α) (i : ℕ) : α :=
  if i < 12 then a i else if i < 20 then mx (a i) (b (31 - i)) else b (31 - i)

/-- Two lists of 16 laid against one another. -/
def meet16 (a b : ℕ → α) (i : ℕ) : α := if i < 16 then a i else b (31 - i)

/-- The greatest 20 of two lists of 20. -/
def merge20 (a b : ℕ → α) : ℕ → α := clean mx mn (meet20 mx a b)

/-- The greatest 20 of two lists of 16. -/
def merge16 (a b : ℕ → α) : ℕ → α := clean mx mn (meet16 a b)

/-- Whether position `i` is the lower one of a comparator of distance `k` in Batcher's merge of two lists of `p`. -/
def low (p k i : ℕ) : Bool :=
  if k = p then decide (i < p) else decide (k ≤ i) && decide ((i - k) % (2 * k) < k) && decide (i + k < 2 * p)

/-- One level of Batcher's merge of two lists of `p`. -/
def level (p k : ℕ) (t : ℕ → α) (i : ℕ) : α :=
  if low p k i = true then mx (t i) (t (i + k))
  else if k ≤ i ∧ low p k (i - k) = true then mn (t (i - k)) (t i) else t i

/-- One list after another. -/
def join (p : ℕ) (a b : ℕ → α) (i : ℕ) : α := if i < p then a i else b (i - p)

def bmerge1 (a b : ℕ → α) : ℕ → α := level mx mn 1 1 (join 1 a b)
def bmerge2 (a b : ℕ → α) : ℕ → α := level mx mn 2 1 (level mx mn 2 2 (join 2 a b))
def bmerge4 (a b : ℕ → α) : ℕ → α := level mx mn 4 1 (level mx mn 4 2 (level mx mn 4 4 (join 4 a b)))
def bmerge8 (a b : ℕ → α) : ℕ → α :=
  level mx mn 8 1 (level mx mn 8 2 (level mx mn 8 4 (level mx mn 8 8 (join 8 a b))))

def sort2 (t : ℕ → α) : ℕ → α := bmerge1 mx mn (fun _ => t 0) (fun _ => t 1)
def sort4 (t : ℕ → α) : ℕ → α := bmerge2 mx mn (sort2 mx mn t) (sort2 mx mn fun i => t (i + 2))
def sort8 (t : ℕ → α) : ℕ → α := bmerge4 mx mn (sort4 mx mn t) (sort4 mx mn fun i => t (i + 4))
/-- Batcher's sort of a list of 16, descending. -/
def sort16 (t : ℕ → α) : ℕ → α := bmerge8 mx mn (sort8 mx mn t) (sort8 mx mn fun i => t (i + 8))

end Model

section Hom
variable {α : Type u} {β : Type v} {mx mn : α → α → α} {mx' mn' : β → β → β} (φ : α → β)
  (hx : ∀ a b, φ (mx a b) = mx' (φ a) (φ b)) (hn : ∀ a b, φ (mn a b) = mn' (φ a) (φ b))
include hx hn

theorem halver_hom (k : ℕ) (t : ℕ → α) (i : ℕ) : φ (halver mx mn k t i) = halver mx' mn' k (fun j => φ (t j)) i := by
  unfold halver; split <;> simp only [hx, hn]

theorem clean_hom (t : ℕ → α) (i : ℕ) : φ (clean mx mn t i) = clean mx' mn' (fun j => φ (t j)) i := by
  simp only [clean, clean4, clean3, clean2, clean1, halver_hom φ hx hn]

theorem merge20_hom (a b : ℕ → α) (i : ℕ) :
    φ (merge20 mx mn a b i) = merge20 mx' mn' (fun j => φ (a j)) (fun j => φ (b j)) i := by
  simp only [merge20, clean_hom φ hx hn]
  congr 1; funext j; unfold meet20; split
  · rfl
  · split <;> simp only [hx]

theorem merge16_hom (a b : ℕ → α) (i : ℕ) :
    φ (merge16 mx mn a b i) = merge16 mx' mn' (fun j => φ (a j)) (fun j => φ (b j)) i := by
  simp only [merge16, clean_hom φ hx hn]
  congr 1; funext j; unfold meet16; split <;> rfl

theorem level_hom (p k : ℕ) (t : ℕ → α) (i : ℕ) : φ (level mx mn p k t i) = level mx' mn' p k (fun j => φ (t j)) i := by
  unfold level; split
  · simp only [hx]
  · split <;> simp only [hn]

omit hx hn in
theorem join_hom (p : ℕ) (a b : ℕ → α) (i : ℕ) : φ (join p a b i) = join p (fun j => φ (a j)) (fun j => φ (b j)) i := by
  unfold join; split <;> rfl

theorem bmerge1_hom (a b : ℕ → α) (i : ℕ) : φ (bmerge1 mx mn a b i) = bmerge1 mx' mn' (fun j => φ (a j)) (fun j => φ (b j)) i := by
  simp only [bmerge1, level_hom φ hx hn, join_hom φ]
theorem bmerge2_hom (a b : ℕ → α) (i : ℕ) : φ (bmerge2 mx mn a b i) = bmerge2 mx' mn' (fun j => φ (a j)) (fun j => φ (b j)) i := by
  simp only [bmerge2, level_hom φ hx hn, join_hom φ]
theorem bmerge4_hom (a b : ℕ → α) (i : ℕ) : φ (bmerge4 mx mn a b i) = bmerge4 mx' mn' (fun j => φ (a j)) (fun j => φ (b j)) i := by
  simp only [bmerge4, level_hom φ hx hn, join_hom φ]
theorem bmerge8_hom (a b : ℕ → α) (i : ℕ) : φ (bmerge8 mx mn a b i) = bmerge8 mx' mn' (fun j => φ (a j)) (fun j => φ (b j)) i := by
  simp only [bmerge8, level_hom φ hx hn, join_hom φ]
theorem sort16_hom (t : ℕ → α) (i : ℕ) : φ (sort16 mx mn t i) = sort16 mx' mn' (fun j => φ (t j)) i := by
  simp only [sort16, sort8, sort4, sort2, bmerge8_hom φ hx hn, bmerge4_hom φ hx hn, bmerge2_hom φ hx hn, bmerge1_hom φ hx hn]

end Hom

section Congr
variable {α : Type u} {mx mn : α → α → α}

theorem halver_congr {k : ℕ} {t t' : ℕ → α} (hk : ∀ i < 32, i &&& k = 0 → i + k < 32) (h : ∀ i < 32, t i = t' i) :
    ∀ i < 32, halver mx mn k t i = halver mx mn k t' i := by
  intro i hi; unfold halver; split
  · rename_i h0; rw [h i hi, h _ (hk i hi h0)]
  · rw [h i hi, h (i - k) (by omega)]

theorem clean_congr {t t' : ℕ → α} (h : ∀ i < 32, t i = t' i) : ∀ i < 32, clean mx mn t i = clean mx mn t' i :=
  halver_congr (by decide) (halver_congr (by decide) (halver_congr (by decide) (halver_congr (by decide)
    (halver_congr (by decide) h))))

theorem merge20_congr {a a' b b' : ℕ → α} (ha : ∀ i < 20, a i = a' i) (hb : ∀ i < 20, b i = b' i) :
    ∀ i < 32, merge20 mx mn a b i = merge20 mx mn a' b' i := clean_congr (by
  intro i hi; unfold meet20; split
  · exact ha i (by omega)
  · split
    · rw [ha i (by omega), hb _ (by omega)]
    · exact hb _ (by omega))

theorem merge16_congr {a a' b b' : ℕ → α} (ha : ∀ i < 16, a i = a' i) (hb : ∀ i < 16, b i = b' i) :
    ∀ i < 32, merge16 mx mn a b i = merge16 mx mn a' b' i := clean_congr (by
  intro i hi; unfold meet16; split
  · exact ha i (by omega)
  · exact hb _ (by omega))

theorem level_congr {p k : ℕ} {t t' : ℕ → α} (hk : ∀ i < 2 * p, low p k i = true → i + k < 2 * p)
    (h : ∀ i < 2 * p, t i = t' i) : ∀ i < 2 * p, level mx mn p k t i = level mx mn p k t' i := by
  intro i hi; unfold level; split
  · rename_i h0; rw [h i hi, h _ (hk i hi h0)]
  · split
    · rw [h i hi, h (i - k) (by omega)]
    · exact h i hi

theorem join_congr {p : ℕ} {a a' b b' : ℕ → α} (ha : ∀ i < p, a i = a' i) (hb : ∀ i < p, b i = b' i) :
    ∀ i < 2 * p, join p a b i = join p a' b' i := by
  intro i hi; unfold join; split
  · exact ha i (by omega)
  · exact hb _ (by omega)

end Congr

/-- The list of `n` places of which the first `c` are true. -/
def ones (c i : ℕ) : Bool := decide (i < c)

theorem check20 : ((List.range 21).all fun a => (List.range 21).all fun b => (List.range 20).all fun i =>
    merge20 or and (ones a) (ones b) i == ones (a + b) i) = true := by decide +kernel
theorem check16 : ((List.range 17).all fun a => (List.range 17).all fun b => (List.range 20).all fun i =>
    merge16 or and (ones a) (ones b) i == ones (a + b) i) = true := by decide +kernel
theorem check8 : ((List.range 9).all fun a => (List.range 9).all fun b => (List.range 16).all fun i =>
    bmerge8 or and (ones a) (ones b) i == ones (a + b) i) = true := by decide +kernel
theorem check4 : ((List.range 5).all fun a => (List.range 5).all fun b => (List.range 8).all fun i =>
    bmerge4 or and (ones a) (ones b) i == ones (a + b) i) = true := by decide +kernel
theorem check2 : ((List.range 3).all fun a => (List.range 3).all fun b => (List.range 4).all fun i =>
    bmerge2 or and (ones a) (ones b) i == ones (a + b) i) = true := by decide +kernel
theorem check1 : ((List.range 2).all fun a => (List.range 2).all fun b => (List.range 2).all fun i =>
    bmerge1 or and (ones a) (ones b) i == ones (a + b) i) = true := by decide +kernel

theorem of_check {n m : ℕ} {f : ℕ → ℕ → ℕ → Bool} (h : ((List.range n).all fun a => (List.range n).all fun b =>
    (List.range m).all fun i => f a b i == ones (a + b) i) = true) (a b i : ℕ) (ha : a < n) (hb : b < n) (hi : i < m) :
    f a b i = ones (a + b) i := by
  simp only [List.all_eq_true, List.mem_range, beq_iff_eq] at h
  exact h a ha b hb i hi

/-- Entry `i` of the first `n` of `m` reaches `τ` exactly when `i` is less than `c τ`. -/
def Rep (n : ℕ) (m : ℕ → EReal) (c : EReal → ℕ) : Prop := ∀ τ, ∀ i < n, decide (τ ≤ m i) = ones (c τ) i

theorem reach_max (τ a b : EReal) : decide (τ ≤ max a b) = or (decide (τ ≤ a)) (decide (τ ≤ b)) := by
  simp [le_max_iff]
theorem reach_min (τ a b : EReal) : decide (τ ≤ min a b) = and (decide (τ ≤ a)) (decide (τ ≤ b)) := by
  simp [le_min_iff]

theorem Rep.merge20 {a b : ℕ → EReal} {ca cb : EReal → ℕ} (ha : Rep 20 a ca) (hb : Rep 20 b cb) :
    Rep 20 (merge20 max min a b) (fun τ => ca τ + cb τ) := by
  intro τ i hi
  rw [merge20_hom (mx' := or) (mn' := and) (fun x => decide (τ ≤ x)) (reach_max τ) (reach_min τ),
    merge20_congr (a' := ones (min (ca τ) 20)) (b' := ones (min (cb τ) 20)) (fun j hj => ?_) (fun j hj => ?_) i (by omega),
    of_check check20 _ _ i (by omega) (by omega) hi]
  · simp only [ones, decide_eq_decide]; omega
  · rw [ha τ j hj]; simp only [ones, decide_eq_decide]; omega
  · rw [hb τ j hj]; simp only [ones, decide_eq_decide]; omega

theorem Rep.merge16 {a b : ℕ → EReal} {ca cb : EReal → ℕ} (ha : Rep 16 a ca) (hb : Rep 16 b cb) (hca : ∀ τ, ca τ ≤ 16)
    (hcb : ∀ τ, cb τ ≤ 16) : Rep 20 (merge16 max min a b) (fun τ => ca τ + cb τ) := by
  intro τ i hi
  have h1 := hca τ
  have h2 := hcb τ
  rw [merge16_hom (mx' := or) (mn' := and) (fun x => decide (τ ≤ x)) (reach_max τ) (reach_min τ),
    merge16_congr (a' := ones (ca τ)) (b' := ones (cb τ)) (fun j hj => ha τ j hj) (fun j hj => hb τ j hj) i (by omega),
    of_check check16 _ _ i (by omega) (by omega) hi]

theorem Rep.bmerge1 {a b : ℕ → EReal} {ca cb : EReal → ℕ} (ha : Rep 1 a ca) (hb : Rep 1 b cb) (hca : ∀ τ, ca τ ≤ 1)
    (hcb : ∀ τ, cb τ ≤ 1) : Rep 2 (bmerge1 max min a b) (fun τ => ca τ + cb τ) := by
  intro τ i hi
  have h1 := hca τ
  have h2 := hcb τ
  rw [bmerge1_hom (mx' := or) (mn' := and) (fun x => decide (τ ≤ x)) (reach_max τ) (reach_min τ),
    ← of_check check1 (ca τ) (cb τ) i (by omega) (by omega) hi]
  exact level_congr (by decide) (join_congr (ha τ) (hb τ)) i hi

theorem Rep.bmerge2 {a b : ℕ → EReal} {ca cb : EReal → ℕ} (ha : Rep 2 a ca) (hb : Rep 2 b cb) (hca : ∀ τ, ca τ ≤ 2)
    (hcb : ∀ τ, cb τ ≤ 2) : Rep 4 (bmerge2 max min a b) (fun τ => ca τ + cb τ) := by
  intro τ i hi
  have h1 := hca τ
  have h2 := hcb τ
  rw [bmerge2_hom (mx' := or) (mn' := and) (fun x => decide (τ ≤ x)) (reach_max τ) (reach_min τ),
    ← of_check check2 (ca τ) (cb τ) i (by omega) (by omega) hi]
  exact level_congr (by decide) (level_congr (by decide) (join_congr (ha τ) (hb τ))) i hi

theorem Rep.bmerge4 {a b : ℕ → EReal} {ca cb : EReal → ℕ} (ha : Rep 4 a ca) (hb : Rep 4 b cb) (hca : ∀ τ, ca τ ≤ 4)
    (hcb : ∀ τ, cb τ ≤ 4) : Rep 8 (bmerge4 max min a b) (fun τ => ca τ + cb τ) := by
  intro τ i hi
  have h1 := hca τ
  have h2 := hcb τ
  rw [bmerge4_hom (mx' := or) (mn' := and) (fun x => decide (τ ≤ x)) (reach_max τ) (reach_min τ),
    ← of_check check4 (ca τ) (cb τ) i (by omega) (by omega) hi]
  exact level_congr (by decide) (level_congr (by decide) (level_congr (by decide) (join_congr (ha τ) (hb τ)))) i hi

theorem Rep.bmerge8 {a b : ℕ → EReal} {ca cb : EReal → ℕ} (ha : Rep 8 a ca) (hb : Rep 8 b cb) (hca : ∀ τ, ca τ ≤ 8)
    (hcb : ∀ τ, cb τ ≤ 8) : Rep 16 (bmerge8 max min a b) (fun τ => ca τ + cb τ) := by
  intro τ i hi
  have h1 := hca τ
  have h2 := hcb τ
  rw [bmerge8_hom (mx' := or) (mn' := and) (fun x => decide (τ ≤ x)) (reach_max τ) (reach_min τ),
    ← of_check check8 (ca τ) (cb τ) i (by omega) (by omega) hi]
  exact level_congr (by decide) (level_congr (by decide) (level_congr (by decide) (level_congr (by decide)
    (join_congr (ha τ) (hb τ))))) i hi

/-- How many of `x`'s first `n` entries reach `τ`. -/
def cnt (n : ℕ) (x : ℕ → EReal) (τ : EReal) : ℕ := ∑ i ∈ Finset.range n, if τ ≤ x i then 1 else 0

theorem cnt_le (n : ℕ) (x : ℕ → EReal) (τ : EReal) : cnt n x τ ≤ n := by
  unfold cnt
  refine (Finset.sum_le_sum (g := fun _ => 1) fun i _ => ?_).trans (by simp)
  split <;> omega

theorem cnt_add (n k : ℕ) (x : ℕ → EReal) : cnt (n + k) x = fun τ => cnt n x τ + cnt k (fun i => x (i + n)) τ := by
  funext τ; simp only [cnt, Finset.sum_range_add]
  congr 1; exact Finset.sum_congr rfl fun i _ => by rw [Nat.add_comm n i]

theorem rep_one (x : EReal) (y : ℕ → EReal) (h : y 0 = x) : Rep 1 (fun _ => x) (cnt 1 y) := by
  intro τ i hi
  simp only [cnt, Finset.sum_range_one, h, ones]
  split <;> simp_all

theorem rep_sort2 (x : ℕ → EReal) : Rep 2 (sort2 max min x) (cnt 2 x) := by
  rw [cnt_add 1 1]
  exact Rep.bmerge1 (rep_one _ _ rfl) (rep_one _ _ rfl) (cnt_le 1 _) (cnt_le 1 _)
theorem rep_sort4 (x : ℕ → EReal) : Rep 4 (sort4 max min x) (cnt 4 x) := by
  rw [cnt_add 2 2]
  exact Rep.bmerge2 (rep_sort2 _) (rep_sort2 _) (cnt_le 2 _) (cnt_le 2 _)
theorem rep_sort8 (x : ℕ → EReal) : Rep 8 (sort8 max min x) (cnt 8 x) := by
  rw [cnt_add 4 4]
  exact Rep.bmerge4 (rep_sort4 _) (rep_sort4 _) (cnt_le 4 _) (cnt_le 4 _)
/-- The sort's entry `i` reaches `τ` exactly when more than `i` of the sixteen do. -/
theorem rep_sort16 (x : ℕ → EReal) : Rep 16 (sort16 max min x) (cnt 16 x) := by
  rw [cnt_add 8 8]
  exact Rep.bmerge8 (rep_sort8 _) (rep_sort8 _) (cnt_le 8 _) (cnt_le 8 _)

end Cert.Proof

end

end
-- ==== Proof.Levels.lean ====
/- The model's levels read at each position: one comparator each. -/
module

public import proofs.«01_k».proof.Proof.Network

@[expose] public section

namespace Cert.Proof

universe u

variable {α : Type u} (mx mn : α → α → α) (a b t : ℕ → α)

theorem cl1_0 : clean1 mx mn t 0 = mx (t 0) (t 16) := rfl
theorem cl1_1 : clean1 mx mn t 1 = mx (t 1) (t 17) := rfl
theorem cl1_2 : clean1 mx mn t 2 = mx (t 2) (t 18) := rfl
theorem cl1_3 : clean1 mx mn t 3 = mx (t 3) (t 19) := rfl
theorem cl1_4 : clean1 mx mn t 4 = mx (t 4) (t 20) := rfl
theorem cl1_5 : clean1 mx mn t 5 = mx (t 5) (t 21) := rfl
theorem cl1_6 : clean1 mx mn t 6 = mx (t 6) (t 22) := rfl
theorem cl1_7 : clean1 mx mn t 7 = mx (t 7) (t 23) := rfl
theorem cl1_8 : clean1 mx mn t 8 = mx (t 8) (t 24) := rfl
theorem cl1_9 : clean1 mx mn t 9 = mx (t 9) (t 25) := rfl
theorem cl1_10 : clean1 mx mn t 10 = mx (t 10) (t 26) := rfl
theorem cl1_11 : clean1 mx mn t 11 = mx (t 11) (t 27) := rfl
theorem cl1_12 : clean1 mx mn t 12 = mx (t 12) (t 28) := rfl
theorem cl1_13 : clean1 mx mn t 13 = mx (t 13) (t 29) := rfl
theorem cl1_14 : clean1 mx mn t 14 = mx (t 14) (t 30) := rfl
theorem cl1_15 : clean1 mx mn t 15 = mx (t 15) (t 31) := rfl
theorem cl1_16 : clean1 mx mn t 16 = mn (t 0) (t 16) := rfl
theorem cl1_17 : clean1 mx mn t 17 = mn (t 1) (t 17) := rfl
theorem cl1_18 : clean1 mx mn t 18 = mn (t 2) (t 18) := rfl
theorem cl1_19 : clean1 mx mn t 19 = mn (t 3) (t 19) := rfl
theorem cl1_20 : clean1 mx mn t 20 = mn (t 4) (t 20) := rfl
theorem cl1_21 : clean1 mx mn t 21 = mn (t 5) (t 21) := rfl
theorem cl1_22 : clean1 mx mn t 22 = mn (t 6) (t 22) := rfl
theorem cl1_23 : clean1 mx mn t 23 = mn (t 7) (t 23) := rfl
theorem cl1_24 : clean1 mx mn t 24 = mn (t 8) (t 24) := rfl
theorem cl1_25 : clean1 mx mn t 25 = mn (t 9) (t 25) := rfl
theorem cl1_26 : clean1 mx mn t 26 = mn (t 10) (t 26) := rfl
theorem cl1_27 : clean1 mx mn t 27 = mn (t 11) (t 27) := rfl
theorem cl1_28 : clean1 mx mn t 28 = mn (t 12) (t 28) := rfl
theorem cl1_29 : clean1 mx mn t 29 = mn (t 13) (t 29) := rfl
theorem cl1_30 : clean1 mx mn t 30 = mn (t 14) (t 30) := rfl
theorem cl1_31 : clean1 mx mn t 31 = mn (t 15) (t 31) := rfl
theorem cl2_0 : clean2 mx mn t 0 = mx ((clean1 mx mn t) 0) ((clean1 mx mn t) 8) := rfl
theorem cl2_1 : clean2 mx mn t 1 = mx ((clean1 mx mn t) 1) ((clean1 mx mn t) 9) := rfl
theorem cl2_2 : clean2 mx mn t 2 = mx ((clean1 mx mn t) 2) ((clean1 mx mn t) 10) := rfl
theorem cl2_3 : clean2 mx mn t 3 = mx ((clean1 mx mn t) 3) ((clean1 mx mn t) 11) := rfl
theorem cl2_4 : clean2 mx mn t 4 = mx ((clean1 mx mn t) 4) ((clean1 mx mn t) 12) := rfl
theorem cl2_5 : clean2 mx mn t 5 = mx ((clean1 mx mn t) 5) ((clean1 mx mn t) 13) := rfl
theorem cl2_6 : clean2 mx mn t 6 = mx ((clean1 mx mn t) 6) ((clean1 mx mn t) 14) := rfl
theorem cl2_7 : clean2 mx mn t 7 = mx ((clean1 mx mn t) 7) ((clean1 mx mn t) 15) := rfl
theorem cl2_8 : clean2 mx mn t 8 = mn ((clean1 mx mn t) 0) ((clean1 mx mn t) 8) := rfl
theorem cl2_9 : clean2 mx mn t 9 = mn ((clean1 mx mn t) 1) ((clean1 mx mn t) 9) := rfl
theorem cl2_10 : clean2 mx mn t 10 = mn ((clean1 mx mn t) 2) ((clean1 mx mn t) 10) := rfl
theorem cl2_11 : clean2 mx mn t 11 = mn ((clean1 mx mn t) 3) ((clean1 mx mn t) 11) := rfl
theorem cl2_12 : clean2 mx mn t 12 = mn ((clean1 mx mn t) 4) ((clean1 mx mn t) 12) := rfl
theorem cl2_13 : clean2 mx mn t 13 = mn ((clean1 mx mn t) 5) ((clean1 mx mn t) 13) := rfl
theorem cl2_14 : clean2 mx mn t 14 = mn ((clean1 mx mn t) 6) ((clean1 mx mn t) 14) := rfl
theorem cl2_15 : clean2 mx mn t 15 = mn ((clean1 mx mn t) 7) ((clean1 mx mn t) 15) := rfl
theorem cl2_16 : clean2 mx mn t 16 = mx ((clean1 mx mn t) 16) ((clean1 mx mn t) 24) := rfl
theorem cl2_17 : clean2 mx mn t 17 = mx ((clean1 mx mn t) 17) ((clean1 mx mn t) 25) := rfl
theorem cl2_18 : clean2 mx mn t 18 = mx ((clean1 mx mn t) 18) ((clean1 mx mn t) 26) := rfl
theorem cl2_19 : clean2 mx mn t 19 = mx ((clean1 mx mn t) 19) ((clean1 mx mn t) 27) := rfl
theorem cl2_20 : clean2 mx mn t 20 = mx ((clean1 mx mn t) 20) ((clean1 mx mn t) 28) := rfl
theorem cl2_21 : clean2 mx mn t 21 = mx ((clean1 mx mn t) 21) ((clean1 mx mn t) 29) := rfl
theorem cl2_22 : clean2 mx mn t 22 = mx ((clean1 mx mn t) 22) ((clean1 mx mn t) 30) := rfl
theorem cl2_23 : clean2 mx mn t 23 = mx ((clean1 mx mn t) 23) ((clean1 mx mn t) 31) := rfl
theorem cl2_24 : clean2 mx mn t 24 = mn ((clean1 mx mn t) 16) ((clean1 mx mn t) 24) := rfl
theorem cl2_25 : clean2 mx mn t 25 = mn ((clean1 mx mn t) 17) ((clean1 mx mn t) 25) := rfl
theorem cl2_26 : clean2 mx mn t 26 = mn ((clean1 mx mn t) 18) ((clean1 mx mn t) 26) := rfl
theorem cl2_27 : clean2 mx mn t 27 = mn ((clean1 mx mn t) 19) ((clean1 mx mn t) 27) := rfl
theorem cl2_28 : clean2 mx mn t 28 = mn ((clean1 mx mn t) 20) ((clean1 mx mn t) 28) := rfl
theorem cl2_29 : clean2 mx mn t 29 = mn ((clean1 mx mn t) 21) ((clean1 mx mn t) 29) := rfl
theorem cl2_30 : clean2 mx mn t 30 = mn ((clean1 mx mn t) 22) ((clean1 mx mn t) 30) := rfl
theorem cl2_31 : clean2 mx mn t 31 = mn ((clean1 mx mn t) 23) ((clean1 mx mn t) 31) := rfl
theorem cl3_0 : clean3 mx mn t 0 = mx ((clean2 mx mn t) 0) ((clean2 mx mn t) 4) := rfl
theorem cl3_1 : clean3 mx mn t 1 = mx ((clean2 mx mn t) 1) ((clean2 mx mn t) 5) := rfl
theorem cl3_2 : clean3 mx mn t 2 = mx ((clean2 mx mn t) 2) ((clean2 mx mn t) 6) := rfl
theorem cl3_3 : clean3 mx mn t 3 = mx ((clean2 mx mn t) 3) ((clean2 mx mn t) 7) := rfl
theorem cl3_4 : clean3 mx mn t 4 = mn ((clean2 mx mn t) 0) ((clean2 mx mn t) 4) := rfl
theorem cl3_5 : clean3 mx mn t 5 = mn ((clean2 mx mn t) 1) ((clean2 mx mn t) 5) := rfl
theorem cl3_6 : clean3 mx mn t 6 = mn ((clean2 mx mn t) 2) ((clean2 mx mn t) 6) := rfl
theorem cl3_7 : clean3 mx mn t 7 = mn ((clean2 mx mn t) 3) ((clean2 mx mn t) 7) := rfl
theorem cl3_8 : clean3 mx mn t 8 = mx ((clean2 mx mn t) 8) ((clean2 mx mn t) 12) := rfl
theorem cl3_9 : clean3 mx mn t 9 = mx ((clean2 mx mn t) 9) ((clean2 mx mn t) 13) := rfl
theorem cl3_10 : clean3 mx mn t 10 = mx ((clean2 mx mn t) 10) ((clean2 mx mn t) 14) := rfl
theorem cl3_11 : clean3 mx mn t 11 = mx ((clean2 mx mn t) 11) ((clean2 mx mn t) 15) := rfl
theorem cl3_12 : clean3 mx mn t 12 = mn ((clean2 mx mn t) 8) ((clean2 mx mn t) 12) := rfl
theorem cl3_13 : clean3 mx mn t 13 = mn ((clean2 mx mn t) 9) ((clean2 mx mn t) 13) := rfl
theorem cl3_14 : clean3 mx mn t 14 = mn ((clean2 mx mn t) 10) ((clean2 mx mn t) 14) := rfl
theorem cl3_15 : clean3 mx mn t 15 = mn ((clean2 mx mn t) 11) ((clean2 mx mn t) 15) := rfl
theorem cl3_16 : clean3 mx mn t 16 = mx ((clean2 mx mn t) 16) ((clean2 mx mn t) 20) := rfl
theorem cl3_17 : clean3 mx mn t 17 = mx ((clean2 mx mn t) 17) ((clean2 mx mn t) 21) := rfl
theorem cl3_18 : clean3 mx mn t 18 = mx ((clean2 mx mn t) 18) ((clean2 mx mn t) 22) := rfl
theorem cl3_19 : clean3 mx mn t 19 = mx ((clean2 mx mn t) 19) ((clean2 mx mn t) 23) := rfl
theorem cl3_20 : clean3 mx mn t 20 = mn ((clean2 mx mn t) 16) ((clean2 mx mn t) 20) := rfl
theorem cl3_21 : clean3 mx mn t 21 = mn ((clean2 mx mn t) 17) ((clean2 mx mn t) 21) := rfl
theorem cl3_22 : clean3 mx mn t 22 = mn ((clean2 mx mn t) 18) ((clean2 mx mn t) 22) := rfl
theorem cl3_23 : clean3 mx mn t 23 = mn ((clean2 mx mn t) 19) ((clean2 mx mn t) 23) := rfl
theorem cl3_24 : clean3 mx mn t 24 = mx ((clean2 mx mn t) 24) ((clean2 mx mn t) 28) := rfl
theorem cl3_25 : clean3 mx mn t 25 = mx ((clean2 mx mn t) 25) ((clean2 mx mn t) 29) := rfl
theorem cl3_26 : clean3 mx mn t 26 = mx ((clean2 mx mn t) 26) ((clean2 mx mn t) 30) := rfl
theorem cl3_27 : clean3 mx mn t 27 = mx ((clean2 mx mn t) 27) ((clean2 mx mn t) 31) := rfl
theorem cl3_28 : clean3 mx mn t 28 = mn ((clean2 mx mn t) 24) ((clean2 mx mn t) 28) := rfl
theorem cl3_29 : clean3 mx mn t 29 = mn ((clean2 mx mn t) 25) ((clean2 mx mn t) 29) := rfl
theorem cl3_30 : clean3 mx mn t 30 = mn ((clean2 mx mn t) 26) ((clean2 mx mn t) 30) := rfl
theorem cl3_31 : clean3 mx mn t 31 = mn ((clean2 mx mn t) 27) ((clean2 mx mn t) 31) := rfl
theorem cl4_0 : clean4 mx mn t 0 = mx ((clean3 mx mn t) 0) ((clean3 mx mn t) 2) := rfl
theorem cl4_1 : clean4 mx mn t 1 = mx ((clean3 mx mn t) 1) ((clean3 mx mn t) 3) := rfl
theorem cl4_2 : clean4 mx mn t 2 = mn ((clean3 mx mn t) 0) ((clean3 mx mn t) 2) := rfl
theorem cl4_3 : clean4 mx mn t 3 = mn ((clean3 mx mn t) 1) ((clean3 mx mn t) 3) := rfl
theorem cl4_4 : clean4 mx mn t 4 = mx ((clean3 mx mn t) 4) ((clean3 mx mn t) 6) := rfl
theorem cl4_5 : clean4 mx mn t 5 = mx ((clean3 mx mn t) 5) ((clean3 mx mn t) 7) := rfl
theorem cl4_6 : clean4 mx mn t 6 = mn ((clean3 mx mn t) 4) ((clean3 mx mn t) 6) := rfl
theorem cl4_7 : clean4 mx mn t 7 = mn ((clean3 mx mn t) 5) ((clean3 mx mn t) 7) := rfl
theorem cl4_8 : clean4 mx mn t 8 = mx ((clean3 mx mn t) 8) ((clean3 mx mn t) 10) := rfl
theorem cl4_9 : clean4 mx mn t 9 = mx ((clean3 mx mn t) 9) ((clean3 mx mn t) 11) := rfl
theorem cl4_10 : clean4 mx mn t 10 = mn ((clean3 mx mn t) 8) ((clean3 mx mn t) 10) := rfl
theorem cl4_11 : clean4 mx mn t 11 = mn ((clean3 mx mn t) 9) ((clean3 mx mn t) 11) := rfl
theorem cl4_12 : clean4 mx mn t 12 = mx ((clean3 mx mn t) 12) ((clean3 mx mn t) 14) := rfl
theorem cl4_13 : clean4 mx mn t 13 = mx ((clean3 mx mn t) 13) ((clean3 mx mn t) 15) := rfl
theorem cl4_14 : clean4 mx mn t 14 = mn ((clean3 mx mn t) 12) ((clean3 mx mn t) 14) := rfl
theorem cl4_15 : clean4 mx mn t 15 = mn ((clean3 mx mn t) 13) ((clean3 mx mn t) 15) := rfl
theorem cl4_16 : clean4 mx mn t 16 = mx ((clean3 mx mn t) 16) ((clean3 mx mn t) 18) := rfl
theorem cl4_17 : clean4 mx mn t 17 = mx ((clean3 mx mn t) 17) ((clean3 mx mn t) 19) := rfl
theorem cl4_18 : clean4 mx mn t 18 = mn ((clean3 mx mn t) 16) ((clean3 mx mn t) 18) := rfl
theorem cl4_19 : clean4 mx mn t 19 = mn ((clean3 mx mn t) 17) ((clean3 mx mn t) 19) := rfl
theorem cl4_20 : clean4 mx mn t 20 = mx ((clean3 mx mn t) 20) ((clean3 mx mn t) 22) := rfl
theorem cl4_21 : clean4 mx mn t 21 = mx ((clean3 mx mn t) 21) ((clean3 mx mn t) 23) := rfl
theorem cl4_22 : clean4 mx mn t 22 = mn ((clean3 mx mn t) 20) ((clean3 mx mn t) 22) := rfl
theorem cl4_23 : clean4 mx mn t 23 = mn ((clean3 mx mn t) 21) ((clean3 mx mn t) 23) := rfl
theorem cl4_24 : clean4 mx mn t 24 = mx ((clean3 mx mn t) 24) ((clean3 mx mn t) 26) := rfl
theorem cl4_25 : clean4 mx mn t 25 = mx ((clean3 mx mn t) 25) ((clean3 mx mn t) 27) := rfl
theorem cl4_26 : clean4 mx mn t 26 = mn ((clean3 mx mn t) 24) ((clean3 mx mn t) 26) := rfl
theorem cl4_27 : clean4 mx mn t 27 = mn ((clean3 mx mn t) 25) ((clean3 mx mn t) 27) := rfl
theorem cl4_28 : clean4 mx mn t 28 = mx ((clean3 mx mn t) 28) ((clean3 mx mn t) 30) := rfl
theorem cl4_29 : clean4 mx mn t 29 = mx ((clean3 mx mn t) 29) ((clean3 mx mn t) 31) := rfl
theorem cl4_30 : clean4 mx mn t 30 = mn ((clean3 mx mn t) 28) ((clean3 mx mn t) 30) := rfl
theorem cl4_31 : clean4 mx mn t 31 = mn ((clean3 mx mn t) 29) ((clean3 mx mn t) 31) := rfl
theorem cl5_0 : clean mx mn t 0 = mx ((clean4 mx mn t) 0) ((clean4 mx mn t) 1) := rfl
theorem cl5_1 : clean mx mn t 1 = mn ((clean4 mx mn t) 0) ((clean4 mx mn t) 1) := rfl
theorem cl5_2 : clean mx mn t 2 = mx ((clean4 mx mn t) 2) ((clean4 mx mn t) 3) := rfl
theorem cl5_3 : clean mx mn t 3 = mn ((clean4 mx mn t) 2) ((clean4 mx mn t) 3) := rfl
theorem cl5_4 : clean mx mn t 4 = mx ((clean4 mx mn t) 4) ((clean4 mx mn t) 5) := rfl
theorem cl5_5 : clean mx mn t 5 = mn ((clean4 mx mn t) 4) ((clean4 mx mn t) 5) := rfl
theorem cl5_6 : clean mx mn t 6 = mx ((clean4 mx mn t) 6) ((clean4 mx mn t) 7) := rfl
theorem cl5_7 : clean mx mn t 7 = mn ((clean4 mx mn t) 6) ((clean4 mx mn t) 7) := rfl
theorem cl5_8 : clean mx mn t 8 = mx ((clean4 mx mn t) 8) ((clean4 mx mn t) 9) := rfl
theorem cl5_9 : clean mx mn t 9 = mn ((clean4 mx mn t) 8) ((clean4 mx mn t) 9) := rfl
theorem cl5_10 : clean mx mn t 10 = mx ((clean4 mx mn t) 10) ((clean4 mx mn t) 11) := rfl
theorem cl5_11 : clean mx mn t 11 = mn ((clean4 mx mn t) 10) ((clean4 mx mn t) 11) := rfl
theorem cl5_12 : clean mx mn t 12 = mx ((clean4 mx mn t) 12) ((clean4 mx mn t) 13) := rfl
theorem cl5_13 : clean mx mn t 13 = mn ((clean4 mx mn t) 12) ((clean4 mx mn t) 13) := rfl
theorem cl5_14 : clean mx mn t 14 = mx ((clean4 mx mn t) 14) ((clean4 mx mn t) 15) := rfl
theorem cl5_15 : clean mx mn t 15 = mn ((clean4 mx mn t) 14) ((clean4 mx mn t) 15) := rfl
theorem cl5_16 : clean mx mn t 16 = mx ((clean4 mx mn t) 16) ((clean4 mx mn t) 17) := rfl
theorem cl5_17 : clean mx mn t 17 = mn ((clean4 mx mn t) 16) ((clean4 mx mn t) 17) := rfl
theorem cl5_18 : clean mx mn t 18 = mx ((clean4 mx mn t) 18) ((clean4 mx mn t) 19) := rfl
theorem cl5_19 : clean mx mn t 19 = mn ((clean4 mx mn t) 18) ((clean4 mx mn t) 19) := rfl
theorem cl5_20 : clean mx mn t 20 = mx ((clean4 mx mn t) 20) ((clean4 mx mn t) 21) := rfl
theorem cl5_21 : clean mx mn t 21 = mn ((clean4 mx mn t) 20) ((clean4 mx mn t) 21) := rfl
theorem cl5_22 : clean mx mn t 22 = mx ((clean4 mx mn t) 22) ((clean4 mx mn t) 23) := rfl
theorem cl5_23 : clean mx mn t 23 = mn ((clean4 mx mn t) 22) ((clean4 mx mn t) 23) := rfl
theorem cl5_24 : clean mx mn t 24 = mx ((clean4 mx mn t) 24) ((clean4 mx mn t) 25) := rfl
theorem cl5_25 : clean mx mn t 25 = mn ((clean4 mx mn t) 24) ((clean4 mx mn t) 25) := rfl
theorem cl5_26 : clean mx mn t 26 = mx ((clean4 mx mn t) 26) ((clean4 mx mn t) 27) := rfl
theorem cl5_27 : clean mx mn t 27 = mn ((clean4 mx mn t) 26) ((clean4 mx mn t) 27) := rfl
theorem cl5_28 : clean mx mn t 28 = mx ((clean4 mx mn t) 28) ((clean4 mx mn t) 29) := rfl
theorem cl5_29 : clean mx mn t 29 = mn ((clean4 mx mn t) 28) ((clean4 mx mn t) 29) := rfl
theorem cl5_30 : clean mx mn t 30 = mx ((clean4 mx mn t) 30) ((clean4 mx mn t) 31) := rfl
theorem cl5_31 : clean mx mn t 31 = mn ((clean4 mx mn t) 30) ((clean4 mx mn t) 31) := rfl
theorem mt16_0 : meet16 a b 0 = a 0 := rfl
theorem mt20_0 : meet20 mx a b 0 = a 0 := rfl
theorem mt16_1 : meet16 a b 1 = a 1 := rfl
theorem mt20_1 : meet20 mx a b 1 = a 1 := rfl
theorem mt16_2 : meet16 a b 2 = a 2 := rfl
theorem mt20_2 : meet20 mx a b 2 = a 2 := rfl
theorem mt16_3 : meet16 a b 3 = a 3 := rfl
theorem mt20_3 : meet20 mx a b 3 = a 3 := rfl
theorem mt16_4 : meet16 a b 4 = a 4 := rfl
theorem mt20_4 : meet20 mx a b 4 = a 4 := rfl
theorem mt16_5 : meet16 a b 5 = a 5 := rfl
theorem mt20_5 : meet20 mx a b 5 = a 5 := rfl
theorem mt16_6 : meet16 a b 6 = a 6 := rfl
theorem mt20_6 : meet20 mx a b 6 = a 6 := rfl
theorem mt16_7 : meet16 a b 7 = a 7 := rfl
theorem mt20_7 : meet20 mx a b 7 = a 7 := rfl
theorem mt16_8 : meet16 a b 8 = a 8 := rfl
theorem mt20_8 : meet20 mx a b 8 = a 8 := rfl
theorem mt16_9 : meet16 a b 9 = a 9 := rfl
theorem mt20_9 : meet20 mx a b 9 = a 9 := rfl
theorem mt16_10 : meet16 a b 10 = a 10 := rfl
theorem mt20_10 : meet20 mx a b 10 = a 10 := rfl
theorem mt16_11 : meet16 a b 11 = a 11 := rfl
theorem mt20_11 : meet20 mx a b 11 = a 11 := rfl
theorem mt16_12 : meet16 a b 12 = a 12 := rfl
theorem mt20_12 : meet20 mx a b 12 = mx (a 12) (b 19) := rfl
theorem mt16_13 : meet16 a b 13 = a 13 := rfl
theorem mt20_13 : meet20 mx a b 13 = mx (a 13) (b 18) := rfl
theorem mt16_14 : meet16 a b 14 = a 14 := rfl
theorem mt20_14 : meet20 mx a b 14 = mx (a 14) (b 17) := rfl
theorem mt16_15 : meet16 a b 15 = a 15 := rfl
theorem mt20_15 : meet20 mx a b 15 = mx (a 15) (b 16) := rfl
theorem mt16_16 : meet16 a b 16 = b 15 := rfl
theorem mt20_16 : meet20 mx a b 16 = mx (a 16) (b 15) := rfl
theorem mt16_17 : meet16 a b 17 = b 14 := rfl
theorem mt20_17 : meet20 mx a b 17 = mx (a 17) (b 14) := rfl
theorem mt16_18 : meet16 a b 18 = b 13 := rfl
theorem mt20_18 : meet20 mx a b 18 = mx (a 18) (b 13) := rfl
theorem mt16_19 : meet16 a b 19 = b 12 := rfl
theorem mt20_19 : meet20 mx a b 19 = mx (a 19) (b 12) := rfl
theorem mt16_20 : meet16 a b 20 = b 11 := rfl
theorem mt20_20 : meet20 mx a b 20 = b 11 := rfl
theorem mt16_21 : meet16 a b 21 = b 10 := rfl
theorem mt20_21 : meet20 mx a b 21 = b 10 := rfl
theorem mt16_22 : meet16 a b 22 = b 9 := rfl
theorem mt20_22 : meet20 mx a b 22 = b 9 := rfl
theorem mt16_23 : meet16 a b 23 = b 8 := rfl
theorem mt20_23 : meet20 mx a b 23 = b 8 := rfl
theorem mt16_24 : meet16 a b 24 = b 7 := rfl
theorem mt20_24 : meet20 mx a b 24 = b 7 := rfl
theorem mt16_25 : meet16 a b 25 = b 6 := rfl
theorem mt20_25 : meet20 mx a b 25 = b 6 := rfl
theorem mt16_26 : meet16 a b 26 = b 5 := rfl
theorem mt20_26 : meet20 mx a b 26 = b 5 := rfl
theorem mt16_27 : meet16 a b 27 = b 4 := rfl
theorem mt20_27 : meet20 mx a b 27 = b 4 := rfl
theorem mt16_28 : meet16 a b 28 = b 3 := rfl
theorem mt20_28 : meet20 mx a b 28 = b 3 := rfl
theorem mt16_29 : meet16 a b 29 = b 2 := rfl
theorem mt20_29 : meet20 mx a b 29 = b 2 := rfl
theorem mt16_30 : meet16 a b 30 = b 1 := rfl
theorem mt20_30 : meet20 mx a b 30 = b 1 := rfl
theorem mt16_31 : meet16 a b 31 = b 0 := rfl
theorem mt20_31 : meet20 mx a b 31 = b 0 := rfl
theorem jn1_0 : join 1 a b 0 = a 0 := rfl
theorem jn1_1 : join 1 a b 1 = b 0 := rfl
theorem lv1_1_0 : level mx mn 1 1 t 0 = mx (t 0) (t 1) := rfl
theorem lv1_1_1 : level mx mn 1 1 t 1 = mn (t 0) (t 1) := rfl
theorem jn2_0 : join 2 a b 0 = a 0 := rfl
theorem jn2_1 : join 2 a b 1 = a 1 := rfl
theorem jn2_2 : join 2 a b 2 = b 0 := rfl
theorem jn2_3 : join 2 a b 3 = b 1 := rfl
theorem lv2_2_0 : level mx mn 2 2 t 0 = mx (t 0) (t 2) := rfl
theorem lv2_2_1 : level mx mn 2 2 t 1 = mx (t 1) (t 3) := rfl
theorem lv2_2_2 : level mx mn 2 2 t 2 = mn (t 0) (t 2) := rfl
theorem lv2_2_3 : level mx mn 2 2 t 3 = mn (t 1) (t 3) := rfl
theorem lv2_1_0 : level mx mn 2 1 t 0 = t 0 := rfl
theorem lv2_1_1 : level mx mn 2 1 t 1 = mx (t 1) (t 2) := rfl
theorem lv2_1_2 : level mx mn 2 1 t 2 = mn (t 1) (t 2) := rfl
theorem lv2_1_3 : level mx mn 2 1 t 3 = t 3 := rfl
theorem jn4_0 : join 4 a b 0 = a 0 := rfl
theorem jn4_1 : join 4 a b 1 = a 1 := rfl
theorem jn4_2 : join 4 a b 2 = a 2 := rfl
theorem jn4_3 : join 4 a b 3 = a 3 := rfl
theorem jn4_4 : join 4 a b 4 = b 0 := rfl
theorem jn4_5 : join 4 a b 5 = b 1 := rfl
theorem jn4_6 : join 4 a b 6 = b 2 := rfl
theorem jn4_7 : join 4 a b 7 = b 3 := rfl
theorem lv4_4_0 : level mx mn 4 4 t 0 = mx (t 0) (t 4) := rfl
theorem lv4_4_1 : level mx mn 4 4 t 1 = mx (t 1) (t 5) := rfl
theorem lv4_4_2 : level mx mn 4 4 t 2 = mx (t 2) (t 6) := rfl
theorem lv4_4_3 : level mx mn 4 4 t 3 = mx (t 3) (t 7) := rfl
theorem lv4_4_4 : level mx mn 4 4 t 4 = mn (t 0) (t 4) := rfl
theorem lv4_4_5 : level mx mn 4 4 t 5 = mn (t 1) (t 5) := rfl
theorem lv4_4_6 : level mx mn 4 4 t 6 = mn (t 2) (t 6) := rfl
theorem lv4_4_7 : level mx mn 4 4 t 7 = mn (t 3) (t 7) := rfl
theorem lv4_2_0 : level mx mn 4 2 t 0 = t 0 := rfl
theorem lv4_2_1 : level mx mn 4 2 t 1 = t 1 := rfl
theorem lv4_2_2 : level mx mn 4 2 t 2 = mx (t 2) (t 4) := rfl
theorem lv4_2_3 : level mx mn 4 2 t 3 = mx (t 3) (t 5) := rfl
theorem lv4_2_4 : level mx mn 4 2 t 4 = mn (t 2) (t 4) := rfl
theorem lv4_2_5 : level mx mn 4 2 t 5 = mn (t 3) (t 5) := rfl
theorem lv4_2_6 : level mx mn 4 2 t 6 = t 6 := rfl
theorem lv4_2_7 : level mx mn 4 2 t 7 = t 7 := rfl
theorem lv4_1_0 : level mx mn 4 1 t 0 = t 0 := rfl
theorem lv4_1_1 : level mx mn 4 1 t 1 = mx (t 1) (t 2) := rfl
theorem lv4_1_2 : level mx mn 4 1 t 2 = mn (t 1) (t 2) := rfl
theorem lv4_1_3 : level mx mn 4 1 t 3 = mx (t 3) (t 4) := rfl
theorem lv4_1_4 : level mx mn 4 1 t 4 = mn (t 3) (t 4) := rfl
theorem lv4_1_5 : level mx mn 4 1 t 5 = mx (t 5) (t 6) := rfl
theorem lv4_1_6 : level mx mn 4 1 t 6 = mn (t 5) (t 6) := rfl
theorem lv4_1_7 : level mx mn 4 1 t 7 = t 7 := rfl
theorem jn8_0 : join 8 a b 0 = a 0 := rfl
theorem jn8_1 : join 8 a b 1 = a 1 := rfl
theorem jn8_2 : join 8 a b 2 = a 2 := rfl
theorem jn8_3 : join 8 a b 3 = a 3 := rfl
theorem jn8_4 : join 8 a b 4 = a 4 := rfl
theorem jn8_5 : join 8 a b 5 = a 5 := rfl
theorem jn8_6 : join 8 a b 6 = a 6 := rfl
theorem jn8_7 : join 8 a b 7 = a 7 := rfl
theorem jn8_8 : join 8 a b 8 = b 0 := rfl
theorem jn8_9 : join 8 a b 9 = b 1 := rfl
theorem jn8_10 : join 8 a b 10 = b 2 := rfl
theorem jn8_11 : join 8 a b 11 = b 3 := rfl
theorem jn8_12 : join 8 a b 12 = b 4 := rfl
theorem jn8_13 : join 8 a b 13 = b 5 := rfl
theorem jn8_14 : join 8 a b 14 = b 6 := rfl
theorem jn8_15 : join 8 a b 15 = b 7 := rfl
theorem lv8_8_0 : level mx mn 8 8 t 0 = mx (t 0) (t 8) := rfl
theorem lv8_8_1 : level mx mn 8 8 t 1 = mx (t 1) (t 9) := rfl
theorem lv8_8_2 : level mx mn 8 8 t 2 = mx (t 2) (t 10) := rfl
theorem lv8_8_3 : level mx mn 8 8 t 3 = mx (t 3) (t 11) := rfl
theorem lv8_8_4 : level mx mn 8 8 t 4 = mx (t 4) (t 12) := rfl
theorem lv8_8_5 : level mx mn 8 8 t 5 = mx (t 5) (t 13) := rfl
theorem lv8_8_6 : level mx mn 8 8 t 6 = mx (t 6) (t 14) := rfl
theorem lv8_8_7 : level mx mn 8 8 t 7 = mx (t 7) (t 15) := rfl
theorem lv8_8_8 : level mx mn 8 8 t 8 = mn (t 0) (t 8) := rfl
theorem lv8_8_9 : level mx mn 8 8 t 9 = mn (t 1) (t 9) := rfl
theorem lv8_8_10 : level mx mn 8 8 t 10 = mn (t 2) (t 10) := rfl
theorem lv8_8_11 : level mx mn 8 8 t 11 = mn (t 3) (t 11) := rfl
theorem lv8_8_12 : level mx mn 8 8 t 12 = mn (t 4) (t 12) := rfl
theorem lv8_8_13 : level mx mn 8 8 t 13 = mn (t 5) (t 13) := rfl
theorem lv8_8_14 : level mx mn 8 8 t 14 = mn (t 6) (t 14) := rfl
theorem lv8_8_15 : level mx mn 8 8 t 15 = mn (t 7) (t 15) := rfl
theorem lv8_4_0 : level mx mn 8 4 t 0 = t 0 := rfl
theorem lv8_4_1 : level mx mn 8 4 t 1 = t 1 := rfl
theorem lv8_4_2 : level mx mn 8 4 t 2 = t 2 := rfl
theorem lv8_4_3 : level mx mn 8 4 t 3 = t 3 := rfl
theorem lv8_4_4 : level mx mn 8 4 t 4 = mx (t 4) (t 8) := rfl
theorem lv8_4_5 : level mx mn 8 4 t 5 = mx (t 5) (t 9) := rfl
theorem lv8_4_6 : level mx mn 8 4 t 6 = mx (t 6) (t 10) := rfl
theorem lv8_4_7 : level mx mn 8 4 t 7 = mx (t 7) (t 11) := rfl
theorem lv8_4_8 : level mx mn 8 4 t 8 = mn (t 4) (t 8) := rfl
theorem lv8_4_9 : level mx mn 8 4 t 9 = mn (t 5) (t 9) := rfl
theorem lv8_4_10 : level mx mn 8 4 t 10 = mn (t 6) (t 10) := rfl
theorem lv8_4_11 : level mx mn 8 4 t 11 = mn (t 7) (t 11) := rfl
theorem lv8_4_12 : level mx mn 8 4 t 12 = t 12 := rfl
theorem lv8_4_13 : level mx mn 8 4 t 13 = t 13 := rfl
theorem lv8_4_14 : level mx mn 8 4 t 14 = t 14 := rfl
theorem lv8_4_15 : level mx mn 8 4 t 15 = t 15 := rfl
theorem lv8_2_0 : level mx mn 8 2 t 0 = t 0 := rfl
theorem lv8_2_1 : level mx mn 8 2 t 1 = t 1 := rfl
theorem lv8_2_2 : level mx mn 8 2 t 2 = mx (t 2) (t 4) := rfl
theorem lv8_2_3 : level mx mn 8 2 t 3 = mx (t 3) (t 5) := rfl
theorem lv8_2_4 : level mx mn 8 2 t 4 = mn (t 2) (t 4) := rfl
theorem lv8_2_5 : level mx mn 8 2 t 5 = mn (t 3) (t 5) := rfl
theorem lv8_2_6 : level mx mn 8 2 t 6 = mx (t 6) (t 8) := rfl
theorem lv8_2_7 : level mx mn 8 2 t 7 = mx (t 7) (t 9) := rfl
theorem lv8_2_8 : level mx mn 8 2 t 8 = mn (t 6) (t 8) := rfl
theorem lv8_2_9 : level mx mn 8 2 t 9 = mn (t 7) (t 9) := rfl
theorem lv8_2_10 : level mx mn 8 2 t 10 = mx (t 10) (t 12) := rfl
theorem lv8_2_11 : level mx mn 8 2 t 11 = mx (t 11) (t 13) := rfl
theorem lv8_2_12 : level mx mn 8 2 t 12 = mn (t 10) (t 12) := rfl
theorem lv8_2_13 : level mx mn 8 2 t 13 = mn (t 11) (t 13) := rfl
theorem lv8_2_14 : level mx mn 8 2 t 14 = t 14 := rfl
theorem lv8_2_15 : level mx mn 8 2 t 15 = t 15 := rfl
theorem lv8_1_0 : level mx mn 8 1 t 0 = t 0 := rfl
theorem lv8_1_1 : level mx mn 8 1 t 1 = mx (t 1) (t 2) := rfl
theorem lv8_1_2 : level mx mn 8 1 t 2 = mn (t 1) (t 2) := rfl
theorem lv8_1_3 : level mx mn 8 1 t 3 = mx (t 3) (t 4) := rfl
theorem lv8_1_4 : level mx mn 8 1 t 4 = mn (t 3) (t 4) := rfl
theorem lv8_1_5 : level mx mn 8 1 t 5 = mx (t 5) (t 6) := rfl
theorem lv8_1_6 : level mx mn 8 1 t 6 = mn (t 5) (t 6) := rfl
theorem lv8_1_7 : level mx mn 8 1 t 7 = mx (t 7) (t 8) := rfl
theorem lv8_1_8 : level mx mn 8 1 t 8 = mn (t 7) (t 8) := rfl
theorem lv8_1_9 : level mx mn 8 1 t 9 = mx (t 9) (t 10) := rfl
theorem lv8_1_10 : level mx mn 8 1 t 10 = mn (t 9) (t 10) := rfl
theorem lv8_1_11 : level mx mn 8 1 t 11 = mx (t 11) (t 12) := rfl
theorem lv8_1_12 : level mx mn 8 1 t 12 = mn (t 11) (t 12) := rfl
theorem lv8_1_13 : level mx mn 8 1 t 13 = mx (t 13) (t 14) := rfl
theorem lv8_1_14 : level mx mn 8 1 t 14 = mn (t 13) (t 14) := rfl
theorem lv8_1_15 : level mx mn 8 1 t 15 = t 15 := rfl
theorem sort2_e (i : ℕ) : sort2 mx mn t i = level mx mn 1 1 (join 1 (fun _ => t 0) (fun _ => t 1)) i := rfl
theorem sort4_e (i : ℕ) : sort4 mx mn t i = level mx mn 2 1 (level mx mn 2 2 (join 2 (sort2 mx mn t) (sort2 mx mn fun i => t (i + 2)))) i := rfl
theorem sort8_e (i : ℕ) : sort8 mx mn t i = level mx mn 4 1 (level mx mn 4 2 (level mx mn 4 4 (join 4 (sort4 mx mn t) (sort4 mx mn fun i => t (i + 4))))) i := rfl
theorem sort16_e (i : ℕ) : sort16 mx mn t i = level mx mn 8 1 (level mx mn 8 2 (level mx mn 8 4 (level mx mn 8 8 (join 8 (sort8 mx mn t) (sort8 mx mn fun i => t (i + 8)))))) i := rfl

end Cert.Proof

end
-- ==== Proof.Stages.lean ====
/- The kernel body's stages as lists of vectors, by the model of its network.
   `Args` holds what the body's values are functions of; `Args.at` reads one of them. `Mk` is the list after stage `k`, `Nk` the two
   halves laid against one another before it. -/
module

public import proofs.«01_k».proof.Proof.Levels
public import proofs.«01_k».proof.Proof.Gen.KernelIdeal.Frame.RunA

@[expose] public section

noncomputable section

namespace Cert.Proof

open Idealize.ShloMosaic Cert.KernelIdeal Cert.KernelIdeal.Gen

universe u

variable {F : FTy → Type} [FloatOps F]

/-- What a value of the kernel's body is a function of: the device, the windows' memrefs, and the blocks in them. -/
structure Args (F : FTy → Type) [FloatOps F] where
  c : Dev nD
  arg1 : Memref sig .tc .vmem S2x512x32 .f32
  harg1 : arg1.IsWhole
  arg2 : Memref sig .tc .vmem S2x2048x32 .f32
  harg2 : arg2.IsWhole
  arg3 : Memref sig .tc .vmem S2x32x32 .f32
  harg3 : arg3.IsWhole
  arg4 : Memref sig .tc .vmem S2x1x32 .f32
  harg4 : arg4.IsWhole
  arg5 : Memref sig .tc .vmem S2x32x32 .f32
  harg5 : arg5.IsWhole
  arg6 : Memref sig .tc .vmem S2x1x32 .f32
  harg6 : arg6.IsWhole
  x0 : Vec F S2x512x32 .f32
  x1 : Vec F S2x2048x32 .f32
  x2 : Vec F S2x32x32 .f32
  x3 : Vec F S2x1x32 .f32
  x4 : Vec F S2x32x32 .f32
  x5 : Vec F S2x1x32 .f32

/-- The body's value `f` at these arguments. -/
abbrev Args.at {S : Shape} (A : Args F) (f : (c : Dev nD) → (arg1 : Memref sig .tc .vmem S2x512x32 .f32) → (harg1 : arg1.IsWhole) → (arg2 : Memref sig .tc .vmem S2x2048x32 .f32) → (harg2 : arg2.IsWhole) → (arg3 : Memref sig .tc .vmem S2x32x32 .f32) → (harg3 : arg3.IsWhole) → (arg4 : Memref sig .tc .vmem S2x1x32 .f32) → (harg4 : arg4.IsWhole) → (arg5 : Memref sig .tc .vmem S2x32x32 .f32) → (harg5 : arg5.IsWhole) → (arg6 : Memref sig .tc .vmem S2x1x32 .f32) → (harg6 : arg6.IsWhole) → (x0 : Vec F S2x512x32 .f32) → (x1 : Vec F S2x2048x32 .f32) → (x2 : Vec F S2x32x32 .f32) → (x3 : Vec F S2x1x32 .f32) → (x4 : Vec F S2x32x32 .f32) → (x5 : Vec F S2x1x32 .f32) → FVec F S .f32) : FVec F S .f32 :=
  f A.c A.arg1 A.harg1 A.arg2 A.harg2 A.arg3 A.harg3 A.arg4 A.harg4 A.arg5 A.harg5 A.arg6 A.harg6 A.x0 A.x1 A.x2 A.x3 A.x4 A.x5

/-- The sixteen columns: rows of the transposed tile eight apart. -/
def col (A : Args F) (i : ℕ) : FVec F S32x8x512 .f32 :=
  match i with
  | 0 => A.at kernelRun0_A.sl.r_5
  | 1 => A.at kernelRun0_A.sl.r_6
  | 2 => A.at kernelRun0_A.sl.r_7
  | 3 => A.at kernelRun0_A.sl.r_8
  | 4 => A.at kernelRun0_A.sl.r_9
  | 5 => A.at kernelRun0_A.sl.r_10
  | 6 => A.at kernelRun0_A.sl.r_11
  | 7 => A.at kernelRun0_A.sl.r_12
  | 8 => A.at kernelRun0_A.sl.r_13
  | 9 => A.at kernelRun0_A.sl.r_14
  | 10 => A.at kernelRun0_A.sl.r_15
  | 11 => A.at kernelRun0_A.sl.r_16
  | 12 => A.at kernelRun0_A.sl.r_17
  | 13 => A.at kernelRun0_A.sl.r_18
  | 14 => A.at kernelRun0_A.sl.r_19
  | _ => A.at kernelRun0_A.sl.r_20

/-- The larger of two vectors, entry by entry. -/
abbrev mX {S : Shape} (a b : FVec F S .f32) : FVec F S .f32 := maximumf a b
/-- The smaller of two vectors, entry by entry. -/
abbrev mN {S : Shape} (a b : FVec F S .f32) : FVec F S .f32 := minimumf a b

/-- The columns sorted. -/
def M1 (A : Args F) : ℕ → FVec F S32x8x512 .f32 := sort16 mX mN (col A)

def lo2 (x : FVec F S32x8x512 .f32) : FVec F S16x8x512 .f32 := extractStridedSlice S16x8x512 ![0, 0, 0] x slices_S32x8x512_o0_0_0_S16x8x512
def hi2 (x : FVec F S32x8x512 .f32) : FVec F S16x8x512 .f32 := extractStridedSlice S16x8x512 ![16, 0, 0] x slices_S32x8x512_o16_0_0_S16x8x512
def N2 (A : Args F) : ℕ → FVec F S16x8x512 .f32 := meet16 (fun i => lo2 (M1 A i)) (fun i => hi2 (M1 A i))
def M2 (A : Args F) : ℕ → FVec F S16x8x512 .f32 := clean mX mN (N2 A)

def lo3 (x : FVec F S16x8x512 .f32) : FVec F S8x8x512 .f32 := extractStridedSlice S8x8x512 ![0, 0, 0] x slices_S16x8x512_o0_0_0_S8x8x512
def hi3 (x : FVec F S16x8x512 .f32) : FVec F S8x8x512 .f32 := extractStridedSlice S8x8x512 ![8, 0, 0] x slices_S16x8x512_o8_0_0_S8x8x512
def N3 (A : Args F) : ℕ → FVec F S8x8x512 .f32 := meet20 mX (fun i => lo3 (M2 A i)) (fun i => hi3 (M2 A i))
def M3 (A : Args F) : ℕ → FVec F S8x8x512 .f32 := clean mX mN (N3 A)

def lo4 (x : FVec F S8x8x512 .f32) : FVec F S4x8x512 .f32 := extractStridedSlice S4x8x512 ![0, 0, 0] x slices_S8x8x512_o0_0_0_S4x8x512
def hi4 (x : FVec F S8x8x512 .f32) : FVec F S4x8x512 .f32 := extractStridedSlice S4x8x512 ![4, 0, 0] x slices_S8x8x512_o4_0_0_S4x8x512
def N4 (A : Args F) : ℕ → FVec F S4x8x512 .f32 := meet20 mX (fun i => lo4 (M3 A i)) (fun i => hi4 (M3 A i))
def M4 (A : Args F) : ℕ → FVec F S4x8x512 .f32 := clean mX mN (N4 A)

def lo5 (x : FVec F S4x8x512 .f32) : FVec F S2x8x512 .f32 := extractStridedSlice S2x8x512 ![0, 0, 0] x slices_S4x8x512_o0_0_0_S2x8x512
def hi5 (x : FVec F S4x8x512 .f32) : FVec F S2x8x512 .f32 := extractStridedSlice S2x8x512 ![2, 0, 0] x slices_S4x8x512_o2_0_0_S2x8x512
def N5 (A : Args F) : ℕ → FVec F S2x8x512 .f32 := meet20 mX (fun i => lo5 (M4 A i)) (fun i => hi5 (M4 A i))
def M5 (A : Args F) : ℕ → FVec F S2x8x512 .f32 := clean mX mN (N5 A)

def lo6 (x : FVec F S2x8x512 .f32) : FVec F S1x8x512 .f32 := extractStridedSlice S1x8x512 ![0, 0, 0] x slices_S2x8x512_o0_0_0_S1x8x512
def hi6 (x : FVec F S2x8x512 .f32) : FVec F S1x8x512 .f32 := extractStridedSlice S1x8x512 ![1, 0, 0] x slices_S2x8x512_o1_0_0_S1x8x512
def N6 (A : Args F) : ℕ → FVec F S1x8x512 .f32 := meet20 mX (fun i => lo6 (M5 A i)) (fun i => hi6 (M5 A i))
def M6 (A : Args F) : ℕ → FVec F S1x8x512 .f32 := clean mX mN (N6 A)

def Q6 (A : Args F) (i : ℕ) : FVec F S8x512 .f32 := shapeCast S8x512 (M6 A i) shapeCasts_S1x8x512_S8x512

def lo7 (x : FVec F S8x512 .f32) : FVec F S4x512 .f32 := extractStridedSlice S4x512 ![0, 0] x slices_S8x512_o0_0_S4x512
def hi7 (x : FVec F S8x512 .f32) : FVec F S4x512 .f32 := extractStridedSlice S4x512 ![4, 0] x slices_S8x512_o4_0_S4x512
def N7 (A : Args F) : ℕ → FVec F S4x512 .f32 := meet20 mX (fun i => lo7 (Q6 A i)) (fun i => hi7 (Q6 A i))
def M7 (A : Args F) : ℕ → FVec F S4x512 .f32 := clean mX mN (N7 A)

def lo8 (x : FVec F S4x512 .f32) : FVec F S2x512 .f32 := extractStridedSlice S2x512 ![0, 0] x slices_S4x512_o0_0_S2x512
def hi8 (x : FVec F S4x512 .f32) : FVec F S2x512 .f32 := extractStridedSlice S2x512 ![2, 0] x slices_S4x512_o2_0_S2x512
def N8 (A : Args F) : ℕ → FVec F S2x512 .f32 := meet20 mX (fun i => lo8 (M7 A i)) (fun i => hi8 (M7 A i))
def M8 (A : Args F) : ℕ → FVec F S2x512 .f32 := clean mX mN (N8 A)

def lo9 (x : FVec F S2x512 .f32) : FVec F S1x512 .f32 := extractStridedSlice S1x512 ![0, 0] x slices_S2x512_o0_0_S1x512
def hi9 (x : FVec F S2x512 .f32) : FVec F S1x512 .f32 := extractStridedSlice S1x512 ![1, 0] x slices_S2x512_o1_0_S1x512
def N9 (A : Args F) : ℕ → FVec F S1x512 .f32 := meet20 mX (fun i => lo9 (M8 A i)) (fun i => hi9 (M8 A i))
def M9 (A : Args F) : ℕ → FVec F S1x512 .f32 := clean mX mN (N9 A)

theorem col_0 (A : Args F) : col A 0 = A.at kernelRun0_A.sl.r_5 := rfl
theorem col_1 (A : Args F) : col A 1 = A.at kernelRun0_A.sl.r_6 := rfl
theorem col_2 (A : Args F) : col A 2 = A.at kernelRun0_A.sl.r_7 := rfl
theorem col_3 (A : Args F) : col A 3 = A.at kernelRun0_A.sl.r_8 := rfl
theorem col_4 (A : Args F) : col A 4 = A.at kernelRun0_A.sl.r_9 := rfl
theorem col_5 (A : Args F) : col A 5 = A.at kernelRun0_A.sl.r_10 := rfl
theorem col_6 (A : Args F) : col A 6 = A.at kernelRun0_A.sl.r_11 := rfl
theorem col_7 (A : Args F) : col A 7 = A.at kernelRun0_A.sl.r_12 := rfl
theorem col_8 (A : Args F) : col A 8 = A.at kernelRun0_A.sl.r_13 := rfl
theorem col_9 (A : Args F) : col A 9 = A.at kernelRun0_A.sl.r_14 := rfl
theorem col_10 (A : Args F) : col A 10 = A.at kernelRun0_A.sl.r_15 := rfl
theorem col_11 (A : Args F) : col A 11 = A.at kernelRun0_A.sl.r_16 := rfl
theorem col_12 (A : Args F) : col A 12 = A.at kernelRun0_A.sl.r_17 := rfl
theorem col_13 (A : Args F) : col A 13 = A.at kernelRun0_A.sl.r_18 := rfl
theorem col_14 (A : Args F) : col A 14 = A.at kernelRun0_A.sl.r_19 := rfl
theorem col_15 (A : Args F) : col A 15 = A.at kernelRun0_A.sl.r_20 := rfl
theorem N2_e (A : Args F) (i : ℕ) : N2 A i = meet16 (fun i => lo2 (M1 A i)) (fun i => hi2 (M1 A i)) i := rfl
theorem M2_e (A : Args F) (i : ℕ) : M2 A i = clean mX mN (N2 A) i := rfl
theorem N3_e (A : Args F) (i : ℕ) : N3 A i = meet20 mX (fun i => lo3 (M2 A i)) (fun i => hi3 (M2 A i)) i := rfl
theorem M3_e (A : Args F) (i : ℕ) : M3 A i = clean mX mN (N3 A) i := rfl
theorem N4_e (A : Args F) (i : ℕ) : N4 A i = meet20 mX (fun i => lo4 (M3 A i)) (fun i => hi4 (M3 A i)) i := rfl
theorem M4_e (A : Args F) (i : ℕ) : M4 A i = clean mX mN (N4 A) i := rfl
theorem N5_e (A : Args F) (i : ℕ) : N5 A i = meet20 mX (fun i => lo5 (M4 A i)) (fun i => hi5 (M4 A i)) i := rfl
theorem M5_e (A : Args F) (i : ℕ) : M5 A i = clean mX mN (N5 A) i := rfl
theorem N6_e (A : Args F) (i : ℕ) : N6 A i = meet20 mX (fun i => lo6 (M5 A i)) (fun i => hi6 (M5 A i)) i := rfl
theorem M6_e (A : Args F) (i : ℕ) : M6 A i = clean mX mN (N6 A) i := rfl
theorem N7_e (A : Args F) (i : ℕ) : N7 A i = meet20 mX (fun i => lo7 (Q6 A i)) (fun i => hi7 (Q6 A i)) i := rfl
theorem M7_e (A : Args F) (i : ℕ) : M7 A i = clean mX mN (N7 A) i := rfl
theorem N8_e (A : Args F) (i : ℕ) : N8 A i = meet20 mX (fun i => lo8 (M7 A i)) (fun i => hi8 (M7 A i)) i := rfl
theorem M8_e (A : Args F) (i : ℕ) : M8 A i = clean mX mN (N8 A) i := rfl
theorem N9_e (A : Args F) (i : ℕ) : N9 A i = meet20 mX (fun i => lo9 (M8 A i)) (fun i => hi9 (M8 A i)) i := rfl
theorem M9_e (A : Args F) (i : ℕ) : M9 A i = clean mX mN (N9 A) i := rfl

end Cert.Proof

end

end
-- ==== Proof.Tile.lean ====
/- The tile of scores one grid point works on, at the ideal floats: its entries as sums of products, and the sixteen columns and the kept rows as readings of it. -/
module

public import proofs.«01_k».proof.Proof.Stages
public import Idealize.ShloMosaic.Lib.ValueIdxCore
public import Idealize.ShloMosaic.Lib.MatmulPlain
public import Idealize.ShloMosaic.Lib.WholeRead
public import Idealize.ShloMosaic.Lib.Pipeline.Value

@[expose] public section

noncomputable section

namespace Cert.Proof

open Idealize.ShloMosaic Idealize.ShloMosaic.ValueIdx Cert.KernelIdeal Cert.KernelIdeal.Gen

/-- The zero vector is zero at every index. -/
theorem zero_at {S : Shape} (j : S.Idx) : (constant S .f32 0x00000000#32 : FVec Ideal S .f32) j = (0 : EReal) :=
  Ideal.ofBits_zero_f32

/-- Dropping a leading unit axis keeps the other coordinates. -/
theorem drop_at {n k : ℕ} (v : (⟨3, ![1, n, k]⟩ : Shape).Idx → EReal) (h : (⟨3, ![1, n, k]⟩ : Shape).ShapeCasts ⟨2, ![n, k]⟩)
    (r : Fin n) (d : Fin k) : shapeCast ⟨2, ![n, k]⟩ v h (ix2 r d) = v (ix3 0 r d) := by
  refine shapeCast_apply v h _ _ ?_
  rw [Shape.rowMajor_val_three, Shape.rowMajor_val_two]
  show (0 * n + r.val) * k + d.val = r.val * k + d.val
  rw [Nat.zero_mul, Nat.zero_add]

/-- Swapping the two axes swaps the two coordinates. -/
theorem swap_at {n k : ℕ} (v : (⟨2, ![n, k]⟩ : Shape).Idx → EReal) (h : (⟨2, ![n, k]⟩ : Shape).Transposes [1, 0] ⟨2, ![k, n]⟩)
    (a : Fin k) (b : Fin n) : transpose ⟨2, ![k, n]⟩ [1, 0] v h (ix2 a b) = v (ix2 b a) :=
  transpose_apply [1, 0] v h _ _ fun b => match b with
    | ⟨0, _⟩ => rfl
    | ⟨1, _⟩ => rfl

/-- One row of thirty-two repeated down the rows. -/
theorem row_at {n : ℕ} (v : (⟨2, ![1, 32]⟩ : Shape).Idx → EReal) (h : (⟨2, ![1, 32]⟩ : Shape).Broadcasts ⟨2, ![n, 32]⟩)
    (r : Fin n) (d : Fin 32) : broadcastTo ⟨2, ![n, 32]⟩ v h (ix2 r d) = v (ix2 0 d) :=
  broadcastTo_apply v h _ _ fun a => match a with
    | ⟨0, _⟩ => by show (0 : ℕ) = if (1 : ℕ) = 1 then 0 else _; rw [if_pos rfl]
    | ⟨1, _⟩ => by show d.val = if (32 : ℕ) = 1 then 0 else d.val; rw [if_neg (by decide)]

/-- The first linear layer's output at a row and a feature. -/
theorem lin1_at (v0 : Vec Ideal S1x512x32 .f32) (v2 : Vec Ideal S1x32x32 .f32) (v6 : Vec Ideal S1x1x32 .f32) (r : Fin 512) (k : Fin 32) :
    (k0_pay2 v0 v2 v6 (ix2 r k) : EReal) = (∑ d : Fin 32, (v0 (ix3 0 r d) : EReal) * v2 (ix3 0 k d)) + v6 (ix3 0 0 k) := by
  unfold k0_pay2
  refine congrArg₂ (fun a b : EReal => a + b) ((Ideal.matmul_plain_apply (M := 512) (K := 32) (N := 32) none _ _ _ r k).trans ?_) ?_
  · refine (congrArg₂ (fun a b : EReal => a + b) (zero_at _) (Finset.sum_congr rfl fun d _ => ?_)).trans (zero_add _)
    exact congrArg₂ (fun a b : EReal => a * b) (drop_at v0 _ r d) ((swap_at _ _ d k).trans (drop_at v2 _ k d))
  · exact (row_at _ _ r k).trans (drop_at v6 _ 0 k)

/-- The second linear layer's product at a row and a feature. -/
theorem dot2_at (v20 : Vec Ideal S1x2048x32 .f32) (v22 : Vec Ideal S1x32x32 .f32) (r : Fin 2048) (k : Fin 32) :
    (k0_pay4 v20 v22 (ix2 r k) : EReal) = ∑ d : Fin 32, (v20 (ix3 0 r d) : EReal) * v22 (ix3 0 k d) := by
  unfold k0_pay4
  refine (Ideal.matmul_plain_apply (M := 2048) (K := 32) (N := 32) none _ _ _ r k).trans ?_
  refine (congrArg₂ (fun a b : EReal => a + b) (zero_at _) (Finset.sum_congr rfl fun d _ => ?_)).trans (zero_add _)
  exact congrArg₂ (fun a b : EReal => a * b) (drop_at v20 _ r d) ((swap_at _ _ d k).trans (drop_at v22 _ k d))

/-- The second linear layer's bias at a row and a feature. -/
theorem bias2_at (v26 : Vec Ideal S1x1x32 .f32) (r : Fin 2048) (k : Fin 32) :
    (k0_pay5 v26 (ix2 r k) : EReal) = v26 (ix3 0 0 k) := by
  unfold k0_pay5
  exact (row_at _ _ r k).trans (drop_at v26 _ 0 k)

/-- One half of the tile at an index: a sum over the thirty-two features. -/
theorem score_at (a : FVec Ideal S2048x32 .f32) (b : FVec Ideal S512x32 .f32) (c : Fin 2048) (z : Fin 512) :
    (matmul dot_S2048x32_S512x32_S2048x512_1_1_0_0_n_n none a b (constant S2048x512 .f32 0x00000000#32) (ix2 c z) : EReal)
      = ∑ k : Fin 32, (a (ix2 c k) : EReal) * b (ix2 z k) := by
  refine (Ideal.matmul_transposedRhs_apply (M := 2048) (K := 32) (N := 512) none _ _ _ c z).trans ?_
  rw [zero_at, zero_add]

/-- The tile's upper half. -/
theorem pay6_top (v9 v19 : FVec Ideal S512x32 .f32) (v25 v28 : FVec Ideal S2048x32 .f32) (v30 : Vec Ideal S1x2048x32 .f32)
    (v32 : Vec Ideal S1x32x32 .f32) (v36 : Vec Ideal S1x1x32 .f32) (C : Fin 4096) (c : Fin 2048) (h : C.val = c.val) (z : Fin 512) :
    (k0_pay6 v9 v19 v25 v28 v30 v32 v36 (ix2 C z) : EReal)
      = ∑ k : Fin 32, ((v25 (ix2 c k) : EReal) + v28 (ix2 c k)) * v9 (ix2 z k) := by
  unfold k0_pay6
  refine (concatenate_pair_apply_left (t := S4096x512) (s₁ := S2048x512) (s₂ := S2048x512) 0 _ _ _ (ix2 C z) rfl (ix2 c z) ?_).trans ?_
  · intro b
    match b with
    | ⟨0, _⟩ => exact h.symm
    | ⟨1, _⟩ => rfl
  · exact score_at _ _ c z

/-- The tile's lower half. -/
theorem pay6_bot (v9 v19 : FVec Ideal S512x32 .f32) (v25 v28 : FVec Ideal S2048x32 .f32) (v30 : Vec Ideal S1x2048x32 .f32)
    (v32 : Vec Ideal S1x32x32 .f32) (v36 : Vec Ideal S1x1x32 .f32) (C : Fin 4096) (c : Fin 2048) (h : C.val = c.val + 2048) (z : Fin 512) :
    (k0_pay6 v9 v19 v25 v28 v30 v32 v36 (ix2 C z) : EReal)
      = ∑ k : Fin 32, ((k0_pay4 v30 v32 (ix2 c k) : EReal) + k0_pay5 v36 (ix2 c k)) * v19 (ix2 z k) := by
  unfold k0_pay6
  refine (concatenate_pair_apply_right (t := S4096x512) (s₁ := S2048x512) (s₂ := S2048x512) 0 _ _ _ (ix2 C z) rfl rfl (ix2 c z) ?_ ?_).trans ?_
  · intro b hb
    match b with
    | ⟨0, _⟩ => exact absurd rfl hb
    | ⟨1, _⟩ => rfl
  · exact h.symm
  · exact score_at _ _ c z

/-- A load of one of the two matrices of a block reads that matrix. -/
theorem read_at {n k : ℕ} {arg : Memref sig .tc .vmem ⟨3, ![2, n, k]⟩ .f32} (h : arg.IsWhole) (x : Vec Ideal ⟨3, ![2, n, k]⟩ .f32)
    (p : Fin 2) (inb : _) (r : Fin n) (d : Fin k) :
    View.readAt (Elt Ideal) arg.view (Rect.unit (s := ⟨3, ![2, n, k]⟩) ![p.val, 0, 0] (⟨3, ![1, n, k]⟩ : Shape).size inb).toLoadRect (h.unread x) (ix3 0 r d)
      = x (ix3 p r d) := by
  refine (h.readAt_unread x _ _).trans (congrArg x (funext fun a => Fin.ext ?_))
  match a with
  | ⟨0, _⟩ => show p.val + 1 * 0 = p.val; omega
  | ⟨1, _⟩ => show 0 + 1 * r.val = r.val; omega
  | ⟨2, _⟩ => show 0 + 1 * d.val = d.val; omega

variable (A : Args Ideal)

/-- The tile the grid point computes. -/
def tile : FVec Ideal S4096x512 .f32 :=
  k0_pay6 (kernelRun0_A.sl.r A.c A.arg1 A.harg1 A.arg3 A.harg3 A.arg4 A.harg4 A.x0 A.x2 A.x3)
    (kernelRun0_A.sl.r_1 A.c A.arg1 A.harg1 A.arg3 A.harg3 A.arg4 A.harg4 A.x0 A.x2 A.x3)
    (kernelRun0_A.sl.r_2 A.c A.arg2 A.harg2 A.arg5 A.harg5 A.x1 A.x4) (kernelRun0_A.sl.r_3 A.c A.arg6 A.harg6 A.x5)
    (View.readAt (Elt Ideal) A.arg2.view
      (Rect.unit (s := S2x2048x32) ![1, 0, 0] S1x2048x32.size inb_S2x2048x32_S1x2048x32_1_0_0).toLoadRect (A.harg2.unread A.x1))
    (View.readAt (Elt Ideal) A.arg5.view
      (Rect.unit (s := S2x32x32) ![1, 0, 0] S1x32x32.size inb_S2x32x32_S1x32x32_1_0_0).toLoadRect (A.harg5.unread A.x4))
    (View.readAt (Elt Ideal) A.arg6.view
      (Rect.unit (s := S2x1x32) ![1, 0, 0] S1x1x32.size inb_S2x1x32_S1x1x32_1_0_0).toLoadRect (A.harg6.unread A.x5))

/-- A row's features under matrix `p`'s first layer. -/
def feat1 (p : Fin 2) (z : Fin 512) (k : Fin 32) : EReal :=
  (∑ d : Fin 32, (A.x0 (ix3 p z d) : EReal) * A.x2 (ix3 p k d)) + A.x3 (ix3 p 0 k)

/-- A column's features under matrix `p`'s second layer. -/
def feat2 (p : Fin 2) (c : Fin 2048) (k : Fin 32) : EReal :=
  (∑ d : Fin 32, (A.x1 (ix3 p c d) : EReal) * A.x4 (ix3 p k d)) + A.x5 (ix3 p 0 k)

theorem tile_top (C : Fin 4096) (c : Fin 2048) (h : C.val = c.val) (z : Fin 512) :
    (tile A (ix2 C z) : EReal) = ∑ k : Fin 32, feat2 A 0 c k * feat1 A 0 z k := by
  unfold tile
  refine (pay6_top _ _ _ _ _ _ _ C c h z).trans (Finset.sum_congr rfl fun k _ => congrArg₂ (fun a b : EReal => a * b) ?_ ?_)
  · refine congrArg₂ (fun a b : EReal => a + b) ((dot2_at _ _ c k).trans (Finset.sum_congr rfl fun d _ => congrArg₂ (fun a b : EReal => a * b) ?_ ?_)) ((bias2_at _ c k).trans ?_)
    · exact read_at A.harg2 A.x1 0 _ c d
    · exact read_at A.harg5 A.x4 0 _ k d
    · exact read_at A.harg6 A.x5 0 _ 0 k
  · refine (lin1_at _ _ _ z k).trans (congrArg₂ (fun a b : EReal => a + b) (Finset.sum_congr rfl fun d _ => congrArg₂ (fun a b : EReal => a * b) ?_ ?_) ?_)
    · exact read_at A.harg1 A.x0 0 _ z d
    · exact read_at A.harg3 A.x2 0 _ k d
    · exact read_at A.harg4 A.x3 0 _ 0 k

theorem tile_bot (C : Fin 4096) (c : Fin 2048) (h : C.val = c.val + 2048) (z : Fin 512) :
    (tile A (ix2 C z) : EReal) = ∑ k : Fin 32, feat2 A 1 c k * feat1 A 1 z k := by
  unfold tile
  refine (pay6_bot _ _ _ _ _ _ _ C c h z).trans (Finset.sum_congr rfl fun k _ => congrArg₂ (fun a b : EReal => a * b) ?_ ?_)
  · refine congrArg₂ (fun a b : EReal => a + b) ((dot2_at _ _ c k).trans (Finset.sum_congr rfl fun d _ => congrArg₂ (fun a b : EReal => a * b) ?_ ?_)) ((bias2_at _ c k).trans ?_)
    · exact read_at A.harg2 A.x1 1 _ c d
    · exact read_at A.harg5 A.x4 1 _ k d
    · exact read_at A.harg6 A.x5 1 _ 0 k
  · refine (lin1_at _ _ _ z k).trans (congrArg₂ (fun a b : EReal => a + b) (Finset.sum_congr rfl fun d _ => congrArg₂ (fun a b : EReal => a * b) ?_ ?_) ?_)
    · exact read_at A.harg1 A.x0 1 _ z d
    · exact read_at A.harg3 A.x2 1 _ k d
    · exact read_at A.harg4 A.x3 1 _ 0 k

/-- The kept rows: the tile with its axes swapped. -/
theorem rows_at (z : Fin 512) (C : Fin 4096) : A.at kernelRun0_A.sl.r_4 (ix2 z C) = tile A (ix2 C z) :=
  swap_at (tile A) _ z C

/-- Column `j` of a tile cut into thirty-two groups of sixteen columns of eight. -/
theorem col_aux (w : FVec Ideal S4096x512 .f32) (j : ℕ) (hj : j < 16) (x : Fin 32) (y : Fin 8) (z : Fin 512)
    (h0 : S4096x512.ShapeCasts S32x16x8x512) (h1 : S32x16x8x512.Slices ![0, j, 0, 0] S32x1x8x512) (h2 : S32x1x8x512.ShapeCasts S32x8x512) :
    shapeCast S32x8x512 (extractStridedSlice S32x1x8x512 ![0, j, 0, 0] (shapeCast S32x16x8x512 w h0) h1) h2 (ix3 x y z)
      = w (ix2 ⟨128 * x.val + 8 * j + y.val, by omega⟩ z) := by
  refine (shapeCast_apply _ h2 _ (ix4 x 0 y z) ?_).trans ((extractStridedSlice_apply _ _ h1 _ (ix4 x ⟨j, hj⟩ y z) ?_).trans (shapeCast_apply w h0 _ _ ?_))
  · rw [Shape.rowMajor_val_four, Shape.rowMajor_val_three]
    show ((x.val * 1 + 0) * 8 + y.val) * 512 + z.val = (x.val * 8 + y.val) * 512 + z.val
    omega
  · intro a
    match a with
    | ⟨0, _⟩ => show x.val = 0 + x.val; omega
    | ⟨1, _⟩ => show j = j + 0; omega
    | ⟨2, _⟩ => show y.val = 0 + y.val; omega
    | ⟨3, _⟩ => show z.val = 0 + z.val; omega
  · rw [Shape.rowMajor_val_four, Shape.rowMajor_val_two]
    show (128 * x.val + 8 * j + y.val) * 512 + z.val = ((x.val * 16 + j) * 8 + y.val) * 512 + z.val
    omega

/-- Each of the sixteen columns is a reading of the tile. -/
theorem col_at (j : ℕ) (hj : j < 16) (x : Fin 32) (y : Fin 8) (z : Fin 512) :
    col A j (ix3 x y z) = tile A (ix2 ⟨128 * x.val + 8 * j + y.val, by omega⟩ z) := by
  match j, hj with
  | 0, _ => exact col_aux (tile A) 0 (by decide) x y z shapeCasts_S4096x512_S32x16x8x512 slices_S32x16x8x512_o0_0_0_0_S32x1x8x512 shapeCasts_S32x1x8x512_S32x8x512
  | 1, _ => exact col_aux (tile A) 1 (by decide) x y z shapeCasts_S4096x512_S32x16x8x512 slices_S32x16x8x512_o0_1_0_0_S32x1x8x512 shapeCasts_S32x1x8x512_S32x8x512
  | 2, _ => exact col_aux (tile A) 2 (by decide) x y z shapeCasts_S4096x512_S32x16x8x512 slices_S32x16x8x512_o0_2_0_0_S32x1x8x512 shapeCasts_S32x1x8x512_S32x8x512
  | 3, _ => exact col_aux (tile A) 3 (by decide) x y z shapeCasts_S4096x512_S32x16x8x512 slices_S32x16x8x512_o0_3_0_0_S32x1x8x512 shapeCasts_S32x1x8x512_S32x8x512
  | 4, _ => exact col_aux (tile A) 4 (by decide) x y z shapeCasts_S4096x512_S32x16x8x512 slices_S32x16x8x512_o0_4_0_0_S32x1x8x512 shapeCasts_S32x1x8x512_S32x8x512
  | 5, _ => exact col_aux (tile A) 5 (by decide) x y z shapeCasts_S4096x512_S32x16x8x512 slices_S32x16x8x512_o0_5_0_0_S32x1x8x512 shapeCasts_S32x1x8x512_S32x8x512
  | 6, _ => exact col_aux (tile A) 6 (by decide) x y z shapeCasts_S4096x512_S32x16x8x512 slices_S32x16x8x512_o0_6_0_0_S32x1x8x512 shapeCasts_S32x1x8x512_S32x8x512
  | 7, _ => exact col_aux (tile A) 7 (by decide) x y z shapeCasts_S4096x512_S32x16x8x512 slices_S32x16x8x512_o0_7_0_0_S32x1x8x512 shapeCasts_S32x1x8x512_S32x8x512
  | 8, _ => exact col_aux (tile A) 8 (by decide) x y z shapeCasts_S4096x512_S32x16x8x512 slices_S32x16x8x512_o0_8_0_0_S32x1x8x512 shapeCasts_S32x1x8x512_S32x8x512
  | 9, _ => exact col_aux (tile A) 9 (by decide) x y z shapeCasts_S4096x512_S32x16x8x512 slices_S32x16x8x512_o0_9_0_0_S32x1x8x512 shapeCasts_S32x1x8x512_S32x8x512
  | 10, _ => exact col_aux (tile A) 10 (by decide) x y z shapeCasts_S4096x512_S32x16x8x512 slices_S32x16x8x512_o0_10_0_0_S32x1x8x512 shapeCasts_S32x1x8x512_S32x8x512
  | 11, _ => exact col_aux (tile A) 11 (by decide) x y z shapeCasts_S4096x512_S32x16x8x512 slices_S32x16x8x512_o0_11_0_0_S32x1x8x512 shapeCasts_S32x1x8x512_S32x8x512
  | 12, _ => exact col_aux (tile A) 12 (by decide) x y z shapeCasts_S4096x512_S32x16x8x512 slices_S32x16x8x512_o0_12_0_0_S32x1x8x512 shapeCasts_S32x1x8x512_S32x8x512
  | 13, _ => exact col_aux (tile A) 13 (by decide) x y z shapeCasts_S4096x512_S32x16x8x512 slices_S32x16x8x512_o0_13_0_0_S32x1x8x512 shapeCasts_S32x1x8x512_S32x8x512
  | 14, _ => exact col_aux (tile A) 14 (by decide) x y z shapeCasts_S4096x512_S32x16x8x512 slices_S32x16x8x512_o0_14_0_0_S32x1x8x512 shapeCasts_S32x1x8x512_S32x8x512
  | 15, _ => exact col_aux (tile A) 15 (by decide) x y z shapeCasts_S4096x512_S32x16x8x512 slices_S32x16x8x512_o0_15_0_0_S32x1x8x512 shapeCasts_S32x1x8x512_S32x8x512
  | n + 16, h => exact absurd h (by omega)

end Cert.Proof

end
-- ==== Proof.Sorted.lean ====
/- The columns' sort, level by level: `Yp_k_b` is the block of 2p columns at b after the comparators k apart. -/
module

public import proofs.«01_k».proof.Proof.Stages

@[expose] public section

noncomputable section

namespace Cert.Proof

open Idealize.ShloMosaic Cert.KernelIdeal Cert.KernelIdeal.Gen

variable {F : FTy → Type} [FloatOps F]

def Y1_1_0 (A : Args F) : ℕ → FVec F S32x8x512 .f32 := level mX mN 1 1 (join 1 (fun _ => col A 0) (fun _ => col A 1))
def Y1_1_2 (A : Args F) : ℕ → FVec F S32x8x512 .f32 := level mX mN 1 1 (join 1 (fun _ => col A 2) (fun _ => col A 3))
def Y1_1_4 (A : Args F) : ℕ → FVec F S32x8x512 .f32 := level mX mN 1 1 (join 1 (fun _ => col A 4) (fun _ => col A 5))
def Y1_1_6 (A : Args F) : ℕ → FVec F S32x8x512 .f32 := level mX mN 1 1 (join 1 (fun _ => col A 6) (fun _ => col A 7))
def Y1_1_8 (A : Args F) : ℕ → FVec F S32x8x512 .f32 := level mX mN 1 1 (join 1 (fun _ => col A 8) (fun _ => col A 9))
def Y1_1_10 (A : Args F) : ℕ → FVec F S32x8x512 .f32 := level mX mN 1 1 (join 1 (fun _ => col A 10) (fun _ => col A 11))
def Y1_1_12 (A : Args F) : ℕ → FVec F S32x8x512 .f32 := level mX mN 1 1 (join 1 (fun _ => col A 12) (fun _ => col A 13))
def Y1_1_14 (A : Args F) : ℕ → FVec F S32x8x512 .f32 := level mX mN 1 1 (join 1 (fun _ => col A 14) (fun _ => col A 15))
def Y2_2_0 (A : Args F) : ℕ → FVec F S32x8x512 .f32 := level mX mN 2 2 (join 2 (Y1_1_0 A) (Y1_1_2 A))
def Y2_2_4 (A : Args F) : ℕ → FVec F S32x8x512 .f32 := level mX mN 2 2 (join 2 (Y1_1_4 A) (Y1_1_6 A))
def Y2_2_8 (A : Args F) : ℕ → FVec F S32x8x512 .f32 := level mX mN 2 2 (join 2 (Y1_1_8 A) (Y1_1_10 A))
def Y2_2_12 (A : Args F) : ℕ → FVec F S32x8x512 .f32 := level mX mN 2 2 (join 2 (Y1_1_12 A) (Y1_1_14 A))
def Y2_1_0 (A : Args F) : ℕ → FVec F S32x8x512 .f32 := level mX mN 2 1 (Y2_2_0 A)
def Y2_1_4 (A : Args F) : ℕ → FVec F S32x8x512 .f32 := level mX mN 2 1 (Y2_2_4 A)
def Y2_1_8 (A : Args F) : ℕ → FVec F S32x8x512 .f32 := level mX mN 2 1 (Y2_2_8 A)
def Y2_1_12 (A : Args F) : ℕ → FVec F S32x8x512 .f32 := level mX mN 2 1 (Y2_2_12 A)
def Y4_4_0 (A : Args F) : ℕ → FVec F S32x8x512 .f32 := level mX mN 4 4 (join 4 (Y2_1_0 A) (Y2_1_4 A))
def Y4_4_8 (A : Args F) : ℕ → FVec F S32x8x512 .f32 := level mX mN 4 4 (join 4 (Y2_1_8 A) (Y2_1_12 A))
def Y4_2_0 (A : Args F) : ℕ → FVec F S32x8x512 .f32 := level mX mN 4 2 (Y4_4_0 A)
def Y4_2_8 (A : Args F) : ℕ → FVec F S32x8x512 .f32 := level mX mN 4 2 (Y4_4_8 A)
def Y4_1_0 (A : Args F) : ℕ → FVec F S32x8x512 .f32 := level mX mN 4 1 (Y4_2_0 A)
def Y4_1_8 (A : Args F) : ℕ → FVec F S32x8x512 .f32 := level mX mN 4 1 (Y4_2_8 A)
def Y8_8_0 (A : Args F) : ℕ → FVec F S32x8x512 .f32 := level mX mN 8 8 (join 8 (Y4_1_0 A) (Y4_1_8 A))
def Y8_4_0 (A : Args F) : ℕ → FVec F S32x8x512 .f32 := level mX mN 8 4 (Y8_8_0 A)
def Y8_2_0 (A : Args F) : ℕ → FVec F S32x8x512 .f32 := level mX mN 8 2 (Y8_4_0 A)
def Y8_1_0 (A : Args F) : ℕ → FVec F S32x8x512 .f32 := level mX mN 8 1 (Y8_2_0 A)
theorem Y1_1_0_0 (A : Args F) : Y1_1_0 A 0 = mX (col A 0) (col A 1) := by rw [Y1_1_0, lv1_1_0, jn1_0, jn1_1]
theorem Y1_1_0_1 (A : Args F) : Y1_1_0 A 1 = mN (col A 0) (col A 1) := by rw [Y1_1_0, lv1_1_1, jn1_0, jn1_1]
theorem Y1_1_2_0 (A : Args F) : Y1_1_2 A 0 = mX (col A 2) (col A 3) := by rw [Y1_1_2, lv1_1_0, jn1_0, jn1_1]
theorem Y1_1_2_1 (A : Args F) : Y1_1_2 A 1 = mN (col A 2) (col A 3) := by rw [Y1_1_2, lv1_1_1, jn1_0, jn1_1]
theorem Y1_1_4_0 (A : Args F) : Y1_1_4 A 0 = mX (col A 4) (col A 5) := by rw [Y1_1_4, lv1_1_0, jn1_0, jn1_1]
theorem Y1_1_4_1 (A : Args F) : Y1_1_4 A 1 = mN (col A 4) (col A 5) := by rw [Y1_1_4, lv1_1_1, jn1_0, jn1_1]
theorem Y1_1_6_0 (A : Args F) : Y1_1_6 A 0 = mX (col A 6) (col A 7) := by rw [Y1_1_6, lv1_1_0, jn1_0, jn1_1]
theorem Y1_1_6_1 (A : Args F) : Y1_1_6 A 1 = mN (col A 6) (col A 7) := by rw [Y1_1_6, lv1_1_1, jn1_0, jn1_1]
theorem Y1_1_8_0 (A : Args F) : Y1_1_8 A 0 = mX (col A 8) (col A 9) := by rw [Y1_1_8, lv1_1_0, jn1_0, jn1_1]
theorem Y1_1_8_1 (A : Args F) : Y1_1_8 A 1 = mN (col A 8) (col A 9) := by rw [Y1_1_8, lv1_1_1, jn1_0, jn1_1]
theorem Y1_1_10_0 (A : Args F) : Y1_1_10 A 0 = mX (col A 10) (col A 11) := by rw [Y1_1_10, lv1_1_0, jn1_0, jn1_1]
theorem Y1_1_10_1 (A : Args F) : Y1_1_10 A 1 = mN (col A 10) (col A 11) := by rw [Y1_1_10, lv1_1_1, jn1_0, jn1_1]
theorem Y1_1_12_0 (A : Args F) : Y1_1_12 A 0 = mX (col A 12) (col A 13) := by rw [Y1_1_12, lv1_1_0, jn1_0, jn1_1]
theorem Y1_1_12_1 (A : Args F) : Y1_1_12 A 1 = mN (col A 12) (col A 13) := by rw [Y1_1_12, lv1_1_1, jn1_0, jn1_1]
theorem Y1_1_14_0 (A : Args F) : Y1_1_14 A 0 = mX (col A 14) (col A 15) := by rw [Y1_1_14, lv1_1_0, jn1_0, jn1_1]
theorem Y1_1_14_1 (A : Args F) : Y1_1_14 A 1 = mN (col A 14) (col A 15) := by rw [Y1_1_14, lv1_1_1, jn1_0, jn1_1]
theorem Y2_2_0_0 (A : Args F) : Y2_2_0 A 0 = mX (Y1_1_0 A 0) (Y1_1_2 A 0) := by rw [Y2_2_0, lv2_2_0, jn2_0, jn2_2]
theorem Y2_2_0_1 (A : Args F) : Y2_2_0 A 1 = mX (Y1_1_0 A 1) (Y1_1_2 A 1) := by rw [Y2_2_0, lv2_2_1, jn2_1, jn2_3]
theorem Y2_2_0_2 (A : Args F) : Y2_2_0 A 2 = mN (Y1_1_0 A 0) (Y1_1_2 A 0) := by rw [Y2_2_0, lv2_2_2, jn2_0, jn2_2]
theorem Y2_2_0_3 (A : Args F) : Y2_2_0 A 3 = mN (Y1_1_0 A 1) (Y1_1_2 A 1) := by rw [Y2_2_0, lv2_2_3, jn2_1, jn2_3]
theorem Y2_2_4_0 (A : Args F) : Y2_2_4 A 0 = mX (Y1_1_4 A 0) (Y1_1_6 A 0) := by rw [Y2_2_4, lv2_2_0, jn2_0, jn2_2]
theorem Y2_2_4_1 (A : Args F) : Y2_2_4 A 1 = mX (Y1_1_4 A 1) (Y1_1_6 A 1) := by rw [Y2_2_4, lv2_2_1, jn2_1, jn2_3]
theorem Y2_2_4_2 (A : Args F) : Y2_2_4 A 2 = mN (Y1_1_4 A 0) (Y1_1_6 A 0) := by rw [Y2_2_4, lv2_2_2, jn2_0, jn2_2]
theorem Y2_2_4_3 (A : Args F) : Y2_2_4 A 3 = mN (Y1_1_4 A 1) (Y1_1_6 A 1) := by rw [Y2_2_4, lv2_2_3, jn2_1, jn2_3]
theorem Y2_2_8_0 (A : Args F) : Y2_2_8 A 0 = mX (Y1_1_8 A 0) (Y1_1_10 A 0) := by rw [Y2_2_8, lv2_2_0, jn2_0, jn2_2]
theorem Y2_2_8_1 (A : Args F) : Y2_2_8 A 1 = mX (Y1_1_8 A 1) (Y1_1_10 A 1) := by rw [Y2_2_8, lv2_2_1, jn2_1, jn2_3]
theorem Y2_2_8_2 (A : Args F) : Y2_2_8 A 2 = mN (Y1_1_8 A 0) (Y1_1_10 A 0) := by rw [Y2_2_8, lv2_2_2, jn2_0, jn2_2]
theorem Y2_2_8_3 (A : Args F) : Y2_2_8 A 3 = mN (Y1_1_8 A 1) (Y1_1_10 A 1) := by rw [Y2_2_8, lv2_2_3, jn2_1, jn2_3]
theorem Y2_2_12_0 (A : Args F) : Y2_2_12 A 0 = mX (Y1_1_12 A 0) (Y1_1_14 A 0) := by rw [Y2_2_12, lv2_2_0, jn2_0, jn2_2]
theorem Y2_2_12_1 (A : Args F) : Y2_2_12 A 1 = mX (Y1_1_12 A 1) (Y1_1_14 A 1) := by rw [Y2_2_12, lv2_2_1, jn2_1, jn2_3]
theorem Y2_2_12_2 (A : Args F) : Y2_2_12 A 2 = mN (Y1_1_12 A 0) (Y1_1_14 A 0) := by rw [Y2_2_12, lv2_2_2, jn2_0, jn2_2]
theorem Y2_2_12_3 (A : Args F) : Y2_2_12 A 3 = mN (Y1_1_12 A 1) (Y1_1_14 A 1) := by rw [Y2_2_12, lv2_2_3, jn2_1, jn2_3]
theorem Y2_1_0_0 (A : Args F) : Y2_1_0 A 0 = Y2_2_0 A 0 := by rw [Y2_1_0, lv2_1_0]
theorem Y2_1_0_1 (A : Args F) : Y2_1_0 A 1 = mX (Y2_2_0 A 1) (Y2_2_0 A 2) := by rw [Y2_1_0, lv2_1_1]
theorem Y2_1_0_2 (A : Args F) : Y2_1_0 A 2 = mN (Y2_2_0 A 1) (Y2_2_0 A 2) := by rw [Y2_1_0, lv2_1_2]
theorem Y2_1_0_3 (A : Args F) : Y2_1_0 A 3 = Y2_2_0 A 3 := by rw [Y2_1_0, lv2_1_3]
theorem Y2_1_4_0 (A : Args F) : Y2_1_4 A 0 = Y2_2_4 A 0 := by rw [Y2_1_4, lv2_1_0]
theorem Y2_1_4_1 (A : Args F) : Y2_1_4 A 1 = mX (Y2_2_4 A 1) (Y2_2_4 A 2) := by rw [Y2_1_4, lv2_1_1]
theorem Y2_1_4_2 (A : Args F) : Y2_1_4 A 2 = mN (Y2_2_4 A 1) (Y2_2_4 A 2) := by rw [Y2_1_4, lv2_1_2]
theorem Y2_1_4_3 (A : Args F) : Y2_1_4 A 3 = Y2_2_4 A 3 := by rw [Y2_1_4, lv2_1_3]
theorem Y2_1_8_0 (A : Args F) : Y2_1_8 A 0 = Y2_2_8 A 0 := by rw [Y2_1_8, lv2_1_0]
theorem Y2_1_8_1 (A : Args F) : Y2_1_8 A 1 = mX (Y2_2_8 A 1) (Y2_2_8 A 2) := by rw [Y2_1_8, lv2_1_1]
theorem Y2_1_8_2 (A : Args F) : Y2_1_8 A 2 = mN (Y2_2_8 A 1) (Y2_2_8 A 2) := by rw [Y2_1_8, lv2_1_2]
theorem Y2_1_8_3 (A : Args F) : Y2_1_8 A 3 = Y2_2_8 A 3 := by rw [Y2_1_8, lv2_1_3]
theorem Y2_1_12_0 (A : Args F) : Y2_1_12 A 0 = Y2_2_12 A 0 := by rw [Y2_1_12, lv2_1_0]
theorem Y2_1_12_1 (A : Args F) : Y2_1_12 A 1 = mX (Y2_2_12 A 1) (Y2_2_12 A 2) := by rw [Y2_1_12, lv2_1_1]
theorem Y2_1_12_2 (A : Args F) : Y2_1_12 A 2 = mN (Y2_2_12 A 1) (Y2_2_12 A 2) := by rw [Y2_1_12, lv2_1_2]
theorem Y2_1_12_3 (A : Args F) : Y2_1_12 A 3 = Y2_2_12 A 3 := by rw [Y2_1_12, lv2_1_3]
theorem Y4_4_0_0 (A : Args F) : Y4_4_0 A 0 = mX (Y2_1_0 A 0) (Y2_1_4 A 0) := by rw [Y4_4_0, lv4_4_0, jn4_0, jn4_4]
theorem Y4_4_0_1 (A : Args F) : Y4_4_0 A 1 = mX (Y2_1_0 A 1) (Y2_1_4 A 1) := by rw [Y4_4_0, lv4_4_1, jn4_1, jn4_5]
theorem Y4_4_0_2 (A : Args F) : Y4_4_0 A 2 = mX (Y2_1_0 A 2) (Y2_1_4 A 2) := by rw [Y4_4_0, lv4_4_2, jn4_2, jn4_6]
theorem Y4_4_0_3 (A : Args F) : Y4_4_0 A 3 = mX (Y2_1_0 A 3) (Y2_1_4 A 3) := by rw [Y4_4_0, lv4_4_3, jn4_3, jn4_7]
theorem Y4_4_0_4 (A : Args F) : Y4_4_0 A 4 = mN (Y2_1_0 A 0) (Y2_1_4 A 0) := by rw [Y4_4_0, lv4_4_4, jn4_0, jn4_4]
theorem Y4_4_0_5 (A : Args F) : Y4_4_0 A 5 = mN (Y2_1_0 A 1) (Y2_1_4 A 1) := by rw [Y4_4_0, lv4_4_5, jn4_1, jn4_5]
theorem Y4_4_0_6 (A : Args F) : Y4_4_0 A 6 = mN (Y2_1_0 A 2) (Y2_1_4 A 2) := by rw [Y4_4_0, lv4_4_6, jn4_2, jn4_6]
theorem Y4_4_0_7 (A : Args F) : Y4_4_0 A 7 = mN (Y2_1_0 A 3) (Y2_1_4 A 3) := by rw [Y4_4_0, lv4_4_7, jn4_3, jn4_7]
theorem Y4_4_8_0 (A : Args F) : Y4_4_8 A 0 = mX (Y2_1_8 A 0) (Y2_1_12 A 0) := by rw [Y4_4_8, lv4_4_0, jn4_0, jn4_4]
theorem Y4_4_8_1 (A : Args F) : Y4_4_8 A 1 = mX (Y2_1_8 A 1) (Y2_1_12 A 1) := by rw [Y4_4_8, lv4_4_1, jn4_1, jn4_5]
theorem Y4_4_8_2 (A : Args F) : Y4_4_8 A 2 = mX (Y2_1_8 A 2) (Y2_1_12 A 2) := by rw [Y4_4_8, lv4_4_2, jn4_2, jn4_6]
theorem Y4_4_8_3 (A : Args F) : Y4_4_8 A 3 = mX (Y2_1_8 A 3) (Y2_1_12 A 3) := by rw [Y4_4_8, lv4_4_3, jn4_3, jn4_7]
theorem Y4_4_8_4 (A : Args F) : Y4_4_8 A 4 = mN (Y2_1_8 A 0) (Y2_1_12 A 0) := by rw [Y4_4_8, lv4_4_4, jn4_0, jn4_4]
theorem Y4_4_8_5 (A : Args F) : Y4_4_8 A 5 = mN (Y2_1_8 A 1) (Y2_1_12 A 1) := by rw [Y4_4_8, lv4_4_5, jn4_1, jn4_5]
theorem Y4_4_8_6 (A : Args F) : Y4_4_8 A 6 = mN (Y2_1_8 A 2) (Y2_1_12 A 2) := by rw [Y4_4_8, lv4_4_6, jn4_2, jn4_6]
theorem Y4_4_8_7 (A : Args F) : Y4_4_8 A 7 = mN (Y2_1_8 A 3) (Y2_1_12 A 3) := by rw [Y4_4_8, lv4_4_7, jn4_3, jn4_7]
theorem Y4_2_0_0 (A : Args F) : Y4_2_0 A 0 = Y4_4_0 A 0 := by rw [Y4_2_0, lv4_2_0]
theorem Y4_2_0_1 (A : Args F) : Y4_2_0 A 1 = Y4_4_0 A 1 := by rw [Y4_2_0, lv4_2_1]
theorem Y4_2_0_2 (A : Args F) : Y4_2_0 A 2 = mX (Y4_4_0 A 2) (Y4_4_0 A 4) := by rw [Y4_2_0, lv4_2_2]
theorem Y4_2_0_3 (A : Args F) : Y4_2_0 A 3 = mX (Y4_4_0 A 3) (Y4_4_0 A 5) := by rw [Y4_2_0, lv4_2_3]
theorem Y4_2_0_4 (A : Args F) : Y4_2_0 A 4 = mN (Y4_4_0 A 2) (Y4_4_0 A 4) := by rw [Y4_2_0, lv4_2_4]
theorem Y4_2_0_5 (A : Args F) : Y4_2_0 A 5 = mN (Y4_4_0 A 3) (Y4_4_0 A 5) := by rw [Y4_2_0, lv4_2_5]
theorem Y4_2_0_6 (A : Args F) : Y4_2_0 A 6 = Y4_4_0 A 6 := by rw [Y4_2_0, lv4_2_6]
theorem Y4_2_0_7 (A : Args F) : Y4_2_0 A 7 = Y4_4_0 A 7 := by rw [Y4_2_0, lv4_2_7]
theorem Y4_2_8_0 (A : Args F) : Y4_2_8 A 0 = Y4_4_8 A 0 := by rw [Y4_2_8, lv4_2_0]
theorem Y4_2_8_1 (A : Args F) : Y4_2_8 A 1 = Y4_4_8 A 1 := by rw [Y4_2_8, lv4_2_1]
theorem Y4_2_8_2 (A : Args F) : Y4_2_8 A 2 = mX (Y4_4_8 A 2) (Y4_4_8 A 4) := by rw [Y4_2_8, lv4_2_2]
theorem Y4_2_8_3 (A : Args F) : Y4_2_8 A 3 = mX (Y4_4_8 A 3) (Y4_4_8 A 5) := by rw [Y4_2_8, lv4_2_3]
theorem Y4_2_8_4 (A : Args F) : Y4_2_8 A 4 = mN (Y4_4_8 A 2) (Y4_4_8 A 4) := by rw [Y4_2_8, lv4_2_4]
theorem Y4_2_8_5 (A : Args F) : Y4_2_8 A 5 = mN (Y4_4_8 A 3) (Y4_4_8 A 5) := by rw [Y4_2_8, lv4_2_5]
theorem Y4_2_8_6 (A : Args F) : Y4_2_8 A 6 = Y4_4_8 A 6 := by rw [Y4_2_8, lv4_2_6]
theorem Y4_2_8_7 (A : Args F) : Y4_2_8 A 7 = Y4_4_8 A 7 := by rw [Y4_2_8, lv4_2_7]
theorem Y4_1_0_0 (A : Args F) : Y4_1_0 A 0 = Y4_2_0 A 0 := by rw [Y4_1_0, lv4_1_0]
theorem Y4_1_0_1 (A : Args F) : Y4_1_0 A 1 = mX (Y4_2_0 A 1) (Y4_2_0 A 2) := by rw [Y4_1_0, lv4_1_1]
theorem Y4_1_0_2 (A : Args F) : Y4_1_0 A 2 = mN (Y4_2_0 A 1) (Y4_2_0 A 2) := by rw [Y4_1_0, lv4_1_2]
theorem Y4_1_0_3 (A : Args F) : Y4_1_0 A 3 = mX (Y4_2_0 A 3) (Y4_2_0 A 4) := by rw [Y4_1_0, lv4_1_3]
theorem Y4_1_0_4 (A : Args F) : Y4_1_0 A 4 = mN (Y4_2_0 A 3) (Y4_2_0 A 4) := by rw [Y4_1_0, lv4_1_4]
theorem Y4_1_0_5 (A : Args F) : Y4_1_0 A 5 = mX (Y4_2_0 A 5) (Y4_2_0 A 6) := by rw [Y4_1_0, lv4_1_5]
theorem Y4_1_0_6 (A : Args F) : Y4_1_0 A 6 = mN (Y4_2_0 A 5) (Y4_2_0 A 6) := by rw [Y4_1_0, lv4_1_6]
theorem Y4_1_0_7 (A : Args F) : Y4_1_0 A 7 = Y4_2_0 A 7 := by rw [Y4_1_0, lv4_1_7]
theorem Y4_1_8_0 (A : Args F) : Y4_1_8 A 0 = Y4_2_8 A 0 := by rw [Y4_1_8, lv4_1_0]
theorem Y4_1_8_1 (A : Args F) : Y4_1_8 A 1 = mX (Y4_2_8 A 1) (Y4_2_8 A 2) := by rw [Y4_1_8, lv4_1_1]
theorem Y4_1_8_2 (A : Args F) : Y4_1_8 A 2 = mN (Y4_2_8 A 1) (Y4_2_8 A 2) := by rw [Y4_1_8, lv4_1_2]
theorem Y4_1_8_3 (A : Args F) : Y4_1_8 A 3 = mX (Y4_2_8 A 3) (Y4_2_8 A 4) := by rw [Y4_1_8, lv4_1_3]
theorem Y4_1_8_4 (A : Args F) : Y4_1_8 A 4 = mN (Y4_2_8 A 3) (Y4_2_8 A 4) := by rw [Y4_1_8, lv4_1_4]
theorem Y4_1_8_5 (A : Args F) : Y4_1_8 A 5 = mX (Y4_2_8 A 5) (Y4_2_8 A 6) := by rw [Y4_1_8, lv4_1_5]
theorem Y4_1_8_6 (A : Args F) : Y4_1_8 A 6 = mN (Y4_2_8 A 5) (Y4_2_8 A 6) := by rw [Y4_1_8, lv4_1_6]
theorem Y4_1_8_7 (A : Args F) : Y4_1_8 A 7 = Y4_2_8 A 7 := by rw [Y4_1_8, lv4_1_7]
theorem Y8_8_0_0 (A : Args F) : Y8_8_0 A 0 = mX (Y4_1_0 A 0) (Y4_1_8 A 0) := by rw [Y8_8_0, lv8_8_0, jn8_0, jn8_8]
theorem Y8_8_0_1 (A : Args F) : Y8_8_0 A 1 = mX (Y4_1_0 A 1) (Y4_1_8 A 1) := by rw [Y8_8_0, lv8_8_1, jn8_1, jn8_9]
theorem Y8_8_0_2 (A : Args F) : Y8_8_0 A 2 = mX (Y4_1_0 A 2) (Y4_1_8 A 2) := by rw [Y8_8_0, lv8_8_2, jn8_2, jn8_10]
theorem Y8_8_0_3 (A : Args F) : Y8_8_0 A 3 = mX (Y4_1_0 A 3) (Y4_1_8 A 3) := by rw [Y8_8_0, lv8_8_3, jn8_3, jn8_11]
theorem Y8_8_0_4 (A : Args F) : Y8_8_0 A 4 = mX (Y4_1_0 A 4) (Y4_1_8 A 4) := by rw [Y8_8_0, lv8_8_4, jn8_4, jn8_12]
theorem Y8_8_0_5 (A : Args F) : Y8_8_0 A 5 = mX (Y4_1_0 A 5) (Y4_1_8 A 5) := by rw [Y8_8_0, lv8_8_5, jn8_5, jn8_13]
theorem Y8_8_0_6 (A : Args F) : Y8_8_0 A 6 = mX (Y4_1_0 A 6) (Y4_1_8 A 6) := by rw [Y8_8_0, lv8_8_6, jn8_6, jn8_14]
theorem Y8_8_0_7 (A : Args F) : Y8_8_0 A 7 = mX (Y4_1_0 A 7) (Y4_1_8 A 7) := by rw [Y8_8_0, lv8_8_7, jn8_7, jn8_15]
theorem Y8_8_0_8 (A : Args F) : Y8_8_0 A 8 = mN (Y4_1_0 A 0) (Y4_1_8 A 0) := by rw [Y8_8_0, lv8_8_8, jn8_0, jn8_8]
theorem Y8_8_0_9 (A : Args F) : Y8_8_0 A 9 = mN (Y4_1_0 A 1) (Y4_1_8 A 1) := by rw [Y8_8_0, lv8_8_9, jn8_1, jn8_9]
theorem Y8_8_0_10 (A : Args F) : Y8_8_0 A 10 = mN (Y4_1_0 A 2) (Y4_1_8 A 2) := by rw [Y8_8_0, lv8_8_10, jn8_2, jn8_10]
theorem Y8_8_0_11 (A : Args F) : Y8_8_0 A 11 = mN (Y4_1_0 A 3) (Y4_1_8 A 3) := by rw [Y8_8_0, lv8_8_11, jn8_3, jn8_11]
theorem Y8_8_0_12 (A : Args F) : Y8_8_0 A 12 = mN (Y4_1_0 A 4) (Y4_1_8 A 4) := by rw [Y8_8_0, lv8_8_12, jn8_4, jn8_12]
theorem Y8_8_0_13 (A : Args F) : Y8_8_0 A 13 = mN (Y4_1_0 A 5) (Y4_1_8 A 5) := by rw [Y8_8_0, lv8_8_13, jn8_5, jn8_13]
theorem Y8_8_0_14 (A : Args F) : Y8_8_0 A 14 = mN (Y4_1_0 A 6) (Y4_1_8 A 6) := by rw [Y8_8_0, lv8_8_14, jn8_6, jn8_14]
theorem Y8_8_0_15 (A : Args F) : Y8_8_0 A 15 = mN (Y4_1_0 A 7) (Y4_1_8 A 7) := by rw [Y8_8_0, lv8_8_15, jn8_7, jn8_15]
theorem Y8_4_0_0 (A : Args F) : Y8_4_0 A 0 = Y8_8_0 A 0 := by rw [Y8_4_0, lv8_4_0]
theorem Y8_4_0_1 (A : Args F) : Y8_4_0 A 1 = Y8_8_0 A 1 := by rw [Y8_4_0, lv8_4_1]
theorem Y8_4_0_2 (A : Args F) : Y8_4_0 A 2 = Y8_8_0 A 2 := by rw [Y8_4_0, lv8_4_2]
theorem Y8_4_0_3 (A : Args F) : Y8_4_0 A 3 = Y8_8_0 A 3 := by rw [Y8_4_0, lv8_4_3]
theorem Y8_4_0_4 (A : Args F) : Y8_4_0 A 4 = mX (Y8_8_0 A 4) (Y8_8_0 A 8) := by rw [Y8_4_0, lv8_4_4]
theorem Y8_4_0_5 (A : Args F) : Y8_4_0 A 5 = mX (Y8_8_0 A 5) (Y8_8_0 A 9) := by rw [Y8_4_0, lv8_4_5]
theorem Y8_4_0_6 (A : Args F) : Y8_4_0 A 6 = mX (Y8_8_0 A 6) (Y8_8_0 A 10) := by rw [Y8_4_0, lv8_4_6]
theorem Y8_4_0_7 (A : Args F) : Y8_4_0 A 7 = mX (Y8_8_0 A 7) (Y8_8_0 A 11) := by rw [Y8_4_0, lv8_4_7]
theorem Y8_4_0_8 (A : Args F) : Y8_4_0 A 8 = mN (Y8_8_0 A 4) (Y8_8_0 A 8) := by rw [Y8_4_0, lv8_4_8]
theorem Y8_4_0_9 (A : Args F) : Y8_4_0 A 9 = mN (Y8_8_0 A 5) (Y8_8_0 A 9) := by rw [Y8_4_0, lv8_4_9]
theorem Y8_4_0_10 (A : Args F) : Y8_4_0 A 10 = mN (Y8_8_0 A 6) (Y8_8_0 A 10) := by rw [Y8_4_0, lv8_4_10]
theorem Y8_4_0_11 (A : Args F) : Y8_4_0 A 11 = mN (Y8_8_0 A 7) (Y8_8_0 A 11) := by rw [Y8_4_0, lv8_4_11]
theorem Y8_4_0_12 (A : Args F) : Y8_4_0 A 12 = Y8_8_0 A 12 := by rw [Y8_4_0, lv8_4_12]
theorem Y8_4_0_13 (A : Args F) : Y8_4_0 A 13 = Y8_8_0 A 13 := by rw [Y8_4_0, lv8_4_13]
theorem Y8_4_0_14 (A : Args F) : Y8_4_0 A 14 = Y8_8_0 A 14 := by rw [Y8_4_0, lv8_4_14]
theorem Y8_4_0_15 (A : Args F) : Y8_4_0 A 15 = Y8_8_0 A 15 := by rw [Y8_4_0, lv8_4_15]
theorem Y8_2_0_0 (A : Args F) : Y8_2_0 A 0 = Y8_4_0 A 0 := by rw [Y8_2_0, lv8_2_0]
theorem Y8_2_0_1 (A : Args F) : Y8_2_0 A 1 = Y8_4_0 A 1 := by rw [Y8_2_0, lv8_2_1]
theorem Y8_2_0_2 (A : Args F) : Y8_2_0 A 2 = mX (Y8_4_0 A 2) (Y8_4_0 A 4) := by rw [Y8_2_0, lv8_2_2]
theorem Y8_2_0_3 (A : Args F) : Y8_2_0 A 3 = mX (Y8_4_0 A 3) (Y8_4_0 A 5) := by rw [Y8_2_0, lv8_2_3]
theorem Y8_2_0_4 (A : Args F) : Y8_2_0 A 4 = mN (Y8_4_0 A 2) (Y8_4_0 A 4) := by rw [Y8_2_0, lv8_2_4]
theorem Y8_2_0_5 (A : Args F) : Y8_2_0 A 5 = mN (Y8_4_0 A 3) (Y8_4_0 A 5) := by rw [Y8_2_0, lv8_2_5]
theorem Y8_2_0_6 (A : Args F) : Y8_2_0 A 6 = mX (Y8_4_0 A 6) (Y8_4_0 A 8) := by rw [Y8_2_0, lv8_2_6]
theorem Y8_2_0_7 (A : Args F) : Y8_2_0 A 7 = mX (Y8_4_0 A 7) (Y8_4_0 A 9) := by rw [Y8_2_0, lv8_2_7]
theorem Y8_2_0_8 (A : Args F) : Y8_2_0 A 8 = mN (Y8_4_0 A 6) (Y8_4_0 A 8) := by rw [Y8_2_0, lv8_2_8]
theorem Y8_2_0_9 (A : Args F) : Y8_2_0 A 9 = mN (Y8_4_0 A 7) (Y8_4_0 A 9) := by rw [Y8_2_0, lv8_2_9]
theorem Y8_2_0_10 (A : Args F) : Y8_2_0 A 10 = mX (Y8_4_0 A 10) (Y8_4_0 A 12) := by rw [Y8_2_0, lv8_2_10]
theorem Y8_2_0_11 (A : Args F) : Y8_2_0 A 11 = mX (Y8_4_0 A 11) (Y8_4_0 A 13) := by rw [Y8_2_0, lv8_2_11]
theorem Y8_2_0_12 (A : Args F) : Y8_2_0 A 12 = mN (Y8_4_0 A 10) (Y8_4_0 A 12) := by rw [Y8_2_0, lv8_2_12]
theorem Y8_2_0_13 (A : Args F) : Y8_2_0 A 13 = mN (Y8_4_0 A 11) (Y8_4_0 A 13) := by rw [Y8_2_0, lv8_2_13]
theorem Y8_2_0_14 (A : Args F) : Y8_2_0 A 14 = Y8_4_0 A 14 := by rw [Y8_2_0, lv8_2_14]
theorem Y8_2_0_15 (A : Args F) : Y8_2_0 A 15 = Y8_4_0 A 15 := by rw [Y8_2_0, lv8_2_15]
theorem Y8_1_0_0 (A : Args F) : Y8_1_0 A 0 = Y8_2_0 A 0 := by rw [Y8_1_0, lv8_1_0]
theorem Y8_1_0_1 (A : Args F) : Y8_1_0 A 1 = mX (Y8_2_0 A 1) (Y8_2_0 A 2) := by rw [Y8_1_0, lv8_1_1]
theorem Y8_1_0_2 (A : Args F) : Y8_1_0 A 2 = mN (Y8_2_0 A 1) (Y8_2_0 A 2) := by rw [Y8_1_0, lv8_1_2]
theorem Y8_1_0_3 (A : Args F) : Y8_1_0 A 3 = mX (Y8_2_0 A 3) (Y8_2_0 A 4) := by rw [Y8_1_0, lv8_1_3]
theorem Y8_1_0_4 (A : Args F) : Y8_1_0 A 4 = mN (Y8_2_0 A 3) (Y8_2_0 A 4) := by rw [Y8_1_0, lv8_1_4]
theorem Y8_1_0_5 (A : Args F) : Y8_1_0 A 5 = mX (Y8_2_0 A 5) (Y8_2_0 A 6) := by rw [Y8_1_0, lv8_1_5]
theorem Y8_1_0_6 (A : Args F) : Y8_1_0 A 6 = mN (Y8_2_0 A 5) (Y8_2_0 A 6) := by rw [Y8_1_0, lv8_1_6]
theorem Y8_1_0_7 (A : Args F) : Y8_1_0 A 7 = mX (Y8_2_0 A 7) (Y8_2_0 A 8) := by rw [Y8_1_0, lv8_1_7]
theorem Y8_1_0_8 (A : Args F) : Y8_1_0 A 8 = mN (Y8_2_0 A 7) (Y8_2_0 A 8) := by rw [Y8_1_0, lv8_1_8]
theorem Y8_1_0_9 (A : Args F) : Y8_1_0 A 9 = mX (Y8_2_0 A 9) (Y8_2_0 A 10) := by rw [Y8_1_0, lv8_1_9]
theorem Y8_1_0_10 (A : Args F) : Y8_1_0 A 10 = mN (Y8_2_0 A 9) (Y8_2_0 A 10) := by rw [Y8_1_0, lv8_1_10]
theorem Y8_1_0_11 (A : Args F) : Y8_1_0 A 11 = mX (Y8_2_0 A 11) (Y8_2_0 A 12) := by rw [Y8_1_0, lv8_1_11]
theorem Y8_1_0_12 (A : Args F) : Y8_1_0 A 12 = mN (Y8_2_0 A 11) (Y8_2_0 A 12) := by rw [Y8_1_0, lv8_1_12]
theorem Y8_1_0_13 (A : Args F) : Y8_1_0 A 13 = mX (Y8_2_0 A 13) (Y8_2_0 A 14) := by rw [Y8_1_0, lv8_1_13]
theorem Y8_1_0_14 (A : Args F) : Y8_1_0 A 14 = mN (Y8_2_0 A 13) (Y8_2_0 A 14) := by rw [Y8_1_0, lv8_1_14]
theorem Y8_1_0_15 (A : Args F) : Y8_1_0 A 15 = Y8_2_0 A 15 := by rw [Y8_1_0, lv8_1_15]

end Cert.Proof

end

end
-- ==== Proof.Sorted2.lean ====
/- The columns' sort is its last level. -/
module

public import proofs.«01_k».proof.Proof.Sorted

@[expose] public section

noncomputable section

namespace Cert.Proof

open Idealize.ShloMosaic Cert.KernelIdeal Cert.KernelIdeal.Gen

variable {F : FTy → Type} [FloatOps F]

theorem M1_e (A : Args F) (i : ℕ) : M1 A i = Y8_1_0 A i := by
  simp only [M1, sort16, sort8, sort4, sort2, bmerge8, bmerge4, bmerge2, bmerge1, Y1_1_0, Y1_1_2, Y1_1_4, Y1_1_6, Y1_1_8, Y1_1_10, Y1_1_12, Y1_1_14, Y2_2_0, Y2_2_4, Y2_2_8, Y2_2_12, Y2_1_0, Y2_1_4, Y2_1_8, Y2_1_12, Y4_4_0, Y4_4_8, Y4_2_0, Y4_2_8, Y4_1_0, Y4_1_8, Y8_8_0, Y8_4_0, Y8_2_0, Y8_1_0, Nat.reduceAdd, Nat.zero_add]

end Cert.Proof

end

end
-- ==== Proof.Steps1.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_21 (A : Args F) : k0_pay65 (col A 0) (col A 1) (col A 2) (col A 3) (col A 4) (col A 5) (col A 6) (col A 7) = Y4_4_0 A 0 := by
  simp only [mX, mN, k0_pay65, k0_pay41, k0_pay25, k0_pay27, k0_pay45, k0_pay29, k0_pay31, Y4_4_0_0, Y2_1_0_0, Y2_1_4_0, Y2_2_0_0, Y1_1_0_0, Y1_1_2_0, Y2_2_4_0, Y1_1_4_0, Y1_1_6_0]
theorem p_22 (A : Args F) : k0_pay67 (col A 0) (col A 1) (col A 2) (col A 3) (col A 4) (col A 5) (col A 6) (col A 7) = Y4_4_0 A 1 := by
  simp only [mX, mN, k0_pay67, k0_pay57, k0_pay43, k0_pay26, k0_pay28, k0_pay42, k0_pay25, k0_pay27, k0_pay59, k0_pay47, k0_pay30, k0_pay32, k0_pay46, k0_pay29, k0_pay31, Y4_4_0_1, Y2_1_0_1, Y2_2_0_1, Y1_1_0_1, Y1_1_2_1, Y2_2_0_2, Y1_1_0_0, Y1_1_2_0, Y2_1_4_1, Y2_2_4_1, Y1_1_4_1, Y1_1_6_1, Y2_2_4_2, Y1_1_4_0, Y1_1_6_0]
theorem p_23 (A : Args F) : k0_pay70 (col A 0) (col A 1) (col A 2) (col A 3) (col A 4) (col A 5) (col A 6) (col A 7) = Y4_4_0 A 6 := by
  simp only [mX, mN, k0_pay70, k0_pay58, k0_pay43, k0_pay26, k0_pay28, k0_pay42, k0_pay25, k0_pay27, k0_pay60, k0_pay47, k0_pay30, k0_pay32, k0_pay46, k0_pay29, k0_pay31, Y4_4_0_6, Y2_1_0_2, Y2_2_0_1, Y1_1_0_1, Y1_1_2_1, Y2_2_0_2, Y1_1_0_0, Y1_1_2_0, Y2_1_4_2, Y2_2_4_1, Y1_1_4_1, Y1_1_6_1, Y2_2_4_2, Y1_1_4_0, Y1_1_6_0]
theorem p_24 (A : Args F) : k0_pay72 (col A 0) (col A 1) (col A 2) (col A 3) (col A 4) (col A 5) (col A 6) (col A 7) = Y4_4_0 A 7 := by
  simp only [mX, mN, k0_pay72, k0_pay44, k0_pay26, k0_pay28, k0_pay48, k0_pay30, k0_pay32, Y4_4_0_7, Y2_1_0_3, Y2_1_4_3, Y2_2_0_3, Y1_1_0_1, Y1_1_2_1, Y2_2_4_3, Y1_1_4_1, Y1_1_6_1]
theorem p_25 (A : Args F) : k0_pay73 (col A 8) (col A 9) (col A 10) (col A 11) (col A 12) (col A 13) (col A 14) (col A 15) = Y4_4_8 A 0 := by
  simp only [mX, mN, k0_pay73, k0_pay49, k0_pay33, k0_pay35, k0_pay53, k0_pay37, k0_pay39, Y4_4_8_0, Y2_1_8_0, Y2_1_12_0, Y2_2_8_0, Y1_1_8_0, Y1_1_10_0, Y2_2_12_0, Y1_1_12_0, Y1_1_14_0]
theorem p_26 (A : Args F) : k0_pay74 (col A 8) (col A 9) (col A 10) (col A 11) (col A 12) (col A 13) (col A 14) (col A 15) = Y4_4_8 A 4 := by
  simp only [mX, mN, k0_pay74, k0_pay49, k0_pay33, k0_pay35, k0_pay53, k0_pay37, k0_pay39, Y4_4_8_4, Y2_1_8_0, Y2_1_12_0, Y2_2_8_0, Y1_1_8_0, Y1_1_10_0, Y2_2_12_0, Y1_1_12_0, Y1_1_14_0]
theorem p_27 (A : Args F) : k0_pay75 (col A 8) (col A 9) (col A 10) (col A 11) (col A 12) (col A 13) (col A 14) (col A 15) = Y4_4_8 A 1 := by
  simp only [mX, mN, k0_pay75, k0_pay61, k0_pay51, k0_pay34, k0_pay36, k0_pay50, k0_pay33, k0_pay35, k0_pay63, k0_pay55, k0_pay38, k0_pay40, k0_pay54, k0_pay37, k0_pay39, Y4_4_8_1, Y2_1_8_1, Y2_2_8_1, Y1_1_8_1, Y1_1_10_1, Y2_2_8_2, Y1_1_8_0, Y1_1_10_0, Y2_1_12_1, Y2_2_12_1, Y1_1_12_1, Y1_1_14_1, Y2_2_12_2, Y1_1_12_0, Y1_1_14_0]
theorem p_28 (A : Args F) : k0_pay76 (col A 8) (col A 9) (col A 10) (col A 11) (col A 12) (col A 13) (col A 14) (col A 15) = Y4_4_8 A 5 := by
  simp only [mX, mN, k0_pay76, k0_pay61, k0_pay51, k0_pay34, k0_pay36, k0_pay50, k0_pay33, k0_pay35, k0_pay63, k0_pay55, k0_pay38, k0_pay40, k0_pay54, k0_pay37, k0_pay39, Y4_4_8_5, Y2_1_8_1, Y2_2_8_1, Y1_1_8_1, Y1_1_10_1, Y2_2_8_2, Y1_1_8_0, Y1_1_10_0, Y2_1_12_1, Y2_2_12_1, Y1_1_12_1, Y1_1_14_1, Y2_2_12_2, Y1_1_12_0, Y1_1_14_0]
theorem p_29 (A : Args F) : k0_pay77 (col A 8) (col A 9) (col A 10) (col A 11) (col A 12) (col A 13) (col A 14) (col A 15) = Y4_4_8 A 2 := by
  simp only [mX, mN, k0_pay77, k0_pay62, k0_pay51, k0_pay34, k0_pay36, k0_pay50, k0_pay33, k0_pay35, k0_pay64, k0_pay55, k0_pay38, k0_pay40, k0_pay54, k0_pay37, k0_pay39, Y4_4_8_2, Y2_1_8_2, Y2_2_8_1, Y1_1_8_1, Y1_1_10_1, Y2_2_8_2, Y1_1_8_0, Y1_1_10_0, Y2_1_12_2, Y2_2_12_1, Y1_1_12_1, Y1_1_14_1, Y2_2_12_2, Y1_1_12_0, Y1_1_14_0]
theorem p_30 (A : Args F) : k0_pay78 (col A 8) (col A 9) (col A 10) (col A 11) (col A 12) (col A 13) (col A 14) (col A 15) = Y4_4_8 A 6 := by
  simp only [mX, mN, k0_pay78, k0_pay62, k0_pay51, k0_pay34, k0_pay36, k0_pay50, k0_pay33, k0_pay35, k0_pay64, k0_pay55, k0_pay38, k0_pay40, k0_pay54, k0_pay37, k0_pay39, Y4_4_8_6, Y2_1_8_2, Y2_2_8_1, Y1_1_8_1, Y1_1_10_1, Y2_2_8_2, Y1_1_8_0, Y1_1_10_0, Y2_1_12_2, Y2_2_12_1, Y1_1_12_1, Y1_1_14_1, Y2_2_12_2, Y1_1_12_0, Y1_1_14_0]
theorem p_31 (A : Args F) : k0_pay79 (col A 8) (col A 9) (col A 10) (col A 11) (col A 12) (col A 13) (col A 14) (col A 15) = Y4_4_8 A 3 := by
  simp only [mX, mN, k0_pay79, k0_pay52, k0_pay34, k0_pay36, k0_pay56, k0_pay38, k0_pay40, Y4_4_8_3, Y2_1_8_3, Y2_1_12_3, Y2_2_8_3, Y1_1_8_1, Y1_1_10_1, Y2_2_12_3, Y1_1_12_1, Y1_1_14_1]
theorem p_32 (A : Args F) : k0_pay80 (col A 8) (col A 9) (col A 10) (col A 11) (col A 12) (col A 13) (col A 14) (col A 15) = Y4_4_8 A 7 := by
  simp only [mX, mN, k0_pay80, k0_pay52, k0_pay34, k0_pay36, k0_pay56, k0_pay38, k0_pay40, Y4_4_8_7, Y2_1_8_3, Y2_1_12_3, Y2_2_8_3, Y1_1_8_1, Y1_1_10_1, Y2_2_12_3, Y1_1_12_1, Y1_1_14_1]
theorem p_33 (A : Args F) : k0_pay81 (col A 0) (col A 1) (col A 2) (col A 3) (col A 4) (col A 5) (col A 6) (col A 7) = Y4_2_0 A 2 := by
  simp only [mX, mN, k0_pay81, k0_pay69, k0_pay58, k0_pay43, k0_pay26, k0_pay28, k0_pay42, k0_pay25, k0_pay27, k0_pay60, k0_pay47, k0_pay30, k0_pay32, k0_pay46, k0_pay29, k0_pay31, k0_pay66, k0_pay41, k0_pay45, Y4_2_0_2, Y4_4_0_2, Y2_1_0_2, Y2_2_0_1, Y1_1_0_1, Y1_1_2_1, Y2_2_0_2, Y1_1_0_0, Y1_1_2_0, Y2_1_4_2, Y2_2_4_1, Y1_1_4_1, Y1_1_6_1, Y2_2_4_2, Y1_1_4_0, Y1_1_6_0, Y4_4_0_4, Y2_1_0_0, Y2_1_4_0, Y2_2_0_0, Y2_2_4_0]
theorem p_34 (A : Args F) : k0_pay82 (col A 0) (col A 1) (col A 2) (col A 3) (col A 4) (col A 5) (col A 6) (col A 7) = Y4_2_0 A 4 := by
  simp only [mX, mN, k0_pay82, k0_pay69, k0_pay58, k0_pay43, k0_pay26, k0_pay28, k0_pay42, k0_pay25, k0_pay27, k0_pay60, k0_pay47, k0_pay30, k0_pay32, k0_pay46, k0_pay29, k0_pay31, k0_pay66, k0_pay41, k0_pay45, Y4_2_0_4, Y4_4_0_2, Y2_1_0_2, Y2_2_0_1, Y1_1_0_1, Y1_1_2_1, Y2_2_0_2, Y1_1_0_0, Y1_1_2_0, Y2_1_4_2, Y2_2_4_1, Y1_1_4_1, Y1_1_6_1, Y2_2_4_2, Y1_1_4_0, Y1_1_6_0, Y4_4_0_4, Y2_1_0_0, Y2_1_4_0, Y2_2_0_0, Y2_2_4_0]
theorem p_35 (A : Args F) : k0_pay83 (col A 0) (col A 1) (col A 2) (col A 3) (col A 4) (col A 5) (col A 6) (col A 7) = Y4_2_0 A 3 := by
  simp only [mX, mN, k0_pay83, k0_pay71, k0_pay44, k0_pay26, k0_pay28, k0_pay48, k0_pay30, k0_pay32, k0_pay68, k0_pay57, k0_pay43, k0_pay42, k0_pay25, k0_pay27, k0_pay59, k0_pay47, k0_pay46, k0_pay29, k0_pay31, Y4_2_0_3, Y4_4_0_3, Y2_1_0_3, Y2_1_4_3, Y2_2_0_3, Y1_1_0_1, Y1_1_2_1, Y2_2_4_3, Y1_1_4_1, Y1_1_6_1, Y4_4_0_5, Y2_1_0_1, Y2_2_0_1, Y2_2_0_2, Y1_1_0_0, Y1_1_2_0, Y2_1_4_1, Y2_2_4_1, Y2_2_4_2, Y1_1_4_0, Y1_1_6_0]
theorem p_36 (A : Args F) : k0_pay84 (col A 0) (col A 1) (col A 2) (col A 3) (col A 4) (col A 5) (col A 6) (col A 7) = Y4_2_0 A 5 := by
  simp only [mX, mN, k0_pay84, k0_pay71, k0_pay44, k0_pay26, k0_pay28, k0_pay48, k0_pay30, k0_pay32, k0_pay68, k0_pay57, k0_pay43, k0_pay42, k0_pay25, k0_pay27, k0_pay59, k0_pay47, k0_pay46, k0_pay29, k0_pay31, Y4_2_0_5, Y4_4_0_3, Y2_1_0_3, Y2_1_4_3, Y2_2_0_3, Y1_1_0_1, Y1_1_2_1, Y2_2_4_3, Y1_1_4_1, Y1_1_6_1, Y4_4_0_5, Y2_1_0_1, Y2_2_0_1, Y2_2_0_2, Y1_1_0_0, Y1_1_2_0, Y2_1_4_1, Y2_2_4_1, Y2_2_4_2, Y1_1_4_0, Y1_1_6_0]
theorem p_37 (A : Args F) : k0_pay101 (Y4_4_0 A 0) (Y4_4_8 A 0) = Y8_8_0 A 0 := by
  simp only [mX, mN, k0_pay101, Y8_8_0_0, Y4_1_0_0, Y4_2_0_0, Y4_1_8_0, Y4_2_8_0]
theorem p_38 (A : Args F) : k0_pay114 (Y4_4_0 A 6) (Y4_4_8 A 5) (Y4_4_8 A 6) (Y4_4_8 A 3) (Y4_2_0 A 5) = Y8_8_0 A 14 := by
  simp only [mX, mN, k0_pay114, k0_pay94, k0_pay100, k0_pay88, Y8_8_0_14, Y4_1_0_6, Y4_2_0_6, Y4_1_8_6, Y4_2_8_6, Y4_2_8_5]
theorem p_39 (A : Args F) : k0_pay116 (Y4_4_0 A 7) (Y4_4_8 A 7) = Y8_8_0 A 15 := by
  simp only [mX, mN, k0_pay116, Y8_8_0_15, Y4_1_0_7, Y4_2_0_7, Y4_1_8_7, Y4_2_8_7]
theorem p_40 (A : Args F) : k0_pay132 (Y4_4_0 A 1) (Y4_4_0 A 6) (Y4_4_0 A 7) (Y4_4_8 A 4) (Y4_4_8 A 1) (Y4_4_8 A 5) (Y4_4_8 A 2) (Y4_4_8 A 6) (Y4_4_8 A 3) (Y4_4_8 A 7) (Y4_2_0 A 2) (Y4_2_0 A 4) (Y4_2_0 A 3) (Y4_2_0 A 5) = Y8_2_0 A 9 := by
  simp only [mX, mN, k0_pay132, k0_pay123, k0_pay115, k0_pay108, k0_pay91, k0_pay97, k0_pay87, k0_pay86, k0_pay120, k0_pay111, k0_pay93, k0_pay99, k0_pay88, k0_pay104, k0_pay89, k0_pay95, k0_pay85, Y8_2_0_9, Y8_4_0_7, Y8_8_0_7, Y4_1_0_7, Y4_2_0_7, Y4_1_8_7, Y4_2_8_7, Y8_8_0_11, Y4_1_0_3, Y4_1_8_3, Y4_2_8_3, Y4_2_8_4, Y8_4_0_9, Y8_8_0_5, Y4_1_0_5, Y4_2_0_6, Y4_1_8_5, Y4_2_8_6, Y4_2_8_5, Y8_8_0_9, Y4_1_0_1, Y4_2_0_1, Y4_1_8_1, Y4_2_8_1, Y4_2_8_2]
theorem p_41 (A : Args F) : k0_pay133 (Y4_4_0 A 1) (Y4_4_0 A 6) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_2_0 A 10 := by
  simp only [mX, mN, k0_pay133, k0_pay122, k0_pay113, k0_pay94, k0_pay100, k0_pay88, k0_pay106, k0_pay90, k0_pay96, k0_pay85, k0_pay110, k0_pay92, k0_pay98, k0_pay87, k0_pay86, Y8_2_0_10, Y8_4_0_12, Y8_4_0_10, Y8_8_0_6, Y4_1_0_6, Y4_2_0_6, Y4_1_8_6, Y4_2_8_6, Y4_2_8_5, Y8_8_0_10, Y4_1_0_2, Y4_2_0_1, Y4_1_8_2, Y4_2_8_1, Y4_2_8_2, Y8_8_0_12, Y4_1_0_4, Y4_1_8_4, Y4_2_8_3, Y4_2_8_4]
theorem p_42 (A : Args F) : k0_pay134 (Y4_4_0 A 1) (Y4_4_0 A 6) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_2_0 A 12 := by
  simp only [mX, mN, k0_pay134, k0_pay122, k0_pay113, k0_pay94, k0_pay100, k0_pay88, k0_pay106, k0_pay90, k0_pay96, k0_pay85, k0_pay110, k0_pay92, k0_pay98, k0_pay87, k0_pay86, Y8_2_0_12, Y8_4_0_12, Y8_4_0_10, Y8_8_0_6, Y4_1_0_6, Y4_2_0_6, Y4_1_8_6, Y4_2_8_6, Y4_2_8_5, Y8_8_0_10, Y4_1_0_2, Y4_2_0_1, Y4_1_8_2, Y4_2_8_1, Y4_2_8_2, Y8_8_0_12, Y4_1_0_4, Y4_1_8_4, Y4_2_8_3, Y4_2_8_4]
theorem p_43 (A : Args F) : k0_pay135 (Y4_4_0 A 6) (Y4_4_0 A 7) (Y4_4_8 A 4) (Y4_4_8 A 5) (Y4_4_8 A 2) (Y4_4_8 A 6) (Y4_4_8 A 3) (Y4_4_8 A 7) (Y4_2_0 A 4) (Y4_2_0 A 3) (Y4_2_0 A 5) = Y8_2_0 A 11 := by
  simp only [mX, mN, k0_pay135, k0_pay124, k0_pay115, k0_pay108, k0_pay91, k0_pay97, k0_pay87, k0_pay86, k0_pay112, k0_pay93, k0_pay99, k0_pay88, Y8_2_0_11, Y8_4_0_13, Y8_4_0_11, Y8_8_0_7, Y4_1_0_7, Y4_2_0_7, Y4_1_8_7, Y4_2_8_7, Y8_8_0_11, Y4_1_0_3, Y4_1_8_3, Y4_2_8_3, Y4_2_8_4, Y8_8_0_13, Y4_1_0_5, Y4_2_0_6, Y4_1_8_5, Y4_2_8_6, Y4_2_8_5]
theorem p_44 (A : Args F) : k0_pay136 (Y4_4_0 A 6) (Y4_4_0 A 7) (Y4_4_8 A 4) (Y4_4_8 A 5) (Y4_4_8 A 2) (Y4_4_8 A 6) (Y4_4_8 A 3) (Y4_4_8 A 7) (Y4_2_0 A 4) (Y4_2_0 A 3) (Y4_2_0 A 5) = Y8_2_0 A 13 := by
  simp only [mX, mN, k0_pay136, k0_pay124, k0_pay115, k0_pay108, k0_pay91, k0_pay97, k0_pay87, k0_pay86, k0_pay112, k0_pay93, k0_pay99, k0_pay88, Y8_2_0_13, Y8_4_0_13, Y8_4_0_11, Y8_8_0_7, Y4_1_0_7, Y4_2_0_7, Y4_1_8_7, Y4_2_8_7, Y8_8_0_11, Y4_1_0_3, Y4_1_8_3, Y4_2_8_3, Y4_2_8_4, Y8_8_0_13, Y4_1_0_5, Y4_2_0_6, Y4_1_8_5, Y4_2_8_6, Y4_2_8_5]
theorem p_45 (A : Args F) : k0_pay137 (Y4_4_0 A 0) (Y4_4_0 A 1) (Y4_4_8 A 0) (Y4_4_8 A 4) (Y4_4_8 A 1) (Y4_4_8 A 5) (Y4_4_8 A 2) (Y4_4_8 A 3) (Y4_2_0 A 2) (Y4_2_0 A 4) (Y4_2_0 A 3) = Y8_1_0 A 1 := by
  simp only [mX, mN, k0_pay137, k0_pay103, k0_pay89, k0_pay95, k0_pay85, k0_pay125, k0_pay105, k0_pay90, k0_pay96, k0_pay117, k0_pay109, k0_pay92, k0_pay98, k0_pay87, k0_pay86, k0_pay102, Y8_1_0_1, Y8_2_0_1, Y8_4_0_1, Y8_8_0_1, Y4_1_0_1, Y4_2_0_1, Y4_1_8_1, Y4_2_8_1, Y4_2_8_2, Y8_2_0_2, Y8_4_0_2, Y8_8_0_2, Y4_1_0_2, Y4_1_8_2, Y8_4_0_4, Y8_8_0_4, Y4_1_0_4, Y4_1_8_4, Y4_2_8_3, Y4_2_8_4, Y8_8_0_8, Y4_1_0_0, Y4_2_0_0, Y4_1_8_0, Y4_2_8_0]
theorem p_46 (A : Args F) : k0_pay138 (Y4_4_0 A 0) (Y4_4_0 A 1) (Y4_4_8 A 0) (Y4_4_8 A 4) (Y4_4_8 A 1) (Y4_4_8 A 5) (Y4_4_8 A 2) (Y4_4_8 A 3) (Y4_2_0 A 2) (Y4_2_0 A 4) (Y4_2_0 A 3) = Y8_1_0 A 2 := by
  simp only [mX, mN, k0_pay138, k0_pay103, k0_pay89, k0_pay95, k0_pay85, k0_pay125, k0_pay105, k0_pay90, k0_pay96, k0_pay117, k0_pay109, k0_pay92, k0_pay98, k0_pay87, k0_pay86, k0_pay102, Y8_1_0_2, Y8_2_0_1, Y8_4_0_1, Y8_8_0_1, Y4_1_0_1, Y4_2_0_1, Y4_1_8_1, Y4_2_8_1, Y4_2_8_2, Y8_2_0_2, Y8_4_0_2, Y8_8_0_2, Y4_1_0_2, Y4_1_8_2, Y8_4_0_4, Y8_8_0_4, Y4_1_0_4, Y4_1_8_4, Y4_2_8_3, Y4_2_8_4, Y8_8_0_8, Y4_1_0_0, Y4_2_0_0, Y4_1_8_0, Y4_2_8_0]
theorem p_47 (A : Args F) : k0_pay139 (Y4_4_0 A 0) (Y4_4_0 A 1) (Y4_4_0 A 6) (Y4_4_8 A 0) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_1_0 A 3 := by
  simp only [mX, mN, k0_pay139, k0_pay127, k0_pay107, k0_pay91, k0_pay97, k0_pay87, k0_pay86, k0_pay119, k0_pay111, k0_pay93, k0_pay99, k0_pay88, k0_pay104, k0_pay89, k0_pay95, k0_pay85, k0_pay126, k0_pay105, k0_pay90, k0_pay96, k0_pay117, k0_pay109, k0_pay92, k0_pay98, k0_pay102, Y8_1_0_3, Y8_2_0_3, Y8_4_0_3, Y8_8_0_3, Y4_1_0_3, Y4_1_8_3, Y4_2_8_3, Y4_2_8_4, Y8_4_0_5, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_4, Y8_4_0_2, Y8_8_0_2, Y4_1_0_2, Y4_1_8_2, Y8_4_0_4, Y8_8_0_4, Y4_1_0_4, Y4_1_8_4, Y8_8_0_8, Y4_1_0_0, Y4_2_0_0, Y4_1_8_0, Y4_2_8_0]
theorem p_48 (A : Args F) : k0_pay140 (Y4_4_0 A 0) (Y4_4_0 A 1) (Y4_4_0 A 6) (Y4_4_8 A 0) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_1_0 A 4 := by
  simp only [mX, mN, k0_pay140, k0_pay127, k0_pay107, k0_pay91, k0_pay97, k0_pay87, k0_pay86, k0_pay119, k0_pay111, k0_pay93, k0_pay99, k0_pay88, k0_pay104, k0_pay89, k0_pay95, k0_pay85, k0_pay126, k0_pay105, k0_pay90, k0_pay96, k0_pay117, k0_pay109, k0_pay92, k0_pay98, k0_pay102, Y8_1_0_4, Y8_2_0_3, Y8_4_0_3, Y8_8_0_3, Y4_1_0_3, Y4_1_8_3, Y4_2_8_3, Y4_2_8_4, Y8_4_0_5, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_4, Y8_4_0_2, Y8_8_0_2, Y4_1_0_2, Y4_1_8_2, Y8_4_0_4, Y8_8_0_4, Y4_1_0_4, Y4_1_8_4, Y8_8_0_8, Y4_1_0_0, Y4_2_0_0, Y4_1_8_0, Y4_2_8_0]
theorem p_49 (A : Args F) : k0_pay141 (Y4_4_0 A 0) (Y4_4_0 A 1) (Y4_4_0 A 6) (Y4_4_8 A 0) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_1_0 A 5 := by
  simp only [mX, mN, k0_pay141, k0_pay128, k0_pay107, k0_pay91, k0_pay97, k0_pay87, k0_pay86, k0_pay119, k0_pay111, k0_pay93, k0_pay99, k0_pay88, k0_pay104, k0_pay89, k0_pay95, k0_pay85, k0_pay129, k0_pay121, k0_pay113, k0_pay94, k0_pay100, k0_pay106, k0_pay90, k0_pay96, k0_pay118, k0_pay109, k0_pay92, k0_pay98, k0_pay102, Y8_1_0_5, Y8_2_0_5, Y8_4_0_3, Y8_8_0_3, Y4_1_0_3, Y4_1_8_3, Y4_2_8_3, Y4_2_8_4, Y8_4_0_5, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_6, Y8_4_0_6, Y8_8_0_6, Y4_1_0_6, Y4_1_8_6, Y8_8_0_10, Y4_1_0_2, Y4_1_8_2, Y8_4_0_8, Y8_8_0_4, Y4_1_0_4, Y4_1_8_4, Y8_8_0_8, Y4_1_0_0, Y4_2_0_0, Y4_1_8_0, Y4_2_8_0]
theorem p_50 (A : Args F) : k0_pay142 (Y4_4_0 A 0) (Y4_4_0 A 1) (Y4_4_0 A 6) (Y4_4_8 A 0) (Y4_4_8 A 4) (Y4_4_8 A 1) (Y4_4_8 A 5) (Y4_4_8 A 2) (Y4_4_8 A 6) (Y4_4_8 A 3) (Y4_2_0 A 2) (Y4_2_0 A 4) (Y4_2_0 A 3) (Y4_2_0 A 5) = Y8_1_0 A 6 := by
  simp only [mX, mN, k0_pay142, k0_pay128, k0_pay107, k0_pay91, k0_pay97, k0_pay87, k0_pay86, k0_pay119, k0_pay111, k0_pay93, k0_pay99, k0_pay88, k0_pay104, k0_pay89, k0_pay95, k0_pay85, k0_pay129, k0_pay121, k0_pay113, k0_pay94, k0_pay100, k0_pay106, k0_pay90, k0_pay96, k0_pay118, k0_pay109, k0_pay92, k0_pay98, k0_pay102, Y8_1_0_6, Y8_2_0_5, Y8_4_0_3, Y8_8_0_3, Y4_1_0_3, Y4_1_8_3, Y4_2_8_3, Y4_2_8_4, Y8_4_0_5, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_6, Y8_4_0_6, Y8_8_0_6, Y4_1_0_6, Y4_1_8_6, Y8_8_0_10, Y4_1_0_2, Y4_1_8_2, Y8_4_0_8, Y8_8_0_4, Y4_1_0_4, Y4_1_8_4, Y8_8_0_8, Y4_1_0_0, Y4_2_0_0, Y4_1_8_0, Y4_2_8_0]
theorem p_51 (A : Args F) : k0_pay143 (Y4_4_0 A 0) (Y4_4_0 A 1) (Y4_4_0 A 6) (Y4_4_0 A 7) (Y4_4_8 A 0) (Y4_4_8 A 4) (Y4_4_8 A 1) (Y4_4_8 A 5) (Y4_4_8 A 2) (Y4_4_8 A 6) (Y4_4_8 A 3) (Y4_4_8 A 7) (Y4_2_0 A 2) (Y4_2_0 A 4) (Y4_2_0 A 3) (Y4_2_0 A 5) = Y8_1_0 A 7 := by
  simp only [mX, mN, k0_pay143, k0_pay131, k0_pay123, k0_pay115, k0_pay108, k0_pay91, k0_pay97, k0_pay87, k0_pay86, k0_pay120, k0_pay111, k0_pay93, k0_pay99, k0_pay88, k0_pay104, k0_pay89, k0_pay95, k0_pay85, k0_pay130, k0_pay121, k0_pay113, k0_pay94, k0_pay100, k0_pay106, k0_pay90, k0_pay96, k0_pay118, k0_pay109, k0_pay92, k0_pay98, k0_pay102, Y8_1_0_7, Y8_2_0_7, Y8_4_0_7, Y8_8_0_7, Y4_1_0_7, Y4_2_0_7, Y4_1_8_7, Y4_2_8_7, Y8_8_0_11, Y4_1_0_3, Y4_1_8_3, Y4_2_8_3, Y4_2_8_4, Y8_4_0_9, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_8, Y8_4_0_6, Y8_8_0_6, Y4_1_0_6, Y4_1_8_6, Y8_8_0_10, Y4_1_0_2, Y4_1_8_2, Y8_4_0_8, Y8_8_0_4, Y4_1_0_4, Y4_1_8_4, Y8_8_0_8, Y4_1_0_0, Y4_2_0_0, Y4_1_8_0, Y4_2_8_0]
theorem p_52 (A : Args F) : k0_pay144 (Y4_4_0 A 0) (Y4_4_0 A 1) (Y4_4_0 A 6) (Y4_4_0 A 7) (Y4_4_8 A 0) (Y4_4_8 A 4) (Y4_4_8 A 1) (Y4_4_8 A 5) (Y4_4_8 A 2) (Y4_4_8 A 6) (Y4_4_8 A 3) (Y4_4_8 A 7) (Y4_2_0 A 2) (Y4_2_0 A 4) (Y4_2_0 A 3) (Y4_2_0 A 5) = Y8_1_0 A 8 := by
  simp only [mX, mN, k0_pay144, k0_pay131, k0_pay123, k0_pay115, k0_pay108, k0_pay91, k0_pay97, k0_pay87, k0_pay86, k0_pay120, k0_pay111, k0_pay93, k0_pay99, k0_pay88, k0_pay104, k0_pay89, k0_pay95, k0_pay85, k0_pay130, k0_pay121, k0_pay113, k0_pay94, k0_pay100, k0_pay106, k0_pay90, k0_pay96, k0_pay118, k0_pay109, k0_pay92, k0_pay98, k0_pay102, Y8_1_0_8, Y8_2_0_7, Y8_4_0_7, Y8_8_0_7, Y4_1_0_7, Y4_2_0_7, Y4_1_8_7, Y4_2_8_7, Y8_8_0_11, Y4_1_0_3, Y4_1_8_3, Y4_2_8_3, Y4_2_8_4, Y8_4_0_9, Y8_8_0_5, Y4_1_0_5, Y4_2_0_6, Y4_1_8_5, Y4_2_8_6, Y4_2_8_5, Y8_8_0_9, Y4_1_0_1, Y4_2_0_1, Y4_1_8_1, Y4_2_8_1, Y4_2_8_2, Y8_2_0_8, Y8_4_0_6, Y8_8_0_6, Y4_1_0_6, Y4_1_8_6, Y8_8_0_10, Y4_1_0_2, Y4_1_8_2, Y8_4_0_8, Y8_8_0_4, Y4_1_0_4, Y4_1_8_4, Y8_8_0_8, Y4_1_0_0, Y4_2_0_0, Y4_1_8_0, Y4_2_8_0]
theorem p_53 (A : Args F) : k0_pay162 (Y8_2_0 A 12) (Y8_2_0 A 11) = lo2 (M1 A 11) := by
  simp only [mX, mN, k0_pay162, k0_pay147, lo2, Y8_1_0_11, M1_e, Y8_1_0_0, Y8_2_0_0, Y8_4_0_0, Y8_1_0_15, Y8_2_0_15, Y8_4_0_15]
theorem p_54 (A : Args F) : k0_pay163 (Y8_2_0 A 12) (Y8_2_0 A 11) = lo2 (M1 A 12) := by
  simp only [mX, mN, k0_pay163, k0_pay148, lo2, Y8_1_0_12, M1_e, Y8_1_0_0, Y8_2_0_0, Y8_4_0_0, Y8_1_0_15, Y8_2_0_15, Y8_4_0_15]
theorem p_55 (A : Args F) : k0_pay164 (Y8_8_0 A 14) (Y8_2_0 A 13) = lo2 (M1 A 13) := by
  simp only [mX, mN, k0_pay164, k0_pay149, lo2, Y8_1_0_13, Y8_2_0_14, Y8_4_0_14, M1_e, Y8_1_0_0, Y8_2_0_0, Y8_4_0_0, Y8_1_0_15, Y8_2_0_15, Y8_4_0_15]
theorem p_56 (A : Args F) : k0_pay165 (Y8_8_0 A 14) (Y8_2_0 A 13) = lo2 (M1 A 14) := by
  simp only [mX, mN, k0_pay165, k0_pay150, lo2, Y8_1_0_14, Y8_2_0_14, Y8_4_0_14, M1_e, Y8_1_0_0, Y8_2_0_0, Y8_4_0_0, Y8_1_0_15, Y8_2_0_15, Y8_4_0_15]
theorem p_57 (A : Args F) : k0_pay166 (Y8_8_0 A 15) = lo2 (M1 A 15) := by
  simp only [mX, mN, k0_pay166, lo2, M1_e, Y8_1_0_0, Y8_2_0_0, Y8_4_0_0, Y8_1_0_15, Y8_2_0_15, Y8_4_0_15]
theorem p_58 (A : Args F) : k0_pay167 (Y8_8_0 A 0) = hi2 (M1 A 0) := by
  simp only [mX, mN, k0_pay167, hi2, M1_e, Y8_1_0_0, Y8_2_0_0, Y8_4_0_0, Y8_1_0_15, Y8_2_0_15, Y8_4_0_15]
theorem p_59 (A : Args F) : k0_pay168 (Y8_1_0 A 1) = hi2 (M1 A 1) := by
  simp only [mX, mN, k0_pay168, hi2, M1_e, Y8_1_0_0, Y8_2_0_0, Y8_4_0_0, Y8_1_0_15, Y8_2_0_15, Y8_4_0_15]
theorem p_60 (A : Args F) : k0_pay169 (Y8_1_0 A 2) = hi2 (M1 A 2) := by
  simp only [mX, mN, k0_pay169, hi2, M1_e, Y8_1_0_0, Y8_2_0_0, Y8_4_0_0, Y8_1_0_15, Y8_2_0_15, Y8_4_0_15]
theorem p_61 (A : Args F) : k0_pay170 (Y8_1_0 A 3) = hi2 (M1 A 3) := by
  simp only [mX, mN, k0_pay170, hi2, M1_e, Y8_1_0_0, Y8_2_0_0, Y8_4_0_0, Y8_1_0_15, Y8_2_0_15, Y8_4_0_15]
theorem p_62 (A : Args F) : k0_pay171 (Y8_1_0 A 4) = hi2 (M1 A 4) := by
  simp only [mX, mN, k0_pay171, hi2, M1_e, Y8_1_0_0, Y8_2_0_0, Y8_4_0_0, Y8_1_0_15, Y8_2_0_15, Y8_4_0_15]
theorem p_63 (A : Args F) : k0_pay183 (Y8_8_0 A 0) (Y8_8_0 A 15) = clean1 mX mN (N2 A) 0 := by
  simp only [mX, mN, k0_pay183, k0_pay151, k0_pay182, cl1_0, lo2, hi2, N2_e, mt16_0, mt16_16, M1_e, Y8_1_0_0, Y8_2_0_0, Y8_4_0_0, Y8_1_0_15, Y8_2_0_15, Y8_4_0_15]
theorem p_64 (A : Args F) : k0_pay184 (Y8_8_0 A 0) (Y8_8_0 A 15) = clean1 mX mN (N2 A) 16 := by
  simp only [mX, mN, k0_pay184, k0_pay151, k0_pay182, cl1_16, lo2, hi2, N2_e, mt16_16, mt16_0, M1_e, Y8_1_0_0, Y8_2_0_0, Y8_4_0_0, Y8_1_0_15, Y8_2_0_15, Y8_4_0_15]
theorem p_65 (A : Args F) : k0_pay185 (Y8_8_0 A 14) (Y8_2_0 A 13) (Y8_1_0 A 1) = clean1 mX mN (N2 A) 1 := by
  simp only [mX, mN, k0_pay185, k0_pay152, k0_pay181, k0_pay150, cl1_1, lo2, hi2, Y8_1_0_14, Y8_2_0_14, Y8_4_0_14, N2_e, mt16_1, mt16_17, M1_e, Y8_1_0_0, Y8_2_0_0, Y8_4_0_0, Y8_1_0_15, Y8_2_0_15, Y8_4_0_15]

end Cert.Proof

end

end
-- ==== Proof.Steps2.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_66 (A : Args F) : k0_pay186 (Y8_8_0 A 14) (Y8_2_0 A 13) (Y8_1_0 A 1) = clean1 mX mN (N2 A) 17 := by
  simp only [mX, mN, k0_pay186, k0_pay152, k0_pay181, k0_pay150, cl1_17, lo2, hi2, Y8_1_0_14, Y8_2_0_14, Y8_4_0_14, N2_e, mt16_17, mt16_1, M1_e, Y8_1_0_0, Y8_2_0_0, Y8_4_0_0, Y8_1_0_15, Y8_2_0_15, Y8_4_0_15]
theorem p_67 (A : Args F) : k0_pay187 (Y8_8_0 A 14) (Y8_2_0 A 13) (Y8_1_0 A 2) = clean1 mX mN (N2 A) 2 := by
  simp only [mX, mN, k0_pay187, k0_pay153, k0_pay180, k0_pay149, cl1_2, lo2, hi2, Y8_1_0_13, Y8_2_0_14, Y8_4_0_14, N2_e, mt16_2, mt16_18, M1_e, Y8_1_0_0, Y8_2_0_0, Y8_4_0_0, Y8_1_0_15, Y8_2_0_15, Y8_4_0_15]
theorem p_68 (A : Args F) : k0_pay188 (Y8_8_0 A 14) (Y8_2_0 A 13) (Y8_1_0 A 2) = clean1 mX mN (N2 A) 18 := by
  simp only [mX, mN, k0_pay188, k0_pay153, k0_pay180, k0_pay149, cl1_18, lo2, hi2, Y8_1_0_13, Y8_2_0_14, Y8_4_0_14, N2_e, mt16_18, mt16_2, M1_e, Y8_1_0_0, Y8_2_0_0, Y8_4_0_0, Y8_1_0_15, Y8_2_0_15, Y8_4_0_15]
theorem p_69 (A : Args F) : k0_pay189 (Y8_2_0 A 12) (Y8_2_0 A 11) (Y8_1_0 A 3) = clean1 mX mN (N2 A) 3 := by
  simp only [mX, mN, k0_pay189, k0_pay154, k0_pay179, k0_pay148, cl1_3, lo2, hi2, Y8_1_0_12, N2_e, mt16_3, mt16_19, M1_e, Y8_1_0_0, Y8_2_0_0, Y8_4_0_0, Y8_1_0_15, Y8_2_0_15, Y8_4_0_15]
theorem p_70 (A : Args F) : k0_pay190 (Y8_2_0 A 12) (Y8_2_0 A 11) (Y8_1_0 A 3) = clean1 mX mN (N2 A) 19 := by
  simp only [mX, mN, k0_pay190, k0_pay154, k0_pay179, k0_pay148, cl1_19, lo2, hi2, Y8_1_0_12, N2_e, mt16_19, mt16_3, M1_e, Y8_1_0_0, Y8_2_0_0, Y8_4_0_0, Y8_1_0_15, Y8_2_0_15, Y8_4_0_15]
theorem p_71 (A : Args F) : k0_pay191 (Y8_2_0 A 12) (Y8_2_0 A 11) (Y8_1_0 A 4) = clean1 mX mN (N2 A) 4 := by
  simp only [mX, mN, k0_pay191, k0_pay155, k0_pay178, k0_pay147, cl1_4, lo2, hi2, Y8_1_0_11, N2_e, mt16_4, mt16_20, M1_e, Y8_1_0_0, Y8_2_0_0, Y8_4_0_0, Y8_1_0_15, Y8_2_0_15, Y8_4_0_15]
theorem p_72 (A : Args F) : k0_pay192 (Y8_2_0 A 12) (Y8_2_0 A 11) (Y8_1_0 A 4) = clean1 mX mN (N2 A) 20 := by
  simp only [mX, mN, k0_pay192, k0_pay155, k0_pay178, k0_pay147, cl1_20, lo2, hi2, Y8_1_0_11, N2_e, mt16_20, mt16_4, M1_e, Y8_1_0_0, Y8_2_0_0, Y8_4_0_0, Y8_1_0_15, Y8_2_0_15, Y8_4_0_15]
theorem p_73 (A : Args F) : k0_pay193 (Y8_2_0 A 9) (Y8_2_0 A 10) (Y8_1_0 A 5) = clean1 mX mN (N2 A) 5 := by
  simp only [mX, mN, k0_pay193, k0_pay156, k0_pay177, k0_pay146, cl1_5, lo2, hi2, Y8_1_0_10, N2_e, mt16_5, mt16_21, M1_e, Y8_1_0_0, Y8_2_0_0, Y8_4_0_0, Y8_1_0_15, Y8_2_0_15, Y8_4_0_15]
theorem p_74 (A : Args F) : k0_pay194 (Y8_2_0 A 9) (Y8_2_0 A 10) (Y8_1_0 A 5) = clean1 mX mN (N2 A) 21 := by
  simp only [mX, mN, k0_pay194, k0_pay156, k0_pay177, k0_pay146, cl1_21, lo2, hi2, Y8_1_0_10, N2_e, mt16_21, mt16_5, M1_e, Y8_1_0_0, Y8_2_0_0, Y8_4_0_0, Y8_1_0_15, Y8_2_0_15, Y8_4_0_15]
theorem p_75 (A : Args F) : k0_pay195 (Y8_2_0 A 9) (Y8_2_0 A 10) (Y8_1_0 A 6) = clean1 mX mN (N2 A) 6 := by
  simp only [mX, mN, k0_pay195, k0_pay157, k0_pay176, k0_pay145, cl1_6, lo2, hi2, Y8_1_0_9, N2_e, mt16_6, mt16_22, M1_e, Y8_1_0_0, Y8_2_0_0, Y8_4_0_0, Y8_1_0_15, Y8_2_0_15, Y8_4_0_15]
theorem p_76 (A : Args F) : k0_pay196 (Y8_2_0 A 9) (Y8_2_0 A 10) (Y8_1_0 A 6) = clean1 mX mN (N2 A) 22 := by
  simp only [mX, mN, k0_pay196, k0_pay157, k0_pay176, k0_pay145, cl1_22, lo2, hi2, Y8_1_0_9, N2_e, mt16_22, mt16_6, M1_e, Y8_1_0_0, Y8_2_0_0, Y8_4_0_0, Y8_1_0_15, Y8_2_0_15, Y8_4_0_15]
theorem p_77 (A : Args F) : k0_pay197 (Y8_1_0 A 7) (Y8_1_0 A 8) = clean1 mX mN (N2 A) 7 := by
  simp only [mX, mN, k0_pay197, k0_pay158, k0_pay175, cl1_7, lo2, hi2, N2_e, mt16_7, mt16_23, M1_e, Y8_1_0_0, Y8_2_0_0, Y8_4_0_0, Y8_1_0_15, Y8_2_0_15, Y8_4_0_15]
theorem p_78 (A : Args F) : k0_pay198 (Y8_1_0 A 7) (Y8_1_0 A 8) = clean1 mX mN (N2 A) 23 := by
  simp only [mX, mN, k0_pay198, k0_pay158, k0_pay175, cl1_23, lo2, hi2, N2_e, mt16_23, mt16_7, M1_e, Y8_1_0_0, Y8_2_0_0, Y8_4_0_0, Y8_1_0_15, Y8_2_0_15, Y8_4_0_15]
theorem p_79 (A : Args F) : k0_pay199 (Y8_1_0 A 7) (Y8_1_0 A 8) = clean1 mX mN (N2 A) 8 := by
  simp only [mX, mN, k0_pay199, k0_pay159, k0_pay174, cl1_8, lo2, hi2, N2_e, mt16_8, mt16_24, M1_e, Y8_1_0_0, Y8_2_0_0, Y8_4_0_0, Y8_1_0_15, Y8_2_0_15, Y8_4_0_15]
theorem p_80 (A : Args F) : k0_pay200 (Y8_1_0 A 7) (Y8_1_0 A 8) = clean1 mX mN (N2 A) 24 := by
  simp only [mX, mN, k0_pay200, k0_pay159, k0_pay174, cl1_24, lo2, hi2, N2_e, mt16_24, mt16_8, M1_e, Y8_1_0_0, Y8_2_0_0, Y8_4_0_0, Y8_1_0_15, Y8_2_0_15, Y8_4_0_15]
theorem p_81 (A : Args F) : k0_pay201 (Y8_2_0 A 9) (Y8_2_0 A 10) (Y8_1_0 A 6) = clean1 mX mN (N2 A) 9 := by
  simp only [mX, mN, k0_pay201, k0_pay160, k0_pay145, k0_pay173, cl1_9, lo2, Y8_1_0_9, hi2, N2_e, mt16_9, mt16_25, M1_e, Y8_1_0_0, Y8_2_0_0, Y8_4_0_0, Y8_1_0_15, Y8_2_0_15, Y8_4_0_15]
theorem p_82 (A : Args F) : k0_pay202 (Y8_2_0 A 9) (Y8_2_0 A 10) (Y8_1_0 A 6) = clean1 mX mN (N2 A) 25 := by
  simp only [mX, mN, k0_pay202, k0_pay160, k0_pay145, k0_pay173, cl1_25, lo2, Y8_1_0_9, hi2, N2_e, mt16_25, mt16_9, M1_e, Y8_1_0_0, Y8_2_0_0, Y8_4_0_0, Y8_1_0_15, Y8_2_0_15, Y8_4_0_15]
theorem p_83 (A : Args F) : k0_pay203 (Y8_2_0 A 9) (Y8_2_0 A 10) (Y8_1_0 A 5) = clean1 mX mN (N2 A) 10 := by
  simp only [mX, mN, k0_pay203, k0_pay161, k0_pay146, k0_pay172, cl1_10, lo2, Y8_1_0_10, hi2, N2_e, mt16_10, mt16_26, M1_e, Y8_1_0_0, Y8_2_0_0, Y8_4_0_0, Y8_1_0_15, Y8_2_0_15, Y8_4_0_15]
theorem p_84 (A : Args F) : k0_pay204 (Y8_2_0 A 9) (Y8_2_0 A 10) (Y8_1_0 A 5) = clean1 mX mN (N2 A) 26 := by
  simp only [mX, mN, k0_pay204, k0_pay161, k0_pay146, k0_pay172, cl1_26, lo2, Y8_1_0_10, hi2, N2_e, mt16_26, mt16_10, M1_e, Y8_1_0_0, Y8_2_0_0, Y8_4_0_0, Y8_1_0_15, Y8_2_0_15, Y8_4_0_15]
theorem p_85 (A : Args F) : k0_pay229 (lo2 (M1 A 13)) (hi2 (M1 A 2)) (clean1 mX mN (N2 A) 1) (clean1 mX mN (N2 A) 5) (clean1 mX mN (N2 A) 9) = clean3 mX mN (N2 A) 5 := by
  simp only [mX, mN, k0_pay229, k0_pay212, k0_pay220, k0_pay207, cl3_5, cl2_1, cl2_5, cl1_13, N2_e, mt16_13, mt16_29, M1_e, Y8_1_0_0, Y8_2_0_0, Y8_4_0_0, Y8_1_0_15, Y8_2_0_15, Y8_4_0_15]
theorem p_86 (A : Args F) : k0_pay233 (lo2 (M1 A 11)) (lo2 (M1 A 15)) (hi2 (M1 A 0)) (hi2 (M1 A 4)) (clean1 mX mN (N2 A) 3) (clean1 mX mN (N2 A) 7) = clean3 mX mN (N2 A) 7 := by
  simp only [mX, mN, k0_pay233, k0_pay216, k0_pay205, k0_pay224, k0_pay209, cl3_7, cl2_3, cl1_11, cl2_7, cl1_15, N2_e, mt16_11, mt16_27, mt16_15, mt16_31, M1_e, Y8_1_0_0, Y8_2_0_0, Y8_4_0_0, Y8_1_0_15, Y8_2_0_15, Y8_4_0_15]
theorem p_87 (A : Args F) : k0_pay234 (lo2 (M1 A 12)) (hi2 (M1 A 3)) (clean1 mX mN (N2 A) 0) (clean1 mX mN (N2 A) 4) (clean1 mX mN (N2 A) 8) = clean3 mX mN (N2 A) 8 := by
  simp only [mX, mN, k0_pay234, k0_pay211, k0_pay219, k0_pay206, cl3_8, cl2_8, cl2_12, cl1_12, N2_e, mt16_12, mt16_28, M1_e, Y8_1_0_0, Y8_2_0_0, Y8_4_0_0, Y8_1_0_15, Y8_2_0_15, Y8_4_0_15]
theorem p_88 (A : Args F) : k0_pay235 (lo2 (M1 A 12)) (hi2 (M1 A 3)) (clean1 mX mN (N2 A) 0) (clean1 mX mN (N2 A) 4) (clean1 mX mN (N2 A) 8) = clean3 mX mN (N2 A) 12 := by
  simp only [mX, mN, k0_pay235, k0_pay211, k0_pay219, k0_pay206, cl3_12, cl2_8, cl2_12, cl1_12, N2_e, mt16_12, mt16_28, M1_e, Y8_1_0_0, Y8_2_0_0, Y8_4_0_0, Y8_1_0_15, Y8_2_0_15, Y8_4_0_15]
theorem p_89 (A : Args F) : k0_pay236 (lo2 (M1 A 13)) (hi2 (M1 A 2)) (clean1 mX mN (N2 A) 1) (clean1 mX mN (N2 A) 5) (clean1 mX mN (N2 A) 9) = clean3 mX mN (N2 A) 9 := by
  simp only [mX, mN, k0_pay236, k0_pay213, k0_pay221, k0_pay207, cl3_9, cl2_9, cl2_13, cl1_13, N2_e, mt16_13, mt16_29, M1_e, Y8_1_0_0, Y8_2_0_0, Y8_4_0_0, Y8_1_0_15, Y8_2_0_15, Y8_4_0_15]
theorem p_90 (A : Args F) : k0_pay237 (lo2 (M1 A 13)) (hi2 (M1 A 2)) (clean1 mX mN (N2 A) 1) (clean1 mX mN (N2 A) 5) (clean1 mX mN (N2 A) 9) = clean3 mX mN (N2 A) 13 := by
  simp only [mX, mN, k0_pay237, k0_pay213, k0_pay221, k0_pay207, cl3_13, cl2_9, cl2_13, cl1_13, N2_e, mt16_13, mt16_29, M1_e, Y8_1_0_0, Y8_2_0_0, Y8_4_0_0, Y8_1_0_15, Y8_2_0_15, Y8_4_0_15]
theorem p_91 (A : Args F) : k0_pay238 (lo2 (M1 A 14)) (hi2 (M1 A 1)) (clean1 mX mN (N2 A) 2) (clean1 mX mN (N2 A) 6) (clean1 mX mN (N2 A) 10) = clean3 mX mN (N2 A) 10 := by
  simp only [mX, mN, k0_pay238, k0_pay215, k0_pay223, k0_pay208, cl3_10, cl2_10, cl2_14, cl1_14, N2_e, mt16_14, mt16_30, M1_e, Y8_1_0_0, Y8_2_0_0, Y8_4_0_0, Y8_1_0_15, Y8_2_0_15, Y8_4_0_15]
theorem p_92 (A : Args F) : k0_pay239 (lo2 (M1 A 14)) (hi2 (M1 A 1)) (clean1 mX mN (N2 A) 2) (clean1 mX mN (N2 A) 6) (clean1 mX mN (N2 A) 10) = clean3 mX mN (N2 A) 14 := by
  simp only [mX, mN, k0_pay239, k0_pay215, k0_pay223, k0_pay208, cl3_14, cl2_10, cl2_14, cl1_14, N2_e, mt16_14, mt16_30, M1_e, Y8_1_0_0, Y8_2_0_0, Y8_4_0_0, Y8_1_0_15, Y8_2_0_15, Y8_4_0_15]
theorem p_93 (A : Args F) : k0_pay240 (lo2 (M1 A 11)) (lo2 (M1 A 15)) (hi2 (M1 A 0)) (hi2 (M1 A 4)) (clean1 mX mN (N2 A) 3) (clean1 mX mN (N2 A) 7) = clean3 mX mN (N2 A) 11 := by
  simp only [mX, mN, k0_pay240, k0_pay217, k0_pay205, k0_pay225, k0_pay209, cl3_11, cl2_11, cl1_11, cl2_15, cl1_15, N2_e, mt16_11, mt16_27, mt16_15, mt16_31, M1_e, Y8_1_0_0, Y8_2_0_0, Y8_4_0_0, Y8_1_0_15, Y8_2_0_15, Y8_4_0_15]
theorem p_94 (A : Args F) : k0_pay241 (lo2 (M1 A 11)) (lo2 (M1 A 15)) (hi2 (M1 A 0)) (hi2 (M1 A 4)) (clean1 mX mN (N2 A) 3) (clean1 mX mN (N2 A) 7) = clean3 mX mN (N2 A) 15 := by
  simp only [mX, mN, k0_pay241, k0_pay217, k0_pay205, k0_pay225, k0_pay209, cl3_15, cl2_11, cl1_11, cl2_15, cl1_15, N2_e, mt16_11, mt16_27, mt16_15, mt16_31, M1_e, Y8_1_0_0, Y8_2_0_0, Y8_4_0_0, Y8_1_0_15, Y8_2_0_15, Y8_4_0_15]
theorem p_95 (A : Args F) : k0_pay242 (lo2 (M1 A 12)) (hi2 (M1 A 3)) (clean1 mX mN (N2 A) 16) (clean1 mX mN (N2 A) 20) (clean1 mX mN (N2 A) 24) = clean3 mX mN (N2 A) 16 := by
  simp only [mX, mN, k0_pay242, cl3_16, cl2_16, cl2_20, cl1_28, N2_e, mt16_28, mt16_12, M1_e, Y8_1_0_0, Y8_2_0_0, Y8_4_0_0, Y8_1_0_15, Y8_2_0_15, Y8_4_0_15]
theorem p_96 (A : Args F) : k0_pay243 (lo2 (M1 A 13)) (hi2 (M1 A 2)) (clean1 mX mN (N2 A) 17) (clean1 mX mN (N2 A) 21) (clean1 mX mN (N2 A) 25) = clean3 mX mN (N2 A) 17 := by
  simp only [mX, mN, k0_pay243, cl3_17, cl2_17, cl2_21, cl1_29, N2_e, mt16_29, mt16_13, M1_e, Y8_1_0_0, Y8_2_0_0, Y8_4_0_0, Y8_1_0_15, Y8_2_0_15, Y8_4_0_15]
theorem p_97 (A : Args F) : k0_pay244 (lo2 (M1 A 14)) (hi2 (M1 A 1)) (clean1 mX mN (N2 A) 18) (clean1 mX mN (N2 A) 22) (clean1 mX mN (N2 A) 26) = clean3 mX mN (N2 A) 18 := by
  simp only [mX, mN, k0_pay244, cl3_18, cl2_18, cl2_22, cl1_30, N2_e, mt16_30, mt16_14, M1_e, Y8_1_0_0, Y8_2_0_0, Y8_4_0_0, Y8_1_0_15, Y8_2_0_15, Y8_4_0_15]
theorem p_98 (A : Args F) : k0_pay245 (lo2 (M1 A 11)) (lo2 (M1 A 15)) (hi2 (M1 A 0)) (hi2 (M1 A 4)) (clean1 mX mN (N2 A) 19) (clean1 mX mN (N2 A) 23) = clean3 mX mN (N2 A) 19 := by
  simp only [mX, mN, k0_pay245, cl3_19, cl2_19, cl1_27, cl2_23, cl1_31, N2_e, mt16_27, mt16_11, mt16_31, mt16_15, M1_e, Y8_1_0_0, Y8_2_0_0, Y8_4_0_0, Y8_1_0_15, Y8_2_0_15, Y8_4_0_15]
theorem p_99 (A : Args F) : k0_pay246 (lo2 (M1 A 12)) (lo2 (M1 A 14)) (hi2 (M1 A 1)) (hi2 (M1 A 3)) (clean1 mX mN (N2 A) 0) (clean1 mX mN (N2 A) 2) (clean1 mX mN (N2 A) 4) (clean1 mX mN (N2 A) 6) (clean1 mX mN (N2 A) 8) (clean1 mX mN (N2 A) 10) = clean4 mX mN (N2 A) 0 := by
  simp only [mX, mN, k0_pay246, k0_pay226, k0_pay210, k0_pay218, k0_pay206, k0_pay230, k0_pay214, k0_pay222, k0_pay208, cl4_0, cl3_0, cl2_0, cl2_4, cl1_12, cl3_2, cl2_2, cl2_6, cl1_14, N2_e, mt16_12, mt16_28, mt16_14, mt16_30, M1_e, Y8_1_0_0, Y8_2_0_0, Y8_4_0_0, Y8_1_0_15, Y8_2_0_15, Y8_4_0_15]
theorem p_100 (A : Args F) : k0_pay247 (lo2 (M1 A 12)) (lo2 (M1 A 14)) (hi2 (M1 A 1)) (hi2 (M1 A 3)) (clean1 mX mN (N2 A) 0) (clean1 mX mN (N2 A) 2) (clean1 mX mN (N2 A) 4) (clean1 mX mN (N2 A) 6) (clean1 mX mN (N2 A) 8) (clean1 mX mN (N2 A) 10) = clean4 mX mN (N2 A) 2 := by
  simp only [mX, mN, k0_pay247, k0_pay226, k0_pay210, k0_pay218, k0_pay206, k0_pay230, k0_pay214, k0_pay222, k0_pay208, cl4_2, cl3_0, cl2_0, cl2_4, cl1_12, cl3_2, cl2_2, cl2_6, cl1_14, N2_e, mt16_12, mt16_28, mt16_14, mt16_30, M1_e, Y8_1_0_0, Y8_2_0_0, Y8_4_0_0, Y8_1_0_15, Y8_2_0_15, Y8_4_0_15]
theorem p_101 (A : Args F) : k0_pay248 (lo2 (M1 A 11)) (lo2 (M1 A 13)) (lo2 (M1 A 15)) (hi2 (M1 A 0)) (hi2 (M1 A 2)) (hi2 (M1 A 4)) (clean1 mX mN (N2 A) 1) (clean1 mX mN (N2 A) 3) (clean1 mX mN (N2 A) 5) (clean1 mX mN (N2 A) 7) (clean1 mX mN (N2 A) 9) = clean4 mX mN (N2 A) 1 := by
  simp only [mX, mN, k0_pay248, k0_pay228, k0_pay212, k0_pay220, k0_pay207, k0_pay232, k0_pay216, k0_pay205, k0_pay224, k0_pay209, cl4_1, cl3_1, cl2_1, cl2_5, cl1_13, cl3_3, cl2_3, cl1_11, cl2_7, cl1_15, N2_e, mt16_13, mt16_29, mt16_11, mt16_27, mt16_15, mt16_31, M1_e, Y8_1_0_0, Y8_2_0_0, Y8_4_0_0, Y8_1_0_15, Y8_2_0_15, Y8_4_0_15]
theorem p_102 (A : Args F) : k0_pay249 (lo2 (M1 A 11)) (lo2 (M1 A 13)) (lo2 (M1 A 15)) (hi2 (M1 A 0)) (hi2 (M1 A 2)) (hi2 (M1 A 4)) (clean1 mX mN (N2 A) 1) (clean1 mX mN (N2 A) 3) (clean1 mX mN (N2 A) 5) (clean1 mX mN (N2 A) 7) (clean1 mX mN (N2 A) 9) = clean4 mX mN (N2 A) 3 := by
  simp only [mX, mN, k0_pay249, k0_pay228, k0_pay212, k0_pay220, k0_pay207, k0_pay232, k0_pay216, k0_pay205, k0_pay224, k0_pay209, cl4_3, cl3_1, cl2_1, cl2_5, cl1_13, cl3_3, cl2_3, cl1_11, cl2_7, cl1_15, N2_e, mt16_13, mt16_29, mt16_11, mt16_27, mt16_15, mt16_31, M1_e, Y8_1_0_0, Y8_2_0_0, Y8_4_0_0, Y8_1_0_15, Y8_2_0_15, Y8_4_0_15]
theorem p_103 (A : Args F) : k0_pay250 (lo2 (M1 A 12)) (lo2 (M1 A 14)) (hi2 (M1 A 1)) (hi2 (M1 A 3)) (clean1 mX mN (N2 A) 0) (clean1 mX mN (N2 A) 2) (clean1 mX mN (N2 A) 4) (clean1 mX mN (N2 A) 6) (clean1 mX mN (N2 A) 8) (clean1 mX mN (N2 A) 10) = clean4 mX mN (N2 A) 4 := by
  simp only [mX, mN, k0_pay250, k0_pay227, k0_pay210, k0_pay218, k0_pay206, k0_pay231, k0_pay214, k0_pay222, k0_pay208, cl4_4, cl3_4, cl2_0, cl2_4, cl1_12, cl3_6, cl2_2, cl2_6, cl1_14, N2_e, mt16_12, mt16_28, mt16_14, mt16_30, M1_e, Y8_1_0_0, Y8_2_0_0, Y8_4_0_0, Y8_1_0_15, Y8_2_0_15, Y8_4_0_15]
theorem p_104 (A : Args F) : k0_pay251 (lo2 (M1 A 12)) (lo2 (M1 A 14)) (hi2 (M1 A 1)) (hi2 (M1 A 3)) (clean1 mX mN (N2 A) 0) (clean1 mX mN (N2 A) 2) (clean1 mX mN (N2 A) 4) (clean1 mX mN (N2 A) 6) (clean1 mX mN (N2 A) 8) (clean1 mX mN (N2 A) 10) = clean4 mX mN (N2 A) 6 := by
  simp only [mX, mN, k0_pay251, k0_pay227, k0_pay210, k0_pay218, k0_pay206, k0_pay231, k0_pay214, k0_pay222, k0_pay208, cl4_6, cl3_4, cl2_0, cl2_4, cl1_12, cl3_6, cl2_2, cl2_6, cl1_14, N2_e, mt16_12, mt16_28, mt16_14, mt16_30, M1_e, Y8_1_0_0, Y8_2_0_0, Y8_4_0_0, Y8_1_0_15, Y8_2_0_15, Y8_4_0_15]
theorem p_105 (A : Args F) : k0_pay272 (clean3 mX mN (N2 A) 5) (clean3 mX mN (N2 A) 7) (clean4 mX mN (N2 A) 6) = M2 A 6 := by
  simp only [mX, mN, k0_pay272, k0_pay253, cl5_6, M2_e, cl4_7]
theorem p_106 (A : Args F) : k0_pay273 (clean3 mX mN (N2 A) 5) (clean3 mX mN (N2 A) 7) (clean4 mX mN (N2 A) 6) = M2 A 7 := by
  simp only [mX, mN, k0_pay273, k0_pay253, cl5_7, M2_e, cl4_7]
theorem p_107 (A : Args F) : k0_pay274 (clean3 mX mN (N2 A) 8) (clean3 mX mN (N2 A) 9) (clean3 mX mN (N2 A) 10) (clean3 mX mN (N2 A) 11) = M2 A 8 := by
  simp only [mX, mN, k0_pay274, k0_pay254, k0_pay256, cl5_8, M2_e, cl4_8, cl4_9]
theorem p_108 (A : Args F) : k0_pay275 (clean3 mX mN (N2 A) 8) (clean3 mX mN (N2 A) 9) (clean3 mX mN (N2 A) 10) (clean3 mX mN (N2 A) 11) = M2 A 9 := by
  simp only [mX, mN, k0_pay275, k0_pay254, k0_pay256, cl5_9, M2_e, cl4_8, cl4_9]
theorem p_109 (A : Args F) : k0_pay276 (clean3 mX mN (N2 A) 8) (clean3 mX mN (N2 A) 9) (clean3 mX mN (N2 A) 10) (clean3 mX mN (N2 A) 11) = M2 A 10 := by
  simp only [mX, mN, k0_pay276, k0_pay255, k0_pay257, cl5_10, M2_e, cl4_10, cl4_11]
theorem p_110 (A : Args F) : k0_pay277 (clean3 mX mN (N2 A) 8) (clean3 mX mN (N2 A) 9) (clean3 mX mN (N2 A) 10) (clean3 mX mN (N2 A) 11) = M2 A 11 := by
  simp only [mX, mN, k0_pay277, k0_pay255, k0_pay257, cl5_11, M2_e, cl4_10, cl4_11]
theorem p_111 (A : Args F) : k0_pay278 (clean3 mX mN (N2 A) 12) (clean3 mX mN (N2 A) 13) (clean3 mX mN (N2 A) 14) (clean3 mX mN (N2 A) 15) = M2 A 12 := by
  simp only [mX, mN, k0_pay278, k0_pay258, k0_pay260, cl5_12, M2_e, cl4_12, cl4_13]
theorem p_112 (A : Args F) : k0_pay279 (clean3 mX mN (N2 A) 12) (clean3 mX mN (N2 A) 13) (clean3 mX mN (N2 A) 14) (clean3 mX mN (N2 A) 15) = M2 A 13 := by
  simp only [mX, mN, k0_pay279, k0_pay258, k0_pay260, cl5_13, M2_e, cl4_12, cl4_13]
theorem p_113 (A : Args F) : k0_pay280 (clean3 mX mN (N2 A) 12) (clean3 mX mN (N2 A) 13) (clean3 mX mN (N2 A) 14) (clean3 mX mN (N2 A) 15) = M2 A 14 := by
  simp only [mX, mN, k0_pay280, k0_pay259, k0_pay261, cl5_14, M2_e, cl4_14, cl4_15]
theorem p_114 (A : Args F) : k0_pay281 (clean3 mX mN (N2 A) 12) (clean3 mX mN (N2 A) 13) (clean3 mX mN (N2 A) 14) (clean3 mX mN (N2 A) 15) = M2 A 15 := by
  simp only [mX, mN, k0_pay281, k0_pay259, k0_pay261, cl5_15, M2_e, cl4_14, cl4_15]
theorem p_115 (A : Args F) : k0_pay282 (clean3 mX mN (N2 A) 16) (clean3 mX mN (N2 A) 17) (clean3 mX mN (N2 A) 18) (clean3 mX mN (N2 A) 19) = M2 A 16 := by
  simp only [mX, mN, k0_pay282, k0_pay262, k0_pay264, cl5_16, M2_e, cl4_16, cl4_17]
theorem p_116 (A : Args F) : k0_pay283 (clean3 mX mN (N2 A) 16) (clean3 mX mN (N2 A) 17) (clean3 mX mN (N2 A) 18) (clean3 mX mN (N2 A) 19) = M2 A 17 := by
  simp only [mX, mN, k0_pay283, k0_pay262, k0_pay264, cl5_17, M2_e, cl4_16, cl4_17]
theorem p_117 (A : Args F) : k0_pay284 (clean3 mX mN (N2 A) 16) (clean3 mX mN (N2 A) 17) (clean3 mX mN (N2 A) 18) (clean3 mX mN (N2 A) 19) = M2 A 18 := by
  simp only [mX, mN, k0_pay284, k0_pay263, k0_pay265, cl5_18, M2_e, cl4_18, cl4_19]
theorem p_118 (A : Args F) : k0_pay285 (clean3 mX mN (N2 A) 16) (clean3 mX mN (N2 A) 17) (clean3 mX mN (N2 A) 18) (clean3 mX mN (N2 A) 19) = M2 A 19 := by
  simp only [mX, mN, k0_pay285, k0_pay263, k0_pay265, cl5_19, M2_e, cl4_18, cl4_19]
theorem p_119 (A : Args F) : k0_pay286 (clean4 mX mN (N2 A) 0) (clean4 mX mN (N2 A) 1) = lo3 (M2 A 0) := by
  simp only [mX, mN, k0_pay286, k0_pay266, lo3, cl5_0, M2_e]
theorem p_120 (A : Args F) : k0_pay287 (clean4 mX mN (N2 A) 0) (clean4 mX mN (N2 A) 1) = lo3 (M2 A 1) := by
  simp only [mX, mN, k0_pay287, k0_pay267, lo3, cl5_1, M2_e]
theorem p_121 (A : Args F) : k0_pay288 (clean4 mX mN (N2 A) 2) (clean4 mX mN (N2 A) 3) = lo3 (M2 A 2) := by
  simp only [mX, mN, k0_pay288, k0_pay268, lo3, cl5_2, M2_e]
theorem p_122 (A : Args F) : k0_pay289 (clean4 mX mN (N2 A) 2) (clean4 mX mN (N2 A) 3) = lo3 (M2 A 3) := by
  simp only [mX, mN, k0_pay289, k0_pay269, lo3, cl5_3, M2_e]
theorem p_123 (A : Args F) : k0_pay290 (clean3 mX mN (N2 A) 5) (clean3 mX mN (N2 A) 7) (clean4 mX mN (N2 A) 4) = lo3 (M2 A 4) := by
  simp only [mX, mN, k0_pay290, k0_pay270, k0_pay252, lo3, cl5_4, M2_e, cl4_5]
theorem p_124 (A : Args F) : k0_pay291 (clean3 mX mN (N2 A) 5) (clean3 mX mN (N2 A) 7) (clean4 mX mN (N2 A) 4) = lo3 (M2 A 5) := by
  simp only [mX, mN, k0_pay291, k0_pay271, k0_pay252, lo3, cl5_5, M2_e, cl4_5]
theorem p_125 (A : Args F) : k0_pay292 (clean3 mX mN (N2 A) 5) (clean3 mX mN (N2 A) 7) (clean4 mX mN (N2 A) 6) = lo3 (M2 A 6) := by
  simp only [mX, mN, k0_pay292, k0_pay272, k0_pay253, lo3, cl5_6, M2_e, cl4_7]
theorem p_126 (A : Args F) : k0_pay293 (clean3 mX mN (N2 A) 5) (clean3 mX mN (N2 A) 7) (clean4 mX mN (N2 A) 6) = lo3 (M2 A 7) := by
  simp only [mX, mN, k0_pay293, k0_pay273, k0_pay253, lo3, cl5_7, M2_e, cl4_7]
theorem p_127 (A : Args F) : k0_pay294 (clean3 mX mN (N2 A) 8) (clean3 mX mN (N2 A) 9) (clean3 mX mN (N2 A) 10) (clean3 mX mN (N2 A) 11) = lo3 (M2 A 8) := by
  simp only [mX, mN, k0_pay294, k0_pay274, k0_pay254, k0_pay256, lo3, cl5_8, M2_e, cl4_8, cl4_9]
theorem p_128 (A : Args F) : k0_pay295 (clean3 mX mN (N2 A) 8) (clean3 mX mN (N2 A) 9) (clean3 mX mN (N2 A) 10) (clean3 mX mN (N2 A) 11) = lo3 (M2 A 9) := by
  simp only [mX, mN, k0_pay295, k0_pay275, k0_pay254, k0_pay256, lo3, cl5_9, M2_e, cl4_8, cl4_9]
theorem p_129 (A : Args F) : k0_pay296 (clean3 mX mN (N2 A) 8) (clean3 mX mN (N2 A) 9) (clean3 mX mN (N2 A) 10) (clean3 mX mN (N2 A) 11) = lo3 (M2 A 10) := by
  simp only [mX, mN, k0_pay296, k0_pay276, k0_pay255, k0_pay257, lo3, cl5_10, M2_e, cl4_10, cl4_11]
theorem p_130 (A : Args F) : k0_pay297 (clean3 mX mN (N2 A) 8) (clean3 mX mN (N2 A) 9) (clean3 mX mN (N2 A) 10) (clean3 mX mN (N2 A) 11) = lo3 (M2 A 11) := by
  simp only [mX, mN, k0_pay297, k0_pay277, k0_pay255, k0_pay257, lo3, cl5_11, M2_e, cl4_10, cl4_11]
theorem p_131 (A : Args F) : k0_pay298 (clean3 mX mN (N2 A) 12) (clean3 mX mN (N2 A) 13) (clean3 mX mN (N2 A) 14) (clean3 mX mN (N2 A) 15) = lo3 (M2 A 12) := by
  simp only [mX, mN, k0_pay298, k0_pay278, k0_pay258, k0_pay260, lo3, cl5_12, M2_e, cl4_12, cl4_13]
theorem p_132 (A : Args F) : k0_pay299 (clean3 mX mN (N2 A) 12) (clean3 mX mN (N2 A) 13) (clean3 mX mN (N2 A) 14) (clean3 mX mN (N2 A) 15) = lo3 (M2 A 13) := by
  simp only [mX, mN, k0_pay299, k0_pay279, k0_pay258, k0_pay260, lo3, cl5_13, M2_e, cl4_12, cl4_13]

end Cert.Proof

end

end
-- ==== Proof.Steps3.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_133 (A : Args F) : k0_pay300 (clean3 mX mN (N2 A) 12) (clean3 mX mN (N2 A) 13) (clean3 mX mN (N2 A) 14) (clean3 mX mN (N2 A) 15) = lo3 (M2 A 14) := by
  simp only [mX, mN, k0_pay300, k0_pay280, k0_pay259, k0_pay261, lo3, cl5_14, M2_e, cl4_14, cl4_15]
theorem p_134 (A : Args F) : k0_pay301 (clean3 mX mN (N2 A) 12) (clean3 mX mN (N2 A) 13) (clean3 mX mN (N2 A) 14) (clean3 mX mN (N2 A) 15) = lo3 (M2 A 15) := by
  simp only [mX, mN, k0_pay301, k0_pay281, k0_pay259, k0_pay261, lo3, cl5_15, M2_e, cl4_14, cl4_15]
theorem p_135 (A : Args F) : k0_pay302 (clean3 mX mN (N2 A) 16) (clean3 mX mN (N2 A) 17) (clean3 mX mN (N2 A) 18) (clean3 mX mN (N2 A) 19) = lo3 (M2 A 16) := by
  simp only [mX, mN, k0_pay302, k0_pay282, k0_pay262, k0_pay264, lo3, cl5_16, M2_e, cl4_16, cl4_17]
theorem p_136 (A : Args F) : k0_pay303 (clean3 mX mN (N2 A) 16) (clean3 mX mN (N2 A) 17) (clean3 mX mN (N2 A) 18) (clean3 mX mN (N2 A) 19) = lo3 (M2 A 17) := by
  simp only [mX, mN, k0_pay303, k0_pay283, k0_pay262, k0_pay264, lo3, cl5_17, M2_e, cl4_16, cl4_17]
theorem p_137 (A : Args F) : k0_pay304 (clean3 mX mN (N2 A) 16) (clean3 mX mN (N2 A) 17) (clean3 mX mN (N2 A) 18) (clean3 mX mN (N2 A) 19) = lo3 (M2 A 18) := by
  simp only [mX, mN, k0_pay304, k0_pay284, k0_pay263, k0_pay265, lo3, cl5_18, M2_e, cl4_18, cl4_19]
theorem p_138 (A : Args F) : k0_pay305 (clean3 mX mN (N2 A) 16) (clean3 mX mN (N2 A) 17) (clean3 mX mN (N2 A) 18) (clean3 mX mN (N2 A) 19) = lo3 (M2 A 19) := by
  simp only [mX, mN, k0_pay305, k0_pay285, k0_pay263, k0_pay265, lo3, cl5_19, M2_e, cl4_18, cl4_19]
theorem p_139 (A : Args F) : k0_pay306 (clean4 mX mN (N2 A) 0) (clean4 mX mN (N2 A) 1) = hi3 (M2 A 0) := by
  simp only [mX, mN, k0_pay306, k0_pay266, hi3, cl5_0, M2_e]
theorem p_140 (A : Args F) : k0_pay307 (clean4 mX mN (N2 A) 0) (clean4 mX mN (N2 A) 1) = hi3 (M2 A 1) := by
  simp only [mX, mN, k0_pay307, k0_pay267, hi3, cl5_1, M2_e]
theorem p_141 (A : Args F) : k0_pay308 (clean4 mX mN (N2 A) 2) (clean4 mX mN (N2 A) 3) = hi3 (M2 A 2) := by
  simp only [mX, mN, k0_pay308, k0_pay268, hi3, cl5_2, M2_e]
theorem p_142 (A : Args F) : k0_pay309 (clean4 mX mN (N2 A) 2) (clean4 mX mN (N2 A) 3) = hi3 (M2 A 3) := by
  simp only [mX, mN, k0_pay309, k0_pay269, hi3, cl5_3, M2_e]
theorem p_143 (A : Args F) : k0_pay310 (clean3 mX mN (N2 A) 5) (clean3 mX mN (N2 A) 7) (clean4 mX mN (N2 A) 4) = hi3 (M2 A 4) := by
  simp only [mX, mN, k0_pay310, k0_pay270, k0_pay252, hi3, cl5_4, M2_e, cl4_5]
theorem p_144 (A : Args F) : k0_pay311 (clean3 mX mN (N2 A) 5) (clean3 mX mN (N2 A) 7) (clean4 mX mN (N2 A) 4) = hi3 (M2 A 5) := by
  simp only [mX, mN, k0_pay311, k0_pay271, k0_pay252, hi3, cl5_5, M2_e, cl4_5]
theorem p_145 (A : Args F) : k0_pay327 (M2 A 15) (lo3 (M2 A 0)) (lo3 (M2 A 16)) = clean1 mX mN (N3 A) 16 := by
  simp only [mX, mN, k0_pay327, k0_pay322, cl1_16, N3_e, mt20_16, hi3, mt20_0]
theorem p_146 (A : Args F) : k0_pay329 (M2 A 14) (lo3 (M2 A 1)) (lo3 (M2 A 17)) = clean1 mX mN (N3 A) 17 := by
  simp only [mX, mN, k0_pay329, k0_pay323, cl1_17, N3_e, mt20_17, hi3, mt20_1]
theorem p_147 (A : Args F) : k0_pay331 (M2 A 13) (lo3 (M2 A 2)) (lo3 (M2 A 18)) = clean1 mX mN (N3 A) 18 := by
  simp only [mX, mN, k0_pay331, k0_pay324, cl1_18, N3_e, mt20_18, hi3, mt20_2]
theorem p_148 (A : Args F) : k0_pay332 (M2 A 12) (lo3 (M2 A 3)) (lo3 (M2 A 19)) = clean1 mX mN (N3 A) 3 := by
  simp only [mX, mN, k0_pay332, k0_pay325, cl1_3, N3_e, mt20_19, hi3, mt20_3]
theorem p_149 (A : Args F) : k0_pay333 (M2 A 12) (lo3 (M2 A 3)) (lo3 (M2 A 19)) = clean1 mX mN (N3 A) 19 := by
  simp only [mX, mN, k0_pay333, k0_pay325, cl1_19, N3_e, mt20_19, hi3, mt20_3]
theorem p_150 (A : Args F) : k0_pay334 (M2 A 11) (lo3 (M2 A 4)) = clean1 mX mN (N3 A) 4 := by
  simp only [mX, mN, k0_pay334, k0_pay317, cl1_4, hi3, N3_e, mt20_4, mt20_20]
theorem p_151 (A : Args F) : k0_pay335 (M2 A 11) (lo3 (M2 A 4)) = clean1 mX mN (N3 A) 20 := by
  simp only [mX, mN, k0_pay335, k0_pay317, cl1_20, hi3, N3_e, mt20_20, mt20_4]
theorem p_152 (A : Args F) : k0_pay336 (M2 A 10) (lo3 (M2 A 5)) = clean1 mX mN (N3 A) 5 := by
  simp only [mX, mN, k0_pay336, k0_pay316, cl1_5, hi3, N3_e, mt20_5, mt20_21]
theorem p_153 (A : Args F) : k0_pay337 (M2 A 10) (lo3 (M2 A 5)) = clean1 mX mN (N3 A) 21 := by
  simp only [mX, mN, k0_pay337, k0_pay316, cl1_21, hi3, N3_e, mt20_21, mt20_5]
theorem p_154 (A : Args F) : k0_pay338 (M2 A 9) (lo3 (M2 A 6)) = clean1 mX mN (N3 A) 6 := by
  simp only [mX, mN, k0_pay338, k0_pay315, cl1_6, hi3, N3_e, mt20_6, mt20_22]
theorem p_155 (A : Args F) : k0_pay339 (M2 A 9) (lo3 (M2 A 6)) = clean1 mX mN (N3 A) 22 := by
  simp only [mX, mN, k0_pay339, k0_pay315, cl1_22, hi3, N3_e, mt20_22, mt20_6]
theorem p_156 (A : Args F) : k0_pay340 (M2 A 8) (lo3 (M2 A 7)) = clean1 mX mN (N3 A) 7 := by
  simp only [mX, mN, k0_pay340, k0_pay314, cl1_7, hi3, N3_e, mt20_7, mt20_23]
theorem p_157 (A : Args F) : k0_pay341 (M2 A 8) (lo3 (M2 A 7)) = clean1 mX mN (N3 A) 23 := by
  simp only [mX, mN, k0_pay341, k0_pay314, cl1_23, hi3, N3_e, mt20_23, mt20_7]
theorem p_158 (A : Args F) : k0_pay343 (M2 A 7) (lo3 (M2 A 8)) = clean1 mX mN (N3 A) 24 := by
  simp only [mX, mN, k0_pay343, k0_pay313, cl1_24, hi3, N3_e, mt20_24, mt20_8]
theorem p_159 (A : Args F) : k0_pay345 (M2 A 6) (lo3 (M2 A 9)) = clean1 mX mN (N3 A) 25 := by
  simp only [mX, mN, k0_pay345, k0_pay312, cl1_25, hi3, N3_e, mt20_25, mt20_9]
theorem p_160 (A : Args F) : k0_pay347 (lo3 (M2 A 10)) (hi3 (M2 A 5)) = clean1 mX mN (N3 A) 26 := by
  simp only [mX, mN, k0_pay347, cl1_26, N3_e, mt20_26, mt20_10]
theorem p_161 (A : Args F) : k0_pay348 (lo3 (M2 A 11)) (hi3 (M2 A 4)) = clean1 mX mN (N3 A) 11 := by
  simp only [mX, mN, k0_pay348, cl1_11, N3_e, mt20_11, mt20_27]
theorem p_162 (A : Args F) : k0_pay349 (lo3 (M2 A 11)) (hi3 (M2 A 4)) = clean1 mX mN (N3 A) 27 := by
  simp only [mX, mN, k0_pay349, cl1_27, N3_e, mt20_27, mt20_11]
theorem p_163 (A : Args F) : k0_pay350 (M2 A 19) (lo3 (M2 A 12)) (hi3 (M2 A 3)) = clean1 mX mN (N3 A) 12 := by
  simp only [mX, mN, k0_pay350, k0_pay318, cl1_12, N3_e, mt20_12, hi3, mt20_28]
theorem p_164 (A : Args F) : k0_pay351 (M2 A 19) (lo3 (M2 A 12)) (hi3 (M2 A 3)) = clean1 mX mN (N3 A) 28 := by
  simp only [mX, mN, k0_pay351, k0_pay318, cl1_28, N3_e, mt20_12, hi3, mt20_28]
theorem p_165 (A : Args F) : k0_pay352 (M2 A 18) (lo3 (M2 A 13)) (hi3 (M2 A 2)) = clean1 mX mN (N3 A) 13 := by
  simp only [mX, mN, k0_pay352, k0_pay319, cl1_13, N3_e, mt20_13, hi3, mt20_29]
theorem p_166 (A : Args F) : k0_pay353 (M2 A 18) (lo3 (M2 A 13)) (hi3 (M2 A 2)) = clean1 mX mN (N3 A) 29 := by
  simp only [mX, mN, k0_pay353, k0_pay319, cl1_29, N3_e, mt20_13, hi3, mt20_29]
theorem p_167 (A : Args F) : k0_pay354 (M2 A 17) (lo3 (M2 A 14)) (hi3 (M2 A 1)) = clean1 mX mN (N3 A) 14 := by
  simp only [mX, mN, k0_pay354, k0_pay320, cl1_14, N3_e, mt20_14, hi3, mt20_30]
theorem p_168 (A : Args F) : k0_pay355 (M2 A 17) (lo3 (M2 A 14)) (hi3 (M2 A 1)) = clean1 mX mN (N3 A) 30 := by
  simp only [mX, mN, k0_pay355, k0_pay320, cl1_30, N3_e, mt20_14, hi3, mt20_30]
theorem p_169 (A : Args F) : k0_pay356 (M2 A 16) (lo3 (M2 A 15)) (hi3 (M2 A 0)) = clean1 mX mN (N3 A) 15 := by
  simp only [mX, mN, k0_pay356, k0_pay321, cl1_15, N3_e, mt20_15, hi3, mt20_31]
theorem p_170 (A : Args F) : k0_pay357 (M2 A 16) (lo3 (M2 A 15)) (hi3 (M2 A 0)) = clean1 mX mN (N3 A) 31 := by
  simp only [mX, mN, k0_pay357, k0_pay321, cl1_31, N3_e, mt20_15, hi3, mt20_31]
theorem p_171 (A : Args F) : k0_pay358 (M2 A 7) (M2 A 15) (lo3 (M2 A 0)) (lo3 (M2 A 8)) (lo3 (M2 A 16)) = clean2 mX mN (N3 A) 0 := by
  simp only [mX, mN, k0_pay358, k0_pay326, k0_pay322, k0_pay342, k0_pay313, cl2_0, cl1_0, N3_e, mt20_16, hi3, cl1_8, mt20_0, mt20_8, mt20_24]
theorem p_172 (A : Args F) : k0_pay359 (M2 A 7) (M2 A 15) (lo3 (M2 A 0)) (lo3 (M2 A 8)) (lo3 (M2 A 16)) = clean2 mX mN (N3 A) 8 := by
  simp only [mX, mN, k0_pay359, k0_pay326, k0_pay322, k0_pay342, k0_pay313, cl2_8, cl1_0, N3_e, mt20_16, hi3, cl1_8, mt20_0, mt20_8, mt20_24]
theorem p_173 (A : Args F) : k0_pay360 (M2 A 6) (M2 A 14) (lo3 (M2 A 1)) (lo3 (M2 A 9)) (lo3 (M2 A 17)) = clean2 mX mN (N3 A) 1 := by
  simp only [mX, mN, k0_pay360, k0_pay328, k0_pay323, k0_pay344, k0_pay312, cl2_1, cl1_1, N3_e, mt20_17, hi3, cl1_9, mt20_1, mt20_9, mt20_25]
theorem p_174 (A : Args F) : k0_pay361 (M2 A 6) (M2 A 14) (lo3 (M2 A 1)) (lo3 (M2 A 9)) (lo3 (M2 A 17)) = clean2 mX mN (N3 A) 9 := by
  simp only [mX, mN, k0_pay361, k0_pay328, k0_pay323, k0_pay344, k0_pay312, cl2_9, cl1_1, N3_e, mt20_17, hi3, cl1_9, mt20_1, mt20_9, mt20_25]
theorem p_175 (A : Args F) : k0_pay362 (M2 A 13) (lo3 (M2 A 2)) (lo3 (M2 A 10)) (lo3 (M2 A 18)) (hi3 (M2 A 5)) = clean2 mX mN (N3 A) 2 := by
  simp only [mX, mN, k0_pay362, k0_pay330, k0_pay324, k0_pay346, cl2_2, cl1_2, N3_e, mt20_18, hi3, cl1_10, mt20_2, mt20_10, mt20_26]
theorem p_176 (A : Args F) : k0_pay363 (M2 A 13) (lo3 (M2 A 2)) (lo3 (M2 A 10)) (lo3 (M2 A 18)) (hi3 (M2 A 5)) = clean2 mX mN (N3 A) 10 := by
  simp only [mX, mN, k0_pay363, k0_pay330, k0_pay324, k0_pay346, cl2_10, cl1_2, N3_e, mt20_18, hi3, cl1_10, mt20_2, mt20_10, mt20_26]
theorem p_177 (A : Args F) : k0_pay395 (clean1 mX mN (N3 A) 4) (clean1 mX mN (N3 A) 6) (clean1 mX mN (N3 A) 12) (clean1 mX mN (N3 A) 14) (clean2 mX mN (N3 A) 0) (clean2 mX mN (N3 A) 2) = clean4 mX mN (N3 A) 2 := by
  simp only [mX, mN, k0_pay395, k0_pay374, k0_pay366, k0_pay378, k0_pay370, cl4_2, cl3_0, cl2_4, cl3_2, cl2_6]
theorem p_178 (A : Args F) : k0_pay397 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 1) = clean4 mX mN (N3 A) 3 := by
  simp only [mX, mN, k0_pay397, k0_pay376, k0_pay368, k0_pay380, k0_pay364, k0_pay372, cl4_3, cl3_1, cl2_5, cl3_3, cl2_3, cl2_7]
theorem p_179 (A : Args F) : k0_pay398 (clean1 mX mN (N3 A) 4) (clean1 mX mN (N3 A) 6) (clean1 mX mN (N3 A) 12) (clean1 mX mN (N3 A) 14) (clean2 mX mN (N3 A) 0) (clean2 mX mN (N3 A) 2) = clean4 mX mN (N3 A) 4 := by
  simp only [mX, mN, k0_pay398, k0_pay375, k0_pay366, k0_pay379, k0_pay370, cl4_4, cl3_4, cl2_4, cl3_6, cl2_6]
theorem p_180 (A : Args F) : k0_pay399 (clean1 mX mN (N3 A) 4) (clean1 mX mN (N3 A) 6) (clean1 mX mN (N3 A) 12) (clean1 mX mN (N3 A) 14) (clean2 mX mN (N3 A) 0) (clean2 mX mN (N3 A) 2) = clean4 mX mN (N3 A) 6 := by
  simp only [mX, mN, k0_pay399, k0_pay375, k0_pay366, k0_pay379, k0_pay370, cl4_6, cl3_4, cl2_4, cl3_6, cl2_6]
theorem p_181 (A : Args F) : k0_pay400 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 1) = clean4 mX mN (N3 A) 5 := by
  simp only [mX, mN, k0_pay400, k0_pay377, k0_pay368, k0_pay381, k0_pay364, k0_pay372, cl4_5, cl3_5, cl2_5, cl3_7, cl2_3, cl2_7]
theorem p_182 (A : Args F) : k0_pay401 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 1) = clean4 mX mN (N3 A) 7 := by
  simp only [mX, mN, k0_pay401, k0_pay377, k0_pay368, k0_pay381, k0_pay364, k0_pay372, cl4_7, cl3_5, cl2_5, cl3_7, cl2_3, cl2_7]
theorem p_183 (A : Args F) : k0_pay402 (clean1 mX mN (N3 A) 4) (clean1 mX mN (N3 A) 6) (clean1 mX mN (N3 A) 12) (clean1 mX mN (N3 A) 14) (clean2 mX mN (N3 A) 8) (clean2 mX mN (N3 A) 10) = clean4 mX mN (N3 A) 8 := by
  simp only [mX, mN, k0_pay402, k0_pay382, k0_pay367, k0_pay386, k0_pay371, cl4_8, cl3_8, cl2_12, cl3_10, cl2_14]
theorem p_184 (A : Args F) : k0_pay403 (clean1 mX mN (N3 A) 4) (clean1 mX mN (N3 A) 6) (clean1 mX mN (N3 A) 12) (clean1 mX mN (N3 A) 14) (clean2 mX mN (N3 A) 8) (clean2 mX mN (N3 A) 10) = clean4 mX mN (N3 A) 10 := by
  simp only [mX, mN, k0_pay403, k0_pay382, k0_pay367, k0_pay386, k0_pay371, cl4_10, cl3_8, cl2_12, cl3_10, cl2_14]
theorem p_185 (A : Args F) : k0_pay404 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 9) = clean4 mX mN (N3 A) 9 := by
  simp only [mX, mN, k0_pay404, k0_pay384, k0_pay369, k0_pay388, k0_pay365, k0_pay373, cl4_9, cl3_9, cl2_13, cl3_11, cl2_11, cl2_15]
theorem p_186 (A : Args F) : k0_pay405 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 9) = clean4 mX mN (N3 A) 11 := by
  simp only [mX, mN, k0_pay405, k0_pay384, k0_pay369, k0_pay388, k0_pay365, k0_pay373, cl4_11, cl3_9, cl2_13, cl3_11, cl2_11, cl2_15]
theorem p_187 (A : Args F) : k0_pay406 (clean1 mX mN (N3 A) 4) (clean1 mX mN (N3 A) 6) (clean1 mX mN (N3 A) 12) (clean1 mX mN (N3 A) 14) (clean2 mX mN (N3 A) 8) (clean2 mX mN (N3 A) 10) = clean4 mX mN (N3 A) 12 := by
  simp only [mX, mN, k0_pay406, k0_pay383, k0_pay367, k0_pay387, k0_pay371, cl4_12, cl3_12, cl2_12, cl3_14, cl2_14]
theorem p_188 (A : Args F) : k0_pay407 (clean1 mX mN (N3 A) 4) (clean1 mX mN (N3 A) 6) (clean1 mX mN (N3 A) 12) (clean1 mX mN (N3 A) 14) (clean2 mX mN (N3 A) 8) (clean2 mX mN (N3 A) 10) = clean4 mX mN (N3 A) 14 := by
  simp only [mX, mN, k0_pay407, k0_pay383, k0_pay367, k0_pay387, k0_pay371, cl4_14, cl3_12, cl2_12, cl3_14, cl2_14]
theorem p_189 (A : Args F) : k0_pay408 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 9) = clean4 mX mN (N3 A) 13 := by
  simp only [mX, mN, k0_pay408, k0_pay385, k0_pay369, k0_pay389, k0_pay365, k0_pay373, cl4_13, cl3_13, cl2_13, cl3_15, cl2_11, cl2_15]
theorem p_190 (A : Args F) : k0_pay409 (clean1 mX mN (N3 A) 3) (clean1 mX mN (N3 A) 5) (clean1 mX mN (N3 A) 7) (clean1 mX mN (N3 A) 11) (clean1 mX mN (N3 A) 13) (clean1 mX mN (N3 A) 15) (clean2 mX mN (N3 A) 9) = clean4 mX mN (N3 A) 15 := by
  simp only [mX, mN, k0_pay409, k0_pay385, k0_pay369, k0_pay389, k0_pay365, k0_pay373, cl4_15, cl3_13, cl2_13, cl3_15, cl2_11, cl2_15]
theorem p_191 (A : Args F) : k0_pay410 (clean1 mX mN (N3 A) 16) (clean1 mX mN (N3 A) 18) (clean1 mX mN (N3 A) 20) (clean1 mX mN (N3 A) 22) (clean1 mX mN (N3 A) 24) (clean1 mX mN (N3 A) 26) (clean1 mX mN (N3 A) 28) (clean1 mX mN (N3 A) 30) = clean4 mX mN (N3 A) 16 := by
  simp only [mX, mN, k0_pay410, k0_pay390, k0_pay392, cl4_16, cl3_16, cl2_16, cl2_20, cl3_18, cl2_18, cl2_22]
theorem p_192 (A : Args F) : k0_pay411 (clean1 mX mN (N3 A) 16) (clean1 mX mN (N3 A) 18) (clean1 mX mN (N3 A) 20) (clean1 mX mN (N3 A) 22) (clean1 mX mN (N3 A) 24) (clean1 mX mN (N3 A) 26) (clean1 mX mN (N3 A) 28) (clean1 mX mN (N3 A) 30) = clean4 mX mN (N3 A) 18 := by
  simp only [mX, mN, k0_pay411, k0_pay390, k0_pay392, cl4_18, cl3_16, cl2_16, cl2_20, cl3_18, cl2_18, cl2_22]
theorem p_193 (A : Args F) : k0_pay412 (clean1 mX mN (N3 A) 17) (clean1 mX mN (N3 A) 19) (clean1 mX mN (N3 A) 21) (clean1 mX mN (N3 A) 23) (clean1 mX mN (N3 A) 25) (clean1 mX mN (N3 A) 27) (clean1 mX mN (N3 A) 29) (clean1 mX mN (N3 A) 31) = clean4 mX mN (N3 A) 17 := by
  simp only [mX, mN, k0_pay412, k0_pay391, k0_pay393, cl4_17, cl3_17, cl2_17, cl2_21, cl3_19, cl2_19, cl2_23]
theorem p_194 (A : Args F) : k0_pay413 (clean1 mX mN (N3 A) 17) (clean1 mX mN (N3 A) 19) (clean1 mX mN (N3 A) 21) (clean1 mX mN (N3 A) 23) (clean1 mX mN (N3 A) 25) (clean1 mX mN (N3 A) 27) (clean1 mX mN (N3 A) 29) (clean1 mX mN (N3 A) 31) = clean4 mX mN (N3 A) 19 := by
  simp only [mX, mN, k0_pay413, k0_pay391, k0_pay393, cl4_19, cl3_17, cl2_17, cl2_21, cl3_19, cl2_19, cl2_23]
theorem p_195 (A : Args F) : k0_pay414 (clean1 mX mN (N3 A) 3) (clean1 mX mN (N3 A) 4) (clean1 mX mN (N3 A) 5) (clean1 mX mN (N3 A) 6) (clean1 mX mN (N3 A) 7) (clean1 mX mN (N3 A) 11) (clean1 mX mN (N3 A) 12) (clean1 mX mN (N3 A) 13) (clean1 mX mN (N3 A) 14) (clean1 mX mN (N3 A) 15) (clean2 mX mN (N3 A) 0) (clean2 mX mN (N3 A) 1) (clean2 mX mN (N3 A) 2) = M3 A 0 := by
  simp only [mX, mN, k0_pay414, k0_pay394, k0_pay374, k0_pay366, k0_pay378, k0_pay370, k0_pay396, k0_pay376, k0_pay368, k0_pay380, k0_pay364, k0_pay372, cl5_0, M3_e, cl4_0, cl3_0, cl2_4, cl3_2, cl2_6, cl4_1, cl3_1, cl2_5, cl3_3, cl2_3, cl2_7]
theorem p_196 (A : Args F) : k0_pay415 (clean1 mX mN (N3 A) 3) (clean1 mX mN (N3 A) 4) (clean1 mX mN (N3 A) 5) (clean1 mX mN (N3 A) 6) (clean1 mX mN (N3 A) 7) (clean1 mX mN (N3 A) 11) (clean1 mX mN (N3 A) 12) (clean1 mX mN (N3 A) 13) (clean1 mX mN (N3 A) 14) (clean1 mX mN (N3 A) 15) (clean2 mX mN (N3 A) 0) (clean2 mX mN (N3 A) 1) (clean2 mX mN (N3 A) 2) = M3 A 1 := by
  simp only [mX, mN, k0_pay415, k0_pay394, k0_pay374, k0_pay366, k0_pay378, k0_pay370, k0_pay396, k0_pay376, k0_pay368, k0_pay380, k0_pay364, k0_pay372, cl5_1, M3_e, cl4_0, cl3_0, cl2_4, cl3_2, cl2_6, cl4_1, cl3_1, cl2_5, cl3_3, cl2_3, cl2_7]
theorem p_197 (A : Args F) : k0_pay434 (M3 A 0) = lo4 (M3 A 0) := by
  simp only [mX, mN, k0_pay434, lo4]
theorem p_198 (A : Args F) : k0_pay435 (M3 A 1) = lo4 (M3 A 1) := by
  simp only [mX, mN, k0_pay435, lo4]
theorem p_199 (A : Args F) : k0_pay436 (clean4 mX mN (N3 A) 2) (clean4 mX mN (N3 A) 3) = lo4 (M3 A 2) := by
  simp only [mX, mN, k0_pay436, k0_pay416, lo4, cl5_2, M3_e]
theorem p_200 (A : Args F) : k0_pay437 (clean4 mX mN (N3 A) 2) (clean4 mX mN (N3 A) 3) = lo4 (M3 A 3) := by
  simp only [mX, mN, k0_pay437, k0_pay417, lo4, cl5_3, M3_e]
theorem p_201 (A : Args F) : k0_pay438 (clean4 mX mN (N3 A) 4) (clean4 mX mN (N3 A) 5) = lo4 (M3 A 4) := by
  simp only [mX, mN, k0_pay438, k0_pay418, lo4, cl5_4, M3_e]
theorem p_202 (A : Args F) : k0_pay439 (clean4 mX mN (N3 A) 4) (clean4 mX mN (N3 A) 5) = lo4 (M3 A 5) := by
  simp only [mX, mN, k0_pay439, k0_pay419, lo4, cl5_5, M3_e]
theorem p_203 (A : Args F) : k0_pay440 (clean4 mX mN (N3 A) 6) (clean4 mX mN (N3 A) 7) = lo4 (M3 A 6) := by
  simp only [mX, mN, k0_pay440, k0_pay420, lo4, cl5_6, M3_e]
theorem p_204 (A : Args F) : k0_pay441 (clean4 mX mN (N3 A) 6) (clean4 mX mN (N3 A) 7) = lo4 (M3 A 7) := by
  simp only [mX, mN, k0_pay441, k0_pay421, lo4, cl5_7, M3_e]
theorem p_205 (A : Args F) : k0_pay442 (clean4 mX mN (N3 A) 8) (clean4 mX mN (N3 A) 9) = lo4 (M3 A 8) := by
  simp only [mX, mN, k0_pay442, k0_pay422, lo4, cl5_8, M3_e]
theorem p_206 (A : Args F) : k0_pay443 (clean4 mX mN (N3 A) 8) (clean4 mX mN (N3 A) 9) = lo4 (M3 A 9) := by
  simp only [mX, mN, k0_pay443, k0_pay423, lo4, cl5_9, M3_e]
theorem p_207 (A : Args F) : k0_pay444 (clean4 mX mN (N3 A) 10) (clean4 mX mN (N3 A) 11) = lo4 (M3 A 10) := by
  simp only [mX, mN, k0_pay444, k0_pay424, lo4, cl5_10, M3_e]
theorem p_208 (A : Args F) : k0_pay445 (clean4 mX mN (N3 A) 10) (clean4 mX mN (N3 A) 11) = lo4 (M3 A 11) := by
  simp only [mX, mN, k0_pay445, k0_pay425, lo4, cl5_11, M3_e]
theorem p_209 (A : Args F) : k0_pay446 (clean4 mX mN (N3 A) 14) (clean4 mX mN (N3 A) 15) = lo4 (M3 A 14) := by
  simp only [mX, mN, k0_pay446, k0_pay428, lo4, cl5_14, M3_e]
theorem p_210 (A : Args F) : k0_pay447 (clean4 mX mN (N3 A) 14) (clean4 mX mN (N3 A) 15) = lo4 (M3 A 15) := by
  simp only [mX, mN, k0_pay447, k0_pay429, lo4, cl5_15, M3_e]
theorem p_211 (A : Args F) : k0_pay448 (clean4 mX mN (N3 A) 16) (clean4 mX mN (N3 A) 17) = lo4 (M3 A 16) := by
  simp only [mX, mN, k0_pay448, k0_pay430, lo4, cl5_16, M3_e]
theorem p_212 (A : Args F) : k0_pay449 (clean4 mX mN (N3 A) 16) (clean4 mX mN (N3 A) 17) = lo4 (M3 A 17) := by
  simp only [mX, mN, k0_pay449, k0_pay431, lo4, cl5_17, M3_e]
theorem p_213 (A : Args F) : k0_pay450 (clean4 mX mN (N3 A) 18) (clean4 mX mN (N3 A) 19) = lo4 (M3 A 18) := by
  simp only [mX, mN, k0_pay450, k0_pay432, lo4, cl5_18, M3_e]
theorem p_214 (A : Args F) : k0_pay451 (clean4 mX mN (N3 A) 18) (clean4 mX mN (N3 A) 19) = lo4 (M3 A 19) := by
  simp only [mX, mN, k0_pay451, k0_pay433, lo4, cl5_19, M3_e]
theorem p_215 (A : Args F) : k0_pay452 (M3 A 0) = hi4 (M3 A 0) := by
  simp only [mX, mN, k0_pay452, hi4]
theorem p_216 (A : Args F) : k0_pay453 (M3 A 1) = hi4 (M3 A 1) := by
  simp only [mX, mN, k0_pay453, hi4]
theorem p_217 (A : Args F) : k0_pay454 (clean4 mX mN (N3 A) 2) (clean4 mX mN (N3 A) 3) = hi4 (M3 A 2) := by
  simp only [mX, mN, k0_pay454, k0_pay416, hi4, cl5_2, M3_e]
theorem p_218 (A : Args F) : k0_pay455 (clean4 mX mN (N3 A) 2) (clean4 mX mN (N3 A) 3) = hi4 (M3 A 3) := by
  simp only [mX, mN, k0_pay455, k0_pay417, hi4, cl5_3, M3_e]
theorem p_219 (A : Args F) : k0_pay456 (clean4 mX mN (N3 A) 4) (clean4 mX mN (N3 A) 5) = hi4 (M3 A 4) := by
  simp only [mX, mN, k0_pay456, k0_pay418, hi4, cl5_4, M3_e]

end Cert.Proof

end

end
-- ==== Proof.Steps4.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_220 (A : Args F) : k0_pay457 (clean4 mX mN (N3 A) 4) (clean4 mX mN (N3 A) 5) = hi4 (M3 A 5) := by
  simp only [mX, mN, k0_pay457, k0_pay419, hi4, cl5_5, M3_e]
theorem p_221 (A : Args F) : k0_pay458 (clean4 mX mN (N3 A) 6) (clean4 mX mN (N3 A) 7) = hi4 (M3 A 6) := by
  simp only [mX, mN, k0_pay458, k0_pay420, hi4, cl5_6, M3_e]
theorem p_222 (A : Args F) : k0_pay459 (clean4 mX mN (N3 A) 6) (clean4 mX mN (N3 A) 7) = hi4 (M3 A 7) := by
  simp only [mX, mN, k0_pay459, k0_pay421, hi4, cl5_7, M3_e]
theorem p_223 (A : Args F) : k0_pay460 (clean4 mX mN (N3 A) 8) (clean4 mX mN (N3 A) 9) = hi4 (M3 A 8) := by
  simp only [mX, mN, k0_pay460, k0_pay422, hi4, cl5_8, M3_e]
theorem p_224 (A : Args F) : k0_pay461 (clean4 mX mN (N3 A) 8) (clean4 mX mN (N3 A) 9) = hi4 (M3 A 9) := by
  simp only [mX, mN, k0_pay461, k0_pay423, hi4, cl5_9, M3_e]
theorem p_225 (A : Args F) : k0_pay462 (clean4 mX mN (N3 A) 10) (clean4 mX mN (N3 A) 11) = hi4 (M3 A 10) := by
  simp only [mX, mN, k0_pay462, k0_pay424, hi4, cl5_10, M3_e]
theorem p_226 (A : Args F) : k0_pay463 (clean4 mX mN (N3 A) 10) (clean4 mX mN (N3 A) 11) = hi4 (M3 A 11) := by
  simp only [mX, mN, k0_pay463, k0_pay425, hi4, cl5_11, M3_e]
theorem p_227 (A : Args F) : k0_pay464 (clean4 mX mN (N3 A) 12) (clean4 mX mN (N3 A) 13) = hi4 (M3 A 12) := by
  simp only [mX, mN, k0_pay464, k0_pay426, hi4, cl5_12, M3_e]
theorem p_228 (A : Args F) : k0_pay465 (clean4 mX mN (N3 A) 12) (clean4 mX mN (N3 A) 13) = hi4 (M3 A 13) := by
  simp only [mX, mN, k0_pay465, k0_pay427, hi4, cl5_13, M3_e]
theorem p_229 (A : Args F) : k0_pay466 (clean4 mX mN (N3 A) 14) (clean4 mX mN (N3 A) 15) = hi4 (M3 A 14) := by
  simp only [mX, mN, k0_pay466, k0_pay428, hi4, cl5_14, M3_e]
theorem p_230 (A : Args F) : k0_pay467 (clean4 mX mN (N3 A) 14) (clean4 mX mN (N3 A) 15) = hi4 (M3 A 15) := by
  simp only [mX, mN, k0_pay467, k0_pay429, hi4, cl5_15, M3_e]
theorem p_231 (A : Args F) : k0_pay468 (clean4 mX mN (N3 A) 16) (clean4 mX mN (N3 A) 17) = hi4 (M3 A 16) := by
  simp only [mX, mN, k0_pay468, k0_pay430, hi4, cl5_16, M3_e]
theorem p_232 (A : Args F) : k0_pay469 (clean4 mX mN (N3 A) 16) (clean4 mX mN (N3 A) 17) = hi4 (M3 A 17) := by
  simp only [mX, mN, k0_pay469, k0_pay431, hi4, cl5_17, M3_e]
theorem p_233 (A : Args F) : k0_pay470 (clean4 mX mN (N3 A) 12) (clean4 mX mN (N3 A) 13) (clean4 mX mN (N3 A) 18) (clean4 mX mN (N3 A) 19) = N4 A 12 := by
  simp only [mX, mN, k0_pay470, k0_pay426, k0_pay433, N4_e, mt20_12, lo4, cl5_12, M3_e, hi4, cl5_19]
theorem p_234 (A : Args F) : k0_pay471 (clean4 mX mN (N3 A) 12) (clean4 mX mN (N3 A) 13) (clean4 mX mN (N3 A) 18) (clean4 mX mN (N3 A) 19) = N4 A 13 := by
  simp only [mX, mN, k0_pay471, k0_pay427, k0_pay432, N4_e, mt20_13, lo4, cl5_13, M3_e, hi4, cl5_18]
theorem p_235 (A : Args F) : k0_pay485 (lo4 (M3 A 6)) (hi4 (M3 A 9)) = clean1 mX mN (N4 A) 22 := by
  simp only [mX, mN, k0_pay485, cl1_22, N4_e, mt20_22, mt20_6]
theorem p_236 (A : Args F) : k0_pay487 (lo4 (M3 A 7)) (hi4 (M3 A 8)) = clean1 mX mN (N4 A) 23 := by
  simp only [mX, mN, k0_pay487, cl1_23, N4_e, mt20_23, mt20_7]
theorem p_237 (A : Args F) : k0_pay495 (lo4 (M3 A 14)) (hi4 (M3 A 1)) (hi4 (M3 A 17)) = clean1 mX mN (N4 A) 30 := by
  simp only [mX, mN, k0_pay495, k0_pay472, cl1_30, N4_e, mt20_14, mt20_30]
theorem p_238 (A : Args F) : k0_pay497 (lo4 (M3 A 15)) (hi4 (M3 A 0)) (hi4 (M3 A 16)) = clean1 mX mN (N4 A) 31 := by
  simp only [mX, mN, k0_pay497, k0_pay473, cl1_31, N4_e, mt20_15, mt20_31]
theorem p_239 (A : Args F) : k0_pay498 (lo4 (M3 A 0)) (lo4 (M3 A 8)) (lo4 (M3 A 16)) (hi4 (M3 A 7)) (hi4 (M3 A 15)) = clean2 mX mN (N4 A) 0 := by
  simp only [mX, mN, k0_pay498, k0_pay478, k0_pay474, k0_pay488, cl2_0, cl1_0, N4_e, mt20_16, cl1_8, mt20_0, mt20_8, mt20_24]
theorem p_240 (A : Args F) : k0_pay499 (lo4 (M3 A 0)) (lo4 (M3 A 8)) (lo4 (M3 A 16)) (hi4 (M3 A 7)) (hi4 (M3 A 15)) = clean2 mX mN (N4 A) 8 := by
  simp only [mX, mN, k0_pay499, k0_pay478, k0_pay474, k0_pay488, cl2_8, cl1_0, N4_e, mt20_16, cl1_8, mt20_0, mt20_8, mt20_24]
theorem p_241 (A : Args F) : k0_pay500 (lo4 (M3 A 1)) (lo4 (M3 A 9)) (lo4 (M3 A 17)) (hi4 (M3 A 6)) (hi4 (M3 A 14)) = clean2 mX mN (N4 A) 1 := by
  simp only [mX, mN, k0_pay500, k0_pay479, k0_pay475, k0_pay489, cl2_1, cl1_1, N4_e, mt20_17, cl1_9, mt20_1, mt20_9, mt20_25]
theorem p_242 (A : Args F) : k0_pay501 (lo4 (M3 A 1)) (lo4 (M3 A 9)) (lo4 (M3 A 17)) (hi4 (M3 A 6)) (hi4 (M3 A 14)) = clean2 mX mN (N4 A) 9 := by
  simp only [mX, mN, k0_pay501, k0_pay479, k0_pay475, k0_pay489, cl2_9, cl1_1, N4_e, mt20_17, cl1_9, mt20_1, mt20_9, mt20_25]
theorem p_243 (A : Args F) : k0_pay502 (lo4 (M3 A 2)) (lo4 (M3 A 10)) (lo4 (M3 A 18)) (hi4 (M3 A 5)) (hi4 (M3 A 13)) = clean2 mX mN (N4 A) 2 := by
  simp only [mX, mN, k0_pay502, k0_pay480, k0_pay476, k0_pay490, cl2_2, cl1_2, N4_e, mt20_18, cl1_10, mt20_2, mt20_10, mt20_26]
theorem p_244 (A : Args F) : k0_pay503 (lo4 (M3 A 2)) (lo4 (M3 A 10)) (lo4 (M3 A 18)) (hi4 (M3 A 5)) (hi4 (M3 A 13)) = clean2 mX mN (N4 A) 10 := by
  simp only [mX, mN, k0_pay503, k0_pay480, k0_pay476, k0_pay490, cl2_10, cl1_2, N4_e, mt20_18, cl1_10, mt20_2, mt20_10, mt20_26]
theorem p_245 (A : Args F) : k0_pay504 (lo4 (M3 A 3)) (lo4 (M3 A 11)) (lo4 (M3 A 19)) (hi4 (M3 A 4)) (hi4 (M3 A 12)) = clean2 mX mN (N4 A) 3 := by
  simp only [mX, mN, k0_pay504, k0_pay481, k0_pay477, k0_pay491, cl2_3, cl1_3, N4_e, mt20_19, cl1_11, mt20_3, mt20_11, mt20_27]
theorem p_246 (A : Args F) : k0_pay505 (lo4 (M3 A 3)) (lo4 (M3 A 11)) (lo4 (M3 A 19)) (hi4 (M3 A 4)) (hi4 (M3 A 12)) = clean2 mX mN (N4 A) 11 := by
  simp only [mX, mN, k0_pay505, k0_pay481, k0_pay477, k0_pay491, cl2_11, cl1_3, N4_e, mt20_19, cl1_11, mt20_3, mt20_11, mt20_27]
theorem p_247 (A : Args F) : k0_pay506 (lo4 (M3 A 4)) (hi4 (M3 A 3)) (hi4 (M3 A 11)) (N4 A 12) = clean2 mX mN (N4 A) 4 := by
  simp only [mX, mN, k0_pay506, k0_pay482, k0_pay492, cl2_4, cl1_4, cl1_12, N4_e, mt20_4, mt20_20, mt20_12, mt20_28]
theorem p_248 (A : Args F) : k0_pay507 (lo4 (M3 A 4)) (hi4 (M3 A 3)) (hi4 (M3 A 11)) (N4 A 12) = clean2 mX mN (N4 A) 12 := by
  simp only [mX, mN, k0_pay507, k0_pay482, k0_pay492, cl2_12, cl1_4, cl1_12, N4_e, mt20_4, mt20_20, mt20_12, mt20_28]
theorem p_249 (A : Args F) : k0_pay508 (lo4 (M3 A 5)) (hi4 (M3 A 2)) (hi4 (M3 A 10)) (N4 A 13) = clean2 mX mN (N4 A) 5 := by
  simp only [mX, mN, k0_pay508, k0_pay483, k0_pay493, cl2_5, cl1_5, cl1_13, N4_e, mt20_5, mt20_21, mt20_13, mt20_29]
theorem p_250 (A : Args F) : k0_pay509 (lo4 (M3 A 5)) (hi4 (M3 A 2)) (hi4 (M3 A 10)) (N4 A 13) = clean2 mX mN (N4 A) 13 := by
  simp only [mX, mN, k0_pay509, k0_pay483, k0_pay493, cl2_13, cl1_5, cl1_13, N4_e, mt20_5, mt20_21, mt20_13, mt20_29]
theorem p_251 (A : Args F) : k0_pay510 (lo4 (M3 A 6)) (lo4 (M3 A 14)) (hi4 (M3 A 1)) (hi4 (M3 A 9)) (hi4 (M3 A 17)) = clean2 mX mN (N4 A) 6 := by
  simp only [mX, mN, k0_pay510, k0_pay484, k0_pay494, k0_pay472, cl2_6, cl1_6, cl1_14, N4_e, mt20_14, mt20_6, mt20_22, mt20_30]
theorem p_252 (A : Args F) : k0_pay511 (lo4 (M3 A 6)) (lo4 (M3 A 14)) (hi4 (M3 A 1)) (hi4 (M3 A 9)) (hi4 (M3 A 17)) = clean2 mX mN (N4 A) 14 := by
  simp only [mX, mN, k0_pay511, k0_pay484, k0_pay494, k0_pay472, cl2_14, cl1_6, cl1_14, N4_e, mt20_14, mt20_6, mt20_22, mt20_30]
theorem p_253 (A : Args F) : k0_pay512 (lo4 (M3 A 7)) (lo4 (M3 A 15)) (hi4 (M3 A 0)) (hi4 (M3 A 8)) (hi4 (M3 A 16)) = clean2 mX mN (N4 A) 7 := by
  simp only [mX, mN, k0_pay512, k0_pay486, k0_pay496, k0_pay473, cl2_7, cl1_7, cl1_15, N4_e, mt20_15, mt20_7, mt20_23, mt20_31]
theorem p_254 (A : Args F) : k0_pay513 (lo4 (M3 A 7)) (lo4 (M3 A 15)) (hi4 (M3 A 0)) (hi4 (M3 A 8)) (hi4 (M3 A 16)) = clean2 mX mN (N4 A) 15 := by
  simp only [mX, mN, k0_pay513, k0_pay486, k0_pay496, k0_pay473, cl2_15, cl1_7, cl1_15, N4_e, mt20_15, mt20_7, mt20_23, mt20_31]
theorem p_255 (A : Args F) : k0_pay514 (lo4 (M3 A 0)) (lo4 (M3 A 8)) (lo4 (M3 A 16)) (hi4 (M3 A 7)) (hi4 (M3 A 15)) = clean2 mX mN (N4 A) 16 := by
  simp only [mX, mN, k0_pay514, k0_pay474, cl2_16, cl1_16, N4_e, mt20_16, cl1_24, mt20_0, mt20_24, mt20_8]
theorem p_256 (A : Args F) : k0_pay515 (lo4 (M3 A 1)) (lo4 (M3 A 9)) (lo4 (M3 A 17)) (hi4 (M3 A 6)) (hi4 (M3 A 14)) = clean2 mX mN (N4 A) 17 := by
  simp only [mX, mN, k0_pay515, k0_pay475, cl2_17, cl1_17, N4_e, mt20_17, cl1_25, mt20_1, mt20_25, mt20_9]
theorem p_257 (A : Args F) : k0_pay516 (lo4 (M3 A 2)) (lo4 (M3 A 10)) (lo4 (M3 A 18)) (hi4 (M3 A 5)) (hi4 (M3 A 13)) = clean2 mX mN (N4 A) 18 := by
  simp only [mX, mN, k0_pay516, k0_pay476, cl2_18, cl1_18, N4_e, mt20_18, cl1_26, mt20_2, mt20_26, mt20_10]
theorem p_258 (A : Args F) : k0_pay517 (lo4 (M3 A 3)) (lo4 (M3 A 11)) (lo4 (M3 A 19)) (hi4 (M3 A 4)) (hi4 (M3 A 12)) = clean2 mX mN (N4 A) 19 := by
  simp only [mX, mN, k0_pay517, k0_pay477, cl2_19, cl1_19, N4_e, mt20_19, cl1_27, mt20_3, mt20_27, mt20_11]
theorem p_259 (A : Args F) : k0_pay518 (lo4 (M3 A 4)) (hi4 (M3 A 3)) (hi4 (M3 A 11)) (N4 A 12) = clean2 mX mN (N4 A) 20 := by
  simp only [mX, mN, k0_pay518, cl2_20, cl1_20, cl1_28, N4_e, mt20_20, mt20_4, mt20_28, mt20_12]
theorem p_260 (A : Args F) : k0_pay519 (lo4 (M3 A 5)) (hi4 (M3 A 2)) (hi4 (M3 A 10)) (N4 A 13) = clean2 mX mN (N4 A) 21 := by
  simp only [mX, mN, k0_pay519, cl2_21, cl1_21, cl1_29, N4_e, mt20_21, mt20_5, mt20_29, mt20_13]
theorem p_261 (A : Args F) : k0_pay557 (clean1 mX mN (N4 A) 22) (clean1 mX mN (N4 A) 30) (clean2 mX mN (N4 A) 16) (clean2 mX mN (N4 A) 18) (clean2 mX mN (N4 A) 20) = clean4 mX mN (N4 A) 18 := by
  simp only [mX, mN, k0_pay557, k0_pay536, k0_pay538, cl4_18, cl3_16, cl3_18, cl2_22]
theorem p_262 (A : Args F) : k0_pay559 (clean1 mX mN (N4 A) 23) (clean1 mX mN (N4 A) 31) (clean2 mX mN (N4 A) 17) (clean2 mX mN (N4 A) 19) (clean2 mX mN (N4 A) 21) = clean4 mX mN (N4 A) 19 := by
  simp only [mX, mN, k0_pay559, k0_pay537, k0_pay539, cl4_19, cl3_17, cl3_19, cl2_23]
theorem p_263 (A : Args F) : k0_pay560 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 0 := by
  simp only [mX, mN, k0_pay560, k0_pay540, k0_pay520, k0_pay524, k0_pay542, k0_pay522, k0_pay526, cl5_0, M4_e, cl4_0, cl3_0, cl3_2, cl4_1, cl3_1, cl3_3]
theorem p_264 (A : Args F) : k0_pay561 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 1 := by
  simp only [mX, mN, k0_pay561, k0_pay540, k0_pay520, k0_pay524, k0_pay542, k0_pay522, k0_pay526, cl5_1, M4_e, cl4_0, cl3_0, cl3_2, cl4_1, cl3_1, cl3_3]
theorem p_265 (A : Args F) : k0_pay562 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 2 := by
  simp only [mX, mN, k0_pay562, k0_pay541, k0_pay520, k0_pay524, k0_pay543, k0_pay522, k0_pay526, cl5_2, M4_e, cl4_2, cl3_0, cl3_2, cl4_3, cl3_1, cl3_3]
theorem p_266 (A : Args F) : k0_pay563 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 3 := by
  simp only [mX, mN, k0_pay563, k0_pay541, k0_pay520, k0_pay524, k0_pay543, k0_pay522, k0_pay526, cl5_3, M4_e, cl4_2, cl3_0, cl3_2, cl4_3, cl3_1, cl3_3]
theorem p_267 (A : Args F) : k0_pay564 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 4 := by
  simp only [mX, mN, k0_pay564, k0_pay544, k0_pay521, k0_pay525, k0_pay546, k0_pay523, k0_pay527, cl5_4, M4_e, cl4_4, cl3_4, cl3_6, cl4_5, cl3_5, cl3_7]
theorem p_268 (A : Args F) : k0_pay565 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 5 := by
  simp only [mX, mN, k0_pay565, k0_pay544, k0_pay521, k0_pay525, k0_pay546, k0_pay523, k0_pay527, cl5_5, M4_e, cl4_4, cl3_4, cl3_6, cl4_5, cl3_5, cl3_7]
theorem p_269 (A : Args F) : k0_pay566 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 6 := by
  simp only [mX, mN, k0_pay566, k0_pay545, k0_pay521, k0_pay525, k0_pay547, k0_pay523, k0_pay527, cl5_6, M4_e, cl4_6, cl3_4, cl3_6, cl4_7, cl3_5, cl3_7]
theorem p_270 (A : Args F) : k0_pay567 (clean2 mX mN (N4 A) 0) (clean2 mX mN (N4 A) 1) (clean2 mX mN (N4 A) 2) (clean2 mX mN (N4 A) 3) (clean2 mX mN (N4 A) 4) (clean2 mX mN (N4 A) 5) (clean2 mX mN (N4 A) 6) (clean2 mX mN (N4 A) 7) = M4 A 7 := by
  simp only [mX, mN, k0_pay567, k0_pay545, k0_pay521, k0_pay525, k0_pay547, k0_pay523, k0_pay527, cl5_7, M4_e, cl4_6, cl3_4, cl3_6, cl4_7, cl3_5, cl3_7]
theorem p_271 (A : Args F) : k0_pay568 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 8 := by
  simp only [mX, mN, k0_pay568, k0_pay548, k0_pay528, k0_pay532, k0_pay550, k0_pay530, k0_pay534, cl5_8, M4_e, cl4_8, cl3_8, cl3_10, cl4_9, cl3_9, cl3_11]
theorem p_272 (A : Args F) : k0_pay569 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 9 := by
  simp only [mX, mN, k0_pay569, k0_pay548, k0_pay528, k0_pay532, k0_pay550, k0_pay530, k0_pay534, cl5_9, M4_e, cl4_8, cl3_8, cl3_10, cl4_9, cl3_9, cl3_11]
theorem p_273 (A : Args F) : k0_pay570 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 10 := by
  simp only [mX, mN, k0_pay570, k0_pay549, k0_pay528, k0_pay532, k0_pay551, k0_pay530, k0_pay534, cl5_10, M4_e, cl4_10, cl3_8, cl3_10, cl4_11, cl3_9, cl3_11]
theorem p_274 (A : Args F) : k0_pay571 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 11 := by
  simp only [mX, mN, k0_pay571, k0_pay549, k0_pay528, k0_pay532, k0_pay551, k0_pay530, k0_pay534, cl5_11, M4_e, cl4_10, cl3_8, cl3_10, cl4_11, cl3_9, cl3_11]
theorem p_275 (A : Args F) : k0_pay572 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 12 := by
  simp only [mX, mN, k0_pay572, k0_pay552, k0_pay529, k0_pay533, k0_pay554, k0_pay531, k0_pay535, cl5_12, M4_e, cl4_12, cl3_12, cl3_14, cl4_13, cl3_13, cl3_15]
theorem p_276 (A : Args F) : k0_pay573 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 13 := by
  simp only [mX, mN, k0_pay573, k0_pay552, k0_pay529, k0_pay533, k0_pay554, k0_pay531, k0_pay535, cl5_13, M4_e, cl4_12, cl3_12, cl3_14, cl4_13, cl3_13, cl3_15]
theorem p_277 (A : Args F) : k0_pay574 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 14 := by
  simp only [mX, mN, k0_pay574, k0_pay553, k0_pay529, k0_pay533, k0_pay555, k0_pay531, k0_pay535, cl5_14, M4_e, cl4_14, cl3_12, cl3_14, cl4_15, cl3_13, cl3_15]
theorem p_278 (A : Args F) : k0_pay575 (clean2 mX mN (N4 A) 8) (clean2 mX mN (N4 A) 9) (clean2 mX mN (N4 A) 10) (clean2 mX mN (N4 A) 11) (clean2 mX mN (N4 A) 12) (clean2 mX mN (N4 A) 13) (clean2 mX mN (N4 A) 14) (clean2 mX mN (N4 A) 15) = M4 A 15 := by
  simp only [mX, mN, k0_pay575, k0_pay553, k0_pay529, k0_pay533, k0_pay555, k0_pay531, k0_pay535, cl5_15, M4_e, cl4_14, cl3_12, cl3_14, cl4_15, cl3_13, cl3_15]
theorem p_279 (A : Args F) : k0_pay576 (clean1 mX mN (N4 A) 22) (clean1 mX mN (N4 A) 23) (clean1 mX mN (N4 A) 30) (clean1 mX mN (N4 A) 31) (clean2 mX mN (N4 A) 16) (clean2 mX mN (N4 A) 17) (clean2 mX mN (N4 A) 18) (clean2 mX mN (N4 A) 19) (clean2 mX mN (N4 A) 20) (clean2 mX mN (N4 A) 21) = M4 A 16 := by
  simp only [mX, mN, k0_pay576, k0_pay556, k0_pay536, k0_pay538, k0_pay558, k0_pay537, k0_pay539, cl5_16, M4_e, cl4_16, cl3_16, cl3_18, cl2_22, cl4_17, cl3_17, cl3_19, cl2_23]
theorem p_280 (A : Args F) : k0_pay577 (clean1 mX mN (N4 A) 22) (clean1 mX mN (N4 A) 23) (clean1 mX mN (N4 A) 30) (clean1 mX mN (N4 A) 31) (clean2 mX mN (N4 A) 16) (clean2 mX mN (N4 A) 17) (clean2 mX mN (N4 A) 18) (clean2 mX mN (N4 A) 19) (clean2 mX mN (N4 A) 20) (clean2 mX mN (N4 A) 21) = M4 A 17 := by
  simp only [mX, mN, k0_pay577, k0_pay556, k0_pay536, k0_pay538, k0_pay558, k0_pay537, k0_pay539, cl5_17, M4_e, cl4_16, cl3_16, cl3_18, cl2_22, cl4_17, cl3_17, cl3_19, cl2_23]
theorem p_281 (A : Args F) : k0_pay585 (M4 A 5) = lo5 (M4 A 5) := by
  simp only [mX, mN, k0_pay585, lo5]
theorem p_282 (A : Args F) : k0_pay586 (M4 A 6) = lo5 (M4 A 6) := by
  simp only [mX, mN, k0_pay586, lo5]
theorem p_283 (A : Args F) : k0_pay587 (M4 A 7) = lo5 (M4 A 7) := by
  simp only [mX, mN, k0_pay587, lo5]
theorem p_284 (A : Args F) : k0_pay588 (M4 A 8) = lo5 (M4 A 8) := by
  simp only [mX, mN, k0_pay588, lo5]
theorem p_285 (A : Args F) : k0_pay589 (M4 A 9) = lo5 (M4 A 9) := by
  simp only [mX, mN, k0_pay589, lo5]
theorem p_286 (A : Args F) : k0_pay590 (M4 A 10) = lo5 (M4 A 10) := by
  simp only [mX, mN, k0_pay590, lo5]
theorem p_287 (A : Args F) : k0_pay591 (M4 A 11) = lo5 (M4 A 11) := by
  simp only [mX, mN, k0_pay591, lo5]
theorem p_288 (A : Args F) : k0_pay592 (M4 A 0) = hi5 (M4 A 0) := by
  simp only [mX, mN, k0_pay592, hi5]
theorem p_289 (A : Args F) : k0_pay593 (M4 A 1) = hi5 (M4 A 1) := by
  simp only [mX, mN, k0_pay593, hi5]
theorem p_290 (A : Args F) : k0_pay594 (M4 A 2) = hi5 (M4 A 2) := by
  simp only [mX, mN, k0_pay594, hi5]
theorem p_291 (A : Args F) : k0_pay595 (M4 A 3) = hi5 (M4 A 3) := by
  simp only [mX, mN, k0_pay595, hi5]
theorem p_292 (A : Args F) : k0_pay596 (M4 A 4) = hi5 (M4 A 4) := by
  simp only [mX, mN, k0_pay596, hi5]
theorem p_293 (A : Args F) : k0_pay597 (M4 A 5) = hi5 (M4 A 5) := by
  simp only [mX, mN, k0_pay597, hi5]
theorem p_294 (A : Args F) : k0_pay598 (M4 A 6) = hi5 (M4 A 6) := by
  simp only [mX, mN, k0_pay598, hi5]
theorem p_295 (A : Args F) : k0_pay599 (M4 A 7) = hi5 (M4 A 7) := by
  simp only [mX, mN, k0_pay599, hi5]
theorem p_296 (A : Args F) : k0_pay600 (M4 A 8) = hi5 (M4 A 8) := by
  simp only [mX, mN, k0_pay600, hi5]
theorem p_297 (A : Args F) : k0_pay601 (M4 A 9) = hi5 (M4 A 9) := by
  simp only [mX, mN, k0_pay601, hi5]
theorem p_298 (A : Args F) : k0_pay602 (M4 A 10) = hi5 (M4 A 10) := by
  simp only [mX, mN, k0_pay602, hi5]
theorem p_299 (A : Args F) : k0_pay604 (clean4 mX mN (N4 A) 18) (clean4 mX mN (N4 A) 19) (M4 A 12) = N5 A 12 := by
  simp only [mX, mN, k0_pay604, k0_pay579, N5_e, mt20_12, lo5, hi5, cl5_19, M4_e]
theorem p_300 (A : Args F) : k0_pay605 (clean4 mX mN (N4 A) 18) (clean4 mX mN (N4 A) 19) (M4 A 13) = N5 A 13 := by
  simp only [mX, mN, k0_pay605, k0_pay578, N5_e, mt20_13, lo5, hi5, cl5_18, M4_e]
theorem p_301 (A : Args F) : k0_pay606 (M4 A 14) (M4 A 17) = N5 A 14 := by
  simp only [mX, mN, k0_pay606, N5_e, mt20_14, lo5, hi5]
theorem p_302 (A : Args F) : k0_pay607 (M4 A 15) (M4 A 16) = N5 A 15 := by
  simp only [mX, mN, k0_pay607, N5_e, mt20_15, lo5, hi5]
theorem p_303 (A : Args F) : k0_pay612 (M4 A 0) (M4 A 15) (M4 A 16) = clean1 mX mN (N5 A) 0 := by
  simp only [mX, mN, k0_pay612, k0_pay580, k0_pay608, cl1_0, lo5, N5_e, mt20_16, hi5, mt20_0]
theorem p_304 (A : Args F) : k0_pay613 (M4 A 0) (M4 A 15) (M4 A 16) = clean1 mX mN (N5 A) 16 := by
  simp only [mX, mN, k0_pay613, k0_pay580, k0_pay608, cl1_16, lo5, N5_e, mt20_16, hi5, mt20_0]
theorem p_305 (A : Args F) : k0_pay614 (M4 A 1) (M4 A 14) (M4 A 17) = clean1 mX mN (N5 A) 1 := by
  simp only [mX, mN, k0_pay614, k0_pay581, k0_pay609, cl1_1, lo5, N5_e, mt20_17, hi5, mt20_1]

end Cert.Proof

end

end
-- ==== Proof.Steps5.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_306 (A : Args F) : k0_pay615 (M4 A 1) (M4 A 14) (M4 A 17) = clean1 mX mN (N5 A) 17 := by
  simp only [mX, mN, k0_pay615, k0_pay581, k0_pay609, cl1_17, lo5, N5_e, mt20_17, hi5, mt20_1]
theorem p_307 (A : Args F) : k0_pay616 (clean4 mX mN (N4 A) 18) (clean4 mX mN (N4 A) 19) (M4 A 2) (M4 A 13) = clean1 mX mN (N5 A) 2 := by
  simp only [mX, mN, k0_pay616, k0_pay582, k0_pay610, k0_pay578, cl1_2, lo5, N5_e, mt20_18, cl5_18, M4_e, hi5, mt20_2]
theorem p_308 (A : Args F) : k0_pay617 (clean4 mX mN (N4 A) 18) (clean4 mX mN (N4 A) 19) (M4 A 2) (M4 A 13) = clean1 mX mN (N5 A) 18 := by
  simp only [mX, mN, k0_pay617, k0_pay582, k0_pay610, k0_pay578, cl1_18, lo5, N5_e, mt20_18, cl5_18, M4_e, hi5, mt20_2]
theorem p_309 (A : Args F) : k0_pay618 (clean4 mX mN (N4 A) 18) (clean4 mX mN (N4 A) 19) (M4 A 3) (M4 A 12) = clean1 mX mN (N5 A) 3 := by
  simp only [mX, mN, k0_pay618, k0_pay583, k0_pay611, k0_pay579, cl1_3, lo5, N5_e, mt20_19, cl5_19, M4_e, hi5, mt20_3]
theorem p_310 (A : Args F) : k0_pay619 (clean4 mX mN (N4 A) 18) (clean4 mX mN (N4 A) 19) (M4 A 3) (M4 A 12) = clean1 mX mN (N5 A) 19 := by
  simp only [mX, mN, k0_pay619, k0_pay583, k0_pay611, k0_pay579, cl1_19, lo5, N5_e, mt20_19, cl5_19, M4_e, hi5, mt20_3]
theorem p_311 (A : Args F) : k0_pay620 (M4 A 4) (M4 A 11) = clean1 mX mN (N5 A) 4 := by
  simp only [mX, mN, k0_pay620, k0_pay584, k0_pay603, cl1_4, lo5, hi5, N5_e, mt20_4, mt20_20]
theorem p_312 (A : Args F) : k0_pay621 (M4 A 4) (M4 A 11) = clean1 mX mN (N5 A) 20 := by
  simp only [mX, mN, k0_pay621, k0_pay584, k0_pay603, cl1_20, lo5, hi5, N5_e, mt20_20, mt20_4]
theorem p_313 (A : Args F) : k0_pay640 (lo5 (M4 A 11)) (hi5 (M4 A 4)) (clean1 mX mN (N5 A) 3) = clean2 mX mN (N5 A) 11 := by
  simp only [mX, mN, k0_pay640, k0_pay628, cl2_11, cl1_11, N5_e, mt20_11, mt20_27]
theorem p_314 (A : Args F) : k0_pay648 (lo5 (M4 A 7)) (hi5 (M4 A 0)) (hi5 (M4 A 8)) (N5 A 15) = clean2 mX mN (N5 A) 15 := by
  simp only [mX, mN, k0_pay648, k0_pay624, k0_pay632, cl2_15, cl1_7, cl1_15, N5_e, mt20_7, mt20_23, mt20_15, mt20_31]
theorem p_315 (A : Args F) : k0_pay649 (lo5 (M4 A 8)) (hi5 (M4 A 7)) (clean1 mX mN (N5 A) 16) = clean2 mX mN (N5 A) 16 := by
  simp only [mX, mN, k0_pay649, cl2_16, cl1_24, N5_e, mt20_24, mt20_8]
theorem p_316 (A : Args F) : k0_pay650 (lo5 (M4 A 9)) (hi5 (M4 A 6)) (clean1 mX mN (N5 A) 17) = clean2 mX mN (N5 A) 17 := by
  simp only [mX, mN, k0_pay650, cl2_17, cl1_25, N5_e, mt20_25, mt20_9]
theorem p_317 (A : Args F) : k0_pay651 (lo5 (M4 A 10)) (hi5 (M4 A 5)) (clean1 mX mN (N5 A) 18) = clean2 mX mN (N5 A) 18 := by
  simp only [mX, mN, k0_pay651, cl2_18, cl1_26, N5_e, mt20_26, mt20_10]
theorem p_318 (A : Args F) : k0_pay652 (lo5 (M4 A 11)) (hi5 (M4 A 4)) (clean1 mX mN (N5 A) 19) = clean2 mX mN (N5 A) 19 := by
  simp only [mX, mN, k0_pay652, cl2_19, cl1_27, N5_e, mt20_27, mt20_11]
theorem p_319 (A : Args F) : k0_pay653 (hi5 (M4 A 3)) (N5 A 12) (clean1 mX mN (N5 A) 20) = clean2 mX mN (N5 A) 20 := by
  simp only [mX, mN, k0_pay653, cl2_20, cl1_28, N5_e, mt20_28, mt20_12]
theorem p_320 (A : Args F) : k0_pay654 (lo5 (M4 A 5)) (hi5 (M4 A 2)) (hi5 (M4 A 10)) (N5 A 13) = clean2 mX mN (N5 A) 21 := by
  simp only [mX, mN, k0_pay654, cl2_21, cl1_21, cl1_29, N5_e, mt20_21, mt20_5, mt20_29, mt20_13]
theorem p_321 (A : Args F) : k0_pay655 (lo5 (M4 A 6)) (hi5 (M4 A 1)) (hi5 (M4 A 9)) (N5 A 14) = clean2 mX mN (N5 A) 22 := by
  simp only [mX, mN, k0_pay655, cl2_22, cl1_22, cl1_30, N5_e, mt20_22, mt20_6, mt20_30, mt20_14]
theorem p_322 (A : Args F) : k0_pay656 (lo5 (M4 A 7)) (hi5 (M4 A 0)) (hi5 (M4 A 8)) (N5 A 15) = clean2 mX mN (N5 A) 23 := by
  simp only [mX, mN, k0_pay656, cl2_23, cl1_23, cl1_31, N5_e, mt20_23, mt20_7, mt20_31, mt20_15]
theorem p_323 (A : Args F) : k0_pay657 (lo5 (M4 A 8)) (hi5 (M4 A 3)) (hi5 (M4 A 7)) (N5 A 12) (clean1 mX mN (N5 A) 0) (clean1 mX mN (N5 A) 4) = clean3 mX mN (N5 A) 0 := by
  simp only [mX, mN, k0_pay657, k0_pay633, k0_pay625, k0_pay641, k0_pay629, cl3_0, cl2_0, cl1_8, cl2_4, cl1_12, N5_e, mt20_8, mt20_24, mt20_12, mt20_28]
theorem p_324 (A : Args F) : k0_pay658 (lo5 (M4 A 8)) (hi5 (M4 A 3)) (hi5 (M4 A 7)) (N5 A 12) (clean1 mX mN (N5 A) 0) (clean1 mX mN (N5 A) 4) = clean3 mX mN (N5 A) 4 := by
  simp only [mX, mN, k0_pay658, k0_pay633, k0_pay625, k0_pay641, k0_pay629, cl3_4, cl2_0, cl1_8, cl2_4, cl1_12, N5_e, mt20_8, mt20_24, mt20_12, mt20_28]
theorem p_325 (A : Args F) : k0_pay659 (lo5 (M4 A 5)) (lo5 (M4 A 9)) (hi5 (M4 A 2)) (hi5 (M4 A 6)) (hi5 (M4 A 10)) (N5 A 13) (clean1 mX mN (N5 A) 1) = clean3 mX mN (N5 A) 1 := by
  simp only [mX, mN, k0_pay659, k0_pay635, k0_pay626, k0_pay643, k0_pay622, k0_pay630, cl3_1, cl2_1, cl1_9, cl2_5, cl1_5, cl1_13, N5_e, mt20_9, mt20_25, mt20_5, mt20_21, mt20_13, mt20_29]
theorem p_326 (A : Args F) : k0_pay660 (lo5 (M4 A 5)) (lo5 (M4 A 9)) (hi5 (M4 A 2)) (hi5 (M4 A 6)) (hi5 (M4 A 10)) (N5 A 13) (clean1 mX mN (N5 A) 1) = clean3 mX mN (N5 A) 5 := by
  simp only [mX, mN, k0_pay660, k0_pay635, k0_pay626, k0_pay643, k0_pay622, k0_pay630, cl3_5, cl2_1, cl1_9, cl2_5, cl1_5, cl1_13, N5_e, mt20_9, mt20_25, mt20_5, mt20_21, mt20_13, mt20_29]
theorem p_327 (A : Args F) : k0_pay661 (lo5 (M4 A 6)) (lo5 (M4 A 10)) (hi5 (M4 A 1)) (hi5 (M4 A 5)) (hi5 (M4 A 9)) (N5 A 14) (clean1 mX mN (N5 A) 2) = clean3 mX mN (N5 A) 2 := by
  simp only [mX, mN, k0_pay661, k0_pay637, k0_pay627, k0_pay645, k0_pay623, k0_pay631, cl3_2, cl2_2, cl1_10, cl2_6, cl1_6, cl1_14, N5_e, mt20_10, mt20_26, mt20_6, mt20_22, mt20_14, mt20_30]
theorem p_328 (A : Args F) : k0_pay662 (lo5 (M4 A 6)) (lo5 (M4 A 10)) (hi5 (M4 A 1)) (hi5 (M4 A 5)) (hi5 (M4 A 9)) (N5 A 14) (clean1 mX mN (N5 A) 2) = clean3 mX mN (N5 A) 6 := by
  simp only [mX, mN, k0_pay662, k0_pay637, k0_pay627, k0_pay645, k0_pay623, k0_pay631, cl3_6, cl2_2, cl1_10, cl2_6, cl1_6, cl1_14, N5_e, mt20_10, mt20_26, mt20_6, mt20_22, mt20_14, mt20_30]
theorem p_329 (A : Args F) : k0_pay663 (lo5 (M4 A 7)) (lo5 (M4 A 11)) (hi5 (M4 A 0)) (hi5 (M4 A 4)) (hi5 (M4 A 8)) (N5 A 15) (clean1 mX mN (N5 A) 3) = clean3 mX mN (N5 A) 3 := by
  simp only [mX, mN, k0_pay663, k0_pay639, k0_pay628, k0_pay647, k0_pay624, k0_pay632, cl3_3, cl2_3, cl1_11, cl2_7, cl1_7, cl1_15, N5_e, mt20_11, mt20_27, mt20_7, mt20_23, mt20_15, mt20_31]
theorem p_330 (A : Args F) : k0_pay664 (lo5 (M4 A 7)) (lo5 (M4 A 11)) (hi5 (M4 A 0)) (hi5 (M4 A 4)) (hi5 (M4 A 8)) (N5 A 15) (clean1 mX mN (N5 A) 3) = clean3 mX mN (N5 A) 7 := by
  simp only [mX, mN, k0_pay664, k0_pay639, k0_pay628, k0_pay647, k0_pay624, k0_pay632, cl3_7, cl2_3, cl1_11, cl2_7, cl1_7, cl1_15, N5_e, mt20_11, mt20_27, mt20_7, mt20_23, mt20_15, mt20_31]
theorem p_331 (A : Args F) : k0_pay665 (lo5 (M4 A 8)) (hi5 (M4 A 3)) (hi5 (M4 A 7)) (N5 A 12) (clean1 mX mN (N5 A) 0) (clean1 mX mN (N5 A) 4) = clean3 mX mN (N5 A) 8 := by
  simp only [mX, mN, k0_pay665, k0_pay634, k0_pay625, k0_pay642, k0_pay629, cl3_8, cl2_8, cl1_8, cl2_12, cl1_12, N5_e, mt20_8, mt20_24, mt20_12, mt20_28]
theorem p_332 (A : Args F) : k0_pay666 (lo5 (M4 A 8)) (hi5 (M4 A 3)) (hi5 (M4 A 7)) (N5 A 12) (clean1 mX mN (N5 A) 0) (clean1 mX mN (N5 A) 4) = clean3 mX mN (N5 A) 12 := by
  simp only [mX, mN, k0_pay666, k0_pay634, k0_pay625, k0_pay642, k0_pay629, cl3_12, cl2_8, cl1_8, cl2_12, cl1_12, N5_e, mt20_8, mt20_24, mt20_12, mt20_28]
theorem p_333 (A : Args F) : k0_pay667 (lo5 (M4 A 5)) (lo5 (M4 A 9)) (hi5 (M4 A 2)) (hi5 (M4 A 6)) (hi5 (M4 A 10)) (N5 A 13) (clean1 mX mN (N5 A) 1) = clean3 mX mN (N5 A) 9 := by
  simp only [mX, mN, k0_pay667, k0_pay636, k0_pay626, k0_pay644, k0_pay622, k0_pay630, cl3_9, cl2_9, cl1_9, cl2_13, cl1_5, cl1_13, N5_e, mt20_9, mt20_25, mt20_5, mt20_21, mt20_13, mt20_29]
theorem p_334 (A : Args F) : k0_pay668 (lo5 (M4 A 5)) (lo5 (M4 A 9)) (hi5 (M4 A 2)) (hi5 (M4 A 6)) (hi5 (M4 A 10)) (N5 A 13) (clean1 mX mN (N5 A) 1) = clean3 mX mN (N5 A) 13 := by
  simp only [mX, mN, k0_pay668, k0_pay636, k0_pay626, k0_pay644, k0_pay622, k0_pay630, cl3_13, cl2_9, cl1_9, cl2_13, cl1_5, cl1_13, N5_e, mt20_9, mt20_25, mt20_5, mt20_21, mt20_13, mt20_29]
theorem p_335 (A : Args F) : k0_pay669 (lo5 (M4 A 6)) (lo5 (M4 A 10)) (hi5 (M4 A 1)) (hi5 (M4 A 5)) (hi5 (M4 A 9)) (N5 A 14) (clean1 mX mN (N5 A) 2) = clean3 mX mN (N5 A) 10 := by
  simp only [mX, mN, k0_pay669, k0_pay638, k0_pay627, k0_pay646, k0_pay623, k0_pay631, cl3_10, cl2_10, cl1_10, cl2_14, cl1_6, cl1_14, N5_e, mt20_10, mt20_26, mt20_6, mt20_22, mt20_14, mt20_30]
theorem p_336 (A : Args F) : k0_pay670 (lo5 (M4 A 6)) (lo5 (M4 A 10)) (hi5 (M4 A 1)) (hi5 (M4 A 5)) (hi5 (M4 A 9)) (N5 A 14) (clean1 mX mN (N5 A) 2) = clean3 mX mN (N5 A) 14 := by
  simp only [mX, mN, k0_pay670, k0_pay638, k0_pay627, k0_pay646, k0_pay623, k0_pay631, cl3_14, cl2_10, cl1_10, cl2_14, cl1_6, cl1_14, N5_e, mt20_10, mt20_26, mt20_6, mt20_22, mt20_14, mt20_30]
theorem p_337 (A : Args F) : k0_pay697 (clean3 mX mN (N5 A) 0) (clean3 mX mN (N5 A) 1) (clean3 mX mN (N5 A) 2) (clean3 mX mN (N5 A) 3) = M5 A 0 := by
  simp only [mX, mN, k0_pay697, k0_pay677, k0_pay679, cl5_0, M5_e, cl4_0, cl4_1]
theorem p_338 (A : Args F) : k0_pay698 (clean3 mX mN (N5 A) 0) (clean3 mX mN (N5 A) 1) (clean3 mX mN (N5 A) 2) (clean3 mX mN (N5 A) 3) = M5 A 1 := by
  simp only [mX, mN, k0_pay698, k0_pay677, k0_pay679, cl5_1, M5_e, cl4_0, cl4_1]
theorem p_339 (A : Args F) : k0_pay699 (clean3 mX mN (N5 A) 0) (clean3 mX mN (N5 A) 1) (clean3 mX mN (N5 A) 2) (clean3 mX mN (N5 A) 3) = M5 A 2 := by
  simp only [mX, mN, k0_pay699, k0_pay678, k0_pay680, cl5_2, M5_e, cl4_2, cl4_3]
theorem p_340 (A : Args F) : k0_pay700 (clean3 mX mN (N5 A) 0) (clean3 mX mN (N5 A) 1) (clean3 mX mN (N5 A) 2) (clean3 mX mN (N5 A) 3) = M5 A 3 := by
  simp only [mX, mN, k0_pay700, k0_pay678, k0_pay680, cl5_3, M5_e, cl4_2, cl4_3]
theorem p_341 (A : Args F) : k0_pay701 (clean3 mX mN (N5 A) 4) (clean3 mX mN (N5 A) 5) (clean3 mX mN (N5 A) 6) (clean3 mX mN (N5 A) 7) = M5 A 4 := by
  simp only [mX, mN, k0_pay701, k0_pay681, k0_pay683, cl5_4, M5_e, cl4_4, cl4_5]
theorem p_342 (A : Args F) : k0_pay702 (clean3 mX mN (N5 A) 4) (clean3 mX mN (N5 A) 5) (clean3 mX mN (N5 A) 6) (clean3 mX mN (N5 A) 7) = M5 A 5 := by
  simp only [mX, mN, k0_pay702, k0_pay681, k0_pay683, cl5_5, M5_e, cl4_4, cl4_5]
theorem p_343 (A : Args F) : k0_pay703 (clean3 mX mN (N5 A) 4) (clean3 mX mN (N5 A) 5) (clean3 mX mN (N5 A) 6) (clean3 mX mN (N5 A) 7) = M5 A 6 := by
  simp only [mX, mN, k0_pay703, k0_pay682, k0_pay684, cl5_6, M5_e, cl4_6, cl4_7]
theorem p_344 (A : Args F) : k0_pay704 (clean3 mX mN (N5 A) 4) (clean3 mX mN (N5 A) 5) (clean3 mX mN (N5 A) 6) (clean3 mX mN (N5 A) 7) = M5 A 7 := by
  simp only [mX, mN, k0_pay704, k0_pay682, k0_pay684, cl5_7, M5_e, cl4_6, cl4_7]
theorem p_345 (A : Args F) : k0_pay705 (clean2 mX mN (N5 A) 11) (clean2 mX mN (N5 A) 15) (clean3 mX mN (N5 A) 8) (clean3 mX mN (N5 A) 9) (clean3 mX mN (N5 A) 10) = M5 A 8 := by
  simp only [mX, mN, k0_pay705, k0_pay685, k0_pay687, k0_pay671, cl5_8, M5_e, cl4_8, cl4_9, cl3_11]
theorem p_346 (A : Args F) : k0_pay706 (clean2 mX mN (N5 A) 11) (clean2 mX mN (N5 A) 15) (clean3 mX mN (N5 A) 8) (clean3 mX mN (N5 A) 9) (clean3 mX mN (N5 A) 10) = M5 A 9 := by
  simp only [mX, mN, k0_pay706, k0_pay685, k0_pay687, k0_pay671, cl5_9, M5_e, cl4_8, cl4_9, cl3_11]
theorem p_347 (A : Args F) : k0_pay707 (clean2 mX mN (N5 A) 11) (clean2 mX mN (N5 A) 15) (clean3 mX mN (N5 A) 8) (clean3 mX mN (N5 A) 9) (clean3 mX mN (N5 A) 10) = M5 A 10 := by
  simp only [mX, mN, k0_pay707, k0_pay686, k0_pay688, k0_pay671, cl5_10, M5_e, cl4_10, cl4_11, cl3_11]
theorem p_348 (A : Args F) : k0_pay708 (clean2 mX mN (N5 A) 11) (clean2 mX mN (N5 A) 15) (clean3 mX mN (N5 A) 8) (clean3 mX mN (N5 A) 9) (clean3 mX mN (N5 A) 10) = M5 A 11 := by
  simp only [mX, mN, k0_pay708, k0_pay686, k0_pay688, k0_pay671, cl5_11, M5_e, cl4_10, cl4_11, cl3_11]
theorem p_349 (A : Args F) : k0_pay709 (clean2 mX mN (N5 A) 11) (clean2 mX mN (N5 A) 15) (clean3 mX mN (N5 A) 12) (clean3 mX mN (N5 A) 13) (clean3 mX mN (N5 A) 14) = M5 A 12 := by
  simp only [mX, mN, k0_pay709, k0_pay689, k0_pay691, k0_pay672, cl5_12, M5_e, cl4_12, cl4_13, cl3_15]
theorem p_350 (A : Args F) : k0_pay710 (clean2 mX mN (N5 A) 11) (clean2 mX mN (N5 A) 15) (clean3 mX mN (N5 A) 12) (clean3 mX mN (N5 A) 13) (clean3 mX mN (N5 A) 14) = M5 A 13 := by
  simp only [mX, mN, k0_pay710, k0_pay689, k0_pay691, k0_pay672, cl5_13, M5_e, cl4_12, cl4_13, cl3_15]
theorem p_351 (A : Args F) : k0_pay711 (clean2 mX mN (N5 A) 11) (clean2 mX mN (N5 A) 15) (clean3 mX mN (N5 A) 12) (clean3 mX mN (N5 A) 13) (clean3 mX mN (N5 A) 14) = M5 A 14 := by
  simp only [mX, mN, k0_pay711, k0_pay690, k0_pay692, k0_pay672, cl5_14, M5_e, cl4_14, cl4_15, cl3_15]
theorem p_352 (A : Args F) : k0_pay712 (clean2 mX mN (N5 A) 11) (clean2 mX mN (N5 A) 15) (clean3 mX mN (N5 A) 12) (clean3 mX mN (N5 A) 13) (clean3 mX mN (N5 A) 14) = M5 A 15 := by
  simp only [mX, mN, k0_pay712, k0_pay690, k0_pay692, k0_pay672, cl5_15, M5_e, cl4_14, cl4_15, cl3_15]
theorem p_353 (A : Args F) : k0_pay713 (clean2 mX mN (N5 A) 16) (clean2 mX mN (N5 A) 17) (clean2 mX mN (N5 A) 18) (clean2 mX mN (N5 A) 19) (clean2 mX mN (N5 A) 20) (clean2 mX mN (N5 A) 21) (clean2 mX mN (N5 A) 22) (clean2 mX mN (N5 A) 23) = M5 A 16 := by
  simp only [mX, mN, k0_pay713, k0_pay693, k0_pay673, k0_pay675, k0_pay695, k0_pay674, k0_pay676, cl5_16, M5_e, cl4_16, cl3_16, cl3_18, cl4_17, cl3_17, cl3_19]
theorem p_354 (A : Args F) : k0_pay714 (clean2 mX mN (N5 A) 16) (clean2 mX mN (N5 A) 17) (clean2 mX mN (N5 A) 18) (clean2 mX mN (N5 A) 19) (clean2 mX mN (N5 A) 20) (clean2 mX mN (N5 A) 21) (clean2 mX mN (N5 A) 22) (clean2 mX mN (N5 A) 23) = M5 A 17 := by
  simp only [mX, mN, k0_pay714, k0_pay693, k0_pay673, k0_pay675, k0_pay695, k0_pay674, k0_pay676, cl5_17, M5_e, cl4_16, cl3_16, cl3_18, cl4_17, cl3_17, cl3_19]
theorem p_355 (A : Args F) : k0_pay715 (clean2 mX mN (N5 A) 16) (clean2 mX mN (N5 A) 17) (clean2 mX mN (N5 A) 18) (clean2 mX mN (N5 A) 19) (clean2 mX mN (N5 A) 20) (clean2 mX mN (N5 A) 21) (clean2 mX mN (N5 A) 22) (clean2 mX mN (N5 A) 23) = M5 A 18 := by
  simp only [mX, mN, k0_pay715, k0_pay694, k0_pay673, k0_pay675, k0_pay696, k0_pay674, k0_pay676, cl5_18, M5_e, cl4_18, cl3_16, cl3_18, cl4_19, cl3_17, cl3_19]
theorem p_356 (A : Args F) : k0_pay716 (clean2 mX mN (N5 A) 16) (clean2 mX mN (N5 A) 17) (clean2 mX mN (N5 A) 18) (clean2 mX mN (N5 A) 19) (clean2 mX mN (N5 A) 20) (clean2 mX mN (N5 A) 21) (clean2 mX mN (N5 A) 22) (clean2 mX mN (N5 A) 23) = M5 A 19 := by
  simp only [mX, mN, k0_pay716, k0_pay694, k0_pay673, k0_pay675, k0_pay696, k0_pay674, k0_pay676, cl5_19, M5_e, cl4_18, cl3_16, cl3_18, cl4_19, cl3_17, cl3_19]
theorem p_357 (A : Args F) : k0_pay717 (clean3 mX mN (N5 A) 0) (clean3 mX mN (N5 A) 1) (clean3 mX mN (N5 A) 2) (clean3 mX mN (N5 A) 3) = lo6 (M5 A 0) := by
  simp only [mX, mN, k0_pay717, k0_pay697, k0_pay677, k0_pay679, lo6, cl5_0, M5_e, cl4_0, cl4_1]
theorem p_358 (A : Args F) : k0_pay718 (clean3 mX mN (N5 A) 0) (clean3 mX mN (N5 A) 1) (clean3 mX mN (N5 A) 2) (clean3 mX mN (N5 A) 3) = lo6 (M5 A 1) := by
  simp only [mX, mN, k0_pay718, k0_pay698, k0_pay677, k0_pay679, lo6, cl5_1, M5_e, cl4_0, cl4_1]
theorem p_359 (A : Args F) : k0_pay719 (clean3 mX mN (N5 A) 0) (clean3 mX mN (N5 A) 1) (clean3 mX mN (N5 A) 2) (clean3 mX mN (N5 A) 3) = lo6 (M5 A 2) := by
  simp only [mX, mN, k0_pay719, k0_pay699, k0_pay678, k0_pay680, lo6, cl5_2, M5_e, cl4_2, cl4_3]
theorem p_360 (A : Args F) : k0_pay720 (clean3 mX mN (N5 A) 0) (clean3 mX mN (N5 A) 1) (clean3 mX mN (N5 A) 2) (clean3 mX mN (N5 A) 3) = lo6 (M5 A 3) := by
  simp only [mX, mN, k0_pay720, k0_pay700, k0_pay678, k0_pay680, lo6, cl5_3, M5_e, cl4_2, cl4_3]
theorem p_361 (A : Args F) : k0_pay721 (clean3 mX mN (N5 A) 4) (clean3 mX mN (N5 A) 5) (clean3 mX mN (N5 A) 6) (clean3 mX mN (N5 A) 7) = lo6 (M5 A 4) := by
  simp only [mX, mN, k0_pay721, k0_pay701, k0_pay681, k0_pay683, lo6, cl5_4, M5_e, cl4_4, cl4_5]
theorem p_362 (A : Args F) : k0_pay722 (clean3 mX mN (N5 A) 4) (clean3 mX mN (N5 A) 5) (clean3 mX mN (N5 A) 6) (clean3 mX mN (N5 A) 7) = lo6 (M5 A 5) := by
  simp only [mX, mN, k0_pay722, k0_pay702, k0_pay681, k0_pay683, lo6, cl5_5, M5_e, cl4_4, cl4_5]
theorem p_363 (A : Args F) : k0_pay723 (clean3 mX mN (N5 A) 4) (clean3 mX mN (N5 A) 5) (clean3 mX mN (N5 A) 6) (clean3 mX mN (N5 A) 7) = lo6 (M5 A 6) := by
  simp only [mX, mN, k0_pay723, k0_pay703, k0_pay682, k0_pay684, lo6, cl5_6, M5_e, cl4_6, cl4_7]
theorem p_364 (A : Args F) : k0_pay724 (clean3 mX mN (N5 A) 4) (clean3 mX mN (N5 A) 5) (clean3 mX mN (N5 A) 6) (clean3 mX mN (N5 A) 7) = lo6 (M5 A 7) := by
  simp only [mX, mN, k0_pay724, k0_pay704, k0_pay682, k0_pay684, lo6, cl5_7, M5_e, cl4_6, cl4_7]
theorem p_365 (A : Args F) : k0_pay725 (clean2 mX mN (N5 A) 11) (clean2 mX mN (N5 A) 15) (clean3 mX mN (N5 A) 8) (clean3 mX mN (N5 A) 9) (clean3 mX mN (N5 A) 10) = lo6 (M5 A 8) := by
  simp only [mX, mN, k0_pay725, k0_pay705, k0_pay685, k0_pay687, k0_pay671, lo6, cl5_8, M5_e, cl4_8, cl4_9, cl3_11]
theorem p_366 (A : Args F) : k0_pay726 (clean2 mX mN (N5 A) 11) (clean2 mX mN (N5 A) 15) (clean3 mX mN (N5 A) 8) (clean3 mX mN (N5 A) 9) (clean3 mX mN (N5 A) 10) = lo6 (M5 A 9) := by
  simp only [mX, mN, k0_pay726, k0_pay706, k0_pay685, k0_pay687, k0_pay671, lo6, cl5_9, M5_e, cl4_8, cl4_9, cl3_11]
theorem p_367 (A : Args F) : k0_pay727 (clean2 mX mN (N5 A) 11) (clean2 mX mN (N5 A) 15) (clean3 mX mN (N5 A) 8) (clean3 mX mN (N5 A) 9) (clean3 mX mN (N5 A) 10) = lo6 (M5 A 10) := by
  simp only [mX, mN, k0_pay727, k0_pay707, k0_pay686, k0_pay688, k0_pay671, lo6, cl5_10, M5_e, cl4_10, cl4_11, cl3_11]
theorem p_368 (A : Args F) : k0_pay728 (clean2 mX mN (N5 A) 11) (clean2 mX mN (N5 A) 15) (clean3 mX mN (N5 A) 8) (clean3 mX mN (N5 A) 9) (clean3 mX mN (N5 A) 10) = lo6 (M5 A 11) := by
  simp only [mX, mN, k0_pay728, k0_pay708, k0_pay686, k0_pay688, k0_pay671, lo6, cl5_11, M5_e, cl4_10, cl4_11, cl3_11]
theorem p_369 (A : Args F) : k0_pay729 (clean2 mX mN (N5 A) 11) (clean2 mX mN (N5 A) 15) (clean3 mX mN (N5 A) 12) (clean3 mX mN (N5 A) 13) (clean3 mX mN (N5 A) 14) = lo6 (M5 A 12) := by
  simp only [mX, mN, k0_pay729, k0_pay709, k0_pay689, k0_pay691, k0_pay672, lo6, cl5_12, M5_e, cl4_12, cl4_13, cl3_15]
theorem p_370 (A : Args F) : k0_pay730 (clean2 mX mN (N5 A) 11) (clean2 mX mN (N5 A) 15) (clean3 mX mN (N5 A) 12) (clean3 mX mN (N5 A) 13) (clean3 mX mN (N5 A) 14) = lo6 (M5 A 13) := by
  simp only [mX, mN, k0_pay730, k0_pay710, k0_pay689, k0_pay691, k0_pay672, lo6, cl5_13, M5_e, cl4_12, cl4_13, cl3_15]
theorem p_371 (A : Args F) : k0_pay731 (M5 A 0) = hi6 (M5 A 0) := by
  simp only [mX, mN, k0_pay731, hi6]
theorem p_372 (A : Args F) : k0_pay732 (M5 A 1) = hi6 (M5 A 1) := by
  simp only [mX, mN, k0_pay732, hi6]
theorem p_373 (A : Args F) : k0_pay733 (M5 A 2) = hi6 (M5 A 2) := by
  simp only [mX, mN, k0_pay733, hi6]
theorem p_374 (A : Args F) : k0_pay744 (M5 A 18) (lo6 (M5 A 13)) = N6 A 13 := by
  simp only [mX, mN, k0_pay744, N6_e, mt20_13, hi6]
theorem p_375 (A : Args F) : k0_pay745 (M5 A 14) (M5 A 17) = N6 A 14 := by
  simp only [mX, mN, k0_pay745, N6_e, mt20_14, lo6, hi6]
theorem p_376 (A : Args F) : k0_pay746 (M5 A 15) (M5 A 16) = N6 A 15 := by
  simp only [mX, mN, k0_pay746, N6_e, mt20_15, lo6, hi6]
theorem p_377 (A : Args F) : k0_pay751 (M5 A 15) (M5 A 16) (lo6 (M5 A 0)) = clean1 mX mN (N6 A) 0 := by
  simp only [mX, mN, k0_pay751, k0_pay747, cl1_0, N6_e, mt20_16, lo6, hi6, mt20_0]
theorem p_378 (A : Args F) : k0_pay752 (M5 A 15) (M5 A 16) (lo6 (M5 A 0)) = clean1 mX mN (N6 A) 16 := by
  simp only [mX, mN, k0_pay752, k0_pay747, cl1_16, N6_e, mt20_16, lo6, hi6, mt20_0]
theorem p_379 (A : Args F) : k0_pay753 (M5 A 14) (M5 A 17) (lo6 (M5 A 1)) = clean1 mX mN (N6 A) 1 := by
  simp only [mX, mN, k0_pay753, k0_pay748, cl1_1, N6_e, mt20_17, lo6, hi6, mt20_1]
theorem p_380 (A : Args F) : k0_pay754 (M5 A 14) (M5 A 17) (lo6 (M5 A 1)) = clean1 mX mN (N6 A) 17 := by
  simp only [mX, mN, k0_pay754, k0_pay748, cl1_17, N6_e, mt20_17, lo6, hi6, mt20_1]
theorem p_381 (A : Args F) : k0_pay755 (M5 A 13) (M5 A 18) (lo6 (M5 A 2)) = clean1 mX mN (N6 A) 2 := by
  simp only [mX, mN, k0_pay755, k0_pay749, cl1_2, N6_e, mt20_18, lo6, hi6, mt20_2]
theorem p_382 (A : Args F) : k0_pay756 (M5 A 13) (M5 A 18) (lo6 (M5 A 2)) = clean1 mX mN (N6 A) 18 := by
  simp only [mX, mN, k0_pay756, k0_pay749, cl1_18, N6_e, mt20_18, lo6, hi6, mt20_2]
theorem p_383 (A : Args F) : k0_pay757 (M5 A 12) (M5 A 19) (lo6 (M5 A 3)) = clean1 mX mN (N6 A) 3 := by
  simp only [mX, mN, k0_pay757, k0_pay750, cl1_3, N6_e, mt20_19, lo6, hi6, mt20_3]

end Cert.Proof

end

end
-- ==== Proof.Steps6.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_384 (A : Args F) : k0_pay758 (M5 A 12) (M5 A 19) (lo6 (M5 A 3)) = clean1 mX mN (N6 A) 19 := by
  simp only [mX, mN, k0_pay758, k0_pay750, cl1_19, N6_e, mt20_19, lo6, hi6, mt20_3]
theorem p_385 (A : Args F) : k0_pay759 (M5 A 11) (lo6 (M5 A 4)) = clean1 mX mN (N6 A) 4 := by
  simp only [mX, mN, k0_pay759, k0_pay742, cl1_4, hi6, N6_e, mt20_4, mt20_20]
theorem p_386 (A : Args F) : k0_pay760 (M5 A 11) (lo6 (M5 A 4)) = clean1 mX mN (N6 A) 20 := by
  simp only [mX, mN, k0_pay760, k0_pay742, cl1_20, hi6, N6_e, mt20_20, mt20_4]
theorem p_387 (A : Args F) : k0_pay761 (M5 A 10) (lo6 (M5 A 5)) = clean1 mX mN (N6 A) 5 := by
  simp only [mX, mN, k0_pay761, k0_pay741, cl1_5, hi6, N6_e, mt20_5, mt20_21]
theorem p_388 (A : Args F) : k0_pay762 (M5 A 10) (lo6 (M5 A 5)) = clean1 mX mN (N6 A) 21 := by
  simp only [mX, mN, k0_pay762, k0_pay741, cl1_21, hi6, N6_e, mt20_21, mt20_5]
theorem p_389 (A : Args F) : k0_pay763 (M5 A 9) (lo6 (M5 A 6)) = clean1 mX mN (N6 A) 6 := by
  simp only [mX, mN, k0_pay763, k0_pay740, cl1_6, hi6, N6_e, mt20_6, mt20_22]
theorem p_390 (A : Args F) : k0_pay764 (M5 A 9) (lo6 (M5 A 6)) = clean1 mX mN (N6 A) 22 := by
  simp only [mX, mN, k0_pay764, k0_pay740, cl1_22, hi6, N6_e, mt20_22, mt20_6]
theorem p_391 (A : Args F) : k0_pay765 (M5 A 8) (lo6 (M5 A 7)) = clean1 mX mN (N6 A) 7 := by
  simp only [mX, mN, k0_pay765, k0_pay739, cl1_7, hi6, N6_e, mt20_7, mt20_23]
theorem p_392 (A : Args F) : k0_pay766 (M5 A 8) (lo6 (M5 A 7)) = clean1 mX mN (N6 A) 23 := by
  simp only [mX, mN, k0_pay766, k0_pay739, cl1_23, hi6, N6_e, mt20_23, mt20_7]
theorem p_393 (A : Args F) : k0_pay767 (M5 A 7) (lo6 (M5 A 8)) = clean1 mX mN (N6 A) 8 := by
  simp only [mX, mN, k0_pay767, k0_pay738, cl1_8, hi6, N6_e, mt20_8, mt20_24]
theorem p_394 (A : Args F) : k0_pay768 (M5 A 7) (lo6 (M5 A 8)) = clean1 mX mN (N6 A) 24 := by
  simp only [mX, mN, k0_pay768, k0_pay738, cl1_24, hi6, N6_e, mt20_24, mt20_8]
theorem p_395 (A : Args F) : k0_pay769 (M5 A 6) (lo6 (M5 A 9)) = clean1 mX mN (N6 A) 9 := by
  simp only [mX, mN, k0_pay769, k0_pay737, cl1_9, hi6, N6_e, mt20_9, mt20_25]
theorem p_396 (A : Args F) : k0_pay770 (M5 A 6) (lo6 (M5 A 9)) = clean1 mX mN (N6 A) 25 := by
  simp only [mX, mN, k0_pay770, k0_pay737, cl1_25, hi6, N6_e, mt20_25, mt20_9]
theorem p_397 (A : Args F) : k0_pay771 (M5 A 5) (lo6 (M5 A 10)) = clean1 mX mN (N6 A) 10 := by
  simp only [mX, mN, k0_pay771, k0_pay736, cl1_10, hi6, N6_e, mt20_10, mt20_26]
theorem p_398 (A : Args F) : k0_pay772 (M5 A 5) (lo6 (M5 A 10)) = clean1 mX mN (N6 A) 26 := by
  simp only [mX, mN, k0_pay772, k0_pay736, cl1_26, hi6, N6_e, mt20_26, mt20_10]
theorem p_399 (A : Args F) : k0_pay773 (M5 A 4) (lo6 (M5 A 11)) = clean1 mX mN (N6 A) 11 := by
  simp only [mX, mN, k0_pay773, k0_pay735, cl1_11, hi6, N6_e, mt20_11, mt20_27]
theorem p_400 (A : Args F) : k0_pay774 (M5 A 4) (lo6 (M5 A 11)) = clean1 mX mN (N6 A) 27 := by
  simp only [mX, mN, k0_pay774, k0_pay735, cl1_27, hi6, N6_e, mt20_27, mt20_11]
theorem p_401 (A : Args F) : k0_pay775 (M5 A 3) (M5 A 19) (lo6 (M5 A 12)) = clean1 mX mN (N6 A) 12 := by
  simp only [mX, mN, k0_pay775, k0_pay743, k0_pay734, cl1_12, N6_e, mt20_12, hi6, mt20_28]
theorem p_402 (A : Args F) : k0_pay776 (M5 A 3) (M5 A 19) (lo6 (M5 A 12)) = clean1 mX mN (N6 A) 28 := by
  simp only [mX, mN, k0_pay776, k0_pay743, k0_pay734, cl1_28, N6_e, mt20_12, hi6, mt20_28]
theorem p_403 (A : Args F) : k0_pay805 (clean1 mX mN (N6 A) 0) (clean1 mX mN (N6 A) 4) (clean1 mX mN (N6 A) 8) (clean1 mX mN (N6 A) 12) = clean3 mX mN (N6 A) 12 := by
  simp only [mX, mN, k0_pay805, k0_pay781, k0_pay789, cl3_12, cl2_8, cl2_12]
theorem p_404 (A : Args F) : k0_pay806 (hi6 (M5 A 2)) (N6 A 13) (clean1 mX mN (N6 A) 1) (clean1 mX mN (N6 A) 5) (clean1 mX mN (N6 A) 9) = clean3 mX mN (N6 A) 9 := by
  simp only [mX, mN, k0_pay806, k0_pay783, k0_pay791, k0_pay777, cl3_9, cl2_9, cl2_13, cl1_13, N6_e, mt20_13, mt20_29]
theorem p_405 (A : Args F) : k0_pay807 (hi6 (M5 A 2)) (N6 A 13) (clean1 mX mN (N6 A) 1) (clean1 mX mN (N6 A) 5) (clean1 mX mN (N6 A) 9) = clean3 mX mN (N6 A) 13 := by
  simp only [mX, mN, k0_pay807, k0_pay783, k0_pay791, k0_pay777, cl3_13, cl2_9, cl2_13, cl1_13, N6_e, mt20_13, mt20_29]
theorem p_406 (A : Args F) : k0_pay809 (hi6 (M5 A 1)) (N6 A 14) (clean1 mX mN (N6 A) 2) (clean1 mX mN (N6 A) 6) (clean1 mX mN (N6 A) 10) = clean3 mX mN (N6 A) 14 := by
  simp only [mX, mN, k0_pay809, k0_pay785, k0_pay793, k0_pay778, cl3_14, cl2_10, cl2_14, cl1_14, N6_e, mt20_14, mt20_30]
theorem p_407 (A : Args F) : k0_pay810 (hi6 (M5 A 0)) (N6 A 15) (clean1 mX mN (N6 A) 3) (clean1 mX mN (N6 A) 7) (clean1 mX mN (N6 A) 11) = clean3 mX mN (N6 A) 11 := by
  simp only [mX, mN, k0_pay810, k0_pay787, k0_pay795, k0_pay779, cl3_11, cl2_11, cl2_15, cl1_15, N6_e, mt20_15, mt20_31]
theorem p_408 (A : Args F) : k0_pay811 (hi6 (M5 A 0)) (N6 A 15) (clean1 mX mN (N6 A) 3) (clean1 mX mN (N6 A) 7) (clean1 mX mN (N6 A) 11) = clean3 mX mN (N6 A) 15 := by
  simp only [mX, mN, k0_pay811, k0_pay787, k0_pay795, k0_pay779, cl3_15, cl2_11, cl2_15, cl1_15, N6_e, mt20_15, mt20_31]
theorem p_409 (A : Args F) : k0_pay812 (clean1 mX mN (N6 A) 16) (clean1 mX mN (N6 A) 20) (clean1 mX mN (N6 A) 24) (clean1 mX mN (N6 A) 28) = clean3 mX mN (N6 A) 16 := by
  simp only [mX, mN, k0_pay812, cl3_16, cl2_16, cl2_20]
theorem p_410 (A : Args F) : k0_pay813 (hi6 (M5 A 2)) (N6 A 13) (clean1 mX mN (N6 A) 17) (clean1 mX mN (N6 A) 21) (clean1 mX mN (N6 A) 25) = clean3 mX mN (N6 A) 17 := by
  simp only [mX, mN, k0_pay813, cl3_17, cl2_17, cl2_21, cl1_29, N6_e, mt20_29, mt20_13]
theorem p_411 (A : Args F) : k0_pay814 (hi6 (M5 A 1)) (N6 A 14) (clean1 mX mN (N6 A) 18) (clean1 mX mN (N6 A) 22) (clean1 mX mN (N6 A) 26) = clean3 mX mN (N6 A) 18 := by
  simp only [mX, mN, k0_pay814, cl3_18, cl2_18, cl2_22, cl1_30, N6_e, mt20_30, mt20_14]
theorem p_412 (A : Args F) : k0_pay815 (hi6 (M5 A 0)) (N6 A 15) (clean1 mX mN (N6 A) 19) (clean1 mX mN (N6 A) 23) (clean1 mX mN (N6 A) 27) = clean3 mX mN (N6 A) 19 := by
  simp only [mX, mN, k0_pay815, cl3_19, cl2_19, cl2_23, cl1_31, N6_e, mt20_31, mt20_15]
theorem p_413 (A : Args F) : k0_pay816 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 0 := by
  simp only [mX, mN, k0_pay816, k0_pay796, k0_pay780, k0_pay788, k0_pay800, k0_pay784, k0_pay792, k0_pay778, cl4_0, cl3_0, cl2_0, cl2_4, cl3_2, cl2_2, cl2_6, cl1_14, N6_e, mt20_14, mt20_30]
theorem p_414 (A : Args F) : k0_pay817 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 2 := by
  simp only [mX, mN, k0_pay817, k0_pay796, k0_pay780, k0_pay788, k0_pay800, k0_pay784, k0_pay792, k0_pay778, cl4_2, cl3_0, cl2_0, cl2_4, cl3_2, cl2_2, cl2_6, cl1_14, N6_e, mt20_14, mt20_30]
theorem p_415 (A : Args F) : k0_pay818 (hi6 (M5 A 0)) (hi6 (M5 A 2)) (N6 A 13) (N6 A 15) (clean1 mX mN (N6 A) 1) (clean1 mX mN (N6 A) 3) (clean1 mX mN (N6 A) 5) (clean1 mX mN (N6 A) 7) (clean1 mX mN (N6 A) 9) (clean1 mX mN (N6 A) 11) = clean4 mX mN (N6 A) 1 := by
  simp only [mX, mN, k0_pay818, k0_pay798, k0_pay782, k0_pay790, k0_pay777, k0_pay802, k0_pay786, k0_pay794, k0_pay779, cl4_1, cl3_1, cl2_1, cl2_5, cl1_13, cl3_3, cl2_3, cl2_7, cl1_15, N6_e, mt20_13, mt20_29, mt20_15, mt20_31]
theorem p_416 (A : Args F) : k0_pay819 (hi6 (M5 A 0)) (hi6 (M5 A 2)) (N6 A 13) (N6 A 15) (clean1 mX mN (N6 A) 1) (clean1 mX mN (N6 A) 3) (clean1 mX mN (N6 A) 5) (clean1 mX mN (N6 A) 7) (clean1 mX mN (N6 A) 9) (clean1 mX mN (N6 A) 11) = clean4 mX mN (N6 A) 3 := by
  simp only [mX, mN, k0_pay819, k0_pay798, k0_pay782, k0_pay790, k0_pay777, k0_pay802, k0_pay786, k0_pay794, k0_pay779, cl4_3, cl3_1, cl2_1, cl2_5, cl1_13, cl3_3, cl2_3, cl2_7, cl1_15, N6_e, mt20_13, mt20_29, mt20_15, mt20_31]
theorem p_417 (A : Args F) : k0_pay820 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 4 := by
  simp only [mX, mN, k0_pay820, k0_pay797, k0_pay780, k0_pay788, k0_pay801, k0_pay784, k0_pay792, k0_pay778, cl4_4, cl3_4, cl2_0, cl2_4, cl3_6, cl2_2, cl2_6, cl1_14, N6_e, mt20_14, mt20_30]
theorem p_418 (A : Args F) : k0_pay821 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 6 := by
  simp only [mX, mN, k0_pay821, k0_pay797, k0_pay780, k0_pay788, k0_pay801, k0_pay784, k0_pay792, k0_pay778, cl4_6, cl3_4, cl2_0, cl2_4, cl3_6, cl2_2, cl2_6, cl1_14, N6_e, mt20_14, mt20_30]
theorem p_419 (A : Args F) : k0_pay822 (hi6 (M5 A 0)) (hi6 (M5 A 2)) (N6 A 13) (N6 A 15) (clean1 mX mN (N6 A) 1) (clean1 mX mN (N6 A) 3) (clean1 mX mN (N6 A) 5) (clean1 mX mN (N6 A) 7) (clean1 mX mN (N6 A) 9) (clean1 mX mN (N6 A) 11) = clean4 mX mN (N6 A) 5 := by
  simp only [mX, mN, k0_pay822, k0_pay799, k0_pay782, k0_pay790, k0_pay777, k0_pay803, k0_pay786, k0_pay794, k0_pay779, cl4_5, cl3_5, cl2_1, cl2_5, cl1_13, cl3_7, cl2_3, cl2_7, cl1_15, N6_e, mt20_13, mt20_29, mt20_15, mt20_31]
theorem p_420 (A : Args F) : k0_pay823 (hi6 (M5 A 0)) (hi6 (M5 A 2)) (N6 A 13) (N6 A 15) (clean1 mX mN (N6 A) 1) (clean1 mX mN (N6 A) 3) (clean1 mX mN (N6 A) 5) (clean1 mX mN (N6 A) 7) (clean1 mX mN (N6 A) 9) (clean1 mX mN (N6 A) 11) = clean4 mX mN (N6 A) 7 := by
  simp only [mX, mN, k0_pay823, k0_pay799, k0_pay782, k0_pay790, k0_pay777, k0_pay803, k0_pay786, k0_pay794, k0_pay779, cl4_7, cl3_5, cl2_1, cl2_5, cl1_13, cl3_7, cl2_3, cl2_7, cl1_15, N6_e, mt20_13, mt20_29, mt20_15, mt20_31]
theorem p_421 (A : Args F) : k0_pay824 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 8 := by
  simp only [mX, mN, k0_pay824, k0_pay804, k0_pay781, k0_pay789, k0_pay808, k0_pay785, k0_pay793, k0_pay778, cl4_8, cl3_8, cl2_8, cl2_12, cl3_10, cl2_10, cl2_14, cl1_14, N6_e, mt20_14, mt20_30]
theorem p_422 (A : Args F) : k0_pay825 (hi6 (M5 A 1)) (N6 A 14) (clean1 mX mN (N6 A) 0) (clean1 mX mN (N6 A) 2) (clean1 mX mN (N6 A) 4) (clean1 mX mN (N6 A) 6) (clean1 mX mN (N6 A) 8) (clean1 mX mN (N6 A) 10) (clean1 mX mN (N6 A) 12) = clean4 mX mN (N6 A) 10 := by
  simp only [mX, mN, k0_pay825, k0_pay804, k0_pay781, k0_pay789, k0_pay808, k0_pay785, k0_pay793, k0_pay778, cl4_10, cl3_8, cl2_8, cl2_12, cl3_10, cl2_10, cl2_14, cl1_14, N6_e, mt20_14, mt20_30]
theorem p_423 (A : Args F) : k0_pay836 (clean4 mX mN (N6 A) 0) (clean4 mX mN (N6 A) 1) = Q6 A 0 := by
  simp only [mX, mN, k0_pay836, Q6, cl5_0, M6_e]
theorem p_424 (A : Args F) : k0_pay837 (clean4 mX mN (N6 A) 0) (clean4 mX mN (N6 A) 1) = Q6 A 1 := by
  simp only [mX, mN, k0_pay837, Q6, cl5_1, M6_e]
theorem p_425 (A : Args F) : k0_pay838 (clean4 mX mN (N6 A) 2) (clean4 mX mN (N6 A) 3) = Q6 A 2 := by
  simp only [mX, mN, k0_pay838, Q6, cl5_2, M6_e]
theorem p_426 (A : Args F) : k0_pay839 (clean4 mX mN (N6 A) 2) (clean4 mX mN (N6 A) 3) = Q6 A 3 := by
  simp only [mX, mN, k0_pay839, Q6, cl5_3, M6_e]
theorem p_427 (A : Args F) : k0_pay840 (clean4 mX mN (N6 A) 4) (clean4 mX mN (N6 A) 5) = Q6 A 4 := by
  simp only [mX, mN, k0_pay840, Q6, cl5_4, M6_e]
theorem p_428 (A : Args F) : k0_pay841 (clean4 mX mN (N6 A) 4) (clean4 mX mN (N6 A) 5) = Q6 A 5 := by
  simp only [mX, mN, k0_pay841, Q6, cl5_5, M6_e]
theorem p_429 (A : Args F) : k0_pay842 (clean4 mX mN (N6 A) 6) (clean4 mX mN (N6 A) 7) = Q6 A 6 := by
  simp only [mX, mN, k0_pay842, Q6, cl5_6, M6_e]
theorem p_430 (A : Args F) : k0_pay843 (clean4 mX mN (N6 A) 6) (clean4 mX mN (N6 A) 7) = Q6 A 7 := by
  simp only [mX, mN, k0_pay843, Q6, cl5_7, M6_e]
theorem p_431 (A : Args F) : k0_pay844 (clean3 mX mN (N6 A) 9) (clean3 mX mN (N6 A) 11) (clean4 mX mN (N6 A) 8) = Q6 A 8 := by
  simp only [mX, mN, k0_pay844, k0_pay826, Q6, cl5_8, M6_e, cl4_9]
theorem p_432 (A : Args F) : k0_pay845 (clean3 mX mN (N6 A) 9) (clean3 mX mN (N6 A) 11) (clean4 mX mN (N6 A) 8) = Q6 A 9 := by
  simp only [mX, mN, k0_pay845, k0_pay826, Q6, cl5_9, M6_e, cl4_9]
theorem p_433 (A : Args F) : k0_pay846 (clean3 mX mN (N6 A) 9) (clean3 mX mN (N6 A) 11) (clean4 mX mN (N6 A) 10) = Q6 A 10 := by
  simp only [mX, mN, k0_pay846, k0_pay827, Q6, cl5_10, M6_e, cl4_11]
theorem p_434 (A : Args F) : k0_pay847 (clean3 mX mN (N6 A) 9) (clean3 mX mN (N6 A) 11) (clean4 mX mN (N6 A) 10) = Q6 A 11 := by
  simp only [mX, mN, k0_pay847, k0_pay827, Q6, cl5_11, M6_e, cl4_11]
theorem p_435 (A : Args F) : k0_pay848 (clean3 mX mN (N6 A) 12) (clean3 mX mN (N6 A) 13) (clean3 mX mN (N6 A) 14) (clean3 mX mN (N6 A) 15) = Q6 A 12 := by
  simp only [mX, mN, k0_pay848, k0_pay828, k0_pay830, Q6, cl5_12, M6_e, cl4_12, cl4_13]
theorem p_436 (A : Args F) : k0_pay849 (clean3 mX mN (N6 A) 12) (clean3 mX mN (N6 A) 13) (clean3 mX mN (N6 A) 14) (clean3 mX mN (N6 A) 15) = Q6 A 13 := by
  simp only [mX, mN, k0_pay849, k0_pay828, k0_pay830, Q6, cl5_13, M6_e, cl4_12, cl4_13]
theorem p_437 (A : Args F) : k0_pay850 (clean3 mX mN (N6 A) 12) (clean3 mX mN (N6 A) 13) (clean3 mX mN (N6 A) 14) (clean3 mX mN (N6 A) 15) = Q6 A 14 := by
  simp only [mX, mN, k0_pay850, k0_pay829, k0_pay831, Q6, cl5_14, M6_e, cl4_14, cl4_15]
theorem p_438 (A : Args F) : k0_pay851 (clean3 mX mN (N6 A) 12) (clean3 mX mN (N6 A) 13) (clean3 mX mN (N6 A) 14) (clean3 mX mN (N6 A) 15) = Q6 A 15 := by
  simp only [mX, mN, k0_pay851, k0_pay829, k0_pay831, Q6, cl5_15, M6_e, cl4_14, cl4_15]
theorem p_439 (A : Args F) : k0_pay852 (clean3 mX mN (N6 A) 16) (clean3 mX mN (N6 A) 17) (clean3 mX mN (N6 A) 18) (clean3 mX mN (N6 A) 19) = Q6 A 16 := by
  simp only [mX, mN, k0_pay852, k0_pay832, k0_pay834, Q6, cl5_16, M6_e, cl4_16, cl4_17]
theorem p_440 (A : Args F) : k0_pay853 (clean3 mX mN (N6 A) 16) (clean3 mX mN (N6 A) 17) (clean3 mX mN (N6 A) 18) (clean3 mX mN (N6 A) 19) = Q6 A 17 := by
  simp only [mX, mN, k0_pay853, k0_pay832, k0_pay834, Q6, cl5_17, M6_e, cl4_16, cl4_17]
theorem p_441 (A : Args F) : k0_pay854 (clean3 mX mN (N6 A) 16) (clean3 mX mN (N6 A) 17) (clean3 mX mN (N6 A) 18) (clean3 mX mN (N6 A) 19) = Q6 A 18 := by
  simp only [mX, mN, k0_pay854, k0_pay833, k0_pay835, Q6, cl5_18, M6_e, cl4_18, cl4_19]
theorem p_442 (A : Args F) : k0_pay855 (clean3 mX mN (N6 A) 16) (clean3 mX mN (N6 A) 17) (clean3 mX mN (N6 A) 18) (clean3 mX mN (N6 A) 19) = Q6 A 19 := by
  simp only [mX, mN, k0_pay855, k0_pay833, k0_pay835, Q6, cl5_19, M6_e, cl4_18, cl4_19]
theorem p_443 (A : Args F) : k0_pay856 (clean4 mX mN (N6 A) 0) (clean4 mX mN (N6 A) 1) = lo7 (Q6 A 0) := by
  simp only [mX, mN, k0_pay856, k0_pay836, lo7, Q6, cl5_0, M6_e]
theorem p_444 (A : Args F) : k0_pay857 (clean4 mX mN (N6 A) 0) (clean4 mX mN (N6 A) 1) = lo7 (Q6 A 1) := by
  simp only [mX, mN, k0_pay857, k0_pay837, lo7, Q6, cl5_1, M6_e]
theorem p_445 (A : Args F) : k0_pay858 (clean4 mX mN (N6 A) 2) (clean4 mX mN (N6 A) 3) = lo7 (Q6 A 2) := by
  simp only [mX, mN, k0_pay858, k0_pay838, lo7, Q6, cl5_2, M6_e]
theorem p_446 (A : Args F) : k0_pay859 (clean4 mX mN (N6 A) 2) (clean4 mX mN (N6 A) 3) = lo7 (Q6 A 3) := by
  simp only [mX, mN, k0_pay859, k0_pay839, lo7, Q6, cl5_3, M6_e]
theorem p_447 (A : Args F) : k0_pay860 (clean4 mX mN (N6 A) 4) (clean4 mX mN (N6 A) 5) = lo7 (Q6 A 4) := by
  simp only [mX, mN, k0_pay860, k0_pay840, lo7, Q6, cl5_4, M6_e]
theorem p_448 (A : Args F) : k0_pay861 (clean4 mX mN (N6 A) 4) (clean4 mX mN (N6 A) 5) = lo7 (Q6 A 5) := by
  simp only [mX, mN, k0_pay861, k0_pay841, lo7, Q6, cl5_5, M6_e]
theorem p_449 (A : Args F) : k0_pay862 (clean4 mX mN (N6 A) 6) (clean4 mX mN (N6 A) 7) = lo7 (Q6 A 6) := by
  simp only [mX, mN, k0_pay862, k0_pay842, lo7, Q6, cl5_6, M6_e]
theorem p_450 (A : Args F) : k0_pay863 (clean4 mX mN (N6 A) 6) (clean4 mX mN (N6 A) 7) = lo7 (Q6 A 7) := by
  simp only [mX, mN, k0_pay863, k0_pay843, lo7, Q6, cl5_7, M6_e]
theorem p_451 (A : Args F) : k0_pay864 (clean3 mX mN (N6 A) 9) (clean3 mX mN (N6 A) 11) (clean4 mX mN (N6 A) 8) = lo7 (Q6 A 8) := by
  simp only [mX, mN, k0_pay864, k0_pay844, k0_pay826, lo7, Q6, cl5_8, M6_e, cl4_9]
theorem p_452 (A : Args F) : k0_pay865 (clean3 mX mN (N6 A) 9) (clean3 mX mN (N6 A) 11) (clean4 mX mN (N6 A) 8) = lo7 (Q6 A 9) := by
  simp only [mX, mN, k0_pay865, k0_pay845, k0_pay826, lo7, Q6, cl5_9, M6_e, cl4_9]
theorem p_453 (A : Args F) : k0_pay867 (Q6 A 11) = lo7 (Q6 A 11) := by
  simp only [mX, mN, k0_pay867, lo7]
theorem p_454 (A : Args F) : k0_pay868 (Q6 A 0) = hi7 (Q6 A 0) := by
  simp only [mX, mN, k0_pay868, hi7]
theorem p_455 (A : Args F) : k0_pay869 (Q6 A 1) = hi7 (Q6 A 1) := by
  simp only [mX, mN, k0_pay869, hi7]
theorem p_456 (A : Args F) : k0_pay870 (Q6 A 2) = hi7 (Q6 A 2) := by
  simp only [mX, mN, k0_pay870, hi7]
theorem p_457 (A : Args F) : k0_pay871 (Q6 A 3) = hi7 (Q6 A 3) := by
  simp only [mX, mN, k0_pay871, hi7]
theorem p_458 (A : Args F) : k0_pay872 (Q6 A 4) = hi7 (Q6 A 4) := by
  simp only [mX, mN, k0_pay872, hi7]
theorem p_459 (A : Args F) : k0_pay880 (Q6 A 12) (Q6 A 19) = N7 A 12 := by
  simp only [mX, mN, k0_pay880, N7_e, mt20_12, lo7, hi7]
theorem p_460 (A : Args F) : k0_pay881 (Q6 A 13) (Q6 A 18) = N7 A 13 := by
  simp only [mX, mN, k0_pay881, N7_e, mt20_13, lo7, hi7]
theorem p_461 (A : Args F) : k0_pay882 (Q6 A 14) (Q6 A 17) = N7 A 14 := by
  simp only [mX, mN, k0_pay882, N7_e, mt20_14, lo7, hi7]
theorem p_462 (A : Args F) : k0_pay883 (Q6 A 15) (Q6 A 16) = N7 A 15 := by
  simp only [mX, mN, k0_pay883, N7_e, mt20_15, lo7, hi7]
theorem p_463 (A : Args F) : k0_pay888 (Q6 A 15) (Q6 A 16) (lo7 (Q6 A 0)) = clean1 mX mN (N7 A) 0 := by
  simp only [mX, mN, k0_pay888, k0_pay884, cl1_0, N7_e, mt20_16, lo7, hi7, mt20_0]
theorem p_464 (A : Args F) : k0_pay889 (Q6 A 15) (Q6 A 16) (lo7 (Q6 A 0)) = clean1 mX mN (N7 A) 16 := by
  simp only [mX, mN, k0_pay889, k0_pay884, cl1_16, N7_e, mt20_16, lo7, hi7, mt20_0]
theorem p_465 (A : Args F) : k0_pay890 (Q6 A 14) (Q6 A 17) (lo7 (Q6 A 1)) = clean1 mX mN (N7 A) 1 := by
  simp only [mX, mN, k0_pay890, k0_pay885, cl1_1, N7_e, mt20_17, lo7, hi7, mt20_1]
theorem p_466 (A : Args F) : k0_pay891 (Q6 A 14) (Q6 A 17) (lo7 (Q6 A 1)) = clean1 mX mN (N7 A) 17 := by
  simp only [mX, mN, k0_pay891, k0_pay885, cl1_17, N7_e, mt20_17, lo7, hi7, mt20_1]
theorem p_467 (A : Args F) : k0_pay892 (Q6 A 13) (Q6 A 18) (lo7 (Q6 A 2)) = clean1 mX mN (N7 A) 2 := by
  simp only [mX, mN, k0_pay892, k0_pay886, cl1_2, N7_e, mt20_18, lo7, hi7, mt20_2]
theorem p_468 (A : Args F) : k0_pay893 (Q6 A 13) (Q6 A 18) (lo7 (Q6 A 2)) = clean1 mX mN (N7 A) 18 := by
  simp only [mX, mN, k0_pay893, k0_pay886, cl1_18, N7_e, mt20_18, lo7, hi7, mt20_2]
theorem p_469 (A : Args F) : k0_pay894 (Q6 A 12) (Q6 A 19) (lo7 (Q6 A 3)) = clean1 mX mN (N7 A) 3 := by
  simp only [mX, mN, k0_pay894, k0_pay887, cl1_3, N7_e, mt20_19, lo7, hi7, mt20_3]
theorem p_470 (A : Args F) : k0_pay895 (Q6 A 12) (Q6 A 19) (lo7 (Q6 A 3)) = clean1 mX mN (N7 A) 19 := by
  simp only [mX, mN, k0_pay895, k0_pay887, cl1_19, N7_e, mt20_19, lo7, hi7, mt20_3]
theorem p_471 (A : Args F) : k0_pay896 (Q6 A 11) (lo7 (Q6 A 4)) = clean1 mX mN (N7 A) 4 := by
  simp only [mX, mN, k0_pay896, k0_pay879, cl1_4, hi7, N7_e, mt20_4, mt20_20]
theorem p_472 (A : Args F) : k0_pay897 (Q6 A 11) (lo7 (Q6 A 4)) = clean1 mX mN (N7 A) 20 := by
  simp only [mX, mN, k0_pay897, k0_pay879, cl1_20, hi7, N7_e, mt20_20, mt20_4]
theorem p_473 (A : Args F) : k0_pay898 (Q6 A 10) (lo7 (Q6 A 5)) = clean1 mX mN (N7 A) 5 := by
  simp only [mX, mN, k0_pay898, k0_pay878, cl1_5, hi7, N7_e, mt20_5, mt20_21]
theorem p_474 (A : Args F) : k0_pay899 (Q6 A 10) (lo7 (Q6 A 5)) = clean1 mX mN (N7 A) 21 := by
  simp only [mX, mN, k0_pay899, k0_pay878, cl1_21, hi7, N7_e, mt20_21, mt20_5]
theorem p_475 (A : Args F) : k0_pay900 (Q6 A 9) (lo7 (Q6 A 6)) = clean1 mX mN (N7 A) 6 := by
  simp only [mX, mN, k0_pay900, k0_pay877, cl1_6, hi7, N7_e, mt20_6, mt20_22]
theorem p_476 (A : Args F) : k0_pay901 (Q6 A 9) (lo7 (Q6 A 6)) = clean1 mX mN (N7 A) 22 := by
  simp only [mX, mN, k0_pay901, k0_pay877, cl1_22, hi7, N7_e, mt20_22, mt20_6]
theorem p_477 (A : Args F) : k0_pay902 (Q6 A 8) (lo7 (Q6 A 7)) = clean1 mX mN (N7 A) 7 := by
  simp only [mX, mN, k0_pay902, k0_pay876, cl1_7, hi7, N7_e, mt20_7, mt20_23]

end Cert.Proof

end

end
-- ==== Proof.Steps7.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_478 (A : Args F) : k0_pay903 (Q6 A 8) (lo7 (Q6 A 7)) = clean1 mX mN (N7 A) 23 := by
  simp only [mX, mN, k0_pay903, k0_pay876, cl1_23, hi7, N7_e, mt20_23, mt20_7]
theorem p_479 (A : Args F) : k0_pay904 (Q6 A 7) (lo7 (Q6 A 8)) = clean1 mX mN (N7 A) 8 := by
  simp only [mX, mN, k0_pay904, k0_pay875, cl1_8, hi7, N7_e, mt20_8, mt20_24]
theorem p_480 (A : Args F) : k0_pay905 (Q6 A 7) (lo7 (Q6 A 8)) = clean1 mX mN (N7 A) 24 := by
  simp only [mX, mN, k0_pay905, k0_pay875, cl1_24, hi7, N7_e, mt20_24, mt20_8]
theorem p_481 (A : Args F) : k0_pay906 (Q6 A 6) (lo7 (Q6 A 9)) = clean1 mX mN (N7 A) 9 := by
  simp only [mX, mN, k0_pay906, k0_pay874, cl1_9, hi7, N7_e, mt20_9, mt20_25]
theorem p_482 (A : Args F) : k0_pay907 (Q6 A 6) (lo7 (Q6 A 9)) = clean1 mX mN (N7 A) 25 := by
  simp only [mX, mN, k0_pay907, k0_pay874, cl1_25, hi7, N7_e, mt20_25, mt20_9]
theorem p_483 (A : Args F) : k0_pay908 (Q6 A 5) (Q6 A 10) = clean1 mX mN (N7 A) 10 := by
  simp only [mX, mN, k0_pay908, k0_pay866, k0_pay873, cl1_10, lo7, hi7, N7_e, mt20_10, mt20_26]
theorem p_484 (A : Args F) : k0_pay909 (Q6 A 5) (Q6 A 10) = clean1 mX mN (N7 A) 26 := by
  simp only [mX, mN, k0_pay909, k0_pay866, k0_pay873, cl1_26, lo7, hi7, N7_e, mt20_26, mt20_10]
theorem p_485 (A : Args F) : k0_pay934 (hi7 (Q6 A 2)) (N7 A 13) (clean1 mX mN (N7 A) 1) (clean1 mX mN (N7 A) 5) (clean1 mX mN (N7 A) 9) = clean3 mX mN (N7 A) 5 := by
  simp only [mX, mN, k0_pay934, k0_pay917, k0_pay925, k0_pay912, cl3_5, cl2_1, cl2_5, cl1_13, N7_e, mt20_13, mt20_29]
theorem p_486 (A : Args F) : k0_pay938 (lo7 (Q6 A 11)) (hi7 (Q6 A 0)) (hi7 (Q6 A 4)) (N7 A 15) (clean1 mX mN (N7 A) 3) (clean1 mX mN (N7 A) 7) = clean3 mX mN (N7 A) 7 := by
  simp only [mX, mN, k0_pay938, k0_pay921, k0_pay910, k0_pay929, k0_pay914, cl3_7, cl2_3, cl1_11, cl2_7, cl1_15, N7_e, mt20_11, mt20_27, mt20_15, mt20_31]
theorem p_487 (A : Args F) : k0_pay939 (hi7 (Q6 A 3)) (N7 A 12) (clean1 mX mN (N7 A) 0) (clean1 mX mN (N7 A) 4) (clean1 mX mN (N7 A) 8) = clean3 mX mN (N7 A) 8 := by
  simp only [mX, mN, k0_pay939, k0_pay916, k0_pay924, k0_pay911, cl3_8, cl2_8, cl2_12, cl1_12, N7_e, mt20_12, mt20_28]
theorem p_488 (A : Args F) : k0_pay940 (hi7 (Q6 A 3)) (N7 A 12) (clean1 mX mN (N7 A) 0) (clean1 mX mN (N7 A) 4) (clean1 mX mN (N7 A) 8) = clean3 mX mN (N7 A) 12 := by
  simp only [mX, mN, k0_pay940, k0_pay916, k0_pay924, k0_pay911, cl3_12, cl2_8, cl2_12, cl1_12, N7_e, mt20_12, mt20_28]
theorem p_489 (A : Args F) : k0_pay941 (hi7 (Q6 A 2)) (N7 A 13) (clean1 mX mN (N7 A) 1) (clean1 mX mN (N7 A) 5) (clean1 mX mN (N7 A) 9) = clean3 mX mN (N7 A) 9 := by
  simp only [mX, mN, k0_pay941, k0_pay918, k0_pay926, k0_pay912, cl3_9, cl2_9, cl2_13, cl1_13, N7_e, mt20_13, mt20_29]
theorem p_490 (A : Args F) : k0_pay942 (hi7 (Q6 A 2)) (N7 A 13) (clean1 mX mN (N7 A) 1) (clean1 mX mN (N7 A) 5) (clean1 mX mN (N7 A) 9) = clean3 mX mN (N7 A) 13 := by
  simp only [mX, mN, k0_pay942, k0_pay918, k0_pay926, k0_pay912, cl3_13, cl2_9, cl2_13, cl1_13, N7_e, mt20_13, mt20_29]
theorem p_491 (A : Args F) : k0_pay943 (hi7 (Q6 A 1)) (N7 A 14) (clean1 mX mN (N7 A) 2) (clean1 mX mN (N7 A) 6) (clean1 mX mN (N7 A) 10) = clean3 mX mN (N7 A) 10 := by
  simp only [mX, mN, k0_pay943, k0_pay920, k0_pay928, k0_pay913, cl3_10, cl2_10, cl2_14, cl1_14, N7_e, mt20_14, mt20_30]
theorem p_492 (A : Args F) : k0_pay944 (hi7 (Q6 A 1)) (N7 A 14) (clean1 mX mN (N7 A) 2) (clean1 mX mN (N7 A) 6) (clean1 mX mN (N7 A) 10) = clean3 mX mN (N7 A) 14 := by
  simp only [mX, mN, k0_pay944, k0_pay920, k0_pay928, k0_pay913, cl3_14, cl2_10, cl2_14, cl1_14, N7_e, mt20_14, mt20_30]
theorem p_493 (A : Args F) : k0_pay945 (lo7 (Q6 A 11)) (hi7 (Q6 A 0)) (hi7 (Q6 A 4)) (N7 A 15) (clean1 mX mN (N7 A) 3) (clean1 mX mN (N7 A) 7) = clean3 mX mN (N7 A) 11 := by
  simp only [mX, mN, k0_pay945, k0_pay922, k0_pay910, k0_pay930, k0_pay914, cl3_11, cl2_11, cl1_11, cl2_15, cl1_15, N7_e, mt20_11, mt20_27, mt20_15, mt20_31]
theorem p_494 (A : Args F) : k0_pay946 (lo7 (Q6 A 11)) (hi7 (Q6 A 0)) (hi7 (Q6 A 4)) (N7 A 15) (clean1 mX mN (N7 A) 3) (clean1 mX mN (N7 A) 7) = clean3 mX mN (N7 A) 15 := by
  simp only [mX, mN, k0_pay946, k0_pay922, k0_pay910, k0_pay930, k0_pay914, cl3_15, cl2_11, cl1_11, cl2_15, cl1_15, N7_e, mt20_11, mt20_27, mt20_15, mt20_31]
theorem p_495 (A : Args F) : k0_pay947 (hi7 (Q6 A 3)) (N7 A 12) (clean1 mX mN (N7 A) 16) (clean1 mX mN (N7 A) 20) (clean1 mX mN (N7 A) 24) = clean3 mX mN (N7 A) 16 := by
  simp only [mX, mN, k0_pay947, cl3_16, cl2_16, cl2_20, cl1_28, N7_e, mt20_28, mt20_12]
theorem p_496 (A : Args F) : k0_pay948 (hi7 (Q6 A 2)) (N7 A 13) (clean1 mX mN (N7 A) 17) (clean1 mX mN (N7 A) 21) (clean1 mX mN (N7 A) 25) = clean3 mX mN (N7 A) 17 := by
  simp only [mX, mN, k0_pay948, cl3_17, cl2_17, cl2_21, cl1_29, N7_e, mt20_29, mt20_13]
theorem p_497 (A : Args F) : k0_pay949 (hi7 (Q6 A 1)) (N7 A 14) (clean1 mX mN (N7 A) 18) (clean1 mX mN (N7 A) 22) (clean1 mX mN (N7 A) 26) = clean3 mX mN (N7 A) 18 := by
  simp only [mX, mN, k0_pay949, cl3_18, cl2_18, cl2_22, cl1_30, N7_e, mt20_30, mt20_14]
theorem p_498 (A : Args F) : k0_pay950 (lo7 (Q6 A 11)) (hi7 (Q6 A 0)) (hi7 (Q6 A 4)) (N7 A 15) (clean1 mX mN (N7 A) 19) (clean1 mX mN (N7 A) 23) = clean3 mX mN (N7 A) 19 := by
  simp only [mX, mN, k0_pay950, cl3_19, cl2_19, cl1_27, cl2_23, cl1_31, N7_e, mt20_27, mt20_11, mt20_31, mt20_15]
theorem p_499 (A : Args F) : k0_pay951 (hi7 (Q6 A 1)) (hi7 (Q6 A 3)) (N7 A 12) (N7 A 14) (clean1 mX mN (N7 A) 0) (clean1 mX mN (N7 A) 2) (clean1 mX mN (N7 A) 4) (clean1 mX mN (N7 A) 6) (clean1 mX mN (N7 A) 8) (clean1 mX mN (N7 A) 10) = clean4 mX mN (N7 A) 0 := by
  simp only [mX, mN, k0_pay951, k0_pay931, k0_pay915, k0_pay923, k0_pay911, k0_pay935, k0_pay919, k0_pay927, k0_pay913, cl4_0, cl3_0, cl2_0, cl2_4, cl1_12, cl3_2, cl2_2, cl2_6, cl1_14, N7_e, mt20_12, mt20_28, mt20_14, mt20_30]
theorem p_500 (A : Args F) : k0_pay952 (hi7 (Q6 A 1)) (hi7 (Q6 A 3)) (N7 A 12) (N7 A 14) (clean1 mX mN (N7 A) 0) (clean1 mX mN (N7 A) 2) (clean1 mX mN (N7 A) 4) (clean1 mX mN (N7 A) 6) (clean1 mX mN (N7 A) 8) (clean1 mX mN (N7 A) 10) = clean4 mX mN (N7 A) 2 := by
  simp only [mX, mN, k0_pay952, k0_pay931, k0_pay915, k0_pay923, k0_pay911, k0_pay935, k0_pay919, k0_pay927, k0_pay913, cl4_2, cl3_0, cl2_0, cl2_4, cl1_12, cl3_2, cl2_2, cl2_6, cl1_14, N7_e, mt20_12, mt20_28, mt20_14, mt20_30]
theorem p_501 (A : Args F) : k0_pay953 (lo7 (Q6 A 11)) (hi7 (Q6 A 0)) (hi7 (Q6 A 2)) (hi7 (Q6 A 4)) (N7 A 13) (N7 A 15) (clean1 mX mN (N7 A) 1) (clean1 mX mN (N7 A) 3) (clean1 mX mN (N7 A) 5) (clean1 mX mN (N7 A) 7) (clean1 mX mN (N7 A) 9) = clean4 mX mN (N7 A) 1 := by
  simp only [mX, mN, k0_pay953, k0_pay933, k0_pay917, k0_pay925, k0_pay912, k0_pay937, k0_pay921, k0_pay910, k0_pay929, k0_pay914, cl4_1, cl3_1, cl2_1, cl2_5, cl1_13, cl3_3, cl2_3, cl1_11, cl2_7, cl1_15, N7_e, mt20_13, mt20_29, mt20_11, mt20_27, mt20_15, mt20_31]
theorem p_502 (A : Args F) : k0_pay954 (lo7 (Q6 A 11)) (hi7 (Q6 A 0)) (hi7 (Q6 A 2)) (hi7 (Q6 A 4)) (N7 A 13) (N7 A 15) (clean1 mX mN (N7 A) 1) (clean1 mX mN (N7 A) 3) (clean1 mX mN (N7 A) 5) (clean1 mX mN (N7 A) 7) (clean1 mX mN (N7 A) 9) = clean4 mX mN (N7 A) 3 := by
  simp only [mX, mN, k0_pay954, k0_pay933, k0_pay917, k0_pay925, k0_pay912, k0_pay937, k0_pay921, k0_pay910, k0_pay929, k0_pay914, cl4_3, cl3_1, cl2_1, cl2_5, cl1_13, cl3_3, cl2_3, cl1_11, cl2_7, cl1_15, N7_e, mt20_13, mt20_29, mt20_11, mt20_27, mt20_15, mt20_31]
theorem p_503 (A : Args F) : k0_pay955 (hi7 (Q6 A 1)) (hi7 (Q6 A 3)) (N7 A 12) (N7 A 14) (clean1 mX mN (N7 A) 0) (clean1 mX mN (N7 A) 2) (clean1 mX mN (N7 A) 4) (clean1 mX mN (N7 A) 6) (clean1 mX mN (N7 A) 8) (clean1 mX mN (N7 A) 10) = clean4 mX mN (N7 A) 4 := by
  simp only [mX, mN, k0_pay955, k0_pay932, k0_pay915, k0_pay923, k0_pay911, k0_pay936, k0_pay919, k0_pay927, k0_pay913, cl4_4, cl3_4, cl2_0, cl2_4, cl1_12, cl3_6, cl2_2, cl2_6, cl1_14, N7_e, mt20_12, mt20_28, mt20_14, mt20_30]
theorem p_504 (A : Args F) : k0_pay956 (hi7 (Q6 A 1)) (hi7 (Q6 A 3)) (N7 A 12) (N7 A 14) (clean1 mX mN (N7 A) 0) (clean1 mX mN (N7 A) 2) (clean1 mX mN (N7 A) 4) (clean1 mX mN (N7 A) 6) (clean1 mX mN (N7 A) 8) (clean1 mX mN (N7 A) 10) = clean4 mX mN (N7 A) 6 := by
  simp only [mX, mN, k0_pay956, k0_pay932, k0_pay915, k0_pay923, k0_pay911, k0_pay936, k0_pay919, k0_pay927, k0_pay913, cl4_6, cl3_4, cl2_0, cl2_4, cl1_12, cl3_6, cl2_2, cl2_6, cl1_14, N7_e, mt20_12, mt20_28, mt20_14, mt20_30]
theorem p_505 (A : Args F) : k0_pay977 (clean3 mX mN (N7 A) 5) (clean3 mX mN (N7 A) 7) (clean4 mX mN (N7 A) 6) = M7 A 6 := by
  simp only [mX, mN, k0_pay977, k0_pay958, cl5_6, M7_e, cl4_7]
theorem p_506 (A : Args F) : k0_pay978 (clean3 mX mN (N7 A) 5) (clean3 mX mN (N7 A) 7) (clean4 mX mN (N7 A) 6) = M7 A 7 := by
  simp only [mX, mN, k0_pay978, k0_pay958, cl5_7, M7_e, cl4_7]
theorem p_507 (A : Args F) : k0_pay979 (clean3 mX mN (N7 A) 8) (clean3 mX mN (N7 A) 9) (clean3 mX mN (N7 A) 10) (clean3 mX mN (N7 A) 11) = M7 A 8 := by
  simp only [mX, mN, k0_pay979, k0_pay959, k0_pay961, cl5_8, M7_e, cl4_8, cl4_9]
theorem p_508 (A : Args F) : k0_pay980 (clean3 mX mN (N7 A) 8) (clean3 mX mN (N7 A) 9) (clean3 mX mN (N7 A) 10) (clean3 mX mN (N7 A) 11) = M7 A 9 := by
  simp only [mX, mN, k0_pay980, k0_pay959, k0_pay961, cl5_9, M7_e, cl4_8, cl4_9]
theorem p_509 (A : Args F) : k0_pay981 (clean3 mX mN (N7 A) 8) (clean3 mX mN (N7 A) 9) (clean3 mX mN (N7 A) 10) (clean3 mX mN (N7 A) 11) = M7 A 10 := by
  simp only [mX, mN, k0_pay981, k0_pay960, k0_pay962, cl5_10, M7_e, cl4_10, cl4_11]
theorem p_510 (A : Args F) : k0_pay982 (clean3 mX mN (N7 A) 8) (clean3 mX mN (N7 A) 9) (clean3 mX mN (N7 A) 10) (clean3 mX mN (N7 A) 11) = M7 A 11 := by
  simp only [mX, mN, k0_pay982, k0_pay960, k0_pay962, cl5_11, M7_e, cl4_10, cl4_11]
theorem p_511 (A : Args F) : k0_pay983 (clean3 mX mN (N7 A) 12) (clean3 mX mN (N7 A) 13) (clean3 mX mN (N7 A) 14) (clean3 mX mN (N7 A) 15) = M7 A 12 := by
  simp only [mX, mN, k0_pay983, k0_pay963, k0_pay965, cl5_12, M7_e, cl4_12, cl4_13]
theorem p_512 (A : Args F) : k0_pay984 (clean3 mX mN (N7 A) 12) (clean3 mX mN (N7 A) 13) (clean3 mX mN (N7 A) 14) (clean3 mX mN (N7 A) 15) = M7 A 13 := by
  simp only [mX, mN, k0_pay984, k0_pay963, k0_pay965, cl5_13, M7_e, cl4_12, cl4_13]
theorem p_513 (A : Args F) : k0_pay985 (clean3 mX mN (N7 A) 12) (clean3 mX mN (N7 A) 13) (clean3 mX mN (N7 A) 14) (clean3 mX mN (N7 A) 15) = M7 A 14 := by
  simp only [mX, mN, k0_pay985, k0_pay964, k0_pay966, cl5_14, M7_e, cl4_14, cl4_15]
theorem p_514 (A : Args F) : k0_pay986 (clean3 mX mN (N7 A) 12) (clean3 mX mN (N7 A) 13) (clean3 mX mN (N7 A) 14) (clean3 mX mN (N7 A) 15) = M7 A 15 := by
  simp only [mX, mN, k0_pay986, k0_pay964, k0_pay966, cl5_15, M7_e, cl4_14, cl4_15]
theorem p_515 (A : Args F) : k0_pay987 (clean3 mX mN (N7 A) 16) (clean3 mX mN (N7 A) 17) (clean3 mX mN (N7 A) 18) (clean3 mX mN (N7 A) 19) = M7 A 16 := by
  simp only [mX, mN, k0_pay987, k0_pay967, k0_pay969, cl5_16, M7_e, cl4_16, cl4_17]
theorem p_516 (A : Args F) : k0_pay988 (clean3 mX mN (N7 A) 16) (clean3 mX mN (N7 A) 17) (clean3 mX mN (N7 A) 18) (clean3 mX mN (N7 A) 19) = M7 A 17 := by
  simp only [mX, mN, k0_pay988, k0_pay967, k0_pay969, cl5_17, M7_e, cl4_16, cl4_17]
theorem p_517 (A : Args F) : k0_pay989 (clean3 mX mN (N7 A) 16) (clean3 mX mN (N7 A) 17) (clean3 mX mN (N7 A) 18) (clean3 mX mN (N7 A) 19) = M7 A 18 := by
  simp only [mX, mN, k0_pay989, k0_pay968, k0_pay970, cl5_18, M7_e, cl4_18, cl4_19]
theorem p_518 (A : Args F) : k0_pay990 (clean3 mX mN (N7 A) 16) (clean3 mX mN (N7 A) 17) (clean3 mX mN (N7 A) 18) (clean3 mX mN (N7 A) 19) = M7 A 19 := by
  simp only [mX, mN, k0_pay990, k0_pay968, k0_pay970, cl5_19, M7_e, cl4_18, cl4_19]
theorem p_519 (A : Args F) : k0_pay991 (clean4 mX mN (N7 A) 0) (clean4 mX mN (N7 A) 1) = lo8 (M7 A 0) := by
  simp only [mX, mN, k0_pay991, k0_pay971, lo8, cl5_0, M7_e]
theorem p_520 (A : Args F) : k0_pay992 (clean4 mX mN (N7 A) 0) (clean4 mX mN (N7 A) 1) = lo8 (M7 A 1) := by
  simp only [mX, mN, k0_pay992, k0_pay972, lo8, cl5_1, M7_e]
theorem p_521 (A : Args F) : k0_pay993 (clean4 mX mN (N7 A) 2) (clean4 mX mN (N7 A) 3) = lo8 (M7 A 2) := by
  simp only [mX, mN, k0_pay993, k0_pay973, lo8, cl5_2, M7_e]
theorem p_522 (A : Args F) : k0_pay994 (clean4 mX mN (N7 A) 2) (clean4 mX mN (N7 A) 3) = lo8 (M7 A 3) := by
  simp only [mX, mN, k0_pay994, k0_pay974, lo8, cl5_3, M7_e]
theorem p_523 (A : Args F) : k0_pay995 (clean3 mX mN (N7 A) 5) (clean3 mX mN (N7 A) 7) (clean4 mX mN (N7 A) 4) = lo8 (M7 A 4) := by
  simp only [mX, mN, k0_pay995, k0_pay975, k0_pay957, lo8, cl5_4, M7_e, cl4_5]
theorem p_524 (A : Args F) : k0_pay996 (clean3 mX mN (N7 A) 5) (clean3 mX mN (N7 A) 7) (clean4 mX mN (N7 A) 4) = lo8 (M7 A 5) := by
  simp only [mX, mN, k0_pay996, k0_pay976, k0_pay957, lo8, cl5_5, M7_e, cl4_5]
theorem p_525 (A : Args F) : k0_pay997 (clean3 mX mN (N7 A) 5) (clean3 mX mN (N7 A) 7) (clean4 mX mN (N7 A) 6) = lo8 (M7 A 6) := by
  simp only [mX, mN, k0_pay997, k0_pay977, k0_pay958, lo8, cl5_6, M7_e, cl4_7]
theorem p_526 (A : Args F) : k0_pay998 (clean3 mX mN (N7 A) 5) (clean3 mX mN (N7 A) 7) (clean4 mX mN (N7 A) 6) = lo8 (M7 A 7) := by
  simp only [mX, mN, k0_pay998, k0_pay978, k0_pay958, lo8, cl5_7, M7_e, cl4_7]
theorem p_527 (A : Args F) : k0_pay999 (clean3 mX mN (N7 A) 8) (clean3 mX mN (N7 A) 9) (clean3 mX mN (N7 A) 10) (clean3 mX mN (N7 A) 11) = lo8 (M7 A 8) := by
  simp only [mX, mN, k0_pay999, k0_pay979, k0_pay959, k0_pay961, lo8, cl5_8, M7_e, cl4_8, cl4_9]
theorem p_528 (A : Args F) : k0_pay1000 (clean3 mX mN (N7 A) 8) (clean3 mX mN (N7 A) 9) (clean3 mX mN (N7 A) 10) (clean3 mX mN (N7 A) 11) = lo8 (M7 A 9) := by
  simp only [mX, mN, k0_pay1000, k0_pay980, k0_pay959, k0_pay961, lo8, cl5_9, M7_e, cl4_8, cl4_9]
theorem p_529 (A : Args F) : k0_pay1001 (clean3 mX mN (N7 A) 8) (clean3 mX mN (N7 A) 9) (clean3 mX mN (N7 A) 10) (clean3 mX mN (N7 A) 11) = lo8 (M7 A 10) := by
  simp only [mX, mN, k0_pay1001, k0_pay981, k0_pay960, k0_pay962, lo8, cl5_10, M7_e, cl4_10, cl4_11]
theorem p_530 (A : Args F) : k0_pay1002 (clean3 mX mN (N7 A) 8) (clean3 mX mN (N7 A) 9) (clean3 mX mN (N7 A) 10) (clean3 mX mN (N7 A) 11) = lo8 (M7 A 11) := by
  simp only [mX, mN, k0_pay1002, k0_pay982, k0_pay960, k0_pay962, lo8, cl5_11, M7_e, cl4_10, cl4_11]
theorem p_531 (A : Args F) : k0_pay1003 (clean3 mX mN (N7 A) 12) (clean3 mX mN (N7 A) 13) (clean3 mX mN (N7 A) 14) (clean3 mX mN (N7 A) 15) = lo8 (M7 A 12) := by
  simp only [mX, mN, k0_pay1003, k0_pay983, k0_pay963, k0_pay965, lo8, cl5_12, M7_e, cl4_12, cl4_13]
theorem p_532 (A : Args F) : k0_pay1004 (clean3 mX mN (N7 A) 12) (clean3 mX mN (N7 A) 13) (clean3 mX mN (N7 A) 14) (clean3 mX mN (N7 A) 15) = lo8 (M7 A 13) := by
  simp only [mX, mN, k0_pay1004, k0_pay984, k0_pay963, k0_pay965, lo8, cl5_13, M7_e, cl4_12, cl4_13]
theorem p_533 (A : Args F) : k0_pay1005 (clean3 mX mN (N7 A) 12) (clean3 mX mN (N7 A) 13) (clean3 mX mN (N7 A) 14) (clean3 mX mN (N7 A) 15) = lo8 (M7 A 14) := by
  simp only [mX, mN, k0_pay1005, k0_pay985, k0_pay964, k0_pay966, lo8, cl5_14, M7_e, cl4_14, cl4_15]
theorem p_534 (A : Args F) : k0_pay1006 (clean3 mX mN (N7 A) 12) (clean3 mX mN (N7 A) 13) (clean3 mX mN (N7 A) 14) (clean3 mX mN (N7 A) 15) = lo8 (M7 A 15) := by
  simp only [mX, mN, k0_pay1006, k0_pay986, k0_pay964, k0_pay966, lo8, cl5_15, M7_e, cl4_14, cl4_15]
theorem p_535 (A : Args F) : k0_pay1007 (clean3 mX mN (N7 A) 16) (clean3 mX mN (N7 A) 17) (clean3 mX mN (N7 A) 18) (clean3 mX mN (N7 A) 19) = lo8 (M7 A 16) := by
  simp only [mX, mN, k0_pay1007, k0_pay987, k0_pay967, k0_pay969, lo8, cl5_16, M7_e, cl4_16, cl4_17]
theorem p_536 (A : Args F) : k0_pay1008 (clean3 mX mN (N7 A) 16) (clean3 mX mN (N7 A) 17) (clean3 mX mN (N7 A) 18) (clean3 mX mN (N7 A) 19) = lo8 (M7 A 17) := by
  simp only [mX, mN, k0_pay1008, k0_pay988, k0_pay967, k0_pay969, lo8, cl5_17, M7_e, cl4_16, cl4_17]
theorem p_537 (A : Args F) : k0_pay1009 (clean3 mX mN (N7 A) 16) (clean3 mX mN (N7 A) 17) (clean3 mX mN (N7 A) 18) (clean3 mX mN (N7 A) 19) = lo8 (M7 A 18) := by
  simp only [mX, mN, k0_pay1009, k0_pay989, k0_pay968, k0_pay970, lo8, cl5_18, M7_e, cl4_18, cl4_19]
theorem p_538 (A : Args F) : k0_pay1010 (clean3 mX mN (N7 A) 16) (clean3 mX mN (N7 A) 17) (clean3 mX mN (N7 A) 18) (clean3 mX mN (N7 A) 19) = lo8 (M7 A 19) := by
  simp only [mX, mN, k0_pay1010, k0_pay990, k0_pay968, k0_pay970, lo8, cl5_19, M7_e, cl4_18, cl4_19]
theorem p_539 (A : Args F) : k0_pay1011 (clean4 mX mN (N7 A) 0) (clean4 mX mN (N7 A) 1) = hi8 (M7 A 0) := by
  simp only [mX, mN, k0_pay1011, k0_pay971, hi8, cl5_0, M7_e]
theorem p_540 (A : Args F) : k0_pay1012 (clean4 mX mN (N7 A) 0) (clean4 mX mN (N7 A) 1) = hi8 (M7 A 1) := by
  simp only [mX, mN, k0_pay1012, k0_pay972, hi8, cl5_1, M7_e]
theorem p_541 (A : Args F) : k0_pay1013 (clean4 mX mN (N7 A) 2) (clean4 mX mN (N7 A) 3) = hi8 (M7 A 2) := by
  simp only [mX, mN, k0_pay1013, k0_pay973, hi8, cl5_2, M7_e]
theorem p_542 (A : Args F) : k0_pay1014 (clean4 mX mN (N7 A) 2) (clean4 mX mN (N7 A) 3) = hi8 (M7 A 3) := by
  simp only [mX, mN, k0_pay1014, k0_pay974, hi8, cl5_3, M7_e]
theorem p_543 (A : Args F) : k0_pay1015 (clean3 mX mN (N7 A) 5) (clean3 mX mN (N7 A) 7) (clean4 mX mN (N7 A) 4) = hi8 (M7 A 4) := by
  simp only [mX, mN, k0_pay1015, k0_pay975, k0_pay957, hi8, cl5_4, M7_e, cl4_5]
theorem p_544 (A : Args F) : k0_pay1016 (clean3 mX mN (N7 A) 5) (clean3 mX mN (N7 A) 7) (clean4 mX mN (N7 A) 4) = hi8 (M7 A 5) := by
  simp only [mX, mN, k0_pay1016, k0_pay976, k0_pay957, hi8, cl5_5, M7_e, cl4_5]
theorem p_545 (A : Args F) : k0_pay1032 (M7 A 15) (lo8 (M7 A 0)) (lo8 (M7 A 16)) = clean1 mX mN (N8 A) 16 := by
  simp only [mX, mN, k0_pay1032, k0_pay1027, cl1_16, N8_e, mt20_16, hi8, mt20_0]
theorem p_546 (A : Args F) : k0_pay1034 (M7 A 14) (lo8 (M7 A 1)) (lo8 (M7 A 17)) = clean1 mX mN (N8 A) 17 := by
  simp only [mX, mN, k0_pay1034, k0_pay1028, cl1_17, N8_e, mt20_17, hi8, mt20_1]
theorem p_547 (A : Args F) : k0_pay1036 (M7 A 13) (lo8 (M7 A 2)) (lo8 (M7 A 18)) = clean1 mX mN (N8 A) 18 := by
  simp only [mX, mN, k0_pay1036, k0_pay1029, cl1_18, N8_e, mt20_18, hi8, mt20_2]
theorem p_548 (A : Args F) : k0_pay1037 (M7 A 12) (lo8 (M7 A 3)) (lo8 (M7 A 19)) = clean1 mX mN (N8 A) 3 := by
  simp only [mX, mN, k0_pay1037, k0_pay1030, cl1_3, N8_e, mt20_19, hi8, mt20_3]
theorem p_549 (A : Args F) : k0_pay1038 (M7 A 12) (lo8 (M7 A 3)) (lo8 (M7 A 19)) = clean1 mX mN (N8 A) 19 := by
  simp only [mX, mN, k0_pay1038, k0_pay1030, cl1_19, N8_e, mt20_19, hi8, mt20_3]
theorem p_550 (A : Args F) : k0_pay1039 (M7 A 11) (lo8 (M7 A 4)) = clean1 mX mN (N8 A) 4 := by
  simp only [mX, mN, k0_pay1039, k0_pay1022, cl1_4, hi8, N8_e, mt20_4, mt20_20]
theorem p_551 (A : Args F) : k0_pay1040 (M7 A 11) (lo8 (M7 A 4)) = clean1 mX mN (N8 A) 20 := by
  simp only [mX, mN, k0_pay1040, k0_pay1022, cl1_20, hi8, N8_e, mt20_20, mt20_4]
theorem p_552 (A : Args F) : k0_pay1041 (M7 A 10) (lo8 (M7 A 5)) = clean1 mX mN (N8 A) 5 := by
  simp only [mX, mN, k0_pay1041, k0_pay1021, cl1_5, hi8, N8_e, mt20_5, mt20_21]
theorem p_553 (A : Args F) : k0_pay1042 (M7 A 10) (lo8 (M7 A 5)) = clean1 mX mN (N8 A) 21 := by
  simp only [mX, mN, k0_pay1042, k0_pay1021, cl1_21, hi8, N8_e, mt20_21, mt20_5]
theorem p_554 (A : Args F) : k0_pay1043 (M7 A 9) (lo8 (M7 A 6)) = clean1 mX mN (N8 A) 6 := by
  simp only [mX, mN, k0_pay1043, k0_pay1020, cl1_6, hi8, N8_e, mt20_6, mt20_22]
theorem p_555 (A : Args F) : k0_pay1044 (M7 A 9) (lo8 (M7 A 6)) = clean1 mX mN (N8 A) 22 := by
  simp only [mX, mN, k0_pay1044, k0_pay1020, cl1_22, hi8, N8_e, mt20_22, mt20_6]
theorem p_556 (A : Args F) : k0_pay1045 (M7 A 8) (lo8 (M7 A 7)) = clean1 mX mN (N8 A) 7 := by
  simp only [mX, mN, k0_pay1045, k0_pay1019, cl1_7, hi8, N8_e, mt20_7, mt20_23]
theorem p_557 (A : Args F) : k0_pay1046 (M7 A 8) (lo8 (M7 A 7)) = clean1 mX mN (N8 A) 23 := by
  simp only [mX, mN, k0_pay1046, k0_pay1019, cl1_23, hi8, N8_e, mt20_23, mt20_7]
theorem p_558 (A : Args F) : k0_pay1048 (M7 A 7) (lo8 (M7 A 8)) = clean1 mX mN (N8 A) 24 := by
  simp only [mX, mN, k0_pay1048, k0_pay1018, cl1_24, hi8, N8_e, mt20_24, mt20_8]
theorem p_559 (A : Args F) : k0_pay1050 (M7 A 6) (lo8 (M7 A 9)) = clean1 mX mN (N8 A) 25 := by
  simp only [mX, mN, k0_pay1050, k0_pay1017, cl1_25, hi8, N8_e, mt20_25, mt20_9]
theorem p_560 (A : Args F) : k0_pay1052 (lo8 (M7 A 10)) (hi8 (M7 A 5)) = clean1 mX mN (N8 A) 26 := by
  simp only [mX, mN, k0_pay1052, cl1_26, N8_e, mt20_26, mt20_10]

end Cert.Proof

end

end
-- ==== Proof.Steps8.lean ====
/- Steps of the kernel's body at the model's entries: each gives the entry of the list (`Stages`) that follows. -/
module

public import proofs.«01_k».proof.Proof.Sorted2

@[expose] public section

noncomputable section

namespace Cert.Proof

open Idealize.ShloMosaic Cert.KernelIdeal Cert.KernelIdeal.Gen Cert.KernelIdeal.Gen.kernelRun0_A.sl

variable {F : FTy → Type} [FloatOps F]

theorem p_561 (A : Args F) : k0_pay1053 (lo8 (M7 A 11)) (hi8 (M7 A 4)) = clean1 mX mN (N8 A) 11 := by
  simp only [mX, mN, k0_pay1053, cl1_11, N8_e, mt20_11, mt20_27]
theorem p_562 (A : Args F) : k0_pay1054 (lo8 (M7 A 11)) (hi8 (M7 A 4)) = clean1 mX mN (N8 A) 27 := by
  simp only [mX, mN, k0_pay1054, cl1_27, N8_e, mt20_27, mt20_11]
theorem p_563 (A : Args F) : k0_pay1055 (M7 A 19) (lo8 (M7 A 12)) (hi8 (M7 A 3)) = clean1 mX mN (N8 A) 12 := by
  simp only [mX, mN, k0_pay1055, k0_pay1023, cl1_12, N8_e, mt20_12, hi8, mt20_28]
theorem p_564 (A : Args F) : k0_pay1056 (M7 A 19) (lo8 (M7 A 12)) (hi8 (M7 A 3)) = clean1 mX mN (N8 A) 28 := by
  simp only [mX, mN, k0_pay1056, k0_pay1023, cl1_28, N8_e, mt20_12, hi8, mt20_28]
theorem p_565 (A : Args F) : k0_pay1057 (M7 A 18) (lo8 (M7 A 13)) (hi8 (M7 A 2)) = clean1 mX mN (N8 A) 13 := by
  simp only [mX, mN, k0_pay1057, k0_pay1024, cl1_13, N8_e, mt20_13, hi8, mt20_29]
theorem p_566 (A : Args F) : k0_pay1058 (M7 A 18) (lo8 (M7 A 13)) (hi8 (M7 A 2)) = clean1 mX mN (N8 A) 29 := by
  simp only [mX, mN, k0_pay1058, k0_pay1024, cl1_29, N8_e, mt20_13, hi8, mt20_29]
theorem p_567 (A : Args F) : k0_pay1059 (M7 A 17) (lo8 (M7 A 14)) (hi8 (M7 A 1)) = clean1 mX mN (N8 A) 14 := by
  simp only [mX, mN, k0_pay1059, k0_pay1025, cl1_14, N8_e, mt20_14, hi8, mt20_30]
theorem p_568 (A : Args F) : k0_pay1060 (M7 A 17) (lo8 (M7 A 14)) (hi8 (M7 A 1)) = clean1 mX mN (N8 A) 30 := by
  simp only [mX, mN, k0_pay1060, k0_pay1025, cl1_30, N8_e, mt20_14, hi8, mt20_30]
theorem p_569 (A : Args F) : k0_pay1061 (M7 A 16) (lo8 (M7 A 15)) (hi8 (M7 A 0)) = clean1 mX mN (N8 A) 15 := by
  simp only [mX, mN, k0_pay1061, k0_pay1026, cl1_15, N8_e, mt20_15, hi8, mt20_31]
theorem p_570 (A : Args F) : k0_pay1062 (M7 A 16) (lo8 (M7 A 15)) (hi8 (M7 A 0)) = clean1 mX mN (N8 A) 31 := by
  simp only [mX, mN, k0_pay1062, k0_pay1026, cl1_31, N8_e, mt20_15, hi8, mt20_31]
theorem p_571 (A : Args F) : k0_pay1063 (M7 A 7) (M7 A 15) (lo8 (M7 A 0)) (lo8 (M7 A 8)) (lo8 (M7 A 16)) = clean2 mX mN (N8 A) 0 := by
  simp only [mX, mN, k0_pay1063, k0_pay1031, k0_pay1027, k0_pay1047, k0_pay1018, cl2_0, cl1_0, N8_e, mt20_16, hi8, cl1_8, mt20_0, mt20_8, mt20_24]
theorem p_572 (A : Args F) : k0_pay1064 (M7 A 7) (M7 A 15) (lo8 (M7 A 0)) (lo8 (M7 A 8)) (lo8 (M7 A 16)) = clean2 mX mN (N8 A) 8 := by
  simp only [mX, mN, k0_pay1064, k0_pay1031, k0_pay1027, k0_pay1047, k0_pay1018, cl2_8, cl1_0, N8_e, mt20_16, hi8, cl1_8, mt20_0, mt20_8, mt20_24]
theorem p_573 (A : Args F) : k0_pay1065 (M7 A 6) (M7 A 14) (lo8 (M7 A 1)) (lo8 (M7 A 9)) (lo8 (M7 A 17)) = clean2 mX mN (N8 A) 1 := by
  simp only [mX, mN, k0_pay1065, k0_pay1033, k0_pay1028, k0_pay1049, k0_pay1017, cl2_1, cl1_1, N8_e, mt20_17, hi8, cl1_9, mt20_1, mt20_9, mt20_25]
theorem p_574 (A : Args F) : k0_pay1066 (M7 A 6) (M7 A 14) (lo8 (M7 A 1)) (lo8 (M7 A 9)) (lo8 (M7 A 17)) = clean2 mX mN (N8 A) 9 := by
  simp only [mX, mN, k0_pay1066, k0_pay1033, k0_pay1028, k0_pay1049, k0_pay1017, cl2_9, cl1_1, N8_e, mt20_17, hi8, cl1_9, mt20_1, mt20_9, mt20_25]
theorem p_575 (A : Args F) : k0_pay1067 (M7 A 13) (lo8 (M7 A 2)) (lo8 (M7 A 10)) (lo8 (M7 A 18)) (hi8 (M7 A 5)) = clean2 mX mN (N8 A) 2 := by
  simp only [mX, mN, k0_pay1067, k0_pay1035, k0_pay1029, k0_pay1051, cl2_2, cl1_2, N8_e, mt20_18, hi8, cl1_10, mt20_2, mt20_10, mt20_26]
theorem p_576 (A : Args F) : k0_pay1068 (M7 A 13) (lo8 (M7 A 2)) (lo8 (M7 A 10)) (lo8 (M7 A 18)) (hi8 (M7 A 5)) = clean2 mX mN (N8 A) 10 := by
  simp only [mX, mN, k0_pay1068, k0_pay1035, k0_pay1029, k0_pay1051, cl2_10, cl1_2, N8_e, mt20_18, hi8, cl1_10, mt20_2, mt20_10, mt20_26]
theorem p_577 (A : Args F) : k0_pay1100 (clean1 mX mN (N8 A) 4) (clean1 mX mN (N8 A) 6) (clean1 mX mN (N8 A) 12) (clean1 mX mN (N8 A) 14) (clean2 mX mN (N8 A) 0) (clean2 mX mN (N8 A) 2) = clean4 mX mN (N8 A) 2 := by
  simp only [mX, mN, k0_pay1100, k0_pay1079, k0_pay1071, k0_pay1083, k0_pay1075, cl4_2, cl3_0, cl2_4, cl3_2, cl2_6]
theorem p_578 (A : Args F) : k0_pay1102 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 1) = clean4 mX mN (N8 A) 3 := by
  simp only [mX, mN, k0_pay1102, k0_pay1081, k0_pay1073, k0_pay1085, k0_pay1069, k0_pay1077, cl4_3, cl3_1, cl2_5, cl3_3, cl2_3, cl2_7]
theorem p_579 (A : Args F) : k0_pay1103 (clean1 mX mN (N8 A) 4) (clean1 mX mN (N8 A) 6) (clean1 mX mN (N8 A) 12) (clean1 mX mN (N8 A) 14) (clean2 mX mN (N8 A) 0) (clean2 mX mN (N8 A) 2) = clean4 mX mN (N8 A) 4 := by
  simp only [mX, mN, k0_pay1103, k0_pay1080, k0_pay1071, k0_pay1084, k0_pay1075, cl4_4, cl3_4, cl2_4, cl3_6, cl2_6]
theorem p_580 (A : Args F) : k0_pay1104 (clean1 mX mN (N8 A) 4) (clean1 mX mN (N8 A) 6) (clean1 mX mN (N8 A) 12) (clean1 mX mN (N8 A) 14) (clean2 mX mN (N8 A) 0) (clean2 mX mN (N8 A) 2) = clean4 mX mN (N8 A) 6 := by
  simp only [mX, mN, k0_pay1104, k0_pay1080, k0_pay1071, k0_pay1084, k0_pay1075, cl4_6, cl3_4, cl2_4, cl3_6, cl2_6]
theorem p_581 (A : Args F) : k0_pay1105 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 1) = clean4 mX mN (N8 A) 5 := by
  simp only [mX, mN, k0_pay1105, k0_pay1082, k0_pay1073, k0_pay1086, k0_pay1069, k0_pay1077, cl4_5, cl3_5, cl2_5, cl3_7, cl2_3, cl2_7]
theorem p_582 (A : Args F) : k0_pay1106 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 1) = clean4 mX mN (N8 A) 7 := by
  simp only [mX, mN, k0_pay1106, k0_pay1082, k0_pay1073, k0_pay1086, k0_pay1069, k0_pay1077, cl4_7, cl3_5, cl2_5, cl3_7, cl2_3, cl2_7]
theorem p_583 (A : Args F) : k0_pay1107 (clean1 mX mN (N8 A) 4) (clean1 mX mN (N8 A) 6) (clean1 mX mN (N8 A) 12) (clean1 mX mN (N8 A) 14) (clean2 mX mN (N8 A) 8) (clean2 mX mN (N8 A) 10) = clean4 mX mN (N8 A) 8 := by
  simp only [mX, mN, k0_pay1107, k0_pay1087, k0_pay1072, k0_pay1091, k0_pay1076, cl4_8, cl3_8, cl2_12, cl3_10, cl2_14]
theorem p_584 (A : Args F) : k0_pay1108 (clean1 mX mN (N8 A) 4) (clean1 mX mN (N8 A) 6) (clean1 mX mN (N8 A) 12) (clean1 mX mN (N8 A) 14) (clean2 mX mN (N8 A) 8) (clean2 mX mN (N8 A) 10) = clean4 mX mN (N8 A) 10 := by
  simp only [mX, mN, k0_pay1108, k0_pay1087, k0_pay1072, k0_pay1091, k0_pay1076, cl4_10, cl3_8, cl2_12, cl3_10, cl2_14]
theorem p_585 (A : Args F) : k0_pay1109 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 9) = clean4 mX mN (N8 A) 9 := by
  simp only [mX, mN, k0_pay1109, k0_pay1089, k0_pay1074, k0_pay1093, k0_pay1070, k0_pay1078, cl4_9, cl3_9, cl2_13, cl3_11, cl2_11, cl2_15]
theorem p_586 (A : Args F) : k0_pay1110 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 9) = clean4 mX mN (N8 A) 11 := by
  simp only [mX, mN, k0_pay1110, k0_pay1089, k0_pay1074, k0_pay1093, k0_pay1070, k0_pay1078, cl4_11, cl3_9, cl2_13, cl3_11, cl2_11, cl2_15]
theorem p_587 (A : Args F) : k0_pay1111 (clean1 mX mN (N8 A) 4) (clean1 mX mN (N8 A) 6) (clean1 mX mN (N8 A) 12) (clean1 mX mN (N8 A) 14) (clean2 mX mN (N8 A) 8) (clean2 mX mN (N8 A) 10) = clean4 mX mN (N8 A) 12 := by
  simp only [mX, mN, k0_pay1111, k0_pay1088, k0_pay1072, k0_pay1092, k0_pay1076, cl4_12, cl3_12, cl2_12, cl3_14, cl2_14]
theorem p_588 (A : Args F) : k0_pay1112 (clean1 mX mN (N8 A) 4) (clean1 mX mN (N8 A) 6) (clean1 mX mN (N8 A) 12) (clean1 mX mN (N8 A) 14) (clean2 mX mN (N8 A) 8) (clean2 mX mN (N8 A) 10) = clean4 mX mN (N8 A) 14 := by
  simp only [mX, mN, k0_pay1112, k0_pay1088, k0_pay1072, k0_pay1092, k0_pay1076, cl4_14, cl3_12, cl2_12, cl3_14, cl2_14]
theorem p_589 (A : Args F) : k0_pay1113 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 9) = clean4 mX mN (N8 A) 13 := by
  simp only [mX, mN, k0_pay1113, k0_pay1090, k0_pay1074, k0_pay1094, k0_pay1070, k0_pay1078, cl4_13, cl3_13, cl2_13, cl3_15, cl2_11, cl2_15]
theorem p_590 (A : Args F) : k0_pay1114 (clean1 mX mN (N8 A) 3) (clean1 mX mN (N8 A) 5) (clean1 mX mN (N8 A) 7) (clean1 mX mN (N8 A) 11) (clean1 mX mN (N8 A) 13) (clean1 mX mN (N8 A) 15) (clean2 mX mN (N8 A) 9) = clean4 mX mN (N8 A) 15 := by
  simp only [mX, mN, k0_pay1114, k0_pay1090, k0_pay1074, k0_pay1094, k0_pay1070, k0_pay1078, cl4_15, cl3_13, cl2_13, cl3_15, cl2_11, cl2_15]
theorem p_591 (A : Args F) : k0_pay1115 (clean1 mX mN (N8 A) 16) (clean1 mX mN (N8 A) 18) (clean1 mX mN (N8 A) 20) (clean1 mX mN (N8 A) 22) (clean1 mX mN (N8 A) 24) (clean1 mX mN (N8 A) 26) (clean1 mX mN (N8 A) 28) (clean1 mX mN (N8 A) 30) = clean4 mX mN (N8 A) 16 := by
  simp only [mX, mN, k0_pay1115, k0_pay1095, k0_pay1097, cl4_16, cl3_16, cl2_16, cl2_20, cl3_18, cl2_18, cl2_22]
theorem p_592 (A : Args F) : k0_pay1116 (clean1 mX mN (N8 A) 16) (clean1 mX mN (N8 A) 18) (clean1 mX mN (N8 A) 20) (clean1 mX mN (N8 A) 22) (clean1 mX mN (N8 A) 24) (clean1 mX mN (N8 A) 26) (clean1 mX mN (N8 A) 28) (clean1 mX mN (N8 A) 30) = clean4 mX mN (N8 A) 18 := by
  simp only [mX, mN, k0_pay1116, k0_pay1095, k0_pay1097, cl4_18, cl3_16, cl2_16, cl2_20, cl3_18, cl2_18, cl2_22]
theorem p_593 (A : Args F) : k0_pay1117 (clean1 mX mN (N8 A) 17) (clean1 mX mN (N8 A) 19) (clean1 mX mN (N8 A) 21) (clean1 mX mN (N8 A) 23) (clean1 mX mN (N8 A) 25) (clean1 mX mN (N8 A) 27) (clean1 mX mN (N8 A) 29) (clean1 mX mN (N8 A) 31) = clean4 mX mN (N8 A) 17 := by
  simp only [mX, mN, k0_pay1117, k0_pay1096, k0_pay1098, cl4_17, cl3_17, cl2_17, cl2_21, cl3_19, cl2_19, cl2_23]
theorem p_594 (A : Args F) : k0_pay1118 (clean1 mX mN (N8 A) 17) (clean1 mX mN (N8 A) 19) (clean1 mX mN (N8 A) 21) (clean1 mX mN (N8 A) 23) (clean1 mX mN (N8 A) 25) (clean1 mX mN (N8 A) 27) (clean1 mX mN (N8 A) 29) (clean1 mX mN (N8 A) 31) = clean4 mX mN (N8 A) 19 := by
  simp only [mX, mN, k0_pay1118, k0_pay1096, k0_pay1098, cl4_19, cl3_17, cl2_17, cl2_21, cl3_19, cl2_19, cl2_23]
theorem p_595 (A : Args F) : k0_pay1119 (clean1 mX mN (N8 A) 3) (clean1 mX mN (N8 A) 4) (clean1 mX mN (N8 A) 5) (clean1 mX mN (N8 A) 6) (clean1 mX mN (N8 A) 7) (clean1 mX mN (N8 A) 11) (clean1 mX mN (N8 A) 12) (clean1 mX mN (N8 A) 13) (clean1 mX mN (N8 A) 14) (clean1 mX mN (N8 A) 15) (clean2 mX mN (N8 A) 0) (clean2 mX mN (N8 A) 1) (clean2 mX mN (N8 A) 2) = M8 A 0 := by
  simp only [mX, mN, k0_pay1119, k0_pay1099, k0_pay1079, k0_pay1071, k0_pay1083, k0_pay1075, k0_pay1101, k0_pay1081, k0_pay1073, k0_pay1085, k0_pay1069, k0_pay1077, cl5_0, M8_e, cl4_0, cl3_0, cl2_4, cl3_2, cl2_6, cl4_1, cl3_1, cl2_5, cl3_3, cl2_3, cl2_7]
theorem p_596 (A : Args F) : k0_pay1120 (clean1 mX mN (N8 A) 3) (clean1 mX mN (N8 A) 4) (clean1 mX mN (N8 A) 5) (clean1 mX mN (N8 A) 6) (clean1 mX mN (N8 A) 7) (clean1 mX mN (N8 A) 11) (clean1 mX mN (N8 A) 12) (clean1 mX mN (N8 A) 13) (clean1 mX mN (N8 A) 14) (clean1 mX mN (N8 A) 15) (clean2 mX mN (N8 A) 0) (clean2 mX mN (N8 A) 1) (clean2 mX mN (N8 A) 2) = M8 A 1 := by
  simp only [mX, mN, k0_pay1120, k0_pay1099, k0_pay1079, k0_pay1071, k0_pay1083, k0_pay1075, k0_pay1101, k0_pay1081, k0_pay1073, k0_pay1085, k0_pay1069, k0_pay1077, cl5_1, M8_e, cl4_0, cl3_0, cl2_4, cl3_2, cl2_6, cl4_1, cl3_1, cl2_5, cl3_3, cl2_3, cl2_7]
theorem p_597 (A : Args F) : k0_pay1139 (M8 A 0) = lo9 (M8 A 0) := by
  simp only [mX, mN, k0_pay1139, lo9]
theorem p_598 (A : Args F) : k0_pay1140 (M8 A 1) = lo9 (M8 A 1) := by
  simp only [mX, mN, k0_pay1140, lo9]
theorem p_599 (A : Args F) : k0_pay1141 (clean4 mX mN (N8 A) 2) (clean4 mX mN (N8 A) 3) = lo9 (M8 A 2) := by
  simp only [mX, mN, k0_pay1141, k0_pay1121, lo9, cl5_2, M8_e]
theorem p_600 (A : Args F) : k0_pay1142 (clean4 mX mN (N8 A) 2) (clean4 mX mN (N8 A) 3) = lo9 (M8 A 3) := by
  simp only [mX, mN, k0_pay1142, k0_pay1122, lo9, cl5_3, M8_e]
theorem p_601 (A : Args F) : k0_pay1143 (clean4 mX mN (N8 A) 4) (clean4 mX mN (N8 A) 5) = lo9 (M8 A 4) := by
  simp only [mX, mN, k0_pay1143, k0_pay1123, lo9, cl5_4, M8_e]
theorem p_602 (A : Args F) : k0_pay1144 (clean4 mX mN (N8 A) 4) (clean4 mX mN (N8 A) 5) = lo9 (M8 A 5) := by
  simp only [mX, mN, k0_pay1144, k0_pay1124, lo9, cl5_5, M8_e]
theorem p_603 (A : Args F) : k0_pay1145 (clean4 mX mN (N8 A) 6) (clean4 mX mN (N8 A) 7) = lo9 (M8 A 6) := by
  simp only [mX, mN, k0_pay1145, k0_pay1125, lo9, cl5_6, M8_e]
theorem p_604 (A : Args F) : k0_pay1146 (clean4 mX mN (N8 A) 6) (clean4 mX mN (N8 A) 7) = lo9 (M8 A 7) := by
  simp only [mX, mN, k0_pay1146, k0_pay1126, lo9, cl5_7, M8_e]
theorem p_605 (A : Args F) : k0_pay1147 (clean4 mX mN (N8 A) 8) (clean4 mX mN (N8 A) 9) = lo9 (M8 A 8) := by
  simp only [mX, mN, k0_pay1147, k0_pay1127, lo9, cl5_8, M8_e]
theorem p_606 (A : Args F) : k0_pay1148 (clean4 mX mN (N8 A) 8) (clean4 mX mN (N8 A) 9) = lo9 (M8 A 9) := by
  simp only [mX, mN, k0_pay1148, k0_pay1128, lo9, cl5_9, M8_e]
theorem p_607 (A : Args F) : k0_pay1149 (clean4 mX mN (N8 A) 10) (clean4 mX mN (N8 A) 11) = lo9 (M8 A 10) := by
  simp only [mX, mN, k0_pay1149, k0_pay1129, lo9, cl5_10, M8_e]
theorem p_608 (A : Args F) : k0_pay1150 (clean4 mX mN (N8 A) 10) (clean4 mX mN (N8 A) 11) = lo9 (M8 A 11) := by
  simp only [mX, mN, k0_pay1150, k0_pay1130, lo9, cl5_11, M8_e]
theorem p_609 (A : Args F) : k0_pay1151 (clean4 mX mN (N8 A) 14) (clean4 mX mN (N8 A) 15) = lo9 (M8 A 14) := by
  simp only [mX, mN, k0_pay1151, k0_pay1133, lo9, cl5_14, M8_e]
theorem p_610 (A : Args F) : k0_pay1152 (clean4 mX mN (N8 A) 14) (clean4 mX mN (N8 A) 15) = lo9 (M8 A 15) := by
  simp only [mX, mN, k0_pay1152, k0_pay1134, lo9, cl5_15, M8_e]
theorem p_611 (A : Args F) : k0_pay1153 (clean4 mX mN (N8 A) 16) (clean4 mX mN (N8 A) 17) = lo9 (M8 A 16) := by
  simp only [mX, mN, k0_pay1153, k0_pay1135, lo9, cl5_16, M8_e]
theorem p_612 (A : Args F) : k0_pay1154 (clean4 mX mN (N8 A) 16) (clean4 mX mN (N8 A) 17) = lo9 (M8 A 17) := by
  simp only [mX, mN, k0_pay1154, k0_pay1136, lo9, cl5_17, M8_e]
theorem p_613 (A : Args F) : k0_pay1155 (clean4 mX mN (N8 A) 18) (clean4 mX mN (N8 A) 19) = lo9 (M8 A 18) := by
  simp only [mX, mN, k0_pay1155, k0_pay1137, lo9, cl5_18, M8_e]
theorem p_614 (A : Args F) : k0_pay1156 (clean4 mX mN (N8 A) 18) (clean4 mX mN (N8 A) 19) = lo9 (M8 A 19) := by
  simp only [mX, mN, k0_pay1156, k0_pay1138, lo9, cl5_19, M8_e]
theorem p_615 (A : Args F) : k0_pay1157 (M8 A 0) = hi9 (M8 A 0) := by
  simp only [mX, mN, k0_pay1157, hi9]
theorem p_616 (A : Args F) : k0_pay1158 (M8 A 1) = hi9 (M8 A 1) := by
  simp only [mX, mN, k0_pay1158, hi9]
theorem p_617 (A : Args F) : k0_pay1159 (clean4 mX mN (N8 A) 2) (clean4 mX mN (N8 A) 3) = hi9 (M8 A 2) := by
  simp only [mX, mN, k0_pay1159, k0_pay1121, hi9, cl5_2, M8_e]
theorem p_618 (A : Args F) : k0_pay1160 (clean4 mX mN (N8 A) 2) (clean4 mX mN (N8 A) 3) = hi9 (M8 A 3) := by
  simp only [mX, mN, k0_pay1160, k0_pay1122, hi9, cl5_3, M8_e]
theorem p_619 (A : Args F) : k0_pay1161 (clean4 mX mN (N8 A) 4) (clean4 mX mN (N8 A) 5) = hi9 (M8 A 4) := by
  simp only [mX, mN, k0_pay1161, k0_pay1123, hi9, cl5_4, M8_e]
theorem p_620 (A : Args F) : k0_pay1162 (clean4 mX mN (N8 A) 4) (clean4 mX mN (N8 A) 5) = hi9 (M8 A 5) := by
  simp only [mX, mN, k0_pay1162, k0_pay1124, hi9, cl5_5, M8_e]
theorem p_621 (A : Args F) : k0_pay1163 (clean4 mX mN (N8 A) 6) (clean4 mX mN (N8 A) 7) = hi9 (M8 A 6) := by
  simp only [mX, mN, k0_pay1163, k0_pay1125, hi9, cl5_6, M8_e]
theorem p_622 (A : Args F) : k0_pay1164 (clean4 mX mN (N8 A) 6) (clean4 mX mN (N8 A) 7) = hi9 (M8 A 7) := by
  simp only [mX, mN, k0_pay1164, k0_pay1126, hi9, cl5_7, M8_e]
theorem p_623 (A : Args F) : k0_pay1165 (clean4 mX mN (N8 A) 8) (clean4 mX mN (N8 A) 9) = hi9 (M8 A 8) := by
  simp only [mX, mN, k0_pay1165, k0_pay1127, hi9, cl5_8, M8_e]
theorem p_624 (A : Args F) : k0_pay1166 (clean4 mX mN (N8 A) 8) (clean4 mX mN (N8 A) 9) = hi9 (M8 A 9) := by
  simp only [mX, mN, k0_pay1166, k0_pay1128, hi9, cl5_9, M8_e]
theorem p_625 (A : Args F) : k0_pay1167 (clean4 mX mN (N8 A) 10) (clean4 mX mN (N8 A) 11) = hi9 (M8 A 10) := by
  simp only [mX, mN, k0_pay1167, k0_pay1129, hi9, cl5_10, M8_e]
theorem p_626 (A : Args F) : k0_pay1168 (clean4 mX mN (N8 A) 10) (clean4 mX mN (N8 A) 11) = hi9 (M8 A 11) := by
  simp only [mX, mN, k0_pay1168, k0_pay1130, hi9, cl5_11, M8_e]
theorem p_627 (A : Args F) : k0_pay1169 (clean4 mX mN (N8 A) 12) (clean4 mX mN (N8 A) 13) = hi9 (M8 A 12) := by
  simp only [mX, mN, k0_pay1169, k0_pay1131, hi9, cl5_12, M8_e]
theorem p_628 (A : Args F) : k0_pay1170 (clean4 mX mN (N8 A) 12) (clean4 mX mN (N8 A) 13) = hi9 (M8 A 13) := by
  simp only [mX, mN, k0_pay1170, k0_pay1132, hi9, cl5_13, M8_e]
theorem p_629 (A : Args F) : k0_pay1171 (clean4 mX mN (N8 A) 14) (clean4 mX mN (N8 A) 15) = hi9 (M8 A 14) := by
  simp only [mX, mN, k0_pay1171, k0_pay1133, hi9, cl5_14, M8_e]
theorem p_630 (A : Args F) : k0_pay1172 (clean4 mX mN (N8 A) 14) (clean4 mX mN (N8 A) 15) = hi9 (M8 A 15) := by
  simp only [mX, mN, k0_pay1172, k0_pay1134, hi9, cl5_15, M8_e]
theorem p_631 (A : Args F) : k0_pay1173 (clean4 mX mN (N8 A) 16) (clean4 mX mN (N8 A) 17) = hi9 (M8 A 16) := by
  simp only [mX, mN, k0_pay1173, k0_pay1135, hi9, cl5_16, M8_e]
theorem p_632 (A : Args F) : k0_pay1174 (clean4 mX mN (N8 A) 16) (clean4 mX mN (N8 A) 17) = hi9 (M8 A 17) := by
  simp only [mX, mN, k0_pay1174, k0_pay1136, hi9, cl5_17, M8_e]
theorem p_633 (A : Args F) : k0_pay1175 (clean4 mX mN (N8 A) 12) (clean4 mX mN (N8 A) 13) (clean4 mX mN (N8 A) 18) (clean4 mX mN (N8 A) 19) = N9 A 12 := by
  simp only [mX, mN, k0_pay1175, k0_pay1131, k0_pay1138, N9_e, mt20_12, lo9, cl5_12, M8_e, hi9, cl5_19]
theorem p_634 (A : Args F) : k0_pay1176 (clean4 mX mN (N8 A) 12) (clean4 mX mN (N8 A) 13) (clean4 mX mN (N8 A) 18) (clean4 mX mN (N8 A) 19) = N9 A 13 := by
  simp only [mX, mN, k0_pay1176, k0_pay1132, k0_pay1137, N9_e, mt20_13, lo9, cl5_13, M8_e, hi9, cl5_18]
theorem p_v1427 (A : Args F) : k0_pay1177 (lo9 (M8 A 0)) (lo9 (M8 A 4)) (lo9 (M8 A 8)) (lo9 (M8 A 16)) (hi9 (M8 A 3)) (hi9 (M8 A 7)) (hi9 (M8 A 11)) (hi9 (M8 A 15)) (N9 A 12) = clean3 mX mN (N9 A) 16 := by
  simp only [mX, mN, k0_pay1177, cl3_16, cl2_16, cl1_16, N9_e, mt20_16, cl1_24, cl2_20, cl1_20, cl1_28, mt20_0, mt20_24, mt20_8, mt20_20, mt20_4, mt20_28, mt20_12]
theorem p_v1428 (A : Args F) : k0_pay1178 (lo9 (M8 A 1)) (lo9 (M8 A 5)) (lo9 (M8 A 9)) (lo9 (M8 A 17)) (hi9 (M8 A 2)) (hi9 (M8 A 6)) (hi9 (M8 A 10)) (hi9 (M8 A 14)) (N9 A 13) = clean3 mX mN (N9 A) 17 := by
  simp only [mX, mN, k0_pay1178, cl3_17, cl2_17, cl1_17, N9_e, mt20_17, cl1_25, cl2_21, cl1_21, cl1_29, mt20_1, mt20_25, mt20_9, mt20_21, mt20_5, mt20_29, mt20_13]
theorem p_635 (A : Args F) : k0_pay1179 (lo9 (M8 A 2)) (lo9 (M8 A 6)) (lo9 (M8 A 10)) (lo9 (M8 A 14)) (lo9 (M8 A 18)) (hi9 (M8 A 1)) (hi9 (M8 A 5)) (hi9 (M8 A 9)) (hi9 (M8 A 13)) (hi9 (M8 A 17)) (clean3 mX mN (N9 A) 16) = clean4 mX mN (N9 A) 18 := by
  simp only [mX, mN, k0_pay1179, cl4_18, cl3_18, cl2_18, cl1_18, N9_e, mt20_18, cl1_26, cl2_22, cl1_22, cl1_30, mt20_14, mt20_2, mt20_26, mt20_10, mt20_22, mt20_6, mt20_30]
theorem p_636 (A : Args F) : k0_pay1180 (lo9 (M8 A 3)) (lo9 (M8 A 7)) (lo9 (M8 A 11)) (lo9 (M8 A 15)) (lo9 (M8 A 19)) (hi9 (M8 A 0)) (hi9 (M8 A 4)) (hi9 (M8 A 8)) (hi9 (M8 A 12)) (hi9 (M8 A 16)) (clean3 mX mN (N9 A) 17) = clean4 mX mN (N9 A) 19 := by
  simp only [mX, mN, k0_pay1180, cl4_19, cl3_19, cl3_17, cl2_19, cl2_17, cl1_19, N9_e, mt20_19, cl1_27, cl2_23, cl1_23, cl1_31, mt20_15, mt20_3, mt20_27, mt20_11, mt20_23, mt20_7, mt20_31]

end Cert.Proof

end

end
-- ==== Proof.Links1.lean ====
/- The values of the kernel's body, in order: each is an entry of a list of the model (`Stages`). -/
module

public import proofs.«01_k».proof.Proof.Steps1
public import proofs.«01_k».proof.Proof.Steps2
public import proofs.«01_k».proof.Proof.Steps3
public import proofs.«01_k».proof.Proof.Steps4
public import proofs.«01_k».proof.Proof.Steps5
public import proofs.«01_k».proof.Proof.Steps6
public import proofs.«01_k».proof.Proof.Steps7
public import proofs.«01_k».proof.Proof.Steps8

@[expose] public section

noncomputable section

namespace Cert.Proof

open Idealize.ShloMosaic Cert.KernelIdeal Cert.KernelIdeal.Gen Cert.KernelIdeal.Gen.kernelRun0_A.sl

variable {F : FTy → Type} [FloatOps F]

theorem l_21 (A : Args F) : A.at r_21 = Y4_4_0 A 0 :=
  (show A.at r_21 = k0_pay65 (col A 0) (col A 1) (col A 2) (col A 3) (col A 4) (col A 5) (col A 6) (col A 7) from rfl).trans (by exact p_21 A)
theorem l_22 (A : Args F) : A.at r_22 = Y4_4_0 A 1 :=
  (show A.at r_22 = k0_pay67 (col A 0) (col A 1) (col A 2) (col A 3) (col A 4) (col A 5) (col A 6) (col A 7) from rfl).trans (by exact p_22 A)
theorem l_23 (A : Args F) : A.at r_23 = Y4_4_0 A 6 :=
  (show A.at r_23 = k0_pay70 (col A 0) (col A 1) (col A 2) (col A 3) (col A 4) (col A 5) (col A 6) (col A 7) from rfl).trans (by exact p_23 A)
theorem l_24 (A : Args F) : A.at r_24 = Y4_4_0 A 7 :=
  (show A.at r_24 = k0_pay72 (col A 0) (col A 1) (col A 2) (col A 3) (col A 4) (col A 5) (col A 6) (col A 7) from rfl).trans (by exact p_24 A)
theorem l_25 (A : Args F) : A.at r_25 = Y4_4_8 A 0 :=
  (show A.at r_25 = k0_pay73 (col A 8) (col A 9) (col A 10) (col A 11) (col A 12) (col A 13) (col A 14) (col A 15) from rfl).trans (by exact p_25 A)
theorem l_26 (A : Args F) : A.at r_26 = Y4_4_8 A 4 :=
  (show A.at r_26 = k0_pay74 (col A 8) (col A 9) (col A 10) (col A 11) (col A 12) (col A 13) (col A 14) (col A 15) from rfl).trans (by exact p_26 A)
theorem l_27 (A : Args F) : A.at r_27 = Y4_4_8 A 1 :=
  (show A.at r_27 = k0_pay75 (col A 8) (col A 9) (col A 10) (col A 11) (col A 12) (col A 13) (col A 14) (col A 15) from rfl).trans (by exact p_27 A)
theorem l_28 (A : Args F) : A.at r_28 = Y4_4_8 A 5 :=
  (show A.at r_28 = k0_pay76 (col A 8) (col A 9) (col A 10) (col A 11) (col A 12) (col A 13) (col A 14) (col A 15) from rfl).trans (by exact p_28 A)
theorem l_29 (A : Args F) : A.at r_29 = Y4_4_8 A 2 :=
  (show A.at r_29 = k0_pay77 (col A 8) (col A 9) (col A 10) (col A 11) (col A 12) (col A 13) (col A 14) (col A 15) from rfl).trans (by exact p_29 A)
theorem l_30 (A : Args F) : A.at r_30 = Y4_4_8 A 6 :=
  (show A.at r_30 = k0_pay78 (col A 8) (col A 9) (col A 10) (col A 11) (col A 12) (col A 13) (col A 14) (col A 15) from rfl).trans (by exact p_30 A)
theorem l_31 (A : Args F) : A.at r_31 = Y4_4_8 A 3 :=
  (show A.at r_31 = k0_pay79 (col A 8) (col A 9) (col A 10) (col A 11) (col A 12) (col A 13) (col A 14) (col A 15) from rfl).trans (by exact p_31 A)
theorem l_32 (A : Args F) : A.at r_32 = Y4_4_8 A 7 :=
  (show A.at r_32 = k0_pay80 (col A 8) (col A 9) (col A 10) (col A 11) (col A 12) (col A 13) (col A 14) (col A 15) from rfl).trans (by exact p_32 A)
theorem l_33 (A : Args F) : A.at r_33 = Y4_2_0 A 2 :=
  (show A.at r_33 = k0_pay81 (col A 0) (col A 1) (col A 2) (col A 3) (col A 4) (col A 5) (col A 6) (col A 7) from rfl).trans (by exact p_33 A)
theorem l_34 (A : Args F) : A.at r_34 = Y4_2_0 A 4 :=
  (show A.at r_34 = k0_pay82 (col A 0) (col A 1) (col A 2) (col A 3) (col A 4) (col A 5) (col A 6) (col A 7) from rfl).trans (by exact p_34 A)
theorem l_35 (A : Args F) : A.at r_35 = Y4_2_0 A 3 :=
  (show A.at r_35 = k0_pay83 (col A 0) (col A 1) (col A 2) (col A 3) (col A 4) (col A 5) (col A 6) (col A 7) from rfl).trans (by exact p_35 A)
theorem l_36 (A : Args F) : A.at r_36 = Y4_2_0 A 5 :=
  (show A.at r_36 = k0_pay84 (col A 0) (col A 1) (col A 2) (col A 3) (col A 4) (col A 5) (col A 6) (col A 7) from rfl).trans (by exact p_36 A)
theorem l_37 (A : Args F) : A.at r_37 = Y8_8_0 A 0 :=
  (show A.at r_37 = k0_pay101 (A.at r_21) (A.at r_25) from rfl).trans (by rw [l_21 A, l_25 A]; exact p_37 A)
theorem l_38 (A : Args F) : A.at r_38 = Y8_8_0 A 14 :=
  (show A.at r_38 = k0_pay114 (A.at r_23) (A.at r_28) (A.at r_30) (A.at r_31) (A.at r_36) from rfl).trans (by rw [l_23 A, l_28 A, l_30 A, l_31 A, l_36 A]; exact p_38 A)
theorem l_39 (A : Args F) : A.at r_39 = Y8_8_0 A 15 :=
  (show A.at r_39 = k0_pay116 (A.at r_24) (A.at r_32) from rfl).trans (by rw [l_24 A, l_32 A]; exact p_39 A)
theorem l_40 (A : Args F) : A.at r_40 = Y8_2_0 A 9 :=
  (show A.at r_40 = k0_pay132 (A.at r_22) (A.at r_23) (A.at r_24) (A.at r_26) (A.at r_27) (A.at r_28) (A.at r_29) (A.at r_30) (A.at r_31) (A.at r_32) (A.at r_33) (A.at r_34) (A.at r_35) (A.at r_36) from rfl).trans (by rw [l_22 A, l_23 A, l_24 A, l_26 A, l_27 A, l_28 A, l_29 A, l_30 A, l_31 A, l_32 A, l_33 A, l_34 A, l_35 A, l_36 A]; exact p_40 A)
theorem l_41 (A : Args F) : A.at r_41 = Y8_2_0 A 10 :=
  (show A.at r_41 = k0_pay133 (A.at r_22) (A.at r_23) (A.at r_26) (A.at r_27) (A.at r_28) (A.at r_29) (A.at r_30) (A.at r_31) (A.at r_33) (A.at r_34) (A.at r_35) (A.at r_36) from rfl).trans (by rw [l_22 A, l_23 A, l_26 A, l_27 A, l_28 A, l_29 A, l_30 A, l_31 A, l_33 A, l_34 A, l_35 A, l_36 A]; exact p_41 A)
theorem l_42 (A : Args F) : A.at r_42 = Y8_2_0 A 12 :=
  (show A.at r_42 = k0_pay134 (A.at r_22) (A.at r_23) (A.at r_26) (A.at r_27) (A.at r_28) (A.at r_29) (A.at r_30) (A.at r_31) (A.at r_33) (A.at r_34) (A.at r_35) (A.at r_36) from rfl).trans (by rw [l_22 A, l_23 A, l_26 A, l_27 A, l_28 A, l_29 A, l_30 A, l_31 A, l_33 A, l_34 A, l_35 A, l_36 A]; exact p_42 A)
theorem l_43 (A : Args F) : A.at r_43 = Y8_2_0 A 11 :=
  (show A.at r_43 = k0_pay135 (A.at r_23) (A.at r_24) (A.at r_26) (A.at r_28) (A.at r_29) (A.at r_30) (A.at r_31) (A.at r_32) (A.at r_34) (A.at r_35) (A.at r_36) from rfl).trans (by rw [l_23 A, l_24 A, l_26 A, l_28 A, l_29 A, l_30 A, l_31 A, l_32 A, l_34 A, l_35 A, l_36 A]; exact p_43 A)
theorem l_44 (A : Args F) : A.at r_44 = Y8_2_0 A 13 :=
  (show A.at r_44 = k0_pay136 (A.at r_23) (A.at r_24) (A.at r_26) (A.at r_28) (A.at r_29) (A.at r_30) (A.at r_31) (A.at r_32) (A.at r_34) (A.at r_35) (A.at r_36) from rfl).trans (by rw [l_23 A, l_24 A, l_26 A, l_28 A, l_29 A, l_30 A, l_31 A, l_32 A, l_34 A, l_35 A, l_36 A]; exact p_44 A)
theorem l_45 (A : Args F) : A.at r_45 = Y8_1_0 A 1 :=
  (show A.at r_45 = k0_pay137 (A.at r_21) (A.at r_22) (A.at r_25) (A.at r_26) (A.at r_27) (A.at r_28) (A.at r_29) (A.at r_31) (A.at r_33) (A.at r_34) (A.at r_35) from rfl).trans (by rw [l_21 A, l_22 A, l_25 A, l_26 A, l_27 A, l_28 A, l_29 A, l_31 A, l_33 A, l_34 A, l_35 A]; exact p_45 A)
theorem l_46 (A : Args F) : A.at r_46 = Y8_1_0 A 2 :=
  (show A.at r_46 = k0_pay138 (A.at r_21) (A.at r_22) (A.at r_25) (A.at r_26) (A.at r_27) (A.at r_28) (A.at r_29) (A.at r_31) (A.at r_33) (A.at r_34) (A.at r_35) from rfl).trans (by rw [l_21 A, l_22 A, l_25 A, l_26 A, l_27 A, l_28 A, l_29 A, l_31 A, l_33 A, l_34 A, l_35 A]; exact p_46 A)
theorem l_47 (A : Args F) : A.at r_47 = Y8_1_0 A 3 :=
  (show A.at r_47 = k0_pay139 (A.at r_21) (A.at r_22) (A.at r_23) (A.at r_25) (A.at r_26) (A.at r_27) (A.at r_28) (A.at r_29) (A.at r_30) (A.at r_31) (A.at r_33) (A.at r_34) (A.at r_35) (A.at r_36) from rfl).trans (by rw [l_21 A, l_22 A, l_23 A, l_25 A, l_26 A, l_27 A, l_28 A, l_29 A, l_30 A, l_31 A, l_33 A, l_34 A, l_35 A, l_36 A]; exact p_47 A)
theorem l_48 (A : Args F) : A.at r_48 = Y8_1_0 A 4 :=
  (show A.at r_48 = k0_pay140 (A.at r_21) (A.at r_22) (A.at r_23) (A.at r_25) (A.at r_26) (A.at r_27) (A.at r_28) (A.at r_29) (A.at r_30) (A.at r_31) (A.at r_33) (A.at r_34) (A.at r_35) (A.at r_36) from rfl).trans (by rw [l_21 A, l_22 A, l_23 A, l_25 A, l_26 A, l_27 A, l_28 A, l_29 A, l_30 A, l_31 A, l_33 A, l_34 A, l_35 A, l_36 A]; exact p_48 A)
theorem l_49 (A : Args F) : A.at r_49 = Y8_1_0 A 5 :=
  (show A.at r_49 = k0_pay141 (A.at r_21) (A.at r_22) (A.at r_23) (A.at r_25) (A.at r_26) (A.at r_27) (A.at r_28) (A.at r_29) (A.at r_30) (A.at r_31) (A.at r_33) (A.at r_34) (A.at r_35) (A.at r_36) from rfl).trans (by rw [l_21 A, l_22 A, l_23 A, l_25 A, l_26 A, l_27 A, l_28 A, l_29 A, l_30 A, l_31 A, l_33 A, l_34 A, l_35 A, l_36 A]; exact p_49 A)
theorem l_50 (A : Args F) : A.at r_50 = Y8_1_0 A 6 :=
  (show A.at r_50 = k0_pay142 (A.at r_21) (A.at r_22) (A.at r_23) (A.at r_25) (A.at r_26) (A.at r_27) (A.at r_28) (A.at r_29) (A.at r_30) (A.at r_31) (A.at r_33) (A.at r_34) (A.at r_35) (A.at r_36) from rfl).trans (by rw [l_21 A, l_22 A, l_23 A, l_25 A, l_26 A, l_27 A, l_28 A, l_29 A, l_30 A, l_31 A, l_33 A, l_34 A, l_35 A, l_36 A]; exact p_50 A)
theorem l_51 (A : Args F) : A.at r_51 = Y8_1_0 A 7 :=
  (show A.at r_51 = k0_pay143 (A.at r_21) (A.at r_22) (A.at r_23) (A.at r_24) (A.at r_25) (A.at r_26) (A.at r_27) (A.at r_28) (A.at r_29) (A.at r_30) (A.at r_31) (A.at r_32) (A.at r_33) (A.at r_34) (A.at r_35) (A.at r_36) from rfl).trans (by rw [l_21 A, l_22 A, l_23 A, l_24 A, l_25 A, l_26 A, l_27 A, l_28 A, l_29 A, l_30 A, l_31 A, l_32 A, l_33 A, l_34 A, l_35 A, l_36 A]; exact p_51 A)
theorem l_52 (A : Args F) : A.at r_52 = Y8_1_0 A 8 :=
  (show A.at r_52 = k0_pay144 (A.at r_21) (A.at r_22) (A.at r_23) (A.at r_24) (A.at r_25) (A.at r_26) (A.at r_27) (A.at r_28) (A.at r_29) (A.at r_30) (A.at r_31) (A.at r_32) (A.at r_33) (A.at r_34) (A.at r_35) (A.at r_36) from rfl).trans (by rw [l_21 A, l_22 A, l_23 A, l_24 A, l_25 A, l_26 A, l_27 A, l_28 A, l_29 A, l_30 A, l_31 A, l_32 A, l_33 A, l_34 A, l_35 A, l_36 A]; exact p_52 A)
theorem l_53 (A : Args F) : A.at r_53 = lo2 (M1 A 11) :=
  (show A.at r_53 = k0_pay162 (A.at r_42) (A.at r_43) from rfl).trans (by rw [l_42 A, l_43 A]; exact p_53 A)
theorem l_54 (A : Args F) : A.at r_54 = lo2 (M1 A 12) :=
  (show A.at r_54 = k0_pay163 (A.at r_42) (A.at r_43) from rfl).trans (by rw [l_42 A, l_43 A]; exact p_54 A)
theorem l_55 (A : Args F) : A.at r_55 = lo2 (M1 A 13) :=
  (show A.at r_55 = k0_pay164 (A.at r_38) (A.at r_44) from rfl).trans (by rw [l_38 A, l_44 A]; exact p_55 A)
theorem l_56 (A : Args F) : A.at r_56 = lo2 (M1 A 14) :=
  (show A.at r_56 = k0_pay165 (A.at r_38) (A.at r_44) from rfl).trans (by rw [l_38 A, l_44 A]; exact p_56 A)
theorem l_57 (A : Args F) : A.at r_57 = lo2 (M1 A 15) :=
  (show A.at r_57 = k0_pay166 (A.at r_39) from rfl).trans (by rw [l_39 A]; exact p_57 A)
theorem l_58 (A : Args F) : A.at r_58 = hi2 (M1 A 0) :=
  (show A.at r_58 = k0_pay167 (A.at r_37) from rfl).trans (by rw [l_37 A]; exact p_58 A)
theorem l_59 (A : Args F) : A.at r_59 = hi2 (M1 A 1) :=
  (show A.at r_59 = k0_pay168 (A.at r_45) from rfl).trans (by rw [l_45 A]; exact p_59 A)
theorem l_60 (A : Args F) : A.at r_60 = hi2 (M1 A 2) :=
  (show A.at r_60 = k0_pay169 (A.at r_46) from rfl).trans (by rw [l_46 A]; exact p_60 A)
theorem l_61 (A : Args F) : A.at r_61 = hi2 (M1 A 3) :=
  (show A.at r_61 = k0_pay170 (A.at r_47) from rfl).trans (by rw [l_47 A]; exact p_61 A)
theorem l_62 (A : Args F) : A.at r_62 = hi2 (M1 A 4) :=
  (show A.at r_62 = k0_pay171 (A.at r_48) from rfl).trans (by rw [l_48 A]; exact p_62 A)
theorem l_63 (A : Args F) : A.at r_63 = clean1 mX mN (N2 A) 0 :=
  (show A.at r_63 = k0_pay183 (A.at r_37) (A.at r_39) from rfl).trans (by rw [l_37 A, l_39 A]; exact p_63 A)
theorem l_64 (A : Args F) : A.at r_64 = clean1 mX mN (N2 A) 16 :=
  (show A.at r_64 = k0_pay184 (A.at r_37) (A.at r_39) from rfl).trans (by rw [l_37 A, l_39 A]; exact p_64 A)
theorem l_65 (A : Args F) : A.at r_65 = clean1 mX mN (N2 A) 1 :=
  (show A.at r_65 = k0_pay185 (A.at r_38) (A.at r_44) (A.at r_45) from rfl).trans (by rw [l_38 A, l_44 A, l_45 A]; exact p_65 A)
theorem l_66 (A : Args F) : A.at r_66 = clean1 mX mN (N2 A) 17 :=
  (show A.at r_66 = k0_pay186 (A.at r_38) (A.at r_44) (A.at r_45) from rfl).trans (by rw [l_38 A, l_44 A, l_45 A]; exact p_66 A)
theorem l_67 (A : Args F) : A.at r_67 = clean1 mX mN (N2 A) 2 :=
  (show A.at r_67 = k0_pay187 (A.at r_38) (A.at r_44) (A.at r_46) from rfl).trans (by rw [l_38 A, l_44 A, l_46 A]; exact p_67 A)
theorem l_68 (A : Args F) : A.at r_68 = clean1 mX mN (N2 A) 18 :=
  (show A.at r_68 = k0_pay188 (A.at r_38) (A.at r_44) (A.at r_46) from rfl).trans (by rw [l_38 A, l_44 A, l_46 A]; exact p_68 A)
theorem l_69 (A : Args F) : A.at r_69 = clean1 mX mN (N2 A) 3 :=
  (show A.at r_69 = k0_pay189 (A.at r_42) (A.at r_43) (A.at r_47) from rfl).trans (by rw [l_42 A, l_43 A, l_47 A]; exact p_69 A)
theorem l_70 (A : Args F) : A.at r_70 = clean1 mX mN (N2 A) 19 :=
  (show A.at r_70 = k0_pay190 (A.at r_42) (A.at r_43) (A.at r_47) from rfl).trans (by rw [l_42 A, l_43 A, l_47 A]; exact p_70 A)
theorem l_71 (A : Args F) : A.at r_71 = clean1 mX mN (N2 A) 4 :=
  (show A.at r_71 = k0_pay191 (A.at r_42) (A.at r_43) (A.at r_48) from rfl).trans (by rw [l_42 A, l_43 A, l_48 A]; exact p_71 A)
theorem l_72 (A : Args F) : A.at r_72 = clean1 mX mN (N2 A) 20 :=
  (show A.at r_72 = k0_pay192 (A.at r_42) (A.at r_43) (A.at r_48) from rfl).trans (by rw [l_42 A, l_43 A, l_48 A]; exact p_72 A)
theorem l_73 (A : Args F) : A.at r_73 = clean1 mX mN (N2 A) 5 :=
  (show A.at r_73 = k0_pay193 (A.at r_40) (A.at r_41) (A.at r_49) from rfl).trans (by rw [l_40 A, l_41 A, l_49 A]; exact p_73 A)
theorem l_74 (A : Args F) : A.at r_74 = clean1 mX mN (N2 A) 21 :=
  (show A.at r_74 = k0_pay194 (A.at r_40) (A.at r_41) (A.at r_49) from rfl).trans (by rw [l_40 A, l_41 A, l_49 A]; exact p_74 A)
theorem l_75 (A : Args F) : A.at r_75 = clean1 mX mN (N2 A) 6 :=
  (show A.at r_75 = k0_pay195 (A.at r_40) (A.at r_41) (A.at r_50) from rfl).trans (by rw [l_40 A, l_41 A, l_50 A]; exact p_75 A)
theorem l_76 (A : Args F) : A.at r_76 = clean1 mX mN (N2 A) 22 :=
  (show A.at r_76 = k0_pay196 (A.at r_40) (A.at r_41) (A.at r_50) from rfl).trans (by rw [l_40 A, l_41 A, l_50 A]; exact p_76 A)
theorem l_77 (A : Args F) : A.at r_77 = clean1 mX mN (N2 A) 7 :=
  (show A.at r_77 = k0_pay197 (A.at r_51) (A.at r_52) from rfl).trans (by rw [l_51 A, l_52 A]; exact p_77 A)
theorem l_78 (A : Args F) : A.at r_78 = clean1 mX mN (N2 A) 23 :=
  (show A.at r_78 = k0_pay198 (A.at r_51) (A.at r_52) from rfl).trans (by rw [l_51 A, l_52 A]; exact p_78 A)
theorem l_79 (A : Args F) : A.at r_79 = clean1 mX mN (N2 A) 8 :=
  (show A.at r_79 = k0_pay199 (A.at r_51) (A.at r_52) from rfl).trans (by rw [l_51 A, l_52 A]; exact p_79 A)
theorem l_80 (A : Args F) : A.at r_80 = clean1 mX mN (N2 A) 24 :=
  (show A.at r_80 = k0_pay200 (A.at r_51) (A.at r_52) from rfl).trans (by rw [l_51 A, l_52 A]; exact p_80 A)
theorem l_81 (A : Args F) : A.at r_81 = clean1 mX mN (N2 A) 9 :=
  (show A.at r_81 = k0_pay201 (A.at r_40) (A.at r_41) (A.at r_50) from rfl).trans (by rw [l_40 A, l_41 A, l_50 A]; exact p_81 A)
theorem l_82 (A : Args F) : A.at r_82 = clean1 mX mN (N2 A) 25 :=
  (show A.at r_82 = k0_pay202 (A.at r_40) (A.at r_41) (A.at r_50) from rfl).trans (by rw [l_40 A, l_41 A, l_50 A]; exact p_82 A)
theorem l_83 (A : Args F) : A.at r_83 = clean1 mX mN (N2 A) 10 :=
  (show A.at r_83 = k0_pay203 (A.at r_40) (A.at r_41) (A.at r_49) from rfl).trans (by rw [l_40 A, l_41 A, l_49 A]; exact p_83 A)
theorem l_84 (A : Args F) : A.at r_84 = clean1 mX mN (N2 A) 26 :=
  (show A.at r_84 = k0_pay204 (A.at r_40) (A.at r_41) (A.at r_49) from rfl).trans (by rw [l_40 A, l_41 A, l_49 A]; exact p_84 A)
theorem l_85 (A : Args F) : A.at r_85 = clean3 mX mN (N2 A) 5 :=
  (show A.at r_85 = k0_pay229 (A.at r_55) (A.at r_60) (A.at r_65) (A.at r_73) (A.at r_81) from rfl).trans (by rw [l_55 A, l_60 A, l_65 A, l_73 A, l_81 A]; exact p_85 A)
theorem l_86 (A : Args F) : A.at r_86 = clean3 mX mN (N2 A) 7 :=
  (show A.at r_86 = k0_pay233 (A.at r_53) (A.at r_57) (A.at r_58) (A.at r_62) (A.at r_69) (A.at r_77) from rfl).trans (by rw [l_53 A, l_57 A, l_58 A, l_62 A, l_69 A, l_77 A]; exact p_86 A)
theorem l_87 (A : Args F) : A.at r_87 = clean3 mX mN (N2 A) 8 :=
  (show A.at r_87 = k0_pay234 (A.at r_54) (A.at r_61) (A.at r_63) (A.at r_71) (A.at r_79) from rfl).trans (by rw [l_54 A, l_61 A, l_63 A, l_71 A, l_79 A]; exact p_87 A)
theorem l_88 (A : Args F) : A.at r_88 = clean3 mX mN (N2 A) 12 :=
  (show A.at r_88 = k0_pay235 (A.at r_54) (A.at r_61) (A.at r_63) (A.at r_71) (A.at r_79) from rfl).trans (by rw [l_54 A, l_61 A, l_63 A, l_71 A, l_79 A]; exact p_88 A)
theorem l_89 (A : Args F) : A.at r_89 = clean3 mX mN (N2 A) 9 :=
  (show A.at r_89 = k0_pay236 (A.at r_55) (A.at r_60) (A.at r_65) (A.at r_73) (A.at r_81) from rfl).trans (by rw [l_55 A, l_60 A, l_65 A, l_73 A, l_81 A]; exact p_89 A)
theorem l_90 (A : Args F) : A.at r_90 = clean3 mX mN (N2 A) 13 :=
  (show A.at r_90 = k0_pay237 (A.at r_55) (A.at r_60) (A.at r_65) (A.at r_73) (A.at r_81) from rfl).trans (by rw [l_55 A, l_60 A, l_65 A, l_73 A, l_81 A]; exact p_90 A)
theorem l_91 (A : Args F) : A.at r_91 = clean3 mX mN (N2 A) 10 :=
  (show A.at r_91 = k0_pay238 (A.at r_56) (A.at r_59) (A.at r_67) (A.at r_75) (A.at r_83) from rfl).trans (by rw [l_56 A, l_59 A, l_67 A, l_75 A, l_83 A]; exact p_91 A)
theorem l_92 (A : Args F) : A.at r_92 = clean3 mX mN (N2 A) 14 :=
  (show A.at r_92 = k0_pay239 (A.at r_56) (A.at r_59) (A.at r_67) (A.at r_75) (A.at r_83) from rfl).trans (by rw [l_56 A, l_59 A, l_67 A, l_75 A, l_83 A]; exact p_92 A)
theorem l_93 (A : Args F) : A.at r_93 = clean3 mX mN (N2 A) 11 :=
  (show A.at r_93 = k0_pay240 (A.at r_53) (A.at r_57) (A.at r_58) (A.at r_62) (A.at r_69) (A.at r_77) from rfl).trans (by rw [l_53 A, l_57 A, l_58 A, l_62 A, l_69 A, l_77 A]; exact p_93 A)
theorem l_94 (A : Args F) : A.at r_94 = clean3 mX mN (N2 A) 15 :=
  (show A.at r_94 = k0_pay241 (A.at r_53) (A.at r_57) (A.at r_58) (A.at r_62) (A.at r_69) (A.at r_77) from rfl).trans (by rw [l_53 A, l_57 A, l_58 A, l_62 A, l_69 A, l_77 A]; exact p_94 A)
theorem l_95 (A : Args F) : A.at r_95 = clean3 mX mN (N2 A) 16 :=
  (show A.at r_95 = k0_pay242 (A.at r_54) (A.at r_61) (A.at r_64) (A.at r_72) (A.at r_80) from rfl).trans (by rw [l_54 A, l_61 A, l_64 A, l_72 A, l_80 A]; exact p_95 A)
theorem l_96 (A : Args F) : A.at r_96 = clean3 mX mN (N2 A) 17 :=
  (show A.at r_96 = k0_pay243 (A.at r_55) (A.at r_60) (A.at r_66) (A.at r_74) (A.at r_82) from rfl).trans (by rw [l_55 A, l_60 A, l_66 A, l_74 A, l_82 A]; exact p_96 A)
theorem l_97 (A : Args F) : A.at r_97 = clean3 mX mN (N2 A) 18 :=
  (show A.at r_97 = k0_pay244 (A.at r_56) (A.at r_59) (A.at r_68) (A.at r_76) (A.at r_84) from rfl).trans (by rw [l_56 A, l_59 A, l_68 A, l_76 A, l_84 A]; exact p_97 A)
theorem l_98 (A : Args F) : A.at r_98 = clean3 mX mN (N2 A) 19 :=
  (show A.at r_98 = k0_pay245 (A.at r_53) (A.at r_57) (A.at r_58) (A.at r_62) (A.at r_70) (A.at r_78) from rfl).trans (by rw [l_53 A, l_57 A, l_58 A, l_62 A, l_70 A, l_78 A]; exact p_98 A)
theorem l_99 (A : Args F) : A.at r_99 = clean4 mX mN (N2 A) 0 :=
  (show A.at r_99 = k0_pay246 (A.at r_54) (A.at r_56) (A.at r_59) (A.at r_61) (A.at r_63) (A.at r_67) (A.at r_71) (A.at r_75) (A.at r_79) (A.at r_83) from rfl).trans (by rw [l_54 A, l_56 A, l_59 A, l_61 A, l_63 A, l_67 A, l_71 A, l_75 A, l_79 A, l_83 A]; exact p_99 A)
theorem l_100 (A : Args F) : A.at r_100 = clean4 mX mN (N2 A) 2 :=
  (show A.at r_100 = k0_pay247 (A.at r_54) (A.at r_56) (A.at r_59) (A.at r_61) (A.at r_63) (A.at r_67) (A.at r_71) (A.at r_75) (A.at r_79) (A.at r_83) from rfl).trans (by rw [l_54 A, l_56 A, l_59 A, l_61 A, l_63 A, l_67 A, l_71 A, l_75 A, l_79 A, l_83 A]; exact p_100 A)
theorem l_101 (A : Args F) : A.at r_101 = clean4 mX mN (N2 A) 1 :=
  (show A.at r_101 = k0_pay248 (A.at r_53) (A.at r_55) (A.at r_57) (A.at r_58) (A.at r_60) (A.at r_62) (A.at r_65) (A.at r_69) (A.at r_73) (A.at r_77) (A.at r_81) from rfl).trans (by rw [l_53 A, l_55 A, l_57 A, l_58 A, l_60 A, l_62 A, l_65 A, l_69 A, l_73 A, l_77 A, l_81 A]; exact p_101 A)
theorem l_102 (A : Args F) : A.at r_102 = clean4 mX mN (N2 A) 3 :=
  (show A.at r_102 = k0_pay249 (A.at r_53) (A.at r_55) (A.at r_57) (A.at r_58) (A.at r_60) (A.at r_62) (A.at r_65) (A.at r_69) (A.at r_73) (A.at r_77) (A.at r_81) from rfl).trans (by rw [l_53 A, l_55 A, l_57 A, l_58 A, l_60 A, l_62 A, l_65 A, l_69 A, l_73 A, l_77 A, l_81 A]; exact p_102 A)
theorem l_103 (A : Args F) : A.at r_103 = clean4 mX mN (N2 A) 4 :=
  (show A.at r_103 = k0_pay250 (A.at r_54) (A.at r_56) (A.at r_59) (A.at r_61) (A.at r_63) (A.at r_67) (A.at r_71) (A.at r_75) (A.at r_79) (A.at r_83) from rfl).trans (by rw [l_54 A, l_56 A, l_59 A, l_61 A, l_63 A, l_67 A, l_71 A, l_75 A, l_79 A, l_83 A]; exact p_103 A)
theorem l_104 (A : Args F) : A.at r_104 = clean4 mX mN (N2 A) 6 :=
  (show A.at r_104 = k0_pay251 (A.at r_54) (A.at r_56) (A.at r_59) (A.at r_61) (A.at r_63) (A.at r_67) (A.at r_71) (A.at r_75) (A.at r_79) (A.at r_83) from rfl).trans (by rw [l_54 A, l_56 A, l_59 A, l_61 A, l_63 A, l_67 A, l_71 A, l_75 A, l_79 A, l_83 A]; exact p_104 A)
theorem l_105 (A : Args F) : A.at r_105 = M2 A 6 :=
  (show A.at r_105 = k0_pay272 (A.at r_85) (A.at r_86) (A.at r_104) from rfl).trans (by rw [l_85 A, l_86 A, l_104 A]; exact p_105 A)
theorem l_106 (A : Args F) : A.at r_106 = M2 A 7 :=
  (show A.at r_106 = k0_pay273 (A.at r_85) (A.at r_86) (A.at r_104) from rfl).trans (by rw [l_85 A, l_86 A, l_104 A]; exact p_106 A)
theorem l_107 (A : Args F) : A.at r_107 = M2 A 8 :=
  (show A.at r_107 = k0_pay274 (A.at r_87) (A.at r_89) (A.at r_91) (A.at r_93) from rfl).trans (by rw [l_87 A, l_89 A, l_91 A, l_93 A]; exact p_107 A)
theorem l_108 (A : Args F) : A.at r_108 = M2 A 9 :=
  (show A.at r_108 = k0_pay275 (A.at r_87) (A.at r_89) (A.at r_91) (A.at r_93) from rfl).trans (by rw [l_87 A, l_89 A, l_91 A, l_93 A]; exact p_108 A)
theorem l_109 (A : Args F) : A.at r_109 = M2 A 10 :=
  (show A.at r_109 = k0_pay276 (A.at r_87) (A.at r_89) (A.at r_91) (A.at r_93) from rfl).trans (by rw [l_87 A, l_89 A, l_91 A, l_93 A]; exact p_109 A)
theorem l_110 (A : Args F) : A.at r_110 = M2 A 11 :=
  (show A.at r_110 = k0_pay277 (A.at r_87) (A.at r_89) (A.at r_91) (A.at r_93) from rfl).trans (by rw [l_87 A, l_89 A, l_91 A, l_93 A]; exact p_110 A)
theorem l_111 (A : Args F) : A.at r_111 = M2 A 12 :=
  (show A.at r_111 = k0_pay278 (A.at r_88) (A.at r_90) (A.at r_92) (A.at r_94) from rfl).trans (by rw [l_88 A, l_90 A, l_92 A, l_94 A]; exact p_111 A)
theorem l_112 (A : Args F) : A.at r_112 = M2 A 13 :=
  (show A.at r_112 = k0_pay279 (A.at r_88) (A.at r_90) (A.at r_92) (A.at r_94) from rfl).trans (by rw [l_88 A, l_90 A, l_92 A, l_94 A]; exact p_112 A)
theorem l_113 (A : Args F) : A.at r_113 = M2 A 14 :=
  (show A.at r_113 = k0_pay280 (A.at r_88) (A.at r_90) (A.at r_92) (A.at r_94) from rfl).trans (by rw [l_88 A, l_90 A, l_92 A, l_94 A]; exact p_113 A)
theorem l_114 (A : Args F) : A.at r_114 = M2 A 15 :=
  (show A.at r_114 = k0_pay281 (A.at r_88) (A.at r_90) (A.at r_92) (A.at r_94) from rfl).trans (by rw [l_88 A, l_90 A, l_92 A, l_94 A]; exact p_114 A)
theorem l_115 (A : Args F) : A.at r_115 = M2 A 16 :=
  (show A.at r_115 = k0_pay282 (A.at r_95) (A.at r_96) (A.at r_97) (A.at r_98) from rfl).trans (by rw [l_95 A, l_96 A, l_97 A, l_98 A]; exact p_115 A)
theorem l_116 (A : Args F) : A.at r_116 = M2 A 17 :=
  (show A.at r_116 = k0_pay283 (A.at r_95) (A.at r_96) (A.at r_97) (A.at r_98) from rfl).trans (by rw [l_95 A, l_96 A, l_97 A, l_98 A]; exact p_116 A)
theorem l_117 (A : Args F) : A.at r_117 = M2 A 18 :=
  (show A.at r_117 = k0_pay284 (A.at r_95) (A.at r_96) (A.at r_97) (A.at r_98) from rfl).trans (by rw [l_95 A, l_96 A, l_97 A, l_98 A]; exact p_117 A)
theorem l_118 (A : Args F) : A.at r_118 = M2 A 19 :=
  (show A.at r_118 = k0_pay285 (A.at r_95) (A.at r_96) (A.at r_97) (A.at r_98) from rfl).trans (by rw [l_95 A, l_96 A, l_97 A, l_98 A]; exact p_118 A)
theorem l_119 (A : Args F) : A.at r_119 = lo3 (M2 A 0) :=
  (show A.at r_119 = k0_pay286 (A.at r_99) (A.at r_101) from rfl).trans (by rw [l_99 A, l_101 A]; exact p_119 A)
theorem l_120 (A : Args F) : A.at r_120 = lo3 (M2 A 1) :=
  (show A.at r_120 = k0_pay287 (A.at r_99) (A.at r_101) from rfl).trans (by rw [l_99 A, l_101 A]; exact p_120 A)
theorem l_121 (A : Args F) : A.at r_121 = lo3 (M2 A 2) :=
  (show A.at r_121 = k0_pay288 (A.at r_100) (A.at r_102) from rfl).trans (by rw [l_100 A, l_102 A]; exact p_121 A)
theorem l_122 (A : Args F) : A.at r_122 = lo3 (M2 A 3) :=
  (show A.at r_122 = k0_pay289 (A.at r_100) (A.at r_102) from rfl).trans (by rw [l_100 A, l_102 A]; exact p_122 A)
theorem l_123 (A : Args F) : A.at r_123 = lo3 (M2 A 4) :=
  (show A.at r_123 = k0_pay290 (A.at r_85) (A.at r_86) (A.at r_103) from rfl).trans (by rw [l_85 A, l_86 A, l_103 A]; exact p_123 A)
theorem l_124 (A : Args F) : A.at r_124 = lo3 (M2 A 5) :=
  (show A.at r_124 = k0_pay291 (A.at r_85) (A.at r_86) (A.at r_103) from rfl).trans (by rw [l_85 A, l_86 A, l_103 A]; exact p_124 A)
theorem l_125 (A : Args F) : A.at r_125 = lo3 (M2 A 6) :=
  (show A.at r_125 = k0_pay292 (A.at r_85) (A.at r_86) (A.at r_104) from rfl).trans (by rw [l_85 A, l_86 A, l_104 A]; exact p_125 A)
theorem l_126 (A : Args F) : A.at r_126 = lo3 (M2 A 7) :=
  (show A.at r_126 = k0_pay293 (A.at r_85) (A.at r_86) (A.at r_104) from rfl).trans (by rw [l_85 A, l_86 A, l_104 A]; exact p_126 A)
theorem l_127 (A : Args F) : A.at r_127 = lo3 (M2 A 8) :=
  (show A.at r_127 = k0_pay294 (A.at r_87) (A.at r_89) (A.at r_91) (A.at r_93) from rfl).trans (by rw [l_87 A, l_89 A, l_91 A, l_93 A]; exact p_127 A)
theorem l_128 (A : Args F) : A.at r_128 = lo3 (M2 A 9) :=
  (show A.at r_128 = k0_pay295 (A.at r_87) (A.at r_89) (A.at r_91) (A.at r_93) from rfl).trans (by rw [l_87 A, l_89 A, l_91 A, l_93 A]; exact p_128 A)
theorem l_129 (A : Args F) : A.at r_129 = lo3 (M2 A 10) :=
  (show A.at r_129 = k0_pay296 (A.at r_87) (A.at r_89) (A.at r_91) (A.at r_93) from rfl).trans (by rw [l_87 A, l_89 A, l_91 A, l_93 A]; exact p_129 A)
theorem l_130 (A : Args F) : A.at r_130 = lo3 (M2 A 11) :=
  (show A.at r_130 = k0_pay297 (A.at r_87) (A.at r_89) (A.at r_91) (A.at r_93) from rfl).trans (by rw [l_87 A, l_89 A, l_91 A, l_93 A]; exact p_130 A)
theorem l_131 (A : Args F) : A.at r_131 = lo3 (M2 A 12) :=
  (show A.at r_131 = k0_pay298 (A.at r_88) (A.at r_90) (A.at r_92) (A.at r_94) from rfl).trans (by rw [l_88 A, l_90 A, l_92 A, l_94 A]; exact p_131 A)
theorem l_132 (A : Args F) : A.at r_132 = lo3 (M2 A 13) :=
  (show A.at r_132 = k0_pay299 (A.at r_88) (A.at r_90) (A.at r_92) (A.at r_94) from rfl).trans (by rw [l_88 A, l_90 A, l_92 A, l_94 A]; exact p_132 A)
theorem l_133 (A : Args F) : A.at r_133 = lo3 (M2 A 14) :=
  (show A.at r_133 = k0_pay300 (A.at r_88) (A.at r_90) (A.at r_92) (A.at r_94) from rfl).trans (by rw [l_88 A, l_90 A, l_92 A, l_94 A]; exact p_133 A)
theorem l_134 (A : Args F) : A.at r_134 = lo3 (M2 A 15) :=
  (show A.at r_134 = k0_pay301 (A.at r_88) (A.at r_90) (A.at r_92) (A.at r_94) from rfl).trans (by rw [l_88 A, l_90 A, l_92 A, l_94 A]; exact p_134 A)
theorem l_135 (A : Args F) : A.at r_135 = lo3 (M2 A 16) :=
  (show A.at r_135 = k0_pay302 (A.at r_95) (A.at r_96) (A.at r_97) (A.at r_98) from rfl).trans (by rw [l_95 A, l_96 A, l_97 A, l_98 A]; exact p_135 A)
theorem l_136 (A : Args F) : A.at r_136 = lo3 (M2 A 17) :=
  (show A.at r_136 = k0_pay303 (A.at r_95) (A.at r_96) (A.at r_97) (A.at r_98) from rfl).trans (by rw [l_95 A, l_96 A, l_97 A, l_98 A]; exact p_136 A)
theorem l_137 (A : Args F) : A.at r_137 = lo3 (M2 A 18) :=
  (show A.at r_137 = k0_pay304 (A.at r_95) (A.at r_96) (A.at r_97) (A.at r_98) from rfl).trans (by rw [l_95 A, l_96 A, l_97 A, l_98 A]; exact p_137 A)
theorem l_138 (A : Args F) : A.at r_138 = lo3 (M2 A 19) :=
  (show A.at r_138 = k0_pay305 (A.at r_95) (A.at r_96) (A.at r_97) (A.at r_98) from rfl).trans (by rw [l_95 A, l_96 A, l_97 A, l_98 A]; exact p_138 A)
theorem l_139 (A : Args F) : A.at r_139 = hi3 (M2 A 0) :=
  (show A.at r_139 = k0_pay306 (A.at r_99) (A.at r_101) from rfl).trans (by rw [l_99 A, l_101 A]; exact p_139 A)
theorem l_140 (A : Args F) : A.at r_140 = hi3 (M2 A 1) :=
  (show A.at r_140 = k0_pay307 (A.at r_99) (A.at r_101) from rfl).trans (by rw [l_99 A, l_101 A]; exact p_140 A)
theorem l_141 (A : Args F) : A.at r_141 = hi3 (M2 A 2) :=
  (show A.at r_141 = k0_pay308 (A.at r_100) (A.at r_102) from rfl).trans (by rw [l_100 A, l_102 A]; exact p_141 A)
theorem l_142 (A : Args F) : A.at r_142 = hi3 (M2 A 3) :=
  (show A.at r_142 = k0_pay309 (A.at r_100) (A.at r_102) from rfl).trans (by rw [l_100 A, l_102 A]; exact p_142 A)
theorem l_143 (A : Args F) : A.at r_143 = hi3 (M2 A 4) :=
  (show A.at r_143 = k0_pay310 (A.at r_85) (A.at r_86) (A.at r_103) from rfl).trans (by rw [l_85 A, l_86 A, l_103 A]; exact p_143 A)
theorem l_144 (A : Args F) : A.at r_144 = hi3 (M2 A 5) :=
  (show A.at r_144 = k0_pay311 (A.at r_85) (A.at r_86) (A.at r_103) from rfl).trans (by rw [l_85 A, l_86 A, l_103 A]; exact p_144 A)
theorem l_145 (A : Args F) : A.at r_145 = clean1 mX mN (N3 A) 16 :=
  (show A.at r_145 = k0_pay327 (A.at r_114) (A.at r_119) (A.at r_135) from rfl).trans (by rw [l_114 A, l_119 A, l_135 A]; exact p_145 A)
theorem l_146 (A : Args F) : A.at r_146 = clean1 mX mN (N3 A) 17 :=
  (show A.at r_146 = k0_pay329 (A.at r_113) (A.at r_120) (A.at r_136) from rfl).trans (by rw [l_113 A, l_120 A, l_136 A]; exact p_146 A)
theorem l_147 (A : Args F) : A.at r_147 = clean1 mX mN (N3 A) 18 :=
  (show A.at r_147 = k0_pay331 (A.at r_112) (A.at r_121) (A.at r_137) from rfl).trans (by rw [l_112 A, l_121 A, l_137 A]; exact p_147 A)
theorem l_148 (A : Args F) : A.at r_148 = clean1 mX mN (N3 A) 3 :=
  (show A.at r_148 = k0_pay332 (A.at r_111) (A.at r_122) (A.at r_138) from rfl).trans (by rw [l_111 A, l_122 A, l_138 A]; exact p_148 A)
theorem l_149 (A : Args F) : A.at r_149 = clean1 mX mN (N3 A) 19 :=
  (show A.at r_149 = k0_pay333 (A.at r_111) (A.at r_122) (A.at r_138) from rfl).trans (by rw [l_111 A, l_122 A, l_138 A]; exact p_149 A)
theorem l_150 (A : Args F) : A.at r_150 = clean1 mX mN (N3 A) 4 :=
  (show A.at r_150 = k0_pay334 (A.at r_110) (A.at r_123) from rfl).trans (by rw [l_110 A, l_123 A]; exact p_150 A)
theorem l_151 (A : Args F) : A.at r_151 = clean1 mX mN (N3 A) 20 :=
  (show A.at r_151 = k0_pay335 (A.at r_110) (A.at r_123) from rfl).trans (by rw [l_110 A, l_123 A]; exact p_151 A)
theorem l_152 (A : Args F) : A.at r_152 = clean1 mX mN (N3 A) 5 :=
  (show A.at r_152 = k0_pay336 (A.at r_109) (A.at r_124) from rfl).trans (by rw [l_109 A, l_124 A]; exact p_152 A)
theorem l_153 (A : Args F) : A.at r_153 = clean1 mX mN (N3 A) 21 :=
  (show A.at r_153 = k0_pay337 (A.at r_109) (A.at r_124) from rfl).trans (by rw [l_109 A, l_124 A]; exact p_153 A)
theorem l_154 (A : Args F) : A.at r_154 = clean1 mX mN (N3 A) 6 :=
  (show A.at r_154 = k0_pay338 (A.at r_108) (A.at r_125) from rfl).trans (by rw [l_108 A, l_125 A]; exact p_154 A)
theorem l_155 (A : Args F) : A.at r_155 = clean1 mX mN (N3 A) 22 :=
  (show A.at r_155 = k0_pay339 (A.at r_108) (A.at r_125) from rfl).trans (by rw [l_108 A, l_125 A]; exact p_155 A)
theorem l_156 (A : Args F) : A.at r_156 = clean1 mX mN (N3 A) 7 :=
  (show A.at r_156 = k0_pay340 (A.at r_107) (A.at r_126) from rfl).trans (by rw [l_107 A, l_126 A]; exact p_156 A)
theorem l_157 (A : Args F) : A.at r_157 = clean1 mX mN (N3 A) 23 :=
  (show A.at r_157 = k0_pay341 (A.at r_107) (A.at r_126) from rfl).trans (by rw [l_107 A, l_126 A]; exact p_157 A)
theorem l_158 (A : Args F) : A.at r_158 = clean1 mX mN (N3 A) 24 :=
  (show A.at r_158 = k0_pay343 (A.at r_106) (A.at r_127) from rfl).trans (by rw [l_106 A, l_127 A]; exact p_158 A)
theorem l_159 (A : Args F) : A.at r_159 = clean1 mX mN (N3 A) 25 :=
  (show A.at r_159 = k0_pay345 (A.at r_105) (A.at r_128) from rfl).trans (by rw [l_105 A, l_128 A]; exact p_159 A)
theorem l_160 (A : Args F) : A.at r_160 = clean1 mX mN (N3 A) 26 :=
  (show A.at r_160 = k0_pay347 (A.at r_129) (A.at r_144) from rfl).trans (by rw [l_129 A, l_144 A]; exact p_160 A)
theorem l_161 (A : Args F) : A.at r_161 = clean1 mX mN (N3 A) 11 :=
  (show A.at r_161 = k0_pay348 (A.at r_130) (A.at r_143) from rfl).trans (by rw [l_130 A, l_143 A]; exact p_161 A)
theorem l_162 (A : Args F) : A.at r_162 = clean1 mX mN (N3 A) 27 :=
  (show A.at r_162 = k0_pay349 (A.at r_130) (A.at r_143) from rfl).trans (by rw [l_130 A, l_143 A]; exact p_162 A)
theorem l_163 (A : Args F) : A.at r_163 = clean1 mX mN (N3 A) 12 :=
  (show A.at r_163 = k0_pay350 (A.at r_118) (A.at r_131) (A.at r_142) from rfl).trans (by rw [l_118 A, l_131 A, l_142 A]; exact p_163 A)
theorem l_164 (A : Args F) : A.at r_164 = clean1 mX mN (N3 A) 28 :=
  (show A.at r_164 = k0_pay351 (A.at r_118) (A.at r_131) (A.at r_142) from rfl).trans (by rw [l_118 A, l_131 A, l_142 A]; exact p_164 A)
theorem l_165 (A : Args F) : A.at r_165 = clean1 mX mN (N3 A) 13 :=
  (show A.at r_165 = k0_pay352 (A.at r_117) (A.at r_132) (A.at r_141) from rfl).trans (by rw [l_117 A, l_132 A, l_141 A]; exact p_165 A)
theorem l_166 (A : Args F) : A.at r_166 = clean1 mX mN (N3 A) 29 :=
  (show A.at r_166 = k0_pay353 (A.at r_117) (A.at r_132) (A.at r_141) from rfl).trans (by rw [l_117 A, l_132 A, l_141 A]; exact p_166 A)
theorem l_167 (A : Args F) : A.at r_167 = clean1 mX mN (N3 A) 14 :=
  (show A.at r_167 = k0_pay354 (A.at r_116) (A.at r_133) (A.at r_140) from rfl).trans (by rw [l_116 A, l_133 A, l_140 A]; exact p_167 A)
theorem l_168 (A : Args F) : A.at r_168 = clean1 mX mN (N3 A) 30 :=
  (show A.at r_168 = k0_pay355 (A.at r_116) (A.at r_133) (A.at r_140) from rfl).trans (by rw [l_116 A, l_133 A, l_140 A]; exact p_168 A)
theorem l_169 (A : Args F) : A.at r_169 = clean1 mX mN (N3 A) 15 :=
  (show A.at r_169 = k0_pay356 (A.at r_115) (A.at r_134) (A.at r_139) from rfl).trans (by rw [l_115 A, l_134 A, l_139 A]; exact p_169 A)
theorem l_170 (A : Args F) : A.at r_170 = clean1 mX mN (N3 A) 31 :=
  (show A.at r_170 = k0_pay357 (A.at r_115) (A.at r_134) (A.at r_139) from rfl).trans (by rw [l_115 A, l_134 A, l_139 A]; exact p_170 A)
theorem l_171 (A : Args F) : A.at r_171 = clean2 mX mN (N3 A) 0 :=
  (show A.at r_171 = k0_pay358 (A.at r_106) (A.at r_114) (A.at r_119) (A.at r_127) (A.at r_135) from rfl).trans (by rw [l_106 A, l_114 A, l_119 A, l_127 A, l_135 A]; exact p_171 A)
theorem l_172 (A : Args F) : A.at r_172 = clean2 mX mN (N3 A) 8 :=
  (show A.at r_172 = k0_pay359 (A.at r_106) (A.at r_114) (A.at r_119) (A.at r_127) (A.at r_135) from rfl).trans (by rw [l_106 A, l_114 A, l_119 A, l_127 A, l_135 A]; exact p_172 A)
theorem l_173 (A : Args F) : A.at r_173 = clean2 mX mN (N3 A) 1 :=
  (show A.at r_173 = k0_pay360 (A.at r_105) (A.at r_113) (A.at r_120) (A.at r_128) (A.at r_136) from rfl).trans (by rw [l_105 A, l_113 A, l_120 A, l_128 A, l_136 A]; exact p_173 A)
theorem l_174 (A : Args F) : A.at r_174 = clean2 mX mN (N3 A) 9 :=
  (show A.at r_174 = k0_pay361 (A.at r_105) (A.at r_113) (A.at r_120) (A.at r_128) (A.at r_136) from rfl).trans (by rw [l_105 A, l_113 A, l_120 A, l_128 A, l_136 A]; exact p_174 A)
theorem l_175 (A : Args F) : A.at r_175 = clean2 mX mN (N3 A) 2 :=
  (show A.at r_175 = k0_pay362 (A.at r_112) (A.at r_121) (A.at r_129) (A.at r_137) (A.at r_144) from rfl).trans (by rw [l_112 A, l_121 A, l_129 A, l_137 A, l_144 A]; exact p_175 A)
theorem l_176 (A : Args F) : A.at r_176 = clean2 mX mN (N3 A) 10 :=
  (show A.at r_176 = k0_pay363 (A.at r_112) (A.at r_121) (A.at r_129) (A.at r_137) (A.at r_144) from rfl).trans (by rw [l_112 A, l_121 A, l_129 A, l_137 A, l_144 A]; exact p_176 A)
theorem l_177 (A : Args F) : A.at r_177 = clean4 mX mN (N3 A) 2 :=
  (show A.at r_177 = k0_pay395 (A.at r_150) (A.at r_154) (A.at r_163) (A.at r_167) (A.at r_171) (A.at r_175) from rfl).trans (by rw [l_150 A, l_154 A, l_163 A, l_167 A, l_171 A, l_175 A]; exact p_177 A)
theorem l_178 (A : Args F) : A.at r_178 = clean4 mX mN (N3 A) 3 :=
  (show A.at r_178 = k0_pay397 (A.at r_148) (A.at r_152) (A.at r_156) (A.at r_161) (A.at r_165) (A.at r_169) (A.at r_173) from rfl).trans (by rw [l_148 A, l_152 A, l_156 A, l_161 A, l_165 A, l_169 A, l_173 A]; exact p_178 A)
theorem l_179 (A : Args F) : A.at r_179 = clean4 mX mN (N3 A) 4 :=
  (show A.at r_179 = k0_pay398 (A.at r_150) (A.at r_154) (A.at r_163) (A.at r_167) (A.at r_171) (A.at r_175) from rfl).trans (by rw [l_150 A, l_154 A, l_163 A, l_167 A, l_171 A, l_175 A]; exact p_179 A)
theorem l_180 (A : Args F) : A.at r_180 = clean4 mX mN (N3 A) 6 :=
  (show A.at r_180 = k0_pay399 (A.at r_150) (A.at r_154) (A.at r_163) (A.at r_167) (A.at r_171) (A.at r_175) from rfl).trans (by rw [l_150 A, l_154 A, l_163 A, l_167 A, l_171 A, l_175 A]; exact p_180 A)
theorem l_181 (A : Args F) : A.at r_181 = clean4 mX mN (N3 A) 5 :=
  (show A.at r_181 = k0_pay400 (A.at r_148) (A.at r_152) (A.at r_156) (A.at r_161) (A.at r_165) (A.at r_169) (A.at r_173) from rfl).trans (by rw [l_148 A, l_152 A, l_156 A, l_161 A, l_165 A, l_169 A, l_173 A]; exact p_181 A)
theorem l_182 (A : Args F) : A.at r_182 = clean4 mX mN (N3 A) 7 :=
  (show A.at r_182 = k0_pay401 (A.at r_148) (A.at r_152) (A.at r_156) (A.at r_161) (A.at r_165) (A.at r_169) (A.at r_173) from rfl).trans (by rw [l_148 A, l_152 A, l_156 A, l_161 A, l_165 A, l_169 A, l_173 A]; exact p_182 A)
theorem l_183 (A : Args F) : A.at r_183 = clean4 mX mN (N3 A) 8 :=
  (show A.at r_183 = k0_pay402 (A.at r_150) (A.at r_154) (A.at r_163) (A.at r_167) (A.at r_172) (A.at r_176) from rfl).trans (by rw [l_150 A, l_154 A, l_163 A, l_167 A, l_172 A, l_176 A]; exact p_183 A)
theorem l_184 (A : Args F) : A.at r_184 = clean4 mX mN (N3 A) 10 :=
  (show A.at r_184 = k0_pay403 (A.at r_150) (A.at r_154) (A.at r_163) (A.at r_167) (A.at r_172) (A.at r_176) from rfl).trans (by rw [l_150 A, l_154 A, l_163 A, l_167 A, l_172 A, l_176 A]; exact p_184 A)
theorem l_185 (A : Args F) : A.at r_185 = clean4 mX mN (N3 A) 9 :=
  (show A.at r_185 = k0_pay404 (A.at r_148) (A.at r_152) (A.at r_156) (A.at r_161) (A.at r_165) (A.at r_169) (A.at r_174) from rfl).trans (by rw [l_148 A, l_152 A, l_156 A, l_161 A, l_165 A, l_169 A, l_174 A]; exact p_185 A)
theorem l_186 (A : Args F) : A.at r_186 = clean4 mX mN (N3 A) 11 :=
  (show A.at r_186 = k0_pay405 (A.at r_148) (A.at r_152) (A.at r_156) (A.at r_161) (A.at r_165) (A.at r_169) (A.at r_174) from rfl).trans (by rw [l_148 A, l_152 A, l_156 A, l_161 A, l_165 A, l_169 A, l_174 A]; exact p_186 A)
theorem l_187 (A : Args F) : A.at r_187 = clean4 mX mN (N3 A) 12 :=
  (show A.at r_187 = k0_pay406 (A.at r_150) (A.at r_154) (A.at r_163) (A.at r_167) (A.at r_172) (A.at r_176) from rfl).trans (by rw [l_150 A, l_154 A, l_163 A, l_167 A, l_172 A, l_176 A]; exact p_187 A)
theorem l_188 (A : Args F) : A.at r_188 = clean4 mX mN (N3 A) 14 :=
  (show A.at r_188 = k0_pay407 (A.at r_150) (A.at r_154) (A.at r_163) (A.at r_167) (A.at r_172) (A.at r_176) from rfl).trans (by rw [l_150 A, l_154 A, l_163 A, l_167 A, l_172 A, l_176 A]; exact p_188 A)
theorem l_189 (A : Args F) : A.at r_189 = clean4 mX mN (N3 A) 13 :=
  (show A.at r_189 = k0_pay408 (A.at r_148) (A.at r_152) (A.at r_156) (A.at r_161) (A.at r_165) (A.at r_169) (A.at r_174) from rfl).trans (by rw [l_148 A, l_152 A, l_156 A, l_161 A, l_165 A, l_169 A, l_174 A]; exact p_189 A)
theorem l_190 (A : Args F) : A.at r_190 = clean4 mX mN (N3 A) 15 :=
  (show A.at r_190 = k0_pay409 (A.at r_148) (A.at r_152) (A.at r_156) (A.at r_161) (A.at r_165) (A.at r_169) (A.at r_174) from rfl).trans (by rw [l_148 A, l_152 A, l_156 A, l_161 A, l_165 A, l_169 A, l_174 A]; exact p_190 A)
theorem l_191 (A : Args F) : A.at r_191 = clean4 mX mN (N3 A) 16 :=
  (show A.at r_191 = k0_pay410 (A.at r_145) (A.at r_147) (A.at r_151) (A.at r_155) (A.at r_158) (A.at r_160) (A.at r_164) (A.at r_168) from rfl).trans (by rw [l_145 A, l_147 A, l_151 A, l_155 A, l_158 A, l_160 A, l_164 A, l_168 A]; exact p_191 A)
theorem l_192 (A : Args F) : A.at r_192 = clean4 mX mN (N3 A) 18 :=
  (show A.at r_192 = k0_pay411 (A.at r_145) (A.at r_147) (A.at r_151) (A.at r_155) (A.at r_158) (A.at r_160) (A.at r_164) (A.at r_168) from rfl).trans (by rw [l_145 A, l_147 A, l_151 A, l_155 A, l_158 A, l_160 A, l_164 A, l_168 A]; exact p_192 A)
theorem l_193 (A : Args F) : A.at r_193 = clean4 mX mN (N3 A) 17 :=
  (show A.at r_193 = k0_pay412 (A.at r_146) (A.at r_149) (A.at r_153) (A.at r_157) (A.at r_159) (A.at r_162) (A.at r_166) (A.at r_170) from rfl).trans (by rw [l_146 A, l_149 A, l_153 A, l_157 A, l_159 A, l_162 A, l_166 A, l_170 A]; exact p_193 A)
theorem l_194 (A : Args F) : A.at r_194 = clean4 mX mN (N3 A) 19 :=
  (show A.at r_194 = k0_pay413 (A.at r_146) (A.at r_149) (A.at r_153) (A.at r_157) (A.at r_159) (A.at r_162) (A.at r_166) (A.at r_170) from rfl).trans (by rw [l_146 A, l_149 A, l_153 A, l_157 A, l_159 A, l_162 A, l_166 A, l_170 A]; exact p_194 A)
theorem l_195 (A : Args F) : A.at r_195 = M3 A 0 :=
  (show A.at r_195 = k0_pay414 (A.at r_148) (A.at r_150) (A.at r_152) (A.at r_154) (A.at r_156) (A.at r_161) (A.at r_163) (A.at r_165) (A.at r_167) (A.at r_169) (A.at r_171) (A.at r_173) (A.at r_175) from rfl).trans (by rw [l_148 A, l_150 A, l_152 A, l_154 A, l_156 A, l_161 A, l_163 A, l_165 A, l_167 A, l_169 A, l_171 A, l_173 A, l_175 A]; exact p_195 A)
theorem l_196 (A : Args F) : A.at r_196 = M3 A 1 :=
  (show A.at r_196 = k0_pay415 (A.at r_148) (A.at r_150) (A.at r_152) (A.at r_154) (A.at r_156) (A.at r_161) (A.at r_163) (A.at r_165) (A.at r_167) (A.at r_169) (A.at r_171) (A.at r_173) (A.at r_175) from rfl).trans (by rw [l_148 A, l_150 A, l_152 A, l_154 A, l_156 A, l_161 A, l_163 A, l_165 A, l_167 A, l_169 A, l_171 A, l_173 A, l_175 A]; exact p_196 A)
theorem l_197 (A : Args F) : A.at r_197 = lo4 (M3 A 0) :=
  (show A.at r_197 = k0_pay434 (A.at r_195) from rfl).trans (by rw [l_195 A]; exact p_197 A)
theorem l_198 (A : Args F) : A.at r_198 = lo4 (M3 A 1) :=
  (show A.at r_198 = k0_pay435 (A.at r_196) from rfl).trans (by rw [l_196 A]; exact p_198 A)
theorem l_199 (A : Args F) : A.at r_199 = lo4 (M3 A 2) :=
  (show A.at r_199 = k0_pay436 (A.at r_177) (A.at r_178) from rfl).trans (by rw [l_177 A, l_178 A]; exact p_199 A)
theorem l_200 (A : Args F) : A.at r_200 = lo4 (M3 A 3) :=
  (show A.at r_200 = k0_pay437 (A.at r_177) (A.at r_178) from rfl).trans (by rw [l_177 A, l_178 A]; exact p_200 A)
theorem l_201 (A : Args F) : A.at r_201 = lo4 (M3 A 4) :=
  (show A.at r_201 = k0_pay438 (A.at r_179) (A.at r_181) from rfl).trans (by rw [l_179 A, l_181 A]; exact p_201 A)
theorem l_202 (A : Args F) : A.at r_202 = lo4 (M3 A 5) :=
  (show A.at r_202 = k0_pay439 (A.at r_179) (A.at r_181) from rfl).trans (by rw [l_179 A, l_181 A]; exact p_202 A)
theorem l_203 (A : Args F) : A.at r_203 = lo4 (M3 A 6) :=
  (show A.at r_203 = k0_pay440 (A.at r_180) (A.at r_182) from rfl).trans (by rw [l_180 A, l_182 A]; exact p_203 A)
theorem l_204 (A : Args F) : A.at r_204 = lo4 (M3 A 7) :=
  (show A.at r_204 = k0_pay441 (A.at r_180) (A.at r_182) from rfl).trans (by rw [l_180 A, l_182 A]; exact p_204 A)
theorem l_205 (A : Args F) : A.at r_205 = lo4 (M3 A 8) :=
  (show A.at r_205 = k0_pay442 (A.at r_183) (A.at r_185) from rfl).trans (by rw [l_183 A, l_185 A]; exact p_205 A)
theorem l_206 (A : Args F) : A.at r_206 = lo4 (M3 A 9) :=
  (show A.at r_206 = k0_pay443 (A.at r_183) (A.at r_185) from rfl).trans (by rw [l_183 A, l_185 A]; exact p_206 A)
theorem l_207 (A : Args F) : A.at r_207 = lo4 (M3 A 10) :=
  (show A.at r_207 = k0_pay444 (A.at r_184) (A.at r_186) from rfl).trans (by rw [l_184 A, l_186 A]; exact p_207 A)
theorem l_208 (A : Args F) : A.at r_208 = lo4 (M3 A 11) :=
  (show A.at r_208 = k0_pay445 (A.at r_184) (A.at r_186) from rfl).trans (by rw [l_184 A, l_186 A]; exact p_208 A)
theorem l_209 (A : Args F) : A.at r_209 = lo4 (M3 A 14) :=
  (show A.at r_209 = k0_pay446 (A.at r_188) (A.at r_190) from rfl).trans (by rw [l_188 A, l_190 A]; exact p_209 A)
theorem l_210 (A : Args F) : A.at r_210 = lo4 (M3 A 15) :=
  (show A.at r_210 = k0_pay447 (A.at r_188) (A.at r_190) from rfl).trans (by rw [l_188 A, l_190 A]; exact p_210 A)
theorem l_211 (A : Args F) : A.at r_211 = lo4 (M3 A 16) :=
  (show A.at r_211 = k0_pay448 (A.at r_191) (A.at r_193) from rfl).trans (by rw [l_191 A, l_193 A]; exact p_211 A)
theorem l_212 (A : Args F) : A.at r_212 = lo4 (M3 A 17) :=
  (show A.at r_212 = k0_pay449 (A.at r_191) (A.at r_193) from rfl).trans (by rw [l_191 A, l_193 A]; exact p_212 A)
theorem l_213 (A : Args F) : A.at r_213 = lo4 (M3 A 18) :=
  (show A.at r_213 = k0_pay450 (A.at r_192) (A.at r_194) from rfl).trans (by rw [l_192 A, l_194 A]; exact p_213 A)
theorem l_214 (A : Args F) : A.at r_214 = lo4 (M3 A 19) :=
  (show A.at r_214 = k0_pay451 (A.at r_192) (A.at r_194) from rfl).trans (by rw [l_192 A, l_194 A]; exact p_214 A)
theorem l_215 (A : Args F) : A.at r_215 = hi4 (M3 A 0) :=
  (show A.at r_215 = k0_pay452 (A.at r_195) from rfl).trans (by rw [l_195 A]; exact p_215 A)
theorem l_216 (A : Args F) : A.at r_216 = hi4 (M3 A 1) :=
  (show A.at r_216 = k0_pay453 (A.at r_196) from rfl).trans (by rw [l_196 A]; exact p_216 A)
theorem l_217 (A : Args F) : A.at r_217 = hi4 (M3 A 2) :=
  (show A.at r_217 = k0_pay454 (A.at r_177) (A.at r_178) from rfl).trans (by rw [l_177 A, l_178 A]; exact p_217 A)
theorem l_218 (A : Args F) : A.at r_218 = hi4 (M3 A 3) :=
  (show A.at r_218 = k0_pay455 (A.at r_177) (A.at r_178) from rfl).trans (by rw [l_177 A, l_178 A]; exact p_218 A)
theorem l_219 (A : Args F) : A.at r_219 = hi4 (M3 A 4) :=
  (show A.at r_219 = k0_pay456 (A.at r_179) (A.at r_181) from rfl).trans (by rw [l_179 A, l_181 A]; exact p_219 A)
theorem l_220 (A : Args F) : A.at r_220 = hi4 (M3 A 5) :=
  (show A.at r_220 = k0_pay457 (A.at r_179) (A.at r_181) from rfl).trans (by rw [l_179 A, l_181 A]; exact p_220 A)
theorem l_221 (A : Args F) : A.at r_221 = hi4 (M3 A 6) :=
  (show A.at r_221 = k0_pay458 (A.at r_180) (A.at r_182) from rfl).trans (by rw [l_180 A, l_182 A]; exact p_221 A)
theorem l_222 (A : Args F) : A.at r_222 = hi4 (M3 A 7) :=
  (show A.at r_222 = k0_pay459 (A.at r_180) (A.at r_182) from rfl).trans (by rw [l_180 A, l_182 A]; exact p_222 A)
theorem l_223 (A : Args F) : A.at r_223 = hi4 (M3 A 8) :=
  (show A.at r_223 = k0_pay460 (A.at r_183) (A.at r_185) from rfl).trans (by rw [l_183 A, l_185 A]; exact p_223 A)
theorem l_224 (A : Args F) : A.at r_224 = hi4 (M3 A 9) :=
  (show A.at r_224 = k0_pay461 (A.at r_183) (A.at r_185) from rfl).trans (by rw [l_183 A, l_185 A]; exact p_224 A)
theorem l_225 (A : Args F) : A.at r_225 = hi4 (M3 A 10) :=
  (show A.at r_225 = k0_pay462 (A.at r_184) (A.at r_186) from rfl).trans (by rw [l_184 A, l_186 A]; exact p_225 A)
theorem l_226 (A : Args F) : A.at r_226 = hi4 (M3 A 11) :=
  (show A.at r_226 = k0_pay463 (A.at r_184) (A.at r_186) from rfl).trans (by rw [l_184 A, l_186 A]; exact p_226 A)
theorem l_227 (A : Args F) : A.at r_227 = hi4 (M3 A 12) :=
  (show A.at r_227 = k0_pay464 (A.at r_187) (A.at r_189) from rfl).trans (by rw [l_187 A, l_189 A]; exact p_227 A)
theorem l_228 (A : Args F) : A.at r_228 = hi4 (M3 A 13) :=
  (show A.at r_228 = k0_pay465 (A.at r_187) (A.at r_189) from rfl).trans (by rw [l_187 A, l_189 A]; exact p_228 A)
theorem l_229 (A : Args F) : A.at r_229 = hi4 (M3 A 14) :=
  (show A.at r_229 = k0_pay466 (A.at r_188) (A.at r_190) from rfl).trans (by rw [l_188 A, l_190 A]; exact p_229 A)
theorem l_230 (A : Args F) : A.at r_230 = hi4 (M3 A 15) :=
  (show A.at r_230 = k0_pay467 (A.at r_188) (A.at r_190) from rfl).trans (by rw [l_188 A, l_190 A]; exact p_230 A)
theorem l_231 (A : Args F) : A.at r_231 = hi4 (M3 A 16) :=
  (show A.at r_231 = k0_pay468 (A.at r_191) (A.at r_193) from rfl).trans (by rw [l_191 A, l_193 A]; exact p_231 A)
theorem l_232 (A : Args F) : A.at r_232 = hi4 (M3 A 17) :=
  (show A.at r_232 = k0_pay469 (A.at r_191) (A.at r_193) from rfl).trans (by rw [l_191 A, l_193 A]; exact p_232 A)
theorem l_233 (A : Args F) : A.at r_233 = N4 A 12 :=
  (show A.at r_233 = k0_pay470 (A.at r_187) (A.at r_189) (A.at r_192) (A.at r_194) from rfl).trans (by rw [l_187 A, l_189 A, l_192 A, l_194 A]; exact p_233 A)
theorem l_234 (A : Args F) : A.at r_234 = N4 A 13 :=
  (show A.at r_234 = k0_pay471 (A.at r_187) (A.at r_189) (A.at r_192) (A.at r_194) from rfl).trans (by rw [l_187 A, l_189 A, l_192 A, l_194 A]; exact p_234 A)
theorem l_235 (A : Args F) : A.at r_235 = clean1 mX mN (N4 A) 22 :=
  (show A.at r_235 = k0_pay485 (A.at r_203) (A.at r_224) from rfl).trans (by rw [l_203 A, l_224 A]; exact p_235 A)
theorem l_236 (A : Args F) : A.at r_236 = clean1 mX mN (N4 A) 23 :=
  (show A.at r_236 = k0_pay487 (A.at r_204) (A.at r_223) from rfl).trans (by rw [l_204 A, l_223 A]; exact p_236 A)
theorem l_237 (A : Args F) : A.at r_237 = clean1 mX mN (N4 A) 30 :=
  (show A.at r_237 = k0_pay495 (A.at r_209) (A.at r_216) (A.at r_232) from rfl).trans (by rw [l_209 A, l_216 A, l_232 A]; exact p_237 A)
theorem l_238 (A : Args F) : A.at r_238 = clean1 mX mN (N4 A) 31 :=
  (show A.at r_238 = k0_pay497 (A.at r_210) (A.at r_215) (A.at r_231) from rfl).trans (by rw [l_210 A, l_215 A, l_231 A]; exact p_238 A)
theorem l_239 (A : Args F) : A.at r_239 = clean2 mX mN (N4 A) 0 :=
  (show A.at r_239 = k0_pay498 (A.at r_197) (A.at r_205) (A.at r_211) (A.at r_222) (A.at r_230) from rfl).trans (by rw [l_197 A, l_205 A, l_211 A, l_222 A, l_230 A]; exact p_239 A)
theorem l_240 (A : Args F) : A.at r_240 = clean2 mX mN (N4 A) 8 :=
  (show A.at r_240 = k0_pay499 (A.at r_197) (A.at r_205) (A.at r_211) (A.at r_222) (A.at r_230) from rfl).trans (by rw [l_197 A, l_205 A, l_211 A, l_222 A, l_230 A]; exact p_240 A)
theorem l_241 (A : Args F) : A.at r_241 = clean2 mX mN (N4 A) 1 :=
  (show A.at r_241 = k0_pay500 (A.at r_198) (A.at r_206) (A.at r_212) (A.at r_221) (A.at r_229) from rfl).trans (by rw [l_198 A, l_206 A, l_212 A, l_221 A, l_229 A]; exact p_241 A)
theorem l_242 (A : Args F) : A.at r_242 = clean2 mX mN (N4 A) 9 :=
  (show A.at r_242 = k0_pay501 (A.at r_198) (A.at r_206) (A.at r_212) (A.at r_221) (A.at r_229) from rfl).trans (by rw [l_198 A, l_206 A, l_212 A, l_221 A, l_229 A]; exact p_242 A)
theorem l_243 (A : Args F) : A.at r_243 = clean2 mX mN (N4 A) 2 :=
  (show A.at r_243 = k0_pay502 (A.at r_199) (A.at r_207) (A.at r_213) (A.at r_220) (A.at r_228) from rfl).trans (by rw [l_199 A, l_207 A, l_213 A, l_220 A, l_228 A]; exact p_243 A)
theorem l_244 (A : Args F) : A.at r_244 = clean2 mX mN (N4 A) 10 :=
  (show A.at r_244 = k0_pay503 (A.at r_199) (A.at r_207) (A.at r_213) (A.at r_220) (A.at r_228) from rfl).trans (by rw [l_199 A, l_207 A, l_213 A, l_220 A, l_228 A]; exact p_244 A)
theorem l_245 (A : Args F) : A.at r_245 = clean2 mX mN (N4 A) 3 :=
  (show A.at r_245 = k0_pay504 (A.at r_200) (A.at r_208) (A.at r_214) (A.at r_219) (A.at r_227) from rfl).trans (by rw [l_200 A, l_208 A, l_214 A, l_219 A, l_227 A]; exact p_245 A)
theorem l_246 (A : Args F) : A.at r_246 = clean2 mX mN (N4 A) 11 :=
  (show A.at r_246 = k0_pay505 (A.at r_200) (A.at r_208) (A.at r_214) (A.at r_219) (A.at r_227) from rfl).trans (by rw [l_200 A, l_208 A, l_214 A, l_219 A, l_227 A]; exact p_246 A)
theorem l_247 (A : Args F) : A.at r_247 = clean2 mX mN (N4 A) 4 :=
  (show A.at r_247 = k0_pay506 (A.at r_201) (A.at r_218) (A.at r_226) (A.at r_233) from rfl).trans (by rw [l_201 A, l_218 A, l_226 A, l_233 A]; exact p_247 A)
theorem l_248 (A : Args F) : A.at r_248 = clean2 mX mN (N4 A) 12 :=
  (show A.at r_248 = k0_pay507 (A.at r_201) (A.at r_218) (A.at r_226) (A.at r_233) from rfl).trans (by rw [l_201 A, l_218 A, l_226 A, l_233 A]; exact p_248 A)
theorem l_249 (A : Args F) : A.at r_249 = clean2 mX mN (N4 A) 5 :=
  (show A.at r_249 = k0_pay508 (A.at r_202) (A.at r_217) (A.at r_225) (A.at r_234) from rfl).trans (by rw [l_202 A, l_217 A, l_225 A, l_234 A]; exact p_249 A)
theorem l_250 (A : Args F) : A.at r_250 = clean2 mX mN (N4 A) 13 :=
  (show A.at r_250 = k0_pay509 (A.at r_202) (A.at r_217) (A.at r_225) (A.at r_234) from rfl).trans (by rw [l_202 A, l_217 A, l_225 A, l_234 A]; exact p_250 A)
theorem l_251 (A : Args F) : A.at r_251 = clean2 mX mN (N4 A) 6 :=
  (show A.at r_251 = k0_pay510 (A.at r_203) (A.at r_209) (A.at r_216) (A.at r_224) (A.at r_232) from rfl).trans (by rw [l_203 A, l_209 A, l_216 A, l_224 A, l_232 A]; exact p_251 A)
theorem l_252 (A : Args F) : A.at r_252 = clean2 mX mN (N4 A) 14 :=
  (show A.at r_252 = k0_pay511 (A.at r_203) (A.at r_209) (A.at r_216) (A.at r_224) (A.at r_232) from rfl).trans (by rw [l_203 A, l_209 A, l_216 A, l_224 A, l_232 A]; exact p_252 A)
theorem l_253 (A : Args F) : A.at r_253 = clean2 mX mN (N4 A) 7 :=
  (show A.at r_253 = k0_pay512 (A.at r_204) (A.at r_210) (A.at r_215) (A.at r_223) (A.at r_231) from rfl).trans (by rw [l_204 A, l_210 A, l_215 A, l_223 A, l_231 A]; exact p_253 A)
theorem l_254 (A : Args F) : A.at r_254 = clean2 mX mN (N4 A) 15 :=
  (show A.at r_254 = k0_pay513 (A.at r_204) (A.at r_210) (A.at r_215) (A.at r_223) (A.at r_231) from rfl).trans (by rw [l_204 A, l_210 A, l_215 A, l_223 A, l_231 A]; exact p_254 A)
theorem l_255 (A : Args F) : A.at r_255 = clean2 mX mN (N4 A) 16 :=
  (show A.at r_255 = k0_pay514 (A.at r_197) (A.at r_205) (A.at r_211) (A.at r_222) (A.at r_230) from rfl).trans (by rw [l_197 A, l_205 A, l_211 A, l_222 A, l_230 A]; exact p_255 A)
theorem l_256 (A : Args F) : A.at r_256 = clean2 mX mN (N4 A) 17 :=
  (show A.at r_256 = k0_pay515 (A.at r_198) (A.at r_206) (A.at r_212) (A.at r_221) (A.at r_229) from rfl).trans (by rw [l_198 A, l_206 A, l_212 A, l_221 A, l_229 A]; exact p_256 A)
theorem l_257 (A : Args F) : A.at r_257 = clean2 mX mN (N4 A) 18 :=
  (show A.at r_257 = k0_pay516 (A.at r_199) (A.at r_207) (A.at r_213) (A.at r_220) (A.at r_228) from rfl).trans (by rw [l_199 A, l_207 A, l_213 A, l_220 A, l_228 A]; exact p_257 A)
theorem l_258 (A : Args F) : A.at r_258 = clean2 mX mN (N4 A) 19 :=
  (show A.at r_258 = k0_pay517 (A.at r_200) (A.at r_208) (A.at r_214) (A.at r_219) (A.at r_227) from rfl).trans (by rw [l_200 A, l_208 A, l_214 A, l_219 A, l_227 A]; exact p_258 A)
theorem l_259 (A : Args F) : A.at r_259 = clean2 mX mN (N4 A) 20 :=
  (show A.at r_259 = k0_pay518 (A.at r_201) (A.at r_218) (A.at r_226) (A.at r_233) from rfl).trans (by rw [l_201 A, l_218 A, l_226 A, l_233 A]; exact p_259 A)
theorem l_260 (A : Args F) : A.at r_260 = clean2 mX mN (N4 A) 21 :=
  (show A.at r_260 = k0_pay519 (A.at r_202) (A.at r_217) (A.at r_225) (A.at r_234) from rfl).trans (by rw [l_202 A, l_217 A, l_225 A, l_234 A]; exact p_260 A)
theorem l_261 (A : Args F) : A.at r_261 = clean4 mX mN (N4 A) 18 :=
  (show A.at r_261 = k0_pay557 (A.at r_235) (A.at r_237) (A.at r_255) (A.at r_257) (A.at r_259) from rfl).trans (by rw [l_235 A, l_237 A, l_255 A, l_257 A, l_259 A]; exact p_261 A)
theorem l_262 (A : Args F) : A.at r_262 = clean4 mX mN (N4 A) 19 :=
  (show A.at r_262 = k0_pay559 (A.at r_236) (A.at r_238) (A.at r_256) (A.at r_258) (A.at r_260) from rfl).trans (by rw [l_236 A, l_238 A, l_256 A, l_258 A, l_260 A]; exact p_262 A)
theorem l_263 (A : Args F) : A.at r_263 = M4 A 0 :=
  (show A.at r_263 = k0_pay560 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_263 A)
theorem l_264 (A : Args F) : A.at r_264 = M4 A 1 :=
  (show A.at r_264 = k0_pay561 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_264 A)
theorem l_265 (A : Args F) : A.at r_265 = M4 A 2 :=
  (show A.at r_265 = k0_pay562 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_265 A)
theorem l_266 (A : Args F) : A.at r_266 = M4 A 3 :=
  (show A.at r_266 = k0_pay563 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_266 A)
theorem l_267 (A : Args F) : A.at r_267 = M4 A 4 :=
  (show A.at r_267 = k0_pay564 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_267 A)
theorem l_268 (A : Args F) : A.at r_268 = M4 A 5 :=
  (show A.at r_268 = k0_pay565 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_268 A)
theorem l_269 (A : Args F) : A.at r_269 = M4 A 6 :=
  (show A.at r_269 = k0_pay566 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_269 A)
theorem l_270 (A : Args F) : A.at r_270 = M4 A 7 :=
  (show A.at r_270 = k0_pay567 (A.at r_239) (A.at r_241) (A.at r_243) (A.at r_245) (A.at r_247) (A.at r_249) (A.at r_251) (A.at r_253) from rfl).trans (by rw [l_239 A, l_241 A, l_243 A, l_245 A, l_247 A, l_249 A, l_251 A, l_253 A]; exact p_270 A)
theorem l_271 (A : Args F) : A.at r_271 = M4 A 8 :=
  (show A.at r_271 = k0_pay568 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_271 A)
theorem l_272 (A : Args F) : A.at r_272 = M4 A 9 :=
  (show A.at r_272 = k0_pay569 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_272 A)
theorem l_273 (A : Args F) : A.at r_273 = M4 A 10 :=
  (show A.at r_273 = k0_pay570 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_273 A)
theorem l_274 (A : Args F) : A.at r_274 = M4 A 11 :=
  (show A.at r_274 = k0_pay571 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_274 A)
theorem l_275 (A : Args F) : A.at r_275 = M4 A 12 :=
  (show A.at r_275 = k0_pay572 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_275 A)
theorem l_276 (A : Args F) : A.at r_276 = M4 A 13 :=
  (show A.at r_276 = k0_pay573 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_276 A)
theorem l_277 (A : Args F) : A.at r_277 = M4 A 14 :=
  (show A.at r_277 = k0_pay574 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_277 A)
theorem l_278 (A : Args F) : A.at r_278 = M4 A 15 :=
  (show A.at r_278 = k0_pay575 (A.at r_240) (A.at r_242) (A.at r_244) (A.at r_246) (A.at r_248) (A.at r_250) (A.at r_252) (A.at r_254) from rfl).trans (by rw [l_240 A, l_242 A, l_244 A, l_246 A, l_248 A, l_250 A, l_252 A, l_254 A]; exact p_278 A)
theorem l_279 (A : Args F) : A.at r_279 = M4 A 16 :=
  (show A.at r_279 = k0_pay576 (A.at r_235) (A.at r_236) (A.at r_237) (A.at r_238) (A.at r_255) (A.at r_256) (A.at r_257) (A.at r_258) (A.at r_259) (A.at r_260) from rfl).trans (by rw [l_235 A, l_236 A, l_237 A, l_238 A, l_255 A, l_256 A, l_257 A, l_258 A, l_259 A, l_260 A]; exact p_279 A)
theorem l_280 (A : Args F) : A.at r_280 = M4 A 17 :=
  (show A.at r_280 = k0_pay577 (A.at r_235) (A.at r_236) (A.at r_237) (A.at r_238) (A.at r_255) (A.at r_256) (A.at r_257) (A.at r_258) (A.at r_259) (A.at r_260) from rfl).trans (by rw [l_235 A, l_236 A, l_237 A, l_238 A, l_255 A, l_256 A, l_257 A, l_258 A, l_259 A, l_260 A]; exact p_280 A)
theorem l_281 (A : Args F) : A.at r_281 = lo5 (M4 A 5) :=
  (show A.at r_281 = k0_pay585 (A.at r_268) from rfl).trans (by rw [l_268 A]; exact p_281 A)
theorem l_282 (A : Args F) : A.at r_282 = lo5 (M4 A 6) :=
  (show A.at r_282 = k0_pay586 (A.at r_269) from rfl).trans (by rw [l_269 A]; exact p_282 A)
theorem l_283 (A : Args F) : A.at r_283 = lo5 (M4 A 7) :=
  (show A.at r_283 = k0_pay587 (A.at r_270) from rfl).trans (by rw [l_270 A]; exact p_283 A)
theorem l_284 (A : Args F) : A.at r_284 = lo5 (M4 A 8) :=
  (show A.at r_284 = k0_pay588 (A.at r_271) from rfl).trans (by rw [l_271 A]; exact p_284 A)
theorem l_285 (A : Args F) : A.at r_285 = lo5 (M4 A 9) :=
  (show A.at r_285 = k0_pay589 (A.at r_272) from rfl).trans (by rw [l_272 A]; exact p_285 A)
theorem l_286 (A : Args F) : A.at r_286 = lo5 (M4 A 10) :=
  (show A.at r_286 = k0_pay590 (A.at r_273) from rfl).trans (by rw [l_273 A]; exact p_286 A)
theorem l_287 (A : Args F) : A.at r_287 = lo5 (M4 A 11) :=
  (show A.at r_287 = k0_pay591 (A.at r_274) from rfl).trans (by rw [l_274 A]; exact p_287 A)
theorem l_288 (A : Args F) : A.at r_288 = hi5 (M4 A 0) :=
  (show A.at r_288 = k0_pay592 (A.at r_263) from rfl).trans (by rw [l_263 A]; exact p_288 A)
theorem l_289 (A : Args F) : A.at r_289 = hi5 (M4 A 1) :=
  (show A.at r_289 = k0_pay593 (A.at r_264) from rfl).trans (by rw [l_264 A]; exact p_289 A)
theorem l_290 (A : Args F) : A.at r_290 = hi5 (M4 A 2) :=
  (show A.at r_290 = k0_pay594 (A.at r_265) from rfl).trans (by rw [l_265 A]; exact p_290 A)
theorem l_291 (A : Args F) : A.at r_291 = hi5 (M4 A 3) :=
  (show A.at r_291 = k0_pay595 (A.at r_266) from rfl).trans (by rw [l_266 A]; exact p_291 A)
theorem l_292 (A : Args F) : A.at r_292 = hi5 (M4 A 4) :=
  (show A.at r_292 = k0_pay596 (A.at r_267) from rfl).trans (by rw [l_267 A]; exact p_292 A)
theorem l_293 (A : Args F) : A.at r_293 = hi5 (M4 A 5) :=
  (show A.at r_293 = k0_pay597 (A.at r_268) from rfl).trans (by rw [l_268 A]; exact p_293 A)
theorem l_294 (A : Args F) : A.at r_294 = hi5 (M4 A 6) :=
  (show A.at r_294 = k0_pay598 (A.at r_269) from rfl).trans (by rw [l_269 A]; exact p_294 A)
theorem l_295 (A : Args F) : A.at r_295 = hi5 (M4 A 7) :=
  (show A.at r_295 = k0_pay599 (A.at r_270) from rfl).trans (by rw [l_270 A]; exact p_295 A)
theorem l_296 (A : Args F) : A.at r_296 = hi5 (M4 A 8) :=
  (show A.at r_296 = k0_pay600 (A.at r_271) from rfl).trans (by rw [l_271 A]; exact p_296 A)
theorem l_297 (A : Args F) : A.at r_297 = hi5 (M4 A 9) :=
  (show A.at r_297 = k0_pay601 (A.at r_272) from rfl).trans (by rw [l_272 A]; exact p_297 A)
theorem l_298 (A : Args F) : A.at r_298 = hi5 (M4 A 10) :=
  (show A.at r_298 = k0_pay602 (A.at r_273) from rfl).trans (by rw [l_273 A]; exact p_298 A)
theorem l_299 (A : Args F) : A.at r_299 = N5 A 12 :=
  (show A.at r_299 = k0_pay604 (A.at r_261) (A.at r_262) (A.at r_275) from rfl).trans (by rw [l_261 A, l_262 A, l_275 A]; exact p_299 A)
theorem l_300 (A : Args F) : A.at r_300 = N5 A 13 :=
  (show A.at r_300 = k0_pay605 (A.at r_261) (A.at r_262) (A.at r_276) from rfl).trans (by rw [l_261 A, l_262 A, l_276 A]; exact p_300 A)
theorem l_301 (A : Args F) : A.at r_301 = N5 A 14 :=
  (show A.at r_301 = k0_pay606 (A.at r_277) (A.at r_280) from rfl).trans (by rw [l_277 A, l_280 A]; exact p_301 A)
theorem l_302 (A : Args F) : A.at r_302 = N5 A 15 :=
  (show A.at r_302 = k0_pay607 (A.at r_278) (A.at r_279) from rfl).trans (by rw [l_278 A, l_279 A]; exact p_302 A)
theorem l_303 (A : Args F) : A.at r_303 = clean1 mX mN (N5 A) 0 :=
  (show A.at r_303 = k0_pay612 (A.at r_263) (A.at r_278) (A.at r_279) from rfl).trans (by rw [l_263 A, l_278 A, l_279 A]; exact p_303 A)
theorem l_304 (A : Args F) : A.at r_304 = clean1 mX mN (N5 A) 16 :=
  (show A.at r_304 = k0_pay613 (A.at r_263) (A.at r_278) (A.at r_279) from rfl).trans (by rw [l_263 A, l_278 A, l_279 A]; exact p_304 A)
theorem l_305 (A : Args F) : A.at r_305 = clean1 mX mN (N5 A) 1 :=
  (show A.at r_305 = k0_pay614 (A.at r_264) (A.at r_277) (A.at r_280) from rfl).trans (by rw [l_264 A, l_277 A, l_280 A]; exact p_305 A)
theorem l_306 (A : Args F) : A.at r_306 = clean1 mX mN (N5 A) 17 :=
  (show A.at r_306 = k0_pay615 (A.at r_264) (A.at r_277) (A.at r_280) from rfl).trans (by rw [l_264 A, l_277 A, l_280 A]; exact p_306 A)
theorem l_307 (A : Args F) : A.at r_307 = clean1 mX mN (N5 A) 2 :=
  (show A.at r_307 = k0_pay616 (A.at r_261) (A.at r_262) (A.at r_265) (A.at r_276) from rfl).trans (by rw [l_261 A, l_262 A, l_265 A, l_276 A]; exact p_307 A)
theorem l_308 (A : Args F) : A.at r_308 = clean1 mX mN (N5 A) 18 :=
  (show A.at r_308 = k0_pay617 (A.at r_261) (A.at r_262) (A.at r_265) (A.at r_276) from rfl).trans (by rw [l_261 A, l_262 A, l_265 A, l_276 A]; exact p_308 A)
theorem l_309 (A : Args F) : A.at r_309 = clean1 mX mN (N5 A) 3 :=
  (show A.at r_309 = k0_pay618 (A.at r_261) (A.at r_262) (A.at r_266) (A.at r_275) from rfl).trans (by rw [l_261 A, l_262 A, l_266 A, l_275 A]; exact p_309 A)
theorem l_310 (A : Args F) : A.at r_310 = clean1 mX mN (N5 A) 19 :=
  (show A.at r_310 = k0_pay619 (A.at r_261) (A.at r_262) (A.at r_266) (A.at r_275) from rfl).trans (by rw [l_261 A, l_262 A, l_266 A, l_275 A]; exact p_310 A)
theorem l_311 (A : Args F) : A.at r_311 = clean1 mX mN (N5 A) 4 :=
  (show A.at r_311 = k0_pay620 (A.at r_267) (A.at r_274) from rfl).trans (by rw [l_267 A, l_274 A]; exact p_311 A)
theorem l_312 (A : Args F) : A.at r_312 = clean1 mX mN (N5 A) 20 :=
  (show A.at r_312 = k0_pay621 (A.at r_267) (A.at r_274) from rfl).trans (by rw [l_267 A, l_274 A]; exact p_312 A)
theorem l_313 (A : Args F) : A.at r_313 = clean2 mX mN (N5 A) 11 :=
  (show A.at r_313 = k0_pay640 (A.at r_287) (A.at r_292) (A.at r_309) from rfl).trans (by rw [l_287 A, l_292 A, l_309 A]; exact p_313 A)
theorem l_314 (A : Args F) : A.at r_314 = clean2 mX mN (N5 A) 15 :=
  (show A.at r_314 = k0_pay648 (A.at r_283) (A.at r_288) (A.at r_296) (A.at r_302) from rfl).trans (by rw [l_283 A, l_288 A, l_296 A, l_302 A]; exact p_314 A)
theorem l_315 (A : Args F) : A.at r_315 = clean2 mX mN (N5 A) 16 :=
  (show A.at r_315 = k0_pay649 (A.at r_284) (A.at r_295) (A.at r_304) from rfl).trans (by rw [l_284 A, l_295 A, l_304 A]; exact p_315 A)
theorem l_316 (A : Args F) : A.at r_316 = clean2 mX mN (N5 A) 17 :=
  (show A.at r_316 = k0_pay650 (A.at r_285) (A.at r_294) (A.at r_306) from rfl).trans (by rw [l_285 A, l_294 A, l_306 A]; exact p_316 A)
theorem l_317 (A : Args F) : A.at r_317 = clean2 mX mN (N5 A) 18 :=
  (show A.at r_317 = k0_pay651 (A.at r_286) (A.at r_293) (A.at r_308) from rfl).trans (by rw [l_286 A, l_293 A, l_308 A]; exact p_317 A)
theorem l_318 (A : Args F) : A.at r_318 = clean2 mX mN (N5 A) 19 :=
  (show A.at r_318 = k0_pay652 (A.at r_287) (A.at r_292) (A.at r_310) from rfl).trans (by rw [l_287 A, l_292 A, l_310 A]; exact p_318 A)
theorem l_319 (A : Args F) : A.at r_319 = clean2 mX mN (N5 A) 20 :=
  (show A.at r_319 = k0_pay653 (A.at r_291) (A.at r_299) (A.at r_312) from rfl).trans (by rw [l_291 A, l_299 A, l_312 A]; exact p_319 A)
theorem l_320 (A : Args F) : A.at r_320 = clean2 mX mN (N5 A) 21 :=
  (show A.at r_320 = k0_pay654 (A.at r_281) (A.at r_290) (A.at r_298) (A.at r_300) from rfl).trans (by rw [l_281 A, l_290 A, l_298 A, l_300 A]; exact p_320 A)
theorem l_321 (A : Args F) : A.at r_321 = clean2 mX mN (N5 A) 22 :=
  (show A.at r_321 = k0_pay655 (A.at r_282) (A.at r_289) (A.at r_297) (A.at r_301) from rfl).trans (by rw [l_282 A, l_289 A, l_297 A, l_301 A]; exact p_321 A)
theorem l_322 (A : Args F) : A.at r_322 = clean2 mX mN (N5 A) 23 :=
  (show A.at r_322 = k0_pay656 (A.at r_283) (A.at r_288) (A.at r_296) (A.at r_302) from rfl).trans (by rw [l_283 A, l_288 A, l_296 A, l_302 A]; exact p_322 A)
theorem l_323 (A : Args F) : A.at r_323 = clean3 mX mN (N5 A) 0 :=
  (show A.at r_323 = k0_pay657 (A.at r_284) (A.at r_291) (A.at r_295) (A.at r_299) (A.at r_303) (A.at r_311) from rfl).trans (by rw [l_284 A, l_291 A, l_295 A, l_299 A, l_303 A, l_311 A]; exact p_323 A)
theorem l_324 (A : Args F) : A.at r_324 = clean3 mX mN (N5 A) 4 :=
  (show A.at r_324 = k0_pay658 (A.at r_284) (A.at r_291) (A.at r_295) (A.at r_299) (A.at r_303) (A.at r_311) from rfl).trans (by rw [l_284 A, l_291 A, l_295 A, l_299 A, l_303 A, l_311 A]; exact p_324 A)
theorem l_325 (A : Args F) : A.at r_325 = clean3 mX mN (N5 A) 1 :=
  (show A.at r_325 = k0_pay659 (A.at r_281) (A.at r_285) (A.at r_290) (A.at r_294) (A.at r_298) (A.at r_300) (A.at r_305) from rfl).trans (by rw [l_281 A, l_285 A, l_290 A, l_294 A, l_298 A, l_300 A, l_305 A]; exact p_325 A)
theorem l_326 (A : Args F) : A.at r_326 = clean3 mX mN (N5 A) 5 :=
  (show A.at r_326 = k0_pay660 (A.at r_281) (A.at r_285) (A.at r_290) (A.at r_294) (A.at r_298) (A.at r_300) (A.at r_305) from rfl).trans (by rw [l_281 A, l_285 A, l_290 A, l_294 A, l_298 A, l_300 A, l_305 A]; exact p_326 A)
theorem l_327 (A : Args F) : A.at r_327 = clean3 mX mN (N5 A) 2 :=
  (show A.at r_327 = k0_pay661 (A.at r_282) (A.at r_286) (A.at r_289) (A.at r_293) (A.at r_297) (A.at r_301) (A.at r_307) from rfl).trans (by rw [l_282 A, l_286 A, l_289 A, l_293 A, l_297 A, l_301 A, l_307 A]; exact p_327 A)

end Cert.Proof

end

end
-- ==== Proof.Links2.lean ====
/- The values of the kernel's body, in order: each is an entry of a list of the model (`Stages`). -/
module

public import proofs.«01_k».proof.Proof.Links1

@[expose] public section

noncomputable section

namespace Cert.Proof

open Idealize.ShloMosaic Cert.KernelIdeal Cert.KernelIdeal.Gen Cert.KernelIdeal.Gen.kernelRun0_A.sl

variable {F : FTy → Type} [FloatOps F]

theorem l_328 (A : Args F) : A.at r_328 = clean3 mX mN (N5 A) 6 :=
  (show A.at r_328 = k0_pay662 (A.at r_282) (A.at r_286) (A.at r_289) (A.at r_293) (A.at r_297) (A.at r_301) (A.at r_307) from rfl).trans (by rw [l_282 A, l_286 A, l_289 A, l_293 A, l_297 A, l_301 A, l_307 A]; exact p_328 A)
theorem l_329 (A : Args F) : A.at r_329 = clean3 mX mN (N5 A) 3 :=
  (show A.at r_329 = k0_pay663 (A.at r_283) (A.at r_287) (A.at r_288) (A.at r_292) (A.at r_296) (A.at r_302) (A.at r_309) from rfl).trans (by rw [l_283 A, l_287 A, l_288 A, l_292 A, l_296 A, l_302 A, l_309 A]; exact p_329 A)
theorem l_330 (A : Args F) : A.at r_330 = clean3 mX mN (N5 A) 7 :=
  (show A.at r_330 = k0_pay664 (A.at r_283) (A.at r_287) (A.at r_288) (A.at r_292) (A.at r_296) (A.at r_302) (A.at r_309) from rfl).trans (by rw [l_283 A, l_287 A, l_288 A, l_292 A, l_296 A, l_302 A, l_309 A]; exact p_330 A)
theorem l_331 (A : Args F) : A.at r_331 = clean3 mX mN (N5 A) 8 :=
  (show A.at r_331 = k0_pay665 (A.at r_284) (A.at r_291) (A.at r_295) (A.at r_299) (A.at r_303) (A.at r_311) from rfl).trans (by rw [l_284 A, l_291 A, l_295 A, l_299 A, l_303 A, l_311 A]; exact p_331 A)
theorem l_332 (A : Args F) : A.at r_332 = clean3 mX mN (N5 A) 12 :=
  (show A.at r_332 = k0_pay666 (A.at r_284) (A.at r_291) (A.at r_295) (A.at r_299) (A.at r_303) (A.at r_311) from rfl).trans (by rw [l_284 A, l_291 A, l_295 A, l_299 A, l_303 A, l_311 A]; exact p_332 A)
theorem l_333 (A : Args F) : A.at r_333 = clean3 mX mN (N5 A) 9 :=
  (show A.at r_333 = k0_pay667 (A.at r_281) (A.at r_285) (A.at r_290) (A.at r_294) (A.at r_298) (A.at r_300) (A.at r_305) from rfl).trans (by rw [l_281 A, l_285 A, l_290 A, l_294 A, l_298 A, l_300 A, l_305 A]; exact p_333 A)
theorem l_334 (A : Args F) : A.at r_334 = clean3 mX mN (N5 A) 13 :=
  (show A.at r_334 = k0_pay668 (A.at r_281) (A.at r_285) (A.at r_290) (A.at r_294) (A.at r_298) (A.at r_300) (A.at r_305) from rfl).trans (by rw [l_281 A, l_285 A, l_290 A, l_294 A, l_298 A, l_300 A, l_305 A]; exact p_334 A)
theorem l_335 (A : Args F) : A.at r_335 = clean3 mX mN (N5 A) 10 :=
  (show A.at r_335 = k0_pay669 (A.at r_282) (A.at r_286) (A.at r_289) (A.at r_293) (A.at r_297) (A.at r_301) (A.at r_307) from rfl).trans (by rw [l_282 A, l_286 A, l_289 A, l_293 A, l_297 A, l_301 A, l_307 A]; exact p_335 A)
theorem l_336 (A : Args F) : A.at r_336 = clean3 mX mN (N5 A) 14 :=
  (show A.at r_336 = k0_pay670 (A.at r_282) (A.at r_286) (A.at r_289) (A.at r_293) (A.at r_297) (A.at r_301) (A.at r_307) from rfl).trans (by rw [l_282 A, l_286 A, l_289 A, l_293 A, l_297 A, l_301 A, l_307 A]; exact p_336 A)
theorem l_337 (A : Args F) : A.at r_337 = M5 A 0 :=
  (show A.at r_337 = k0_pay697 (A.at r_323) (A.at r_325) (A.at r_327) (A.at r_329) from rfl).trans (by rw [l_323 A, l_325 A, l_327 A, l_329 A]; exact p_337 A)
theorem l_338 (A : Args F) : A.at r_338 = M5 A 1 :=
  (show A.at r_338 = k0_pay698 (A.at r_323) (A.at r_325) (A.at r_327) (A.at r_329) from rfl).trans (by rw [l_323 A, l_325 A, l_327 A, l_329 A]; exact p_338 A)
theorem l_339 (A : Args F) : A.at r_339 = M5 A 2 :=
  (show A.at r_339 = k0_pay699 (A.at r_323) (A.at r_325) (A.at r_327) (A.at r_329) from rfl).trans (by rw [l_323 A, l_325 A, l_327 A, l_329 A]; exact p_339 A)
theorem l_340 (A : Args F) : A.at r_340 = M5 A 3 :=
  (show A.at r_340 = k0_pay700 (A.at r_323) (A.at r_325) (A.at r_327) (A.at r_329) from rfl).trans (by rw [l_323 A, l_325 A, l_327 A, l_329 A]; exact p_340 A)
theorem l_341 (A : Args F) : A.at r_341 = M5 A 4 :=
  (show A.at r_341 = k0_pay701 (A.at r_324) (A.at r_326) (A.at r_328) (A.at r_330) from rfl).trans (by rw [l_324 A, l_326 A, l_328 A, l_330 A]; exact p_341 A)
theorem l_342 (A : Args F) : A.at r_342 = M5 A 5 :=
  (show A.at r_342 = k0_pay702 (A.at r_324) (A.at r_326) (A.at r_328) (A.at r_330) from rfl).trans (by rw [l_324 A, l_326 A, l_328 A, l_330 A]; exact p_342 A)
theorem l_343 (A : Args F) : A.at r_343 = M5 A 6 :=
  (show A.at r_343 = k0_pay703 (A.at r_324) (A.at r_326) (A.at r_328) (A.at r_330) from rfl).trans (by rw [l_324 A, l_326 A, l_328 A, l_330 A]; exact p_343 A)
theorem l_344 (A : Args F) : A.at r_344 = M5 A 7 :=
  (show A.at r_344 = k0_pay704 (A.at r_324) (A.at r_326) (A.at r_328) (A.at r_330) from rfl).trans (by rw [l_324 A, l_326 A, l_328 A, l_330 A]; exact p_344 A)
theorem l_345 (A : Args F) : A.at r_345 = M5 A 8 :=
  (show A.at r_345 = k0_pay705 (A.at r_313) (A.at r_314) (A.at r_331) (A.at r_333) (A.at r_335) from rfl).trans (by rw [l_313 A, l_314 A, l_331 A, l_333 A, l_335 A]; exact p_345 A)
theorem l_346 (A : Args F) : A.at r_346 = M5 A 9 :=
  (show A.at r_346 = k0_pay706 (A.at r_313) (A.at r_314) (A.at r_331) (A.at r_333) (A.at r_335) from rfl).trans (by rw [l_313 A, l_314 A, l_331 A, l_333 A, l_335 A]; exact p_346 A)
theorem l_347 (A : Args F) : A.at r_347 = M5 A 10 :=
  (show A.at r_347 = k0_pay707 (A.at r_313) (A.at r_314) (A.at r_331) (A.at r_333) (A.at r_335) from rfl).trans (by rw [l_313 A, l_314 A, l_331 A, l_333 A, l_335 A]; exact p_347 A)
theorem l_348 (A : Args F) : A.at r_348 = M5 A 11 :=
  (show A.at r_348 = k0_pay708 (A.at r_313) (A.at r_314) (A.at r_331) (A.at r_333) (A.at r_335) from rfl).trans (by rw [l_313 A, l_314 A, l_331 A, l_333 A, l_335 A]; exact p_348 A)
theorem l_349 (A : Args F) : A.at r_349 = M5 A 12 :=
  (show A.at r_349 = k0_pay709 (A.at r_313) (A.at r_314) (A.at r_332) (A.at r_334) (A.at r_336) from rfl).trans (by rw [l_313 A, l_314 A, l_332 A, l_334 A, l_336 A]; exact p_349 A)
theorem l_350 (A : Args F) : A.at r_350 = M5 A 13 :=
  (show A.at r_350 = k0_pay710 (A.at r_313) (A.at r_314) (A.at r_332) (A.at r_334) (A.at r_336) from rfl).trans (by rw [l_313 A, l_314 A, l_332 A, l_334 A, l_336 A]; exact p_350 A)
theorem l_351 (A : Args F) : A.at r_351 = M5 A 14 :=
  (show A.at r_351 = k0_pay711 (A.at r_313) (A.at r_314) (A.at r_332) (A.at r_334) (A.at r_336) from rfl).trans (by rw [l_313 A, l_314 A, l_332 A, l_334 A, l_336 A]; exact p_351 A)
theorem l_352 (A : Args F) : A.at r_352 = M5 A 15 :=
  (show A.at r_352 = k0_pay712 (A.at r_313) (A.at r_314) (A.at r_332) (A.at r_334) (A.at r_336) from rfl).trans (by rw [l_313 A, l_314 A, l_332 A, l_334 A, l_336 A]; exact p_352 A)
theorem l_353 (A : Args F) : A.at r_353 = M5 A 16 :=
  (show A.at r_353 = k0_pay713 (A.at r_315) (A.at r_316) (A.at r_317) (A.at r_318) (A.at r_319) (A.at r_320) (A.at r_321) (A.at r_322) from rfl).trans (by rw [l_315 A, l_316 A, l_317 A, l_318 A, l_319 A, l_320 A, l_321 A, l_322 A]; exact p_353 A)
theorem l_354 (A : Args F) : A.at r_354 = M5 A 17 :=
  (show A.at r_354 = k0_pay714 (A.at r_315) (A.at r_316) (A.at r_317) (A.at r_318) (A.at r_319) (A.at r_320) (A.at r_321) (A.at r_322) from rfl).trans (by rw [l_315 A, l_316 A, l_317 A, l_318 A, l_319 A, l_320 A, l_321 A, l_322 A]; exact p_354 A)
theorem l_355 (A : Args F) : A.at r_355 = M5 A 18 :=
  (show A.at r_355 = k0_pay715 (A.at r_315) (A.at r_316) (A.at r_317) (A.at r_318) (A.at r_319) (A.at r_320) (A.at r_321) (A.at r_322) from rfl).trans (by rw [l_315 A, l_316 A, l_317 A, l_318 A, l_319 A, l_320 A, l_321 A, l_322 A]; exact p_355 A)
theorem l_356 (A : Args F) : A.at r_356 = M5 A 19 :=
  (show A.at r_356 = k0_pay716 (A.at r_315) (A.at r_316) (A.at r_317) (A.at r_318) (A.at r_319) (A.at r_320) (A.at r_321) (A.at r_322) from rfl).trans (by rw [l_315 A, l_316 A, l_317 A, l_318 A, l_319 A, l_320 A, l_321 A, l_322 A]; exact p_356 A)
theorem l_357 (A : Args F) : A.at r_357 = lo6 (M5 A 0) :=
  (show A.at r_357 = k0_pay717 (A.at r_323) (A.at r_325) (A.at r_327) (A.at r_329) from rfl).trans (by rw [l_323 A, l_325 A, l_327 A, l_329 A]; exact p_357 A)
theorem l_358 (A : Args F) : A.at r_358 = lo6 (M5 A 1) :=
  (show A.at r_358 = k0_pay718 (A.at r_323) (A.at r_325) (A.at r_327) (A.at r_329) from rfl).trans (by rw [l_323 A, l_325 A, l_327 A, l_329 A]; exact p_358 A)
theorem l_359 (A : Args F) : A.at r_359 = lo6 (M5 A 2) :=
  (show A.at r_359 = k0_pay719 (A.at r_323) (A.at r_325) (A.at r_327) (A.at r_329) from rfl).trans (by rw [l_323 A, l_325 A, l_327 A, l_329 A]; exact p_359 A)
theorem l_360 (A : Args F) : A.at r_360 = lo6 (M5 A 3) :=
  (show A.at r_360 = k0_pay720 (A.at r_323) (A.at r_325) (A.at r_327) (A.at r_329) from rfl).trans (by rw [l_323 A, l_325 A, l_327 A, l_329 A]; exact p_360 A)
theorem l_361 (A : Args F) : A.at r_361 = lo6 (M5 A 4) :=
  (show A.at r_361 = k0_pay721 (A.at r_324) (A.at r_326) (A.at r_328) (A.at r_330) from rfl).trans (by rw [l_324 A, l_326 A, l_328 A, l_330 A]; exact p_361 A)
theorem l_362 (A : Args F) : A.at r_362 = lo6 (M5 A 5) :=
  (show A.at r_362 = k0_pay722 (A.at r_324) (A.at r_326) (A.at r_328) (A.at r_330) from rfl).trans (by rw [l_324 A, l_326 A, l_328 A, l_330 A]; exact p_362 A)
theorem l_363 (A : Args F) : A.at r_363 = lo6 (M5 A 6) :=
  (show A.at r_363 = k0_pay723 (A.at r_324) (A.at r_326) (A.at r_328) (A.at r_330) from rfl).trans (by rw [l_324 A, l_326 A, l_328 A, l_330 A]; exact p_363 A)
theorem l_364 (A : Args F) : A.at r_364 = lo6 (M5 A 7) :=
  (show A.at r_364 = k0_pay724 (A.at r_324) (A.at r_326) (A.at r_328) (A.at r_330) from rfl).trans (by rw [l_324 A, l_326 A, l_328 A, l_330 A]; exact p_364 A)
theorem l_365 (A : Args F) : A.at r_365 = lo6 (M5 A 8) :=
  (show A.at r_365 = k0_pay725 (A.at r_313) (A.at r_314) (A.at r_331) (A.at r_333) (A.at r_335) from rfl).trans (by rw [l_313 A, l_314 A, l_331 A, l_333 A, l_335 A]; exact p_365 A)
theorem l_366 (A : Args F) : A.at r_366 = lo6 (M5 A 9) :=
  (show A.at r_366 = k0_pay726 (A.at r_313) (A.at r_314) (A.at r_331) (A.at r_333) (A.at r_335) from rfl).trans (by rw [l_313 A, l_314 A, l_331 A, l_333 A, l_335 A]; exact p_366 A)
theorem l_367 (A : Args F) : A.at r_367 = lo6 (M5 A 10) :=
  (show A.at r_367 = k0_pay727 (A.at r_313) (A.at r_314) (A.at r_331) (A.at r_333) (A.at r_335) from rfl).trans (by rw [l_313 A, l_314 A, l_331 A, l_333 A, l_335 A]; exact p_367 A)
theorem l_368 (A : Args F) : A.at r_368 = lo6 (M5 A 11) :=
  (show A.at r_368 = k0_pay728 (A.at r_313) (A.at r_314) (A.at r_331) (A.at r_333) (A.at r_335) from rfl).trans (by rw [l_313 A, l_314 A, l_331 A, l_333 A, l_335 A]; exact p_368 A)
theorem l_369 (A : Args F) : A.at r_369 = lo6 (M5 A 12) :=
  (show A.at r_369 = k0_pay729 (A.at r_313) (A.at r_314) (A.at r_332) (A.at r_334) (A.at r_336) from rfl).trans (by rw [l_313 A, l_314 A, l_332 A, l_334 A, l_336 A]; exact p_369 A)
theorem l_370 (A : Args F) : A.at r_370 = lo6 (M5 A 13) :=
  (show A.at r_370 = k0_pay730 (A.at r_313) (A.at r_314) (A.at r_332) (A.at r_334) (A.at r_336) from rfl).trans (by rw [l_313 A, l_314 A, l_332 A, l_334 A, l_336 A]; exact p_370 A)
theorem l_371 (A : Args F) : A.at r_371 = hi6 (M5 A 0) :=
  (show A.at r_371 = k0_pay731 (A.at r_337) from rfl).trans (by rw [l_337 A]; exact p_371 A)
theorem l_372 (A : Args F) : A.at r_372 = hi6 (M5 A 1) :=
  (show A.at r_372 = k0_pay732 (A.at r_338) from rfl).trans (by rw [l_338 A]; exact p_372 A)
theorem l_373 (A : Args F) : A.at r_373 = hi6 (M5 A 2) :=
  (show A.at r_373 = k0_pay733 (A.at r_339) from rfl).trans (by rw [l_339 A]; exact p_373 A)
theorem l_374 (A : Args F) : A.at r_374 = N6 A 13 :=
  (show A.at r_374 = k0_pay744 (A.at r_355) (A.at r_370) from rfl).trans (by rw [l_355 A, l_370 A]; exact p_374 A)
theorem l_375 (A : Args F) : A.at r_375 = N6 A 14 :=
  (show A.at r_375 = k0_pay745 (A.at r_351) (A.at r_354) from rfl).trans (by rw [l_351 A, l_354 A]; exact p_375 A)
theorem l_376 (A : Args F) : A.at r_376 = N6 A 15 :=
  (show A.at r_376 = k0_pay746 (A.at r_352) (A.at r_353) from rfl).trans (by rw [l_352 A, l_353 A]; exact p_376 A)
theorem l_377 (A : Args F) : A.at r_377 = clean1 mX mN (N6 A) 0 :=
  (show A.at r_377 = k0_pay751 (A.at r_352) (A.at r_353) (A.at r_357) from rfl).trans (by rw [l_352 A, l_353 A, l_357 A]; exact p_377 A)
theorem l_378 (A : Args F) : A.at r_378 = clean1 mX mN (N6 A) 16 :=
  (show A.at r_378 = k0_pay752 (A.at r_352) (A.at r_353) (A.at r_357) from rfl).trans (by rw [l_352 A, l_353 A, l_357 A]; exact p_378 A)
theorem l_379 (A : Args F) : A.at r_379 = clean1 mX mN (N6 A) 1 :=
  (show A.at r_379 = k0_pay753 (A.at r_351) (A.at r_354) (A.at r_358) from rfl).trans (by rw [l_351 A, l_354 A, l_358 A]; exact p_379 A)
theorem l_380 (A : Args F) : A.at r_380 = clean1 mX mN (N6 A) 17 :=
  (show A.at r_380 = k0_pay754 (A.at r_351) (A.at r_354) (A.at r_358) from rfl).trans (by rw [l_351 A, l_354 A, l_358 A]; exact p_380 A)
theorem l_381 (A : Args F) : A.at r_381 = clean1 mX mN (N6 A) 2 :=
  (show A.at r_381 = k0_pay755 (A.at r_350) (A.at r_355) (A.at r_359) from rfl).trans (by rw [l_350 A, l_355 A, l_359 A]; exact p_381 A)
theorem l_382 (A : Args F) : A.at r_382 = clean1 mX mN (N6 A) 18 :=
  (show A.at r_382 = k0_pay756 (A.at r_350) (A.at r_355) (A.at r_359) from rfl).trans (by rw [l_350 A, l_355 A, l_359 A]; exact p_382 A)
theorem l_383 (A : Args F) : A.at r_383 = clean1 mX mN (N6 A) 3 :=
  (show A.at r_383 = k0_pay757 (A.at r_349) (A.at r_356) (A.at r_360) from rfl).trans (by rw [l_349 A, l_356 A, l_360 A]; exact p_383 A)
theorem l_384 (A : Args F) : A.at r_384 = clean1 mX mN (N6 A) 19 :=
  (show A.at r_384 = k0_pay758 (A.at r_349) (A.at r_356) (A.at r_360) from rfl).trans (by rw [l_349 A, l_356 A, l_360 A]; exact p_384 A)
theorem l_385 (A : Args F) : A.at r_385 = clean1 mX mN (N6 A) 4 :=
  (show A.at r_385 = k0_pay759 (A.at r_348) (A.at r_361) from rfl).trans (by rw [l_348 A, l_361 A]; exact p_385 A)
theorem l_386 (A : Args F) : A.at r_386 = clean1 mX mN (N6 A) 20 :=
  (show A.at r_386 = k0_pay760 (A.at r_348) (A.at r_361) from rfl).trans (by rw [l_348 A, l_361 A]; exact p_386 A)
theorem l_387 (A : Args F) : A.at r_387 = clean1 mX mN (N6 A) 5 :=
  (show A.at r_387 = k0_pay761 (A.at r_347) (A.at r_362) from rfl).trans (by rw [l_347 A, l_362 A]; exact p_387 A)
theorem l_388 (A : Args F) : A.at r_388 = clean1 mX mN (N6 A) 21 :=
  (show A.at r_388 = k0_pay762 (A.at r_347) (A.at r_362) from rfl).trans (by rw [l_347 A, l_362 A]; exact p_388 A)
theorem l_389 (A : Args F) : A.at r_389 = clean1 mX mN (N6 A) 6 :=
  (show A.at r_389 = k0_pay763 (A.at r_346) (A.at r_363) from rfl).trans (by rw [l_346 A, l_363 A]; exact p_389 A)
theorem l_390 (A : Args F) : A.at r_390 = clean1 mX mN (N6 A) 22 :=
  (show A.at r_390 = k0_pay764 (A.at r_346) (A.at r_363) from rfl).trans (by rw [l_346 A, l_363 A]; exact p_390 A)
theorem l_391 (A : Args F) : A.at r_391 = clean1 mX mN (N6 A) 7 :=
  (show A.at r_391 = k0_pay765 (A.at r_345) (A.at r_364) from rfl).trans (by rw [l_345 A, l_364 A]; exact p_391 A)
theorem l_392 (A : Args F) : A.at r_392 = clean1 mX mN (N6 A) 23 :=
  (show A.at r_392 = k0_pay766 (A.at r_345) (A.at r_364) from rfl).trans (by rw [l_345 A, l_364 A]; exact p_392 A)
theorem l_393 (A : Args F) : A.at r_393 = clean1 mX mN (N6 A) 8 :=
  (show A.at r_393 = k0_pay767 (A.at r_344) (A.at r_365) from rfl).trans (by rw [l_344 A, l_365 A]; exact p_393 A)
theorem l_394 (A : Args F) : A.at r_394 = clean1 mX mN (N6 A) 24 :=
  (show A.at r_394 = k0_pay768 (A.at r_344) (A.at r_365) from rfl).trans (by rw [l_344 A, l_365 A]; exact p_394 A)
theorem l_395 (A : Args F) : A.at r_395 = clean1 mX mN (N6 A) 9 :=
  (show A.at r_395 = k0_pay769 (A.at r_343) (A.at r_366) from rfl).trans (by rw [l_343 A, l_366 A]; exact p_395 A)
theorem l_396 (A : Args F) : A.at r_396 = clean1 mX mN (N6 A) 25 :=
  (show A.at r_396 = k0_pay770 (A.at r_343) (A.at r_366) from rfl).trans (by rw [l_343 A, l_366 A]; exact p_396 A)
theorem l_397 (A : Args F) : A.at r_397 = clean1 mX mN (N6 A) 10 :=
  (show A.at r_397 = k0_pay771 (A.at r_342) (A.at r_367) from rfl).trans (by rw [l_342 A, l_367 A]; exact p_397 A)
theorem l_398 (A : Args F) : A.at r_398 = clean1 mX mN (N6 A) 26 :=
  (show A.at r_398 = k0_pay772 (A.at r_342) (A.at r_367) from rfl).trans (by rw [l_342 A, l_367 A]; exact p_398 A)
theorem l_399 (A : Args F) : A.at r_399 = clean1 mX mN (N6 A) 11 :=
  (show A.at r_399 = k0_pay773 (A.at r_341) (A.at r_368) from rfl).trans (by rw [l_341 A, l_368 A]; exact p_399 A)
theorem l_400 (A : Args F) : A.at r_400 = clean1 mX mN (N6 A) 27 :=
  (show A.at r_400 = k0_pay774 (A.at r_341) (A.at r_368) from rfl).trans (by rw [l_341 A, l_368 A]; exact p_400 A)
theorem l_401 (A : Args F) : A.at r_401 = clean1 mX mN (N6 A) 12 :=
  (show A.at r_401 = k0_pay775 (A.at r_340) (A.at r_356) (A.at r_369) from rfl).trans (by rw [l_340 A, l_356 A, l_369 A]; exact p_401 A)
theorem l_402 (A : Args F) : A.at r_402 = clean1 mX mN (N6 A) 28 :=
  (show A.at r_402 = k0_pay776 (A.at r_340) (A.at r_356) (A.at r_369) from rfl).trans (by rw [l_340 A, l_356 A, l_369 A]; exact p_402 A)
theorem l_403 (A : Args F) : A.at r_403 = clean3 mX mN (N6 A) 12 :=
  (show A.at r_403 = k0_pay805 (A.at r_377) (A.at r_385) (A.at r_393) (A.at r_401) from rfl).trans (by rw [l_377 A, l_385 A, l_393 A, l_401 A]; exact p_403 A)
theorem l_404 (A : Args F) : A.at r_404 = clean3 mX mN (N6 A) 9 :=
  (show A.at r_404 = k0_pay806 (A.at r_373) (A.at r_374) (A.at r_379) (A.at r_387) (A.at r_395) from rfl).trans (by rw [l_373 A, l_374 A, l_379 A, l_387 A, l_395 A]; exact p_404 A)
theorem l_405 (A : Args F) : A.at r_405 = clean3 mX mN (N6 A) 13 :=
  (show A.at r_405 = k0_pay807 (A.at r_373) (A.at r_374) (A.at r_379) (A.at r_387) (A.at r_395) from rfl).trans (by rw [l_373 A, l_374 A, l_379 A, l_387 A, l_395 A]; exact p_405 A)
theorem l_406 (A : Args F) : A.at r_406 = clean3 mX mN (N6 A) 14 :=
  (show A.at r_406 = k0_pay809 (A.at r_372) (A.at r_375) (A.at r_381) (A.at r_389) (A.at r_397) from rfl).trans (by rw [l_372 A, l_375 A, l_381 A, l_389 A, l_397 A]; exact p_406 A)
theorem l_407 (A : Args F) : A.at r_407 = clean3 mX mN (N6 A) 11 :=
  (show A.at r_407 = k0_pay810 (A.at r_371) (A.at r_376) (A.at r_383) (A.at r_391) (A.at r_399) from rfl).trans (by rw [l_371 A, l_376 A, l_383 A, l_391 A, l_399 A]; exact p_407 A)
theorem l_408 (A : Args F) : A.at r_408 = clean3 mX mN (N6 A) 15 :=
  (show A.at r_408 = k0_pay811 (A.at r_371) (A.at r_376) (A.at r_383) (A.at r_391) (A.at r_399) from rfl).trans (by rw [l_371 A, l_376 A, l_383 A, l_391 A, l_399 A]; exact p_408 A)
theorem l_409 (A : Args F) : A.at r_409 = clean3 mX mN (N6 A) 16 :=
  (show A.at r_409 = k0_pay812 (A.at r_378) (A.at r_386) (A.at r_394) (A.at r_402) from rfl).trans (by rw [l_378 A, l_386 A, l_394 A, l_402 A]; exact p_409 A)
theorem l_410 (A : Args F) : A.at r_410 = clean3 mX mN (N6 A) 17 :=
  (show A.at r_410 = k0_pay813 (A.at r_373) (A.at r_374) (A.at r_380) (A.at r_388) (A.at r_396) from rfl).trans (by rw [l_373 A, l_374 A, l_380 A, l_388 A, l_396 A]; exact p_410 A)
theorem l_411 (A : Args F) : A.at r_411 = clean3 mX mN (N6 A) 18 :=
  (show A.at r_411 = k0_pay814 (A.at r_372) (A.at r_375) (A.at r_382) (A.at r_390) (A.at r_398) from rfl).trans (by rw [l_372 A, l_375 A, l_382 A, l_390 A, l_398 A]; exact p_411 A)
theorem l_412 (A : Args F) : A.at r_412 = clean3 mX mN (N6 A) 19 :=
  (show A.at r_412 = k0_pay815 (A.at r_371) (A.at r_376) (A.at r_384) (A.at r_392) (A.at r_400) from rfl).trans (by rw [l_371 A, l_376 A, l_384 A, l_392 A, l_400 A]; exact p_412 A)
theorem l_413 (A : Args F) : A.at r_413 = clean4 mX mN (N6 A) 0 :=
  (show A.at r_413 = k0_pay816 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_413 A)
theorem l_414 (A : Args F) : A.at r_414 = clean4 mX mN (N6 A) 2 :=
  (show A.at r_414 = k0_pay817 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_414 A)
theorem l_415 (A : Args F) : A.at r_415 = clean4 mX mN (N6 A) 1 :=
  (show A.at r_415 = k0_pay818 (A.at r_371) (A.at r_373) (A.at r_374) (A.at r_376) (A.at r_379) (A.at r_383) (A.at r_387) (A.at r_391) (A.at r_395) (A.at r_399) from rfl).trans (by rw [l_371 A, l_373 A, l_374 A, l_376 A, l_379 A, l_383 A, l_387 A, l_391 A, l_395 A, l_399 A]; exact p_415 A)
theorem l_416 (A : Args F) : A.at r_416 = clean4 mX mN (N6 A) 3 :=
  (show A.at r_416 = k0_pay819 (A.at r_371) (A.at r_373) (A.at r_374) (A.at r_376) (A.at r_379) (A.at r_383) (A.at r_387) (A.at r_391) (A.at r_395) (A.at r_399) from rfl).trans (by rw [l_371 A, l_373 A, l_374 A, l_376 A, l_379 A, l_383 A, l_387 A, l_391 A, l_395 A, l_399 A]; exact p_416 A)
theorem l_417 (A : Args F) : A.at r_417 = clean4 mX mN (N6 A) 4 :=
  (show A.at r_417 = k0_pay820 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_417 A)
theorem l_418 (A : Args F) : A.at r_418 = clean4 mX mN (N6 A) 6 :=
  (show A.at r_418 = k0_pay821 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_418 A)
theorem l_419 (A : Args F) : A.at r_419 = clean4 mX mN (N6 A) 5 :=
  (show A.at r_419 = k0_pay822 (A.at r_371) (A.at r_373) (A.at r_374) (A.at r_376) (A.at r_379) (A.at r_383) (A.at r_387) (A.at r_391) (A.at r_395) (A.at r_399) from rfl).trans (by rw [l_371 A, l_373 A, l_374 A, l_376 A, l_379 A, l_383 A, l_387 A, l_391 A, l_395 A, l_399 A]; exact p_419 A)
theorem l_420 (A : Args F) : A.at r_420 = clean4 mX mN (N6 A) 7 :=
  (show A.at r_420 = k0_pay823 (A.at r_371) (A.at r_373) (A.at r_374) (A.at r_376) (A.at r_379) (A.at r_383) (A.at r_387) (A.at r_391) (A.at r_395) (A.at r_399) from rfl).trans (by rw [l_371 A, l_373 A, l_374 A, l_376 A, l_379 A, l_383 A, l_387 A, l_391 A, l_395 A, l_399 A]; exact p_420 A)
theorem l_421 (A : Args F) : A.at r_421 = clean4 mX mN (N6 A) 8 :=
  (show A.at r_421 = k0_pay824 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_421 A)
theorem l_422 (A : Args F) : A.at r_422 = clean4 mX mN (N6 A) 10 :=
  (show A.at r_422 = k0_pay825 (A.at r_372) (A.at r_375) (A.at r_377) (A.at r_381) (A.at r_385) (A.at r_389) (A.at r_393) (A.at r_397) (A.at r_401) from rfl).trans (by rw [l_372 A, l_375 A, l_377 A, l_381 A, l_385 A, l_389 A, l_393 A, l_397 A, l_401 A]; exact p_422 A)
theorem l_423 (A : Args F) : A.at r_423 = Q6 A 0 :=
  (show A.at r_423 = k0_pay836 (A.at r_413) (A.at r_415) from rfl).trans (by rw [l_413 A, l_415 A]; exact p_423 A)
theorem l_424 (A : Args F) : A.at r_424 = Q6 A 1 :=
  (show A.at r_424 = k0_pay837 (A.at r_413) (A.at r_415) from rfl).trans (by rw [l_413 A, l_415 A]; exact p_424 A)
theorem l_425 (A : Args F) : A.at r_425 = Q6 A 2 :=
  (show A.at r_425 = k0_pay838 (A.at r_414) (A.at r_416) from rfl).trans (by rw [l_414 A, l_416 A]; exact p_425 A)
theorem l_426 (A : Args F) : A.at r_426 = Q6 A 3 :=
  (show A.at r_426 = k0_pay839 (A.at r_414) (A.at r_416) from rfl).trans (by rw [l_414 A, l_416 A]; exact p_426 A)
theorem l_427 (A : Args F) : A.at r_427 = Q6 A 4 :=
  (show A.at r_427 = k0_pay840 (A.at r_417) (A.at r_419) from rfl).trans (by rw [l_417 A, l_419 A]; exact p_427 A)
theorem l_428 (A : Args F) : A.at r_428 = Q6 A 5 :=
  (show A.at r_428 = k0_pay841 (A.at r_417) (A.at r_419) from rfl).trans (by rw [l_417 A, l_419 A]; exact p_428 A)
theorem l_429 (A : Args F) : A.at r_429 = Q6 A 6 :=
  (show A.at r_429 = k0_pay842 (A.at r_418) (A.at r_420) from rfl).trans (by rw [l_418 A, l_420 A]; exact p_429 A)
theorem l_430 (A : Args F) : A.at r_430 = Q6 A 7 :=
  (show A.at r_430 = k0_pay843 (A.at r_418) (A.at r_420) from rfl).trans (by rw [l_418 A, l_420 A]; exact p_430 A)
theorem l_431 (A : Args F) : A.at r_431 = Q6 A 8 :=
  (show A.at r_431 = k0_pay844 (A.at r_404) (A.at r_407) (A.at r_421) from rfl).trans (by rw [l_404 A, l_407 A, l_421 A]; exact p_431 A)
theorem l_432 (A : Args F) : A.at r_432 = Q6 A 9 :=
  (show A.at r_432 = k0_pay845 (A.at r_404) (A.at r_407) (A.at r_421) from rfl).trans (by rw [l_404 A, l_407 A, l_421 A]; exact p_432 A)
theorem l_433 (A : Args F) : A.at r_433 = Q6 A 10 :=
  (show A.at r_433 = k0_pay846 (A.at r_404) (A.at r_407) (A.at r_422) from rfl).trans (by rw [l_404 A, l_407 A, l_422 A]; exact p_433 A)
theorem l_434 (A : Args F) : A.at r_434 = Q6 A 11 :=
  (show A.at r_434 = k0_pay847 (A.at r_404) (A.at r_407) (A.at r_422) from rfl).trans (by rw [l_404 A, l_407 A, l_422 A]; exact p_434 A)
theorem l_435 (A : Args F) : A.at r_435 = Q6 A 12 :=
  (show A.at r_435 = k0_pay848 (A.at r_403) (A.at r_405) (A.at r_406) (A.at r_408) from rfl).trans (by rw [l_403 A, l_405 A, l_406 A, l_408 A]; exact p_435 A)
theorem l_436 (A : Args F) : A.at r_436 = Q6 A 13 :=
  (show A.at r_436 = k0_pay849 (A.at r_403) (A.at r_405) (A.at r_406) (A.at r_408) from rfl).trans (by rw [l_403 A, l_405 A, l_406 A, l_408 A]; exact p_436 A)
theorem l_437 (A : Args F) : A.at r_437 = Q6 A 14 :=
  (show A.at r_437 = k0_pay850 (A.at r_403) (A.at r_405) (A.at r_406) (A.at r_408) from rfl).trans (by rw [l_403 A, l_405 A, l_406 A, l_408 A]; exact p_437 A)
theorem l_438 (A : Args F) : A.at r_438 = Q6 A 15 :=
  (show A.at r_438 = k0_pay851 (A.at r_403) (A.at r_405) (A.at r_406) (A.at r_408) from rfl).trans (by rw [l_403 A, l_405 A, l_406 A, l_408 A]; exact p_438 A)
theorem l_439 (A : Args F) : A.at r_439 = Q6 A 16 :=
  (show A.at r_439 = k0_pay852 (A.at r_409) (A.at r_410) (A.at r_411) (A.at r_412) from rfl).trans (by rw [l_409 A, l_410 A, l_411 A, l_412 A]; exact p_439 A)
theorem l_440 (A : Args F) : A.at r_440 = Q6 A 17 :=
  (show A.at r_440 = k0_pay853 (A.at r_409) (A.at r_410) (A.at r_411) (A.at r_412) from rfl).trans (by rw [l_409 A, l_410 A, l_411 A, l_412 A]; exact p_440 A)
theorem l_441 (A : Args F) : A.at r_441 = Q6 A 18 :=
  (show A.at r_441 = k0_pay854 (A.at r_409) (A.at r_410) (A.at r_411) (A.at r_412) from rfl).trans (by rw [l_409 A, l_410 A, l_411 A, l_412 A]; exact p_441 A)
theorem l_442 (A : Args F) : A.at r_442 = Q6 A 19 :=
  (show A.at r_442 = k0_pay855 (A.at r_409) (A.at r_410) (A.at r_411) (A.at r_412) from rfl).trans (by rw [l_409 A, l_410 A, l_411 A, l_412 A]; exact p_442 A)
theorem l_443 (A : Args F) : A.at r_443 = lo7 (Q6 A 0) :=
  (show A.at r_443 = k0_pay856 (A.at r_413) (A.at r_415) from rfl).trans (by rw [l_413 A, l_415 A]; exact p_443 A)
theorem l_444 (A : Args F) : A.at r_444 = lo7 (Q6 A 1) :=
  (show A.at r_444 = k0_pay857 (A.at r_413) (A.at r_415) from rfl).trans (by rw [l_413 A, l_415 A]; exact p_444 A)
theorem l_445 (A : Args F) : A.at r_445 = lo7 (Q6 A 2) :=
  (show A.at r_445 = k0_pay858 (A.at r_414) (A.at r_416) from rfl).trans (by rw [l_414 A, l_416 A]; exact p_445 A)
theorem l_446 (A : Args F) : A.at r_446 = lo7 (Q6 A 3) :=
  (show A.at r_446 = k0_pay859 (A.at r_414) (A.at r_416) from rfl).trans (by rw [l_414 A, l_416 A]; exact p_446 A)
theorem l_447 (A : Args F) : A.at r_447 = lo7 (Q6 A 4) :=
  (show A.at r_447 = k0_pay860 (A.at r_417) (A.at r_419) from rfl).trans (by rw [l_417 A, l_419 A]; exact p_447 A)
theorem l_448 (A : Args F) : A.at r_448 = lo7 (Q6 A 5) :=
  (show A.at r_448 = k0_pay861 (A.at r_417) (A.at r_419) from rfl).trans (by rw [l_417 A, l_419 A]; exact p_448 A)
theorem l_449 (A : Args F) : A.at r_449 = lo7 (Q6 A 6) :=
  (show A.at r_449 = k0_pay862 (A.at r_418) (A.at r_420) from rfl).trans (by rw [l_418 A, l_420 A]; exact p_449 A)
theorem l_450 (A : Args F) : A.at r_450 = lo7 (Q6 A 7) :=
  (show A.at r_450 = k0_pay863 (A.at r_418) (A.at r_420) from rfl).trans (by rw [l_418 A, l_420 A]; exact p_450 A)
theorem l_451 (A : Args F) : A.at r_451 = lo7 (Q6 A 8) :=
  (show A.at r_451 = k0_pay864 (A.at r_404) (A.at r_407) (A.at r_421) from rfl).trans (by rw [l_404 A, l_407 A, l_421 A]; exact p_451 A)
theorem l_452 (A : Args F) : A.at r_452 = lo7 (Q6 A 9) :=
  (show A.at r_452 = k0_pay865 (A.at r_404) (A.at r_407) (A.at r_421) from rfl).trans (by rw [l_404 A, l_407 A, l_421 A]; exact p_452 A)
theorem l_453 (A : Args F) : A.at r_453 = lo7 (Q6 A 11) :=
  (show A.at r_453 = k0_pay867 (A.at r_434) from rfl).trans (by rw [l_434 A]; exact p_453 A)
theorem l_454 (A : Args F) : A.at r_454 = hi7 (Q6 A 0) :=
  (show A.at r_454 = k0_pay868 (A.at r_423) from rfl).trans (by rw [l_423 A]; exact p_454 A)
theorem l_455 (A : Args F) : A.at r_455 = hi7 (Q6 A 1) :=
  (show A.at r_455 = k0_pay869 (A.at r_424) from rfl).trans (by rw [l_424 A]; exact p_455 A)
theorem l_456 (A : Args F) : A.at r_456 = hi7 (Q6 A 2) :=
  (show A.at r_456 = k0_pay870 (A.at r_425) from rfl).trans (by rw [l_425 A]; exact p_456 A)
theorem l_457 (A : Args F) : A.at r_457 = hi7 (Q6 A 3) :=
  (show A.at r_457 = k0_pay871 (A.at r_426) from rfl).trans (by rw [l_426 A]; exact p_457 A)
theorem l_458 (A : Args F) : A.at r_458 = hi7 (Q6 A 4) :=
  (show A.at r_458 = k0_pay872 (A.at r_427) from rfl).trans (by rw [l_427 A]; exact p_458 A)
theorem l_459 (A : Args F) : A.at r_459 = N7 A 12 :=
  (show A.at r_459 = k0_pay880 (A.at r_435) (A.at r_442) from rfl).trans (by rw [l_435 A, l_442 A]; exact p_459 A)
theorem l_460 (A : Args F) : A.at r_460 = N7 A 13 :=
  (show A.at r_460 = k0_pay881 (A.at r_436) (A.at r_441) from rfl).trans (by rw [l_436 A, l_441 A]; exact p_460 A)
theorem l_461 (A : Args F) : A.at r_461 = N7 A 14 :=
  (show A.at r_461 = k0_pay882 (A.at r_437) (A.at r_440) from rfl).trans (by rw [l_437 A, l_440 A]; exact p_461 A)
theorem l_462 (A : Args F) : A.at r_462 = N7 A 15 :=
  (show A.at r_462 = k0_pay883 (A.at r_438) (A.at r_439) from rfl).trans (by rw [l_438 A, l_439 A]; exact p_462 A)
theorem l_463 (A : Args F) : A.at r_463 = clean1 mX mN (N7 A) 0 :=
  (show A.at r_463 = k0_pay888 (A.at r_438) (A.at r_439) (A.at r_443) from rfl).trans (by rw [l_438 A, l_439 A, l_443 A]; exact p_463 A)
theorem l_464 (A : Args F) : A.at r_464 = clean1 mX mN (N7 A) 16 :=
  (show A.at r_464 = k0_pay889 (A.at r_438) (A.at r_439) (A.at r_443) from rfl).trans (by rw [l_438 A, l_439 A, l_443 A]; exact p_464 A)
theorem l_465 (A : Args F) : A.at r_465 = clean1 mX mN (N7 A) 1 :=
  (show A.at r_465 = k0_pay890 (A.at r_437) (A.at r_440) (A.at r_444) from rfl).trans (by rw [l_437 A, l_440 A, l_444 A]; exact p_465 A)
theorem l_466 (A : Args F) : A.at r_466 = clean1 mX mN (N7 A) 17 :=
  (show A.at r_466 = k0_pay891 (A.at r_437) (A.at r_440) (A.at r_444) from rfl).trans (by rw [l_437 A, l_440 A, l_444 A]; exact p_466 A)
theorem l_467 (A : Args F) : A.at r_467 = clean1 mX mN (N7 A) 2 :=
  (show A.at r_467 = k0_pay892 (A.at r_436) (A.at r_441) (A.at r_445) from rfl).trans (by rw [l_436 A, l_441 A, l_445 A]; exact p_467 A)
theorem l_468 (A : Args F) : A.at r_468 = clean1 mX mN (N7 A) 18 :=
  (show A.at r_468 = k0_pay893 (A.at r_436) (A.at r_441) (A.at r_445) from rfl).trans (by rw [l_436 A, l_441 A, l_445 A]; exact p_468 A)
theorem l_469 (A : Args F) : A.at r_469 = clean1 mX mN (N7 A) 3 :=
  (show A.at r_469 = k0_pay894 (A.at r_435) (A.at r_442) (A.at r_446) from rfl).trans (by rw [l_435 A, l_442 A, l_446 A]; exact p_469 A)
theorem l_470 (A : Args F) : A.at r_470 = clean1 mX mN (N7 A) 19 :=
  (show A.at r_470 = k0_pay895 (A.at r_435) (A.at r_442) (A.at r_446) from rfl).trans (by rw [l_435 A, l_442 A, l_446 A]; exact p_470 A)
theorem l_471 (A : Args F) : A.at r_471 = clean1 mX mN (N7 A) 4 :=
  (show A.at r_471 = k0_pay896 (A.at r_434) (A.at r_447) from rfl).trans (by rw [l_434 A, l_447 A]; exact p_471 A)
theorem l_472 (A : Args F) : A.at r_472 = clean1 mX mN (N7 A) 20 :=
  (show A.at r_472 = k0_pay897 (A.at r_434) (A.at r_447) from rfl).trans (by rw [l_434 A, l_447 A]; exact p_472 A)
theorem l_473 (A : Args F) : A.at r_473 = clean1 mX mN (N7 A) 5 :=
  (show A.at r_473 = k0_pay898 (A.at r_433) (A.at r_448) from rfl).trans (by rw [l_433 A, l_448 A]; exact p_473 A)
theorem l_474 (A : Args F) : A.at r_474 = clean1 mX mN (N7 A) 21 :=
  (show A.at r_474 = k0_pay899 (A.at r_433) (A.at r_448) from rfl).trans (by rw [l_433 A, l_448 A]; exact p_474 A)
theorem l_475 (A : Args F) : A.at r_475 = clean1 mX mN (N7 A) 6 :=
  (show A.at r_475 = k0_pay900 (A.at r_432) (A.at r_449) from rfl).trans (by rw [l_432 A, l_449 A]; exact p_475 A)
theorem l_476 (A : Args F) : A.at r_476 = clean1 mX mN (N7 A) 22 :=
  (show A.at r_476 = k0_pay901 (A.at r_432) (A.at r_449) from rfl).trans (by rw [l_432 A, l_449 A]; exact p_476 A)
theorem l_477 (A : Args F) : A.at r_477 = clean1 mX mN (N7 A) 7 :=
  (show A.at r_477 = k0_pay902 (A.at r_431) (A.at r_450) from rfl).trans (by rw [l_431 A, l_450 A]; exact p_477 A)
theorem l_478 (A : Args F) : A.at r_478 = clean1 mX mN (N7 A) 23 :=
  (show A.at r_478 = k0_pay903 (A.at r_431) (A.at r_450) from rfl).trans (by rw [l_431 A, l_450 A]; exact p_478 A)
theorem l_479 (A : Args F) : A.at r_479 = clean1 mX mN (N7 A) 8 :=
  (show A.at r_479 = k0_pay904 (A.at r_430) (A.at r_451) from rfl).trans (by rw [l_430 A, l_451 A]; exact p_479 A)
theorem l_480 (A : Args F) : A.at r_480 = clean1 mX mN (N7 A) 24 :=
  (show A.at r_480 = k0_pay905 (A.at r_430) (A.at r_451) from rfl).trans (by rw [l_430 A, l_451 A]; exact p_480 A)
theorem l_481 (A : Args F) : A.at r_481 = clean1 mX mN (N7 A) 9 :=
  (show A.at r_481 = k0_pay906 (A.at r_429) (A.at r_452) from rfl).trans (by rw [l_429 A, l_452 A]; exact p_481 A)
theorem l_482 (A : Args F) : A.at r_482 = clean1 mX mN (N7 A) 25 :=
  (show A.at r_482 = k0_pay907 (A.at r_429) (A.at r_452) from rfl).trans (by rw [l_429 A, l_452 A]; exact p_482 A)
theorem l_483 (A : Args F) : A.at r_483 = clean1 mX mN (N7 A) 10 :=
  (show A.at r_483 = k0_pay908 (A.at r_428) (A.at r_433) from rfl).trans (by rw [l_428 A, l_433 A]; exact p_483 A)
theorem l_484 (A : Args F) : A.at r_484 = clean1 mX mN (N7 A) 26 :=
  (show A.at r_484 = k0_pay909 (A.at r_428) (A.at r_433) from rfl).trans (by rw [l_428 A, l_433 A]; exact p_484 A)
theorem l_485 (A : Args F) : A.at r_485 = clean3 mX mN (N7 A) 5 :=
  (show A.at r_485 = k0_pay934 (A.at r_456) (A.at r_460) (A.at r_465) (A.at r_473) (A.at r_481) from rfl).trans (by rw [l_456 A, l_460 A, l_465 A, l_473 A, l_481 A]; exact p_485 A)
theorem l_486 (A : Args F) : A.at r_486 = clean3 mX mN (N7 A) 7 :=
  (show A.at r_486 = k0_pay938 (A.at r_453) (A.at r_454) (A.at r_458) (A.at r_462) (A.at r_469) (A.at r_477) from rfl).trans (by rw [l_453 A, l_454 A, l_458 A, l_462 A, l_469 A, l_477 A]; exact p_486 A)
theorem l_487 (A : Args F) : A.at r_487 = clean3 mX mN (N7 A) 8 :=
  (show A.at r_487 = k0_pay939 (A.at r_457) (A.at r_459) (A.at r_463) (A.at r_471) (A.at r_479) from rfl).trans (by rw [l_457 A, l_459 A, l_463 A, l_471 A, l_479 A]; exact p_487 A)
theorem l_488 (A : Args F) : A.at r_488 = clean3 mX mN (N7 A) 12 :=
  (show A.at r_488 = k0_pay940 (A.at r_457) (A.at r_459) (A.at r_463) (A.at r_471) (A.at r_479) from rfl).trans (by rw [l_457 A, l_459 A, l_463 A, l_471 A, l_479 A]; exact p_488 A)
theorem l_489 (A : Args F) : A.at r_489 = clean3 mX mN (N7 A) 9 :=
  (show A.at r_489 = k0_pay941 (A.at r_456) (A.at r_460) (A.at r_465) (A.at r_473) (A.at r_481) from rfl).trans (by rw [l_456 A, l_460 A, l_465 A, l_473 A, l_481 A]; exact p_489 A)
theorem l_490 (A : Args F) : A.at r_490 = clean3 mX mN (N7 A) 13 :=
  (show A.at r_490 = k0_pay942 (A.at r_456) (A.at r_460) (A.at r_465) (A.at r_473) (A.at r_481) from rfl).trans (by rw [l_456 A, l_460 A, l_465 A, l_473 A, l_481 A]; exact p_490 A)
theorem l_491 (A : Args F) : A.at r_491 = clean3 mX mN (N7 A) 10 :=
  (show A.at r_491 = k0_pay943 (A.at r_455) (A.at r_461) (A.at r_467) (A.at r_475) (A.at r_483) from rfl).trans (by rw [l_455 A, l_461 A, l_467 A, l_475 A, l_483 A]; exact p_491 A)
theorem l_492 (A : Args F) : A.at r_492 = clean3 mX mN (N7 A) 14 :=
  (show A.at r_492 = k0_pay944 (A.at r_455) (A.at r_461) (A.at r_467) (A.at r_475) (A.at r_483) from rfl).trans (by rw [l_455 A, l_461 A, l_467 A, l_475 A, l_483 A]; exact p_492 A)
theorem l_493 (A : Args F) : A.at r_493 = clean3 mX mN (N7 A) 11 :=
  (show A.at r_493 = k0_pay945 (A.at r_453) (A.at r_454) (A.at r_458) (A.at r_462) (A.at r_469) (A.at r_477) from rfl).trans (by rw [l_453 A, l_454 A, l_458 A, l_462 A, l_469 A, l_477 A]; exact p_493 A)
theorem l_494 (A : Args F) : A.at r_494 = clean3 mX mN (N7 A) 15 :=
  (show A.at r_494 = k0_pay946 (A.at r_453) (A.at r_454) (A.at r_458) (A.at r_462) (A.at r_469) (A.at r_477) from rfl).trans (by rw [l_453 A, l_454 A, l_458 A, l_462 A, l_469 A, l_477 A]; exact p_494 A)
theorem l_495 (A : Args F) : A.at r_495 = clean3 mX mN (N7 A) 16 :=
  (show A.at r_495 = k0_pay947 (A.at r_457) (A.at r_459) (A.at r_464) (A.at r_472) (A.at r_480) from rfl).trans (by rw [l_457 A, l_459 A, l_464 A, l_472 A, l_480 A]; exact p_495 A)
theorem l_496 (A : Args F) : A.at r_496 = clean3 mX mN (N7 A) 17 :=
  (show A.at r_496 = k0_pay948 (A.at r_456) (A.at r_460) (A.at r_466) (A.at r_474) (A.at r_482) from rfl).trans (by rw [l_456 A, l_460 A, l_466 A, l_474 A, l_482 A]; exact p_496 A)
theorem l_497 (A : Args F) : A.at r_497 = clean3 mX mN (N7 A) 18 :=
  (show A.at r_497 = k0_pay949 (A.at r_455) (A.at r_461) (A.at r_468) (A.at r_476) (A.at r_484) from rfl).trans (by rw [l_455 A, l_461 A, l_468 A, l_476 A, l_484 A]; exact p_497 A)
theorem l_498 (A : Args F) : A.at r_498 = clean3 mX mN (N7 A) 19 :=
  (show A.at r_498 = k0_pay950 (A.at r_453) (A.at r_454) (A.at r_458) (A.at r_462) (A.at r_470) (A.at r_478) from rfl).trans (by rw [l_453 A, l_454 A, l_458 A, l_462 A, l_470 A, l_478 A]; exact p_498 A)
theorem l_499 (A : Args F) : A.at r_499 = clean4 mX mN (N7 A) 0 :=
  (show A.at r_499 = k0_pay951 (A.at r_455) (A.at r_457) (A.at r_459) (A.at r_461) (A.at r_463) (A.at r_467) (A.at r_471) (A.at r_475) (A.at r_479) (A.at r_483) from rfl).trans (by rw [l_455 A, l_457 A, l_459 A, l_461 A, l_463 A, l_467 A, l_471 A, l_475 A, l_479 A, l_483 A]; exact p_499 A)
theorem l_500 (A : Args F) : A.at r_500 = clean4 mX mN (N7 A) 2 :=
  (show A.at r_500 = k0_pay952 (A.at r_455) (A.at r_457) (A.at r_459) (A.at r_461) (A.at r_463) (A.at r_467) (A.at r_471) (A.at r_475) (A.at r_479) (A.at r_483) from rfl).trans (by rw [l_455 A, l_457 A, l_459 A, l_461 A, l_463 A, l_467 A, l_471 A, l_475 A, l_479 A, l_483 A]; exact p_500 A)
theorem l_501 (A : Args F) : A.at r_501 = clean4 mX mN (N7 A) 1 :=
  (show A.at r_501 = k0_pay953 (A.at r_453) (A.at r_454) (A.at r_456) (A.at r_458) (A.at r_460) (A.at r_462) (A.at r_465) (A.at r_469) (A.at r_473) (A.at r_477) (A.at r_481) from rfl).trans (by rw [l_453 A, l_454 A, l_456 A, l_458 A, l_460 A, l_462 A, l_465 A, l_469 A, l_473 A, l_477 A, l_481 A]; exact p_501 A)
theorem l_502 (A : Args F) : A.at r_502 = clean4 mX mN (N7 A) 3 :=
  (show A.at r_502 = k0_pay954 (A.at r_453) (A.at r_454) (A.at r_456) (A.at r_458) (A.at r_460) (A.at r_462) (A.at r_465) (A.at r_469) (A.at r_473) (A.at r_477) (A.at r_481) from rfl).trans (by rw [l_453 A, l_454 A, l_456 A, l_458 A, l_460 A, l_462 A, l_465 A, l_469 A, l_473 A, l_477 A, l_481 A]; exact p_502 A)
theorem l_503 (A : Args F) : A.at r_503 = clean4 mX mN (N7 A) 4 :=
  (show A.at r_503 = k0_pay955 (A.at r_455) (A.at r_457) (A.at r_459) (A.at r_461) (A.at r_463) (A.at r_467) (A.at r_471) (A.at r_475) (A.at r_479) (A.at r_483) from rfl).trans (by rw [l_455 A, l_457 A, l_459 A, l_461 A, l_463 A, l_467 A, l_471 A, l_475 A, l_479 A, l_483 A]; exact p_503 A)
theorem l_504 (A : Args F) : A.at r_504 = clean4 mX mN (N7 A) 6 :=
  (show A.at r_504 = k0_pay956 (A.at r_455) (A.at r_457) (A.at r_459) (A.at r_461) (A.at r_463) (A.at r_467) (A.at r_471) (A.at r_475) (A.at r_479) (A.at r_483) from rfl).trans (by rw [l_455 A, l_457 A, l_459 A, l_461 A, l_463 A, l_467 A, l_471 A, l_475 A, l_479 A, l_483 A]; exact p_504 A)
theorem l_505 (A : Args F) : A.at r_505 = M7 A 6 :=
  (show A.at r_505 = k0_pay977 (A.at r_485) (A.at r_486) (A.at r_504) from rfl).trans (by rw [l_485 A, l_486 A, l_504 A]; exact p_505 A)
theorem l_506 (A : Args F) : A.at r_506 = M7 A 7 :=
  (show A.at r_506 = k0_pay978 (A.at r_485) (A.at r_486) (A.at r_504) from rfl).trans (by rw [l_485 A, l_486 A, l_504 A]; exact p_506 A)
theorem l_507 (A : Args F) : A.at r_507 = M7 A 8 :=
  (show A.at r_507 = k0_pay979 (A.at r_487) (A.at r_489) (A.at r_491) (A.at r_493) from rfl).trans (by rw [l_487 A, l_489 A, l_491 A, l_493 A]; exact p_507 A)
theorem l_508 (A : Args F) : A.at r_508 = M7 A 9 :=
  (show A.at r_508 = k0_pay980 (A.at r_487) (A.at r_489) (A.at r_491) (A.at r_493) from rfl).trans (by rw [l_487 A, l_489 A, l_491 A, l_493 A]; exact p_508 A)
theorem l_509 (A : Args F) : A.at r_509 = M7 A 10 :=
  (show A.at r_509 = k0_pay981 (A.at r_487) (A.at r_489) (A.at r_491) (A.at r_493) from rfl).trans (by rw [l_487 A, l_489 A, l_491 A, l_493 A]; exact p_509 A)
theorem l_510 (A : Args F) : A.at r_510 = M7 A 11 :=
  (show A.at r_510 = k0_pay982 (A.at r_487) (A.at r_489) (A.at r_491) (A.at r_493) from rfl).trans (by rw [l_487 A, l_489 A, l_491 A, l_493 A]; exact p_510 A)
theorem l_511 (A : Args F) : A.at r_511 = M7 A 12 :=
  (show A.at r_511 = k0_pay983 (A.at r_488) (A.at r_490) (A.at r_492) (A.at r_494) from rfl).trans (by rw [l_488 A, l_490 A, l_492 A, l_494 A]; exact p_511 A)
theorem l_512 (A : Args F) : A.at r_512 = M7 A 13 :=
  (show A.at r_512 = k0_pay984 (A.at r_488) (A.at r_490) (A.at r_492) (A.at r_494) from rfl).trans (by rw [l_488 A, l_490 A, l_492 A, l_494 A]; exact p_512 A)
theorem l_513 (A : Args F) : A.at r_513 = M7 A 14 :=
  (show A.at r_513 = k0_pay985 (A.at r_488) (A.at r_490) (A.at r_492) (A.at r_494) from rfl).trans (by rw [l_488 A, l_490 A, l_492 A, l_494 A]; exact p_513 A)
theorem l_514 (A : Args F) : A.at r_514 = M7 A 15 :=
  (show A.at r_514 = k0_pay986 (A.at r_488) (A.at r_490) (A.at r_492) (A.at r_494) from rfl).trans (by rw [l_488 A, l_490 A, l_492 A, l_494 A]; exact p_514 A)
theorem l_515 (A : Args F) : A.at r_515 = M7 A 16 :=
  (show A.at r_515 = k0_pay987 (A.at r_495) (A.at r_496) (A.at r_497) (A.at r_498) from rfl).trans (by rw [l_495 A, l_496 A, l_497 A, l_498 A]; exact p_515 A)
theorem l_516 (A : Args F) : A.at r_516 = M7 A 17 :=
  (show A.at r_516 = k0_pay988 (A.at r_495) (A.at r_496) (A.at r_497) (A.at r_498) from rfl).trans (by rw [l_495 A, l_496 A, l_497 A, l_498 A]; exact p_516 A)
theorem l_517 (A : Args F) : A.at r_517 = M7 A 18 :=
  (show A.at r_517 = k0_pay989 (A.at r_495) (A.at r_496) (A.at r_497) (A.at r_498) from rfl).trans (by rw [l_495 A, l_496 A, l_497 A, l_498 A]; exact p_517 A)
theorem l_518 (A : Args F) : A.at r_518 = M7 A 19 :=
  (show A.at r_518 = k0_pay990 (A.at r_495) (A.at r_496) (A.at r_497) (A.at r_498) from rfl).trans (by rw [l_495 A, l_496 A, l_497 A, l_498 A]; exact p_518 A)
theorem l_519 (A : Args F) : A.at r_519 = lo8 (M7 A 0) :=
  (show A.at r_519 = k0_pay991 (A.at r_499) (A.at r_501) from rfl).trans (by rw [l_499 A, l_501 A]; exact p_519 A)
theorem l_520 (A : Args F) : A.at r_520 = lo8 (M7 A 1) :=
  (show A.at r_520 = k0_pay992 (A.at r_499) (A.at r_501) from rfl).trans (by rw [l_499 A, l_501 A]; exact p_520 A)
theorem l_521 (A : Args F) : A.at r_521 = lo8 (M7 A 2) :=
  (show A.at r_521 = k0_pay993 (A.at r_500) (A.at r_502) from rfl).trans (by rw [l_500 A, l_502 A]; exact p_521 A)
theorem l_522 (A : Args F) : A.at r_522 = lo8 (M7 A 3) :=
  (show A.at r_522 = k0_pay994 (A.at r_500) (A.at r_502) from rfl).trans (by rw [l_500 A, l_502 A]; exact p_522 A)
theorem l_523 (A : Args F) : A.at r_523 = lo8 (M7 A 4) :=
  (show A.at r_523 = k0_pay995 (A.at r_485) (A.at r_486) (A.at r_503) from rfl).trans (by rw [l_485 A, l_486 A, l_503 A]; exact p_523 A)
theorem l_524 (A : Args F) : A.at r_524 = lo8 (M7 A 5) :=
  (show A.at r_524 = k0_pay996 (A.at r_485) (A.at r_486) (A.at r_503) from rfl).trans (by rw [l_485 A, l_486 A, l_503 A]; exact p_524 A)
theorem l_525 (A : Args F) : A.at r_525 = lo8 (M7 A 6) :=
  (show A.at r_525 = k0_pay997 (A.at r_485) (A.at r_486) (A.at r_504) from rfl).trans (by rw [l_485 A, l_486 A, l_504 A]; exact p_525 A)
theorem l_526 (A : Args F) : A.at r_526 = lo8 (M7 A 7) :=
  (show A.at r_526 = k0_pay998 (A.at r_485) (A.at r_486) (A.at r_504) from rfl).trans (by rw [l_485 A, l_486 A, l_504 A]; exact p_526 A)
theorem l_527 (A : Args F) : A.at r_527 = lo8 (M7 A 8) :=
  (show A.at r_527 = k0_pay999 (A.at r_487) (A.at r_489) (A.at r_491) (A.at r_493) from rfl).trans (by rw [l_487 A, l_489 A, l_491 A, l_493 A]; exact p_527 A)
theorem l_528 (A : Args F) : A.at r_528 = lo8 (M7 A 9) :=
  (show A.at r_528 = k0_pay1000 (A.at r_487) (A.at r_489) (A.at r_491) (A.at r_493) from rfl).trans (by rw [l_487 A, l_489 A, l_491 A, l_493 A]; exact p_528 A)
theorem l_529 (A : Args F) : A.at r_529 = lo8 (M7 A 10) :=
  (show A.at r_529 = k0_pay1001 (A.at r_487) (A.at r_489) (A.at r_491) (A.at r_493) from rfl).trans (by rw [l_487 A, l_489 A, l_491 A, l_493 A]; exact p_529 A)
theorem l_530 (A : Args F) : A.at r_530 = lo8 (M7 A 11) :=
  (show A.at r_530 = k0_pay1002 (A.at r_487) (A.at r_489) (A.at r_491) (A.at r_493) from rfl).trans (by rw [l_487 A, l_489 A, l_491 A, l_493 A]; exact p_530 A)
theorem l_531 (A : Args F) : A.at r_531 = lo8 (M7 A 12) :=
  (show A.at r_531 = k0_pay1003 (A.at r_488) (A.at r_490) (A.at r_492) (A.at r_494) from rfl).trans (by rw [l_488 A, l_490 A, l_492 A, l_494 A]; exact p_531 A)
theorem l_532 (A : Args F) : A.at r_532 = lo8 (M7 A 13) :=
  (show A.at r_532 = k0_pay1004 (A.at r_488) (A.at r_490) (A.at r_492) (A.at r_494) from rfl).trans (by rw [l_488 A, l_490 A, l_492 A, l_494 A]; exact p_532 A)
theorem l_533 (A : Args F) : A.at r_533 = lo8 (M7 A 14) :=
  (show A.at r_533 = k0_pay1005 (A.at r_488) (A.at r_490) (A.at r_492) (A.at r_494) from rfl).trans (by rw [l_488 A, l_490 A, l_492 A, l_494 A]; exact p_533 A)
theorem l_534 (A : Args F) : A.at r_534 = lo8 (M7 A 15) :=
  (show A.at r_534 = k0_pay1006 (A.at r_488) (A.at r_490) (A.at r_492) (A.at r_494) from rfl).trans (by rw [l_488 A, l_490 A, l_492 A, l_494 A]; exact p_534 A)
theorem l_535 (A : Args F) : A.at r_535 = lo8 (M7 A 16) :=
  (show A.at r_535 = k0_pay1007 (A.at r_495) (A.at r_496) (A.at r_497) (A.at r_498) from rfl).trans (by rw [l_495 A, l_496 A, l_497 A, l_498 A]; exact p_535 A)
theorem l_536 (A : Args F) : A.at r_536 = lo8 (M7 A 17) :=
  (show A.at r_536 = k0_pay1008 (A.at r_495) (A.at r_496) (A.at r_497) (A.at r_498) from rfl).trans (by rw [l_495 A, l_496 A, l_497 A, l_498 A]; exact p_536 A)
theorem l_537 (A : Args F) : A.at r_537 = lo8 (M7 A 18) :=
  (show A.at r_537 = k0_pay1009 (A.at r_495) (A.at r_496) (A.at r_497) (A.at r_498) from rfl).trans (by rw [l_495 A, l_496 A, l_497 A, l_498 A]; exact p_537 A)
theorem l_538 (A : Args F) : A.at r_538 = lo8 (M7 A 19) :=
  (show A.at r_538 = k0_pay1010 (A.at r_495) (A.at r_496) (A.at r_497) (A.at r_498) from rfl).trans (by rw [l_495 A, l_496 A, l_497 A, l_498 A]; exact p_538 A)
theorem l_539 (A : Args F) : A.at r_539 = hi8 (M7 A 0) :=
  (show A.at r_539 = k0_pay1011 (A.at r_499) (A.at r_501) from rfl).trans (by rw [l_499 A, l_501 A]; exact p_539 A)
theorem l_540 (A : Args F) : A.at r_540 = hi8 (M7 A 1) :=
  (show A.at r_540 = k0_pay1012 (A.at r_499) (A.at r_501) from rfl).trans (by rw [l_499 A, l_501 A]; exact p_540 A)
theorem l_541 (A : Args F) : A.at r_541 = hi8 (M7 A 2) :=
  (show A.at r_541 = k0_pay1013 (A.at r_500) (A.at r_502) from rfl).trans (by rw [l_500 A, l_502 A]; exact p_541 A)
theorem l_542 (A : Args F) : A.at r_542 = hi8 (M7 A 3) :=
  (show A.at r_542 = k0_pay1014 (A.at r_500) (A.at r_502) from rfl).trans (by rw [l_500 A, l_502 A]; exact p_542 A)
theorem l_543 (A : Args F) : A.at r_543 = hi8 (M7 A 4) :=
  (show A.at r_543 = k0_pay1015 (A.at r_485) (A.at r_486) (A.at r_503) from rfl).trans (by rw [l_485 A, l_486 A, l_503 A]; exact p_543 A)
theorem l_544 (A : Args F) : A.at r_544 = hi8 (M7 A 5) :=
  (show A.at r_544 = k0_pay1016 (A.at r_485) (A.at r_486) (A.at r_503) from rfl).trans (by rw [l_485 A, l_486 A, l_503 A]; exact p_544 A)
theorem l_545 (A : Args F) : A.at r_545 = clean1 mX mN (N8 A) 16 :=
  (show A.at r_545 = k0_pay1032 (A.at r_514) (A.at r_519) (A.at r_535) from rfl).trans (by rw [l_514 A, l_519 A, l_535 A]; exact p_545 A)
theorem l_546 (A : Args F) : A.at r_546 = clean1 mX mN (N8 A) 17 :=
  (show A.at r_546 = k0_pay1034 (A.at r_513) (A.at r_520) (A.at r_536) from rfl).trans (by rw [l_513 A, l_520 A, l_536 A]; exact p_546 A)
theorem l_547 (A : Args F) : A.at r_547 = clean1 mX mN (N8 A) 18 :=
  (show A.at r_547 = k0_pay1036 (A.at r_512) (A.at r_521) (A.at r_537) from rfl).trans (by rw [l_512 A, l_521 A, l_537 A]; exact p_547 A)
theorem l_548 (A : Args F) : A.at r_548 = clean1 mX mN (N8 A) 3 :=
  (show A.at r_548 = k0_pay1037 (A.at r_511) (A.at r_522) (A.at r_538) from rfl).trans (by rw [l_511 A, l_522 A, l_538 A]; exact p_548 A)
theorem l_549 (A : Args F) : A.at r_549 = clean1 mX mN (N8 A) 19 :=
  (show A.at r_549 = k0_pay1038 (A.at r_511) (A.at r_522) (A.at r_538) from rfl).trans (by rw [l_511 A, l_522 A, l_538 A]; exact p_549 A)
theorem l_550 (A : Args F) : A.at r_550 = clean1 mX mN (N8 A) 4 :=
  (show A.at r_550 = k0_pay1039 (A.at r_510) (A.at r_523) from rfl).trans (by rw [l_510 A, l_523 A]; exact p_550 A)
theorem l_551 (A : Args F) : A.at r_551 = clean1 mX mN (N8 A) 20 :=
  (show A.at r_551 = k0_pay1040 (A.at r_510) (A.at r_523) from rfl).trans (by rw [l_510 A, l_523 A]; exact p_551 A)
theorem l_552 (A : Args F) : A.at r_552 = clean1 mX mN (N8 A) 5 :=
  (show A.at r_552 = k0_pay1041 (A.at r_509) (A.at r_524) from rfl).trans (by rw [l_509 A, l_524 A]; exact p_552 A)
theorem l_553 (A : Args F) : A.at r_553 = clean1 mX mN (N8 A) 21 :=
  (show A.at r_553 = k0_pay1042 (A.at r_509) (A.at r_524) from rfl).trans (by rw [l_509 A, l_524 A]; exact p_553 A)
theorem l_554 (A : Args F) : A.at r_554 = clean1 mX mN (N8 A) 6 :=
  (show A.at r_554 = k0_pay1043 (A.at r_508) (A.at r_525) from rfl).trans (by rw [l_508 A, l_525 A]; exact p_554 A)
theorem l_555 (A : Args F) : A.at r_555 = clean1 mX mN (N8 A) 22 :=
  (show A.at r_555 = k0_pay1044 (A.at r_508) (A.at r_525) from rfl).trans (by rw [l_508 A, l_525 A]; exact p_555 A)
theorem l_556 (A : Args F) : A.at r_556 = clean1 mX mN (N8 A) 7 :=
  (show A.at r_556 = k0_pay1045 (A.at r_507) (A.at r_526) from rfl).trans (by rw [l_507 A, l_526 A]; exact p_556 A)
theorem l_557 (A : Args F) : A.at r_557 = clean1 mX mN (N8 A) 23 :=
  (show A.at r_557 = k0_pay1046 (A.at r_507) (A.at r_526) from rfl).trans (by rw [l_507 A, l_526 A]; exact p_557 A)
theorem l_558 (A : Args F) : A.at r_558 = clean1 mX mN (N8 A) 24 :=
  (show A.at r_558 = k0_pay1048 (A.at r_506) (A.at r_527) from rfl).trans (by rw [l_506 A, l_527 A]; exact p_558 A)
theorem l_559 (A : Args F) : A.at r_559 = clean1 mX mN (N8 A) 25 :=
  (show A.at r_559 = k0_pay1050 (A.at r_505) (A.at r_528) from rfl).trans (by rw [l_505 A, l_528 A]; exact p_559 A)
theorem l_560 (A : Args F) : A.at r_560 = clean1 mX mN (N8 A) 26 :=
  (show A.at r_560 = k0_pay1052 (A.at r_529) (A.at r_544) from rfl).trans (by rw [l_529 A, l_544 A]; exact p_560 A)
theorem l_561 (A : Args F) : A.at r_561 = clean1 mX mN (N8 A) 11 :=
  (show A.at r_561 = k0_pay1053 (A.at r_530) (A.at r_543) from rfl).trans (by rw [l_530 A, l_543 A]; exact p_561 A)
theorem l_562 (A : Args F) : A.at r_562 = clean1 mX mN (N8 A) 27 :=
  (show A.at r_562 = k0_pay1054 (A.at r_530) (A.at r_543) from rfl).trans (by rw [l_530 A, l_543 A]; exact p_562 A)
theorem l_563 (A : Args F) : A.at r_563 = clean1 mX mN (N8 A) 12 :=
  (show A.at r_563 = k0_pay1055 (A.at r_518) (A.at r_531) (A.at r_542) from rfl).trans (by rw [l_518 A, l_531 A, l_542 A]; exact p_563 A)
theorem l_564 (A : Args F) : A.at r_564 = clean1 mX mN (N8 A) 28 :=
  (show A.at r_564 = k0_pay1056 (A.at r_518) (A.at r_531) (A.at r_542) from rfl).trans (by rw [l_518 A, l_531 A, l_542 A]; exact p_564 A)
theorem l_565 (A : Args F) : A.at r_565 = clean1 mX mN (N8 A) 13 :=
  (show A.at r_565 = k0_pay1057 (A.at r_517) (A.at r_532) (A.at r_541) from rfl).trans (by rw [l_517 A, l_532 A, l_541 A]; exact p_565 A)
theorem l_566 (A : Args F) : A.at r_566 = clean1 mX mN (N8 A) 29 :=
  (show A.at r_566 = k0_pay1058 (A.at r_517) (A.at r_532) (A.at r_541) from rfl).trans (by rw [l_517 A, l_532 A, l_541 A]; exact p_566 A)
theorem l_567 (A : Args F) : A.at r_567 = clean1 mX mN (N8 A) 14 :=
  (show A.at r_567 = k0_pay1059 (A.at r_516) (A.at r_533) (A.at r_540) from rfl).trans (by rw [l_516 A, l_533 A, l_540 A]; exact p_567 A)
theorem l_568 (A : Args F) : A.at r_568 = clean1 mX mN (N8 A) 30 :=
  (show A.at r_568 = k0_pay1060 (A.at r_516) (A.at r_533) (A.at r_540) from rfl).trans (by rw [l_516 A, l_533 A, l_540 A]; exact p_568 A)
theorem l_569 (A : Args F) : A.at r_569 = clean1 mX mN (N8 A) 15 :=
  (show A.at r_569 = k0_pay1061 (A.at r_515) (A.at r_534) (A.at r_539) from rfl).trans (by rw [l_515 A, l_534 A, l_539 A]; exact p_569 A)
theorem l_570 (A : Args F) : A.at r_570 = clean1 mX mN (N8 A) 31 :=
  (show A.at r_570 = k0_pay1062 (A.at r_515) (A.at r_534) (A.at r_539) from rfl).trans (by rw [l_515 A, l_534 A, l_539 A]; exact p_570 A)
theorem l_571 (A : Args F) : A.at r_571 = clean2 mX mN (N8 A) 0 :=
  (show A.at r_571 = k0_pay1063 (A.at r_506) (A.at r_514) (A.at r_519) (A.at r_527) (A.at r_535) from rfl).trans (by rw [l_506 A, l_514 A, l_519 A, l_527 A, l_535 A]; exact p_571 A)
theorem l_572 (A : Args F) : A.at r_572 = clean2 mX mN (N8 A) 8 :=
  (show A.at r_572 = k0_pay1064 (A.at r_506) (A.at r_514) (A.at r_519) (A.at r_527) (A.at r_535) from rfl).trans (by rw [l_506 A, l_514 A, l_519 A, l_527 A, l_535 A]; exact p_572 A)
theorem l_573 (A : Args F) : A.at r_573 = clean2 mX mN (N8 A) 1 :=
  (show A.at r_573 = k0_pay1065 (A.at r_505) (A.at r_513) (A.at r_520) (A.at r_528) (A.at r_536) from rfl).trans (by rw [l_505 A, l_513 A, l_520 A, l_528 A, l_536 A]; exact p_573 A)
theorem l_574 (A : Args F) : A.at r_574 = clean2 mX mN (N8 A) 9 :=
  (show A.at r_574 = k0_pay1066 (A.at r_505) (A.at r_513) (A.at r_520) (A.at r_528) (A.at r_536) from rfl).trans (by rw [l_505 A, l_513 A, l_520 A, l_528 A, l_536 A]; exact p_574 A)
theorem l_575 (A : Args F) : A.at r_575 = clean2 mX mN (N8 A) 2 :=
  (show A.at r_575 = k0_pay1067 (A.at r_512) (A.at r_521) (A.at r_529) (A.at r_537) (A.at r_544) from rfl).trans (by rw [l_512 A, l_521 A, l_529 A, l_537 A, l_544 A]; exact p_575 A)
theorem l_576 (A : Args F) : A.at r_576 = clean2 mX mN (N8 A) 10 :=
  (show A.at r_576 = k0_pay1068 (A.at r_512) (A.at r_521) (A.at r_529) (A.at r_537) (A.at r_544) from rfl).trans (by rw [l_512 A, l_521 A, l_529 A, l_537 A, l_544 A]; exact p_576 A)
theorem l_577 (A : Args F) : A.at r_577 = clean4 mX mN (N8 A) 2 :=
  (show A.at r_577 = k0_pay1100 (A.at r_550) (A.at r_554) (A.at r_563) (A.at r_567) (A.at r_571) (A.at r_575) from rfl).trans (by rw [l_550 A, l_554 A, l_563 A, l_567 A, l_571 A, l_575 A]; exact p_577 A)
theorem l_578 (A : Args F) : A.at r_578 = clean4 mX mN (N8 A) 3 :=
  (show A.at r_578 = k0_pay1102 (A.at r_548) (A.at r_552) (A.at r_556) (A.at r_561) (A.at r_565) (A.at r_569) (A.at r_573) from rfl).trans (by rw [l_548 A, l_552 A, l_556 A, l_561 A, l_565 A, l_569 A, l_573 A]; exact p_578 A)
theorem l_579 (A : Args F) : A.at r_579 = clean4 mX mN (N8 A) 4 :=
  (show A.at r_579 = k0_pay1103 (A.at r_550) (A.at r_554) (A.at r_563) (A.at r_567) (A.at r_571) (A.at r_575) from rfl).trans (by rw [l_550 A, l_554 A, l_563 A, l_567 A, l_571 A, l_575 A]; exact p_579 A)
theorem l_580 (A : Args F) : A.at r_580 = clean4 mX mN (N8 A) 6 :=
  (show A.at r_580 = k0_pay1104 (A.at r_550) (A.at r_554) (A.at r_563) (A.at r_567) (A.at r_571) (A.at r_575) from rfl).trans (by rw [l_550 A, l_554 A, l_563 A, l_567 A, l_571 A, l_575 A]; exact p_580 A)
theorem l_581 (A : Args F) : A.at r_581 = clean4 mX mN (N8 A) 5 :=
  (show A.at r_581 = k0_pay1105 (A.at r_548) (A.at r_552) (A.at r_556) (A.at r_561) (A.at r_565) (A.at r_569) (A.at r_573) from rfl).trans (by rw [l_548 A, l_552 A, l_556 A, l_561 A, l_565 A, l_569 A, l_573 A]; exact p_581 A)
theorem l_582 (A : Args F) : A.at r_582 = clean4 mX mN (N8 A) 7 :=
  (show A.at r_582 = k0_pay1106 (A.at r_548) (A.at r_552) (A.at r_556) (A.at r_561) (A.at r_565) (A.at r_569) (A.at r_573) from rfl).trans (by rw [l_548 A, l_552 A, l_556 A, l_561 A, l_565 A, l_569 A, l_573 A]; exact p_582 A)
theorem l_583 (A : Args F) : A.at r_583 = clean4 mX mN (N8 A) 8 :=
  (show A.at r_583 = k0_pay1107 (A.at r_550) (A.at r_554) (A.at r_563) (A.at r_567) (A.at r_572) (A.at r_576) from rfl).trans (by rw [l_550 A, l_554 A, l_563 A, l_567 A, l_572 A, l_576 A]; exact p_583 A)
theorem l_584 (A : Args F) : A.at r_584 = clean4 mX mN (N8 A) 10 :=
  (show A.at r_584 = k0_pay1108 (A.at r_550) (A.at r_554) (A.at r_563) (A.at r_567) (A.at r_572) (A.at r_576) from rfl).trans (by rw [l_550 A, l_554 A, l_563 A, l_567 A, l_572 A, l_576 A]; exact p_584 A)
theorem l_585 (A : Args F) : A.at r_585 = clean4 mX mN (N8 A) 9 :=
  (show A.at r_585 = k0_pay1109 (A.at r_548) (A.at r_552) (A.at r_556) (A.at r_561) (A.at r_565) (A.at r_569) (A.at r_574) from rfl).trans (by rw [l_548 A, l_552 A, l_556 A, l_561 A, l_565 A, l_569 A, l_574 A]; exact p_585 A)
theorem l_586 (A : Args F) : A.at r_586 = clean4 mX mN (N8 A) 11 :=
  (show A.at r_586 = k0_pay1110 (A.at r_548) (A.at r_552) (A.at r_556) (A.at r_561) (A.at r_565) (A.at r_569) (A.at r_574) from rfl).trans (by rw [l_548 A, l_552 A, l_556 A, l_561 A, l_565 A, l_569 A, l_574 A]; exact p_586 A)
theorem l_587 (A : Args F) : A.at r_587 = clean4 mX mN (N8 A) 12 :=
  (show A.at r_587 = k0_pay1111 (A.at r_550) (A.at r_554) (A.at r_563) (A.at r_567) (A.at r_572) (A.at r_576) from rfl).trans (by rw [l_550 A, l_554 A, l_563 A, l_567 A, l_572 A, l_576 A]; exact p_587 A)
theorem l_588 (A : Args F) : A.at r_588 = clean4 mX mN (N8 A) 14 :=
  (show A.at r_588 = k0_pay1112 (A.at r_550) (A.at r_554) (A.at r_563) (A.at r_567) (A.at r_572) (A.at r_576) from rfl).trans (by rw [l_550 A, l_554 A, l_563 A, l_567 A, l_572 A, l_576 A]; exact p_588 A)
theorem l_589 (A : Args F) : A.at r_589 = clean4 mX mN (N8 A) 13 :=
  (show A.at r_589 = k0_pay1113 (A.at r_548) (A.at r_552) (A.at r_556) (A.at r_561) (A.at r_565) (A.at r_569) (A.at r_574) from rfl).trans (by rw [l_548 A, l_552 A, l_556 A, l_561 A, l_565 A, l_569 A, l_574 A]; exact p_589 A)
theorem l_590 (A : Args F) : A.at r_590 = clean4 mX mN (N8 A) 15 :=
  (show A.at r_590 = k0_pay1114 (A.at r_548) (A.at r_552) (A.at r_556) (A.at r_561) (A.at r_565) (A.at r_569) (A.at r_574) from rfl).trans (by rw [l_548 A, l_552 A, l_556 A, l_561 A, l_565 A, l_569 A, l_574 A]; exact p_590 A)
theorem l_591 (A : Args F) : A.at r_591 = clean4 mX mN (N8 A) 16 :=
  (show A.at r_591 = k0_pay1115 (A.at r_545) (A.at r_547) (A.at r_551) (A.at r_555) (A.at r_558) (A.at r_560) (A.at r_564) (A.at r_568) from rfl).trans (by rw [l_545 A, l_547 A, l_551 A, l_555 A, l_558 A, l_560 A, l_564 A, l_568 A]; exact p_591 A)
theorem l_592 (A : Args F) : A.at r_592 = clean4 mX mN (N8 A) 18 :=
  (show A.at r_592 = k0_pay1116 (A.at r_545) (A.at r_547) (A.at r_551) (A.at r_555) (A.at r_558) (A.at r_560) (A.at r_564) (A.at r_568) from rfl).trans (by rw [l_545 A, l_547 A, l_551 A, l_555 A, l_558 A, l_560 A, l_564 A, l_568 A]; exact p_592 A)
theorem l_593 (A : Args F) : A.at r_593 = clean4 mX mN (N8 A) 17 :=
  (show A.at r_593 = k0_pay1117 (A.at r_546) (A.at r_549) (A.at r_553) (A.at r_557) (A.at r_559) (A.at r_562) (A.at r_566) (A.at r_570) from rfl).trans (by rw [l_546 A, l_549 A, l_553 A, l_557 A, l_559 A, l_562 A, l_566 A, l_570 A]; exact p_593 A)
theorem l_594 (A : Args F) : A.at r_594 = clean4 mX mN (N8 A) 19 :=
  (show A.at r_594 = k0_pay1118 (A.at r_546) (A.at r_549) (A.at r_553) (A.at r_557) (A.at r_559) (A.at r_562) (A.at r_566) (A.at r_570) from rfl).trans (by rw [l_546 A, l_549 A, l_553 A, l_557 A, l_559 A, l_562 A, l_566 A, l_570 A]; exact p_594 A)
theorem l_595 (A : Args F) : A.at r_595 = M8 A 0 :=
  (show A.at r_595 = k0_pay1119 (A.at r_548) (A.at r_550) (A.at r_552) (A.at r_554) (A.at r_556) (A.at r_561) (A.at r_563) (A.at r_565) (A.at r_567) (A.at r_569) (A.at r_571) (A.at r_573) (A.at r_575) from rfl).trans (by rw [l_548 A, l_550 A, l_552 A, l_554 A, l_556 A, l_561 A, l_563 A, l_565 A, l_567 A, l_569 A, l_571 A, l_573 A, l_575 A]; exact p_595 A)
theorem l_596 (A : Args F) : A.at r_596 = M8 A 1 :=
  (show A.at r_596 = k0_pay1120 (A.at r_548) (A.at r_550) (A.at r_552) (A.at r_554) (A.at r_556) (A.at r_561) (A.at r_563) (A.at r_565) (A.at r_567) (A.at r_569) (A.at r_571) (A.at r_573) (A.at r_575) from rfl).trans (by rw [l_548 A, l_550 A, l_552 A, l_554 A, l_556 A, l_561 A, l_563 A, l_565 A, l_567 A, l_569 A, l_571 A, l_573 A, l_575 A]; exact p_596 A)
theorem l_597 (A : Args F) : A.at r_597 = lo9 (M8 A 0) :=
  (show A.at r_597 = k0_pay1139 (A.at r_595) from rfl).trans (by rw [l_595 A]; exact p_597 A)
theorem l_598 (A : Args F) : A.at r_598 = lo9 (M8 A 1) :=
  (show A.at r_598 = k0_pay1140 (A.at r_596) from rfl).trans (by rw [l_596 A]; exact p_598 A)
theorem l_599 (A : Args F) : A.at r_599 = lo9 (M8 A 2) :=
  (show A.at r_599 = k0_pay1141 (A.at r_577) (A.at r_578) from rfl).trans (by rw [l_577 A, l_578 A]; exact p_599 A)
theorem l_600 (A : Args F) : A.at r_600 = lo9 (M8 A 3) :=
  (show A.at r_600 = k0_pay1142 (A.at r_577) (A.at r_578) from rfl).trans (by rw [l_577 A, l_578 A]; exact p_600 A)
theorem l_601 (A : Args F) : A.at r_601 = lo9 (M8 A 4) :=
  (show A.at r_601 = k0_pay1143 (A.at r_579) (A.at r_581) from rfl).trans (by rw [l_579 A, l_581 A]; exact p_601 A)
theorem l_602 (A : Args F) : A.at r_602 = lo9 (M8 A 5) :=
  (show A.at r_602 = k0_pay1144 (A.at r_579) (A.at r_581) from rfl).trans (by rw [l_579 A, l_581 A]; exact p_602 A)
theorem l_603 (A : Args F) : A.at r_603 = lo9 (M8 A 6) :=
  (show A.at r_603 = k0_pay1145 (A.at r_580) (A.at r_582) from rfl).trans (by rw [l_580 A, l_582 A]; exact p_603 A)
theorem l_604 (A : Args F) : A.at r_604 = lo9 (M8 A 7) :=
  (show A.at r_604 = k0_pay1146 (A.at r_580) (A.at r_582) from rfl).trans (by rw [l_580 A, l_582 A]; exact p_604 A)
theorem l_605 (A : Args F) : A.at r_605 = lo9 (M8 A 8) :=
  (show A.at r_605 = k0_pay1147 (A.at r_583) (A.at r_585) from rfl).trans (by rw [l_583 A, l_585 A]; exact p_605 A)
theorem l_606 (A : Args F) : A.at r_606 = lo9 (M8 A 9) :=
  (show A.at r_606 = k0_pay1148 (A.at r_583) (A.at r_585) from rfl).trans (by rw [l_583 A, l_585 A]; exact p_606 A)
theorem l_607 (A : Args F) : A.at r_607 = lo9 (M8 A 10) :=
  (show A.at r_607 = k0_pay1149 (A.at r_584) (A.at r_586) from rfl).trans (by rw [l_584 A, l_586 A]; exact p_607 A)
theorem l_608 (A : Args F) : A.at r_608 = lo9 (M8 A 11) :=
  (show A.at r_608 = k0_pay1150 (A.at r_584) (A.at r_586) from rfl).trans (by rw [l_584 A, l_586 A]; exact p_608 A)
theorem l_609 (A : Args F) : A.at r_609 = lo9 (M8 A 14) :=
  (show A.at r_609 = k0_pay1151 (A.at r_588) (A.at r_590) from rfl).trans (by rw [l_588 A, l_590 A]; exact p_609 A)
theorem l_610 (A : Args F) : A.at r_610 = lo9 (M8 A 15) :=
  (show A.at r_610 = k0_pay1152 (A.at r_588) (A.at r_590) from rfl).trans (by rw [l_588 A, l_590 A]; exact p_610 A)
theorem l_611 (A : Args F) : A.at r_611 = lo9 (M8 A 16) :=
  (show A.at r_611 = k0_pay1153 (A.at r_591) (A.at r_593) from rfl).trans (by rw [l_591 A, l_593 A]; exact p_611 A)
theorem l_612 (A : Args F) : A.at r_612 = lo9 (M8 A 17) :=
  (show A.at r_612 = k0_pay1154 (A.at r_591) (A.at r_593) from rfl).trans (by rw [l_591 A, l_593 A]; exact p_612 A)
theorem l_613 (A : Args F) : A.at r_613 = lo9 (M8 A 18) :=
  (show A.at r_613 = k0_pay1155 (A.at r_592) (A.at r_594) from rfl).trans (by rw [l_592 A, l_594 A]; exact p_613 A)
theorem l_614 (A : Args F) : A.at r_614 = lo9 (M8 A 19) :=
  (show A.at r_614 = k0_pay1156 (A.at r_592) (A.at r_594) from rfl).trans (by rw [l_592 A, l_594 A]; exact p_614 A)
theorem l_615 (A : Args F) : A.at r_615 = hi9 (M8 A 0) :=
  (show A.at r_615 = k0_pay1157 (A.at r_595) from rfl).trans (by rw [l_595 A]; exact p_615 A)
theorem l_616 (A : Args F) : A.at r_616 = hi9 (M8 A 1) :=
  (show A.at r_616 = k0_pay1158 (A.at r_596) from rfl).trans (by rw [l_596 A]; exact p_616 A)
theorem l_617 (A : Args F) : A.at r_617 = hi9 (M8 A 2) :=
  (show A.at r_617 = k0_pay1159 (A.at r_577) (A.at r_578) from rfl).trans (by rw [l_577 A, l_578 A]; exact p_617 A)
theorem l_618 (A : Args F) : A.at r_618 = hi9 (M8 A 3) :=
  (show A.at r_618 = k0_pay1160 (A.at r_577) (A.at r_578) from rfl).trans (by rw [l_577 A, l_578 A]; exact p_618 A)
theorem l_619 (A : Args F) : A.at r_619 = hi9 (M8 A 4) :=
  (show A.at r_619 = k0_pay1161 (A.at r_579) (A.at r_581) from rfl).trans (by rw [l_579 A, l_581 A]; exact p_619 A)
theorem l_620 (A : Args F) : A.at r_620 = hi9 (M8 A 5) :=
  (show A.at r_620 = k0_pay1162 (A.at r_579) (A.at r_581) from rfl).trans (by rw [l_579 A, l_581 A]; exact p_620 A)
theorem l_621 (A : Args F) : A.at r_621 = hi9 (M8 A 6) :=
  (show A.at r_621 = k0_pay1163 (A.at r_580) (A.at r_582) from rfl).trans (by rw [l_580 A, l_582 A]; exact p_621 A)
theorem l_622 (A : Args F) : A.at r_622 = hi9 (M8 A 7) :=
  (show A.at r_622 = k0_pay1164 (A.at r_580) (A.at r_582) from rfl).trans (by rw [l_580 A, l_582 A]; exact p_622 A)
theorem l_623 (A : Args F) : A.at r_623 = hi9 (M8 A 8) :=
  (show A.at r_623 = k0_pay1165 (A.at r_583) (A.at r_585) from rfl).trans (by rw [l_583 A, l_585 A]; exact p_623 A)
theorem l_624 (A : Args F) : A.at r_624 = hi9 (M8 A 9) :=
  (show A.at r_624 = k0_pay1166 (A.at r_583) (A.at r_585) from rfl).trans (by rw [l_583 A, l_585 A]; exact p_624 A)
theorem l_625 (A : Args F) : A.at r_625 = hi9 (M8 A 10) :=
  (show A.at r_625 = k0_pay1167 (A.at r_584) (A.at r_586) from rfl).trans (by rw [l_584 A, l_586 A]; exact p_625 A)
theorem l_626 (A : Args F) : A.at r_626 = hi9 (M8 A 11) :=
  (show A.at r_626 = k0_pay1168 (A.at r_584) (A.at r_586) from rfl).trans (by rw [l_584 A, l_586 A]; exact p_626 A)
theorem l_627 (A : Args F) : A.at r_627 = hi9 (M8 A 12) :=
  (show A.at r_627 = k0_pay1169 (A.at r_587) (A.at r_589) from rfl).trans (by rw [l_587 A, l_589 A]; exact p_627 A)
theorem l_628 (A : Args F) : A.at r_628 = hi9 (M8 A 13) :=
  (show A.at r_628 = k0_pay1170 (A.at r_587) (A.at r_589) from rfl).trans (by rw [l_587 A, l_589 A]; exact p_628 A)
theorem l_629 (A : Args F) : A.at r_629 = hi9 (M8 A 14) :=
  (show A.at r_629 = k0_pay1171 (A.at r_588) (A.at r_590) from rfl).trans (by rw [l_588 A, l_590 A]; exact p_629 A)
theorem l_630 (A : Args F) : A.at r_630 = hi9 (M8 A 15) :=
  (show A.at r_630 = k0_pay1172 (A.at r_588) (A.at r_590) from rfl).trans (by rw [l_588 A, l_590 A]; exact p_630 A)
theorem l_631 (A : Args F) : A.at r_631 = hi9 (M8 A 16) :=
  (show A.at r_631 = k0_pay1173 (A.at r_591) (A.at r_593) from rfl).trans (by rw [l_591 A, l_593 A]; exact p_631 A)
theorem l_632 (A : Args F) : A.at r_632 = hi9 (M8 A 17) :=
  (show A.at r_632 = k0_pay1174 (A.at r_591) (A.at r_593) from rfl).trans (by rw [l_591 A, l_593 A]; exact p_632 A)
theorem l_633 (A : Args F) : A.at r_633 = N9 A 12 :=
  (show A.at r_633 = k0_pay1175 (A.at r_587) (A.at r_589) (A.at r_592) (A.at r_594) from rfl).trans (by rw [l_587 A, l_589 A, l_592 A, l_594 A]; exact p_633 A)
theorem l_634 (A : Args F) : A.at r_634 = N9 A 13 :=
  (show A.at r_634 = k0_pay1176 (A.at r_587) (A.at r_589) (A.at r_592) (A.at r_594) from rfl).trans (by rw [l_587 A, l_589 A, l_592 A, l_594 A]; exact p_634 A)
theorem l_v1427 (A : Args F) : A.at v1427 = clean3 mX mN (N9 A) 16 :=
  (show A.at v1427 = k0_pay1177 (A.at r_597) (A.at r_601) (A.at r_605) (A.at r_611) (A.at r_618) (A.at r_622) (A.at r_626) (A.at r_630) (A.at r_633) from rfl).trans (by rw [l_597 A, l_601 A, l_605 A, l_611 A, l_618 A, l_622 A, l_626 A, l_630 A, l_633 A]; exact p_v1427 A)
theorem l_v1428 (A : Args F) : A.at v1428 = clean3 mX mN (N9 A) 17 :=
  (show A.at v1428 = k0_pay1178 (A.at r_598) (A.at r_602) (A.at r_606) (A.at r_612) (A.at r_617) (A.at r_621) (A.at r_625) (A.at r_629) (A.at r_634) from rfl).trans (by rw [l_598 A, l_602 A, l_606 A, l_612 A, l_617 A, l_621 A, l_625 A, l_629 A, l_634 A]; exact p_v1428 A)
theorem l_635 (A : Args F) : A.at r_635 = clean4 mX mN (N9 A) 18 :=
  (show A.at r_635 = k0_pay1179 (A.at r_599) (A.at r_603) (A.at r_607) (A.at r_609) (A.at r_613) (A.at r_616) (A.at r_620) (A.at r_624) (A.at r_628) (A.at r_632) (A.at v1427) from rfl).trans (by rw [l_599 A, l_603 A, l_607 A, l_609 A, l_613 A, l_616 A, l_620 A, l_624 A, l_628 A, l_632 A, l_v1427 A]; exact p_635 A)
theorem l_636 (A : Args F) : A.at r_636 = clean4 mX mN (N9 A) 19 :=
  (show A.at r_636 = k0_pay1180 (A.at r_600) (A.at r_604) (A.at r_608) (A.at r_610) (A.at r_614) (A.at r_615) (A.at r_619) (A.at r_623) (A.at r_627) (A.at r_631) (A.at v1428) from rfl).trans (by rw [l_600 A, l_604 A, l_608 A, l_610 A, l_614 A, l_615 A, l_619 A, l_623 A, l_627 A, l_631 A, l_v1428 A]; exact p_636 A)

end Cert.Proof

end

end
-- ==== Proof.Point.lean ====
/- One grid point at the ideal floats: what its blocks hold of the arguments, and what it leaves of the result. -/
module

public import proofs.«01_k».proof.Proof.Tile
public import proofs.«01_k».proof.Proof.Links2
public import proofs.«01_k».proof.Proof.Gen.KernelIdeal.Value
public import Idealize.ShloMosaic.Lib.StableHlo.Run
public import Idealize.ShloMosaic.Lib.VecWindow
public import Idealize.ShloMosaic.Lib.Pipeline.ValueKit.Tiles

@[expose] public section

noncomputable section

namespace Cert.Proof

open Idealize.ShloMosaic Idealize.ShloMosaic.ValueIdx Idealize.ShloMosaic.TcCoe Idealize.SL.Sem Cert.KernelIdeal Cert.KernelIdeal.Gen
open Idealize.ShloMosaic.Pipeline (Dat)

/-- Where each window's block lies at each of the eight points. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = 0)
    ∧ (win0_6.index t (0 : Fin 2) = t.val ∧ win0_6.index t (1 : Fin 2) = 0) :=
  (by decide +kernel : ∀ t : Fin grid0.N, _)

variable (m : (ℓ : Loc nD τ sig) → Buf (Elt Ideal) ℓ) (c : Dev nD) (t : Fin cfg0.N)

theorem iblk0_at (p : Fin 2) (r : Fin 512) (d : Fin 32) (P : Fin 4) (R : Fin 2048) (hP : P.val = 2 * (t.val / 4) + p.val)
    (hR : R.val = 512 * (t.val % 4) + r.val) :
    iblk m c 0 t (ix3 p r d) = m ((c : Thread nD τ).loc main_arg1) (ix3 P R d) := by
  show V m c main_arg1 (((cfg0.win 0).blk t).view.emb (ix3 p r d)) = _
  rw [V_main_arg1]
  obtain ⟨⟨e0, e1, e2⟩, -⟩ := idx_facts t
  refine congrArg _ (funext fun a => Fin.ext ?_)
  match a with
  | ⟨0, _⟩ => show win0_0.index t (0 : Fin 3) * 2 + 1 * p.val = P.val; omega
  | ⟨1, _⟩ => show win0_0.index t (1 : Fin 3) * 512 + 1 * r.val = R.val; omega
  | ⟨2, _⟩ => show win0_0.index t (2 : Fin 3) * 32 + 1 * d.val = d.val; omega

theorem iblk1_at (p : Fin 2) (r : Fin 2048) (d : Fin 32) (P : Fin 4) (hP : P.val = 2 * (t.val / 4) + p.val) :
    iblk m c 1 t (ix3 p r d) = m ((c : Thread nD τ).loc main_arg2) (ix3 P r d) := by
  show V m c main_arg2 (((cfg0.win 1).blk t).view.emb (ix3 p r d)) = _
  rw [V_main_arg2]
  obtain ⟨-, ⟨e0, e1, e2⟩, -⟩ := idx_facts t
  refine congrArg _ (funext fun a => Fin.ext ?_)
  match a with
  | ⟨0, _⟩ => show win0_1.index t (0 : Fin 3) * 2 + 1 * p.val = P.val; omega
  | ⟨1, _⟩ => show win0_1.index t (1 : Fin 3) * 2048 + 1 * r.val = r.val; omega
  | ⟨2, _⟩ => show win0_1.index t (2 : Fin 3) * 32 + 1 * d.val = d.val; omega

theorem iblk2_at (p : Fin 2) (r d : Fin 32) (P : Fin 4) (hP : P.val = 2 * (t.val / 4) + p.val) :
    iblk m c 2 t (ix3 p r d) = m ((c : Thread nD τ).loc main_arg3) (ix3 P r d) := by
  show V m c main_arg3 (((cfg0.win 2).blk t).view.emb (ix3 p r d)) = _
  rw [V_main_arg3]
  obtain ⟨-, -, ⟨e0, e1, e2⟩, -⟩ := idx_facts t
  refine congrArg _ (funext fun a => Fin.ext ?_)
  match a with
  | ⟨0, _⟩ => show win0_2.index t (0 : Fin 3) * 2 + 1 * p.val = P.val; omega
  | ⟨1, _⟩ => show win0_2.index t (1 : Fin 3) * 32 + 1 * r.val = r.val; omega
  | ⟨2, _⟩ => show win0_2.index t (2 : Fin 3) * 32 + 1 * d.val = d.val; omega

theorem iblk4_at (p : Fin 2) (r d : Fin 32) (P : Fin 4) (hP : P.val = 2 * (t.val / 4) + p.val) :
    iblk m c 4 t (ix3 p r d) = m ((c : Thread nD τ).loc main_arg5) (ix3 P r d) := by
  show V m c main_arg5 (((cfg0.win 4).blk t).view.emb (ix3 p r d)) = _
  rw [V_main_arg5]
  obtain ⟨-, -, -, -, ⟨e0, e1, e2⟩, -⟩ := idx_facts t
  refine congrArg _ (funext fun a => Fin.ext ?_)
  match a with
  | ⟨0, _⟩ => show win0_4.index t (0 : Fin 3) * 2 + 1 * p.val = P.val; omega
  | ⟨1, _⟩ => show win0_4.index t (1 : Fin 3) * 32 + 1 * r.val = r.val; omega
  | ⟨2, _⟩ => show win0_4.index t (2 : Fin 3) * 32 + 1 * d.val = d.val; omega

/-- The first biases, each given a row of its own before the kernel starts. -/
theorem V_bias1 : V m c main_call0_v0 = broadcastInDim S4x1x32 ![0, 2] bcast_S4x32_S4x1x32_0_2 (m ((c : Thread nD τ).loc main_arg4)) := by
  show StableHlo.after hostOps0 (fun b => m (c, b)) main_call0_v0 = _
  simp only [hostOps0, StableHlo.TRef.unary, StableHlo.TRef.toBuf, StableHlo.TRef.ofBuf, cast_eq]
  after_results_simp <;> rfl

/-- The second biases, each given a row of its own before the kernel starts. -/
theorem V_bias2 : V m c main_call0_v1 = broadcastInDim S4x1x32 ![0, 2] bcast_S4x32_S4x1x32_0_2 (m ((c : Thread nD τ).loc main_arg6)) := by
  show StableHlo.after hostOps0 (fun b => m (c, b)) main_call0_v1 = _
  simp only [hostOps0, StableHlo.TRef.unary, StableHlo.TRef.toBuf, StableHlo.TRef.ofBuf, cast_eq]
  after_results_simp <;> rfl

/-- A bias with a row of its own, at an index. -/
theorem bias_at (v : S4x32.Idx → EReal) (j : S4x1x32.Idx) (P : Fin 4) (k : Fin 32) (h0 : (j 0).val = P.val) (h2 : (j 2).val = k.val) :
    broadcastInDim S4x1x32 ![0, 2] bcast_S4x32_S4x1x32_0_2 v j = v (ix2 P k) :=
  broadcastInDim_apply _ _ v j (ix2 P k) fun a => match a with
    | ⟨0, _⟩ => by show P.val = if (4 : ℕ) = 1 then 0 else (j 0).val; rw [if_neg (by decide), h0]
    | ⟨1, _⟩ => by show k.val = if (32 : ℕ) = 1 then 0 else (j 2).val; rw [if_neg (by decide), h2]

theorem iblk3_at (p : Fin 2) (k : Fin 32) (P : Fin 4) (hP : P.val = 2 * (t.val / 4) + p.val) :
    iblk m c 3 t (ix3 p 0 k) = m ((c : Thread nD τ).loc main_arg4) (ix2 P k) := by
  show V m c main_call0_v0 (((cfg0.win 3).blk t).view.emb (ix3 p 0 k)) = _
  rw [V_bias1]
  obtain ⟨-, -, -, ⟨e0, e1, e2⟩, -⟩ := idx_facts t
  refine bias_at _ _ P k ?_ ?_
  · show win0_3.index t (0 : Fin 3) * 2 + 1 * p.val = P.val; omega
  · show win0_3.index t (2 : Fin 3) * 32 + 1 * k.val = k.val; omega

theorem iblk5_at (p : Fin 2) (k : Fin 32) (P : Fin 4) (hP : P.val = 2 * (t.val / 4) + p.val) :
    iblk m c 5 t (ix3 p 0 k) = m ((c : Thread nD τ).loc main_arg6) (ix2 P k) := by
  show V m c main_call0_v1 (((cfg0.win 5).blk t).view.emb (ix3 p 0 k)) = _
  rw [V_bias2]
  obtain ⟨-, -, -, -, -, ⟨e0, e1, e2⟩, -⟩ := idx_facts t
  refine bias_at _ _ P k ?_ ?_
  · show win0_5.index t (0 : Fin 3) * 2 + 1 * p.val = P.val; omega
  · show win0_5.index t (2 : Fin 3) * 32 + 1 * k.val = k.val; omega

/-- The body's arguments at point `t`. -/
def argsAt : Args Ideal :=
  ⟨c, ms0_0 t, hs0_0 t, ms0_1 t, hs0_1 t, ms0_2 t, hs0_2 t, ms0_3 t, hs0_3 t, ms0_4 t, hs0_4 t, ms0_5 t, hs0_5 t,
    iblk m c 0 t, iblk m c 1 t, iblk m c 2 t, iblk m c 3 t, iblk m c 4 t, iblk m c 5 t⟩

/-- The kept entries: those at least the threshold of their row. -/
theorem keep_at (w : FVec Ideal S512x4096 .f32) (a b : FVec Ideal S1x512 .f32) (z : Fin 512) (C : Fin 4096) :
    k0_pay1 w a b (ix2 z C) = Scalar.select (FloatOps.cmpf (F := Ideal) (φ := .f32) .oge (w (ix2 z C)) ((minimumf a b) (ix2 0 z))) (w (ix2 z C))
      (FloatOps.ofBits (F := Ideal) .f32 0x00000000#32) := by
  have e : ∀ v : FVec Ideal S1x512 .f32, broadcastTo S512x4096 (transpose S512x1 [1, 0] v transposes_S1x512_p1_0_S512x1) broadcasts_S512x1_S512x4096 (ix2 z C)
      = v (ix2 0 z) := fun v =>
    (broadcastTo_apply _ _ _ (ix2 z 0) fun a => match a with
      | ⟨0, _⟩ => by show z.val = if (512 : ℕ) = 1 then 0 else z.val; rw [if_neg (by decide)]
      | ⟨1, _⟩ => by show (0 : ℕ) = if (1 : ℕ) = 1 then 0 else _; rw [if_pos rfl]).trans (swap_at v _ z 0)
  unfold k0_pay1
  exact congrArg (fun q : EReal => Scalar.select (FloatOps.cmpf (F := Ideal) (φ := .f32) .oge (w (ix2 z C)) q) (w (ix2 z C))
      (FloatOps.ofBits (F := Ideal) .f32 0x00000000#32)) (e (minimumf a b))

/-- What the point leaves of its output block. -/
theorem out_at (y : S512x4096.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        scM0_0 (Memref.isWhole_whole _) (iblk m c 0 t) (iblk m c 1 t) (iblk m c 2 t) (iblk m c 3 t) (iblk m c 4 t) (iblk m c 5 t) y
      = k0_pay1 ((argsAt m c t).at kernelRun0_A.sl.r_4) ((argsAt m c t).at kernelRun0_A.sl.r_635) ((argsAt m c t).at kernelRun0_A.sl.r_636) y := by
  unfold out0_A_6 kernelRun0_A
  have h := View.read_writes_cons_emb (v := VO0_6) (f := VO0_6.junk) (Val := Elt Ideal)
    (Rect.unit (s := S512x4096) ![0, 0] S512x4096.size inb_S512x4096_S512x4096_0_0)
    (k0_pay1 ((argsAt m c t).at kernelRun0_A.sl.r_4) ((argsAt m c t).at kernelRun0_A.sl.r_635) ((argsAt m c t).at kernelRun0_A.sl.r_636)) [] y
  rw [Rect.emb_unit_full] at h
  exact h

/-- The whole result at an index, from its point's tile and threshold. -/
theorem result_at (z : Fin 512) (C R : Fin 4096) (hR : R.val = 512 * t.val + z.val) :
    (dats m 0 c).arrAt 6 cfg0.N (ix2 R C)
      = Scalar.select (FloatOps.cmpf (F := Ideal) (φ := .f32) .oge (tile (argsAt m c t) (ix2 C z)) (M9 (argsAt m c t) 19 (ix2 0 z))) (tile (argsAt m c t) (ix2 C z))
        (FloatOps.ofBits (F := Ideal) .f32 0x00000000#32) := by
  have b := congrFun (Cert.KernelIdeal.Value.blocks6 m c t (flush0_6 t)) (ix2 z C)
  rw [Cert.KernelIdeal.Value.flushed6_A] at b
  have b' : (dats m 0 c).arrAt 6 cfg0.N (((cfg0.win 6).blk t).view.emb (ix2 z C)) = _ := b
  have e : ((cfg0.win 6).blk t).view.emb (ix2 z C) = ix2 R C := by
    obtain ⟨-, -, -, -, -, -, e0, e1⟩ := idx_facts t
    funext a; apply Fin.ext
    match a with
    | ⟨0, _⟩ => show win0_6.index t (0 : Fin 2) * 512 + 1 * z.val = R.val; omega
    | ⟨1, _⟩ => show win0_6.index t (1 : Fin 2) * 4096 + 1 * C.val = C.val; omega
  rw [e] at b'
  refine b'.trans ((out_at m c t (ix2 z C)).trans ?_)
  rw [keep_at, rows_at, l_635, l_636]
  rfl

end Cert.Proof

end
-- ==== Proof.Char.lean ====
/- What the kernel's threshold is, at the ideal floats: it is reached by `τ` exactly when at least twenty of its row's 4096 entries reach `τ`. -/
module

public import proofs.«01_k».proof.Proof.Stages
public import Idealize.ShloMosaic.Lib.ValueIdxCore
public import Idealize.ShloMosaic.Lib.Pipeline.Value

@[expose] public section

noncomputable section

namespace Cert.Proof

open Idealize.ShloMosaic Idealize.ShloMosaic.ValueIdx Cert.KernelIdeal Cert.KernelIdeal.Gen

/-- Two halves' counts, `h` apart. -/
def half (h : ℕ) (C : ℕ → EReal → ℕ) (x : ℕ) (τ : EReal) : ℕ := C x τ + C (h + x) τ

variable (A : Args Ideal)

theorem lo2_at (v : FVec Ideal S32x8x512 .f32) (x : Fin 16) (y : Fin 8) (z : Fin 512) :
    lo2 v (ix3 x y z) = v (ix3 ⟨x.val, by omega⟩ y z) := by
  unfold lo2
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem hi2_at (v : FVec Ideal S32x8x512 .f32) (x : Fin 16) (y : Fin 8) (z : Fin 512) :
    hi2 v (ix3 x y z) = v (ix3 ⟨16 + x.val, by omega⟩ y z) := by
  unfold hi2
  refine extractStridedSlice_apply _ _ _ _ _ fun a => ?_
  match a with
  | ⟨0, _⟩ => rfl
  | ⟨1, _⟩ => exact (Nat.zero_add _).symm
  | ⟨2, _⟩ => exact (Nat.zero_add _).symm
theorem lo3_at (v : FVec Ideal S16x8x512 .f32) (x : Fin 8) (y : Fin 8) (z : Fin 512) :
    lo3 v (ix3 x y z) = v (ix3 ⟨x.val, by omega⟩ y z) := by
  unfold lo3
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem hi3_at (v : FVec Ideal S16x8x512 .f32) (x : Fin 8) (y : Fin 8) (z : Fin 512) :
    hi3 v (ix3 x y z) = v (ix3 ⟨8 + x.val, by omega⟩ y z) := by
  unfold hi3
  refine extractStridedSlice_apply _ _ _ _ _ fun a => ?_
  match a with
  | ⟨0, _⟩ => rfl
  | ⟨1, _⟩ => exact (Nat.zero_add _).symm
  | ⟨2, _⟩ => exact (Nat.zero_add _).symm
theorem lo4_at (v : FVec Ideal S8x8x512 .f32) (x : Fin 4) (y : Fin 8) (z : Fin 512) :
    lo4 v (ix3 x y z) = v (ix3 ⟨x.val, by omega⟩ y z) := by
  unfold lo4
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem hi4_at (v : FVec Ideal S8x8x512 .f32) (x : Fin 4) (y : Fin 8) (z : Fin 512) :
    hi4 v (ix3 x y z) = v (ix3 ⟨4 + x.val, by omega⟩ y z) := by
  unfold hi4
  refine extractStridedSlice_apply _ _ _ _ _ fun a => ?_
  match a with
  | ⟨0, _⟩ => rfl
  | ⟨1, _⟩ => exact (Nat.zero_add _).symm
  | ⟨2, _⟩ => exact (Nat.zero_add _).symm
theorem lo5_at (v : FVec Ideal S4x8x512 .f32) (x : Fin 2) (y : Fin 8) (z : Fin 512) :
    lo5 v (ix3 x y z) = v (ix3 ⟨x.val, by omega⟩ y z) := by
  unfold lo5
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem hi5_at (v : FVec Ideal S4x8x512 .f32) (x : Fin 2) (y : Fin 8) (z : Fin 512) :
    hi5 v (ix3 x y z) = v (ix3 ⟨2 + x.val, by omega⟩ y z) := by
  unfold hi5
  refine extractStridedSlice_apply _ _ _ _ _ fun a => ?_
  match a with
  | ⟨0, _⟩ => rfl
  | ⟨1, _⟩ => exact (Nat.zero_add _).symm
  | ⟨2, _⟩ => exact (Nat.zero_add _).symm
theorem lo6_at (v : FVec Ideal S2x8x512 .f32) (x : Fin 1) (y : Fin 8) (z : Fin 512) :
    lo6 v (ix3 x y z) = v (ix3 ⟨x.val, by omega⟩ y z) := by
  unfold lo6
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem hi6_at (v : FVec Ideal S2x8x512 .f32) (x : Fin 1) (y : Fin 8) (z : Fin 512) :
    hi6 v (ix3 x y z) = v (ix3 ⟨1 + x.val, by omega⟩ y z) := by
  unfold hi6
  refine extractStridedSlice_apply _ _ _ _ _ fun a => ?_
  match a with
  | ⟨0, _⟩ => rfl
  | ⟨1, _⟩ => exact (Nat.zero_add _).symm
  | ⟨2, _⟩ => exact (Nat.zero_add _).symm
theorem lo7_at (v : FVec Ideal S8x512 .f32) (y : Fin 4) (z : Fin 512) :
    lo7 v (ix2 y z) = v (ix2 ⟨y.val, by omega⟩ z) := by
  unfold lo7
  refine extractStridedSlice_apply _ _ _ _ _ fun a => ?_
  match a with
  | ⟨0, _⟩ => exact (Nat.zero_add _).symm
  | ⟨1, _⟩ => exact (Nat.zero_add _).symm
theorem hi7_at (v : FVec Ideal S8x512 .f32) (y : Fin 4) (z : Fin 512) :
    hi7 v (ix2 y z) = v (ix2 ⟨4 + y.val, by omega⟩ z) := by
  unfold hi7
  refine extractStridedSlice_apply _ _ _ _ _ fun a => ?_
  match a with
  | ⟨0, _⟩ => rfl
  | ⟨1, _⟩ => exact (Nat.zero_add _).symm
theorem lo8_at (v : FVec Ideal S4x512 .f32) (y : Fin 2) (z : Fin 512) :
    lo8 v (ix2 y z) = v (ix2 ⟨y.val, by omega⟩ z) := by
  unfold lo8
  refine extractStridedSlice_apply _ _ _ _ _ fun a => ?_
  match a with
  | ⟨0, _⟩ => exact (Nat.zero_add _).symm
  | ⟨1, _⟩ => exact (Nat.zero_add _).symm
theorem hi8_at (v : FVec Ideal S4x512 .f32) (y : Fin 2) (z : Fin 512) :
    hi8 v (ix2 y z) = v (ix2 ⟨2 + y.val, by omega⟩ z) := by
  unfold hi8
  refine extractStridedSlice_apply _ _ _ _ _ fun a => ?_
  match a with
  | ⟨0, _⟩ => rfl
  | ⟨1, _⟩ => exact (Nat.zero_add _).symm
theorem lo9_at (v : FVec Ideal S2x512 .f32) (y : Fin 1) (z : Fin 512) :
    lo9 v (ix2 y z) = v (ix2 ⟨y.val, by omega⟩ z) := by
  unfold lo9
  refine extractStridedSlice_apply _ _ _ _ _ fun a => ?_
  match a with
  | ⟨0, _⟩ => exact (Nat.zero_add _).symm
  | ⟨1, _⟩ => exact (Nat.zero_add _).symm
theorem hi9_at (v : FVec Ideal S2x512 .f32) (y : Fin 1) (z : Fin 512) :
    hi9 v (ix2 y z) = v (ix2 ⟨1 + y.val, by omega⟩ z) := by
  unfold hi9
  refine extractStridedSlice_apply _ _ _ _ _ fun a => ?_
  match a with
  | ⟨0, _⟩ => rfl
  | ⟨1, _⟩ => exact (Nat.zero_add _).symm
theorem rep_M1 (x : Fin 32) (y : Fin 8) (z : Fin 512) :
    Rep 16 (fun i => M1 A i (ix3 x y z)) (cnt 16 fun j => col A j (ix3 x y z)) := by
  have e : (fun i => M1 A i (ix3 x y z)) = sort16 max min (fun j => col A j (ix3 x y z)) := by
    funext i
    exact sort16_hom (mx := mX) (mn := mN) (fun v : FVec Ideal S32x8x512 .f32 => v (ix3 x y z)) (fun _ _ => rfl) (fun _ _ => rfl) (col A) i
  rw [e]; exact rep_sort16 _

theorem rep_M2 (y : Fin 8) (z : Fin 512) (C : ℕ → EReal → ℕ) (hM : ∀ x : Fin 32, Rep 16 (fun i => M1 A i (ix3 x y z)) (C x.val))
    (hC : ∀ x τ, C x τ ≤ 16) (x : Fin 16) : Rep 20 (fun i => M2 A i (ix3 x y z)) (half 16 C x.val) := by
  have e : (fun i => M2 A i (ix3 x y z)) = merge16 max min (fun i => M1 A i (ix3 ⟨x.val, by omega⟩ y z)) (fun i => M1 A i (ix3 ⟨16 + x.val, by omega⟩ y z)) := by
    funext i
    have e1 : M2 A = merge16 mX mN (fun i => lo2 (M1 A i)) (fun i => hi2 (M1 A i)) := rfl
    rw [e1]
    refine (merge16_hom (fun v : FVec Ideal S16x8x512 .f32 => v (ix3 x y z)) (mx' := max) (mn' := min) (fun _ _ => rfl) (fun _ _ => rfl) _ _ i).trans ?_
    simp only [lo2_at, hi2_at]
  rw [e]; exact Rep.merge16 (hM _) (hM _) (hC _) (hC _)

theorem rep_M3 (y : Fin 8) (z : Fin 512) (C : ℕ → EReal → ℕ) (hM : ∀ x : Fin 16, Rep 20 (fun i => M2 A i (ix3 x y z)) (C x.val))
    (x : Fin 8) : Rep 20 (fun i => M3 A i (ix3 x y z)) (half 8 C x.val) := by
  have e : (fun i => M3 A i (ix3 x y z)) = merge20 max min (fun i => M2 A i (ix3 ⟨x.val, by omega⟩ y z)) (fun i => M2 A i (ix3 ⟨8 + x.val, by omega⟩ y z)) := by
    funext i
    have e1 : M3 A = merge20 mX mN (fun i => lo3 (M2 A i)) (fun i => hi3 (M2 A i)) := rfl
    rw [e1]
    refine (merge20_hom (fun v : FVec Ideal S8x8x512 .f32 => v (ix3 x y z)) (mx' := max) (mn' := min) (fun _ _ => rfl) (fun _ _ => rfl) _ _ i).trans ?_
    simp only [lo3_at, hi3_at]
  rw [e]; exact Rep.merge20 (hM _) (hM _)

theorem rep_M4 (y : Fin 8) (z : Fin 512) (C : ℕ → EReal → ℕ) (hM : ∀ x : Fin 8, Rep 20 (fun i => M3 A i (ix3 x y z)) (C x.val))
    (x : Fin 4) : Rep 20 (fun i => M4 A i (ix3 x y z)) (half 4 C x.val) := by
  have e : (fun i => M4 A i (ix3 x y z)) = merge20 max min (fun i => M3 A i (ix3 ⟨x.val, by omega⟩ y z)) (fun i => M3 A i (ix3 ⟨4 + x.val, by omega⟩ y z)) := by
    funext i
    have e1 : M4 A = merge20 mX mN (fun i => lo4 (M3 A i)) (fun i => hi4 (M3 A i)) := rfl
    rw [e1]
    refine (merge20_hom (fun v : FVec Ideal S4x8x512 .f32 => v (ix3 x y z)) (mx' := max) (mn' := min) (fun _ _ => rfl) (fun _ _ => rfl) _ _ i).trans ?_
    simp only [lo4_at, hi4_at]
  rw [e]; exact Rep.merge20 (hM _) (hM _)

theorem rep_M5 (y : Fin 8) (z : Fin 512) (C : ℕ → EReal → ℕ) (hM : ∀ x : Fin 4, Rep 20 (fun i => M4 A i (ix3 x y z)) (C x.val))
    (x : Fin 2) : Rep 20 (fun i => M5 A i (ix3 x y z)) (half 2 C x.val) := by
  have e : (fun i => M5 A i (ix3 x y z)) = merge20 max min (fun i => M4 A i (ix3 ⟨x.val, by omega⟩ y z)) (fun i => M4 A i (ix3 ⟨2 + x.val, by omega⟩ y z)) := by
    funext i
    have e1 : M5 A = merge20 mX mN (fun i => lo5 (M4 A i)) (fun i => hi5 (M4 A i)) := rfl
    rw [e1]
    refine (merge20_hom (fun v : FVec Ideal S2x8x512 .f32 => v (ix3 x y z)) (mx' := max) (mn' := min) (fun _ _ => rfl) (fun _ _ => rfl) _ _ i).trans ?_
    simp only [lo5_at, hi5_at]
  rw [e]; exact Rep.merge20 (hM _) (hM _)

theorem rep_M6 (y : Fin 8) (z : Fin 512) (C : ℕ → EReal → ℕ) (hM : ∀ x : Fin 2, Rep 20 (fun i => M5 A i (ix3 x y z)) (C x.val))
    (x : Fin 1) : Rep 20 (fun i => M6 A i (ix3 x y z)) (half 1 C x.val) := by
  have e : (fun i => M6 A i (ix3 x y z)) = merge20 max min (fun i => M5 A i (ix3 ⟨x.val, by omega⟩ y z)) (fun i => M5 A i (ix3 ⟨1 + x.val, by omega⟩ y z)) := by
    funext i
    have e1 : M6 A = merge20 mX mN (fun i => lo6 (M5 A i)) (fun i => hi6 (M5 A i)) := rfl
    rw [e1]
    refine (merge20_hom (fun v : FVec Ideal S1x8x512 .f32 => v (ix3 x y z)) (mx' := max) (mn' := min) (fun _ _ => rfl) (fun _ _ => rfl) _ _ i).trans ?_
    simp only [lo6_at, hi6_at]
  rw [e]; exact Rep.merge20 (hM _) (hM _)

theorem Q6_at (i : ℕ) (y : Fin 8) (z : Fin 512) : Q6 A i (ix2 y z) = M6 A i (ix3 0 y z) := by
  unfold Q6
  refine shapeCast_apply _ _ _ _ ?_
  rw [Shape.rowMajor_val_three, Shape.rowMajor_val_two]
  show (0 * 8 + y.val) * 512 + z.val = y.val * 512 + z.val
  omega

theorem rep_M7 (z : Fin 512) (C : ℕ → EReal → ℕ) (hM : ∀ y : Fin 8, Rep 20 (fun i => Q6 A i (ix2 y z)) (C y.val))
    (y : Fin 4) : Rep 20 (fun i => M7 A i (ix2 y z)) (half 4 C y.val) := by
  have e : (fun i => M7 A i (ix2 y z)) = merge20 max min (fun i => Q6 A i (ix2 ⟨y.val, by omega⟩ z)) (fun i => Q6 A i (ix2 ⟨4 + y.val, by omega⟩ z)) := by
    funext i
    have e1 : M7 A = merge20 mX mN (fun i => lo7 (Q6 A i)) (fun i => hi7 (Q6 A i)) := rfl
    rw [e1]
    refine (merge20_hom (fun v : FVec Ideal S4x512 .f32 => v (ix2 y z)) (mx' := max) (mn' := min) (fun _ _ => rfl) (fun _ _ => rfl) _ _ i).trans ?_
    simp only [lo7_at, hi7_at]
  rw [e]; exact Rep.merge20 (hM _) (hM _)

theorem rep_M8 (z : Fin 512) (C : ℕ → EReal → ℕ) (hM : ∀ y : Fin 4, Rep 20 (fun i => M7 A i (ix2 y z)) (C y.val))
    (y : Fin 2) : Rep 20 (fun i => M8 A i (ix2 y z)) (half 2 C y.val) := by
  have e : (fun i => M8 A i (ix2 y z)) = merge20 max min (fun i => M7 A i (ix2 ⟨y.val, by omega⟩ z)) (fun i => M7 A i (ix2 ⟨2 + y.val, by omega⟩ z)) := by
    funext i
    have e1 : M8 A = merge20 mX mN (fun i => lo8 (M7 A i)) (fun i => hi8 (M7 A i)) := rfl
    rw [e1]
    refine (merge20_hom (fun v : FVec Ideal S2x512 .f32 => v (ix2 y z)) (mx' := max) (mn' := min) (fun _ _ => rfl) (fun _ _ => rfl) _ _ i).trans ?_
    simp only [lo8_at, hi8_at]
  rw [e]; exact Rep.merge20 (hM _) (hM _)

theorem rep_M9 (z : Fin 512) (C : ℕ → EReal → ℕ) (hM : ∀ y : Fin 2, Rep 20 (fun i => M8 A i (ix2 y z)) (C y.val))
    (y : Fin 1) : Rep 20 (fun i => M9 A i (ix2 y z)) (half 1 C y.val) := by
  have e : (fun i => M9 A i (ix2 y z)) = merge20 max min (fun i => M8 A i (ix2 ⟨y.val, by omega⟩ z)) (fun i => M8 A i (ix2 ⟨1 + y.val, by omega⟩ z)) := by
    funext i
    have e1 : M9 A = merge20 mX mN (fun i => lo9 (M8 A i)) (fun i => hi9 (M8 A i)) := rfl
    rw [e1]
    refine (merge20_hom (fun v : FVec Ideal S1x512 .f32 => v (ix2 y z)) (mx' := max) (mn' := min) (fun _ _ => rfl) (fun _ _ => rfl) _ _ i).trans ?_
    simp only [lo9_at, hi9_at]
  rw [e]; exact Rep.merge20 (hM _) (hM _)

/-- A sum over `a` blocks of `b`. -/
theorem sum_blocks (f : ℕ → ℕ) (a b : ℕ) : ∑ c ∈ Finset.range (a * b), f c = ∑ x ∈ Finset.range a, ∑ w ∈ Finset.range b, f (x * b + w) := by
  induction a with
  | zero => simp
  | succ a ih => rw [Nat.succ_mul, Finset.sum_range_add, ih, Finset.sum_range_succ]

/-- The entries of row `z` that reach `τ`, `T` giving the row's entries. -/
def reach (T : ℕ → EReal) (τ : EReal) : ℕ := ∑ c ∈ Finset.range 4096, if τ ≤ T c then 1 else 0

theorem sum_eight (u : ℕ → EReal → ℕ) (τ : EReal) : ∑ y ∈ Finset.range 8, u y τ = half 1 (half 2 (half 4 u)) 0 τ := by
  simp only [half, Finset.sum_range_succ, Finset.sum_range_zero, Nat.reduceAdd, Nat.add_zero, Nat.zero_add]
  omega

/-- The threshold's characterization, the columns read from `T`. -/
theorem thresh_iff (z : Fin 512) (T : ℕ → EReal)
    (hT : ∀ (x : Fin 32) (y : Fin 8) (j : ℕ), j < 16 → col A j (ix3 x y z) = T (128 * x.val + 8 * j + y.val)) (τ : EReal) :
    τ ≤ M9 A 19 (ix2 0 z) ↔ 19 < reach T τ := by
  let g : ℕ → ℕ → EReal → ℕ := fun y x => cnt 16 fun j => T (128 * x + 8 * j + y)
  have h1 : ∀ (x : Fin 32) (y : Fin 8), Rep 16 (fun i => M1 A i (ix3 x y z)) (g y.val x.val) := by
    intro x y
    have := rep_M1 A x y z
    have e : (cnt 16 fun j => col A j (ix3 x y z)) = g y.val x.val := by
      funext τ; unfold g cnt
      exact Finset.sum_congr rfl fun j hj => by beta_reduce; rw [hT x y j (Finset.mem_range.1 hj)]
    rwa [e] at this
  have h6 : ∀ y : Fin 8, Rep 20 (fun i => Q6 A i (ix2 y z)) (half 1 (half 2 (half 4 (half 8 (half 16 (g y.val))))) 0) := by
    intro y
    have := rep_M6 A y z _ (rep_M5 A y z _ (rep_M4 A y z _ (rep_M3 A y z _ (rep_M2 A y z (g y.val) (fun x => h1 x y) (fun x τ => cnt_le 16 _ τ))))) 0
    simp only [Q6_at]
    exact this
  have h9 := rep_M9 A z _ (rep_M8 A z _ (rep_M7 A z (fun y => half 1 (half 2 (half 4 (half 8 (half 16 (g y))))) 0) h6)) 0 τ 19 (by decide)
  have hs : reach T τ = half 1 (half 2 (half 4 fun y => half 1 (half 2 (half 4 (half 8 (half 16 (g y))))) 0)) 0 τ := by
    unfold reach
    rw [show (4096 : ℕ) = 32 * 128 from rfl, sum_blocks]
    have hx : ∀ x, ∑ w ∈ Finset.range 128, (if τ ≤ T (x * 128 + w) then 1 else 0)
        = ∑ y ∈ Finset.range 8, g y x τ := by
      intro x
      rw [show (128 : ℕ) = 16 * 8 from rfl, sum_blocks, Finset.sum_comm]
      refine Finset.sum_congr rfl fun y _ => ?_
      unfold g cnt
      refine Finset.sum_congr rfl fun j _ => ?_
      rw [show x * (16 * 8) + (j * 8 + y) = 128 * x + 8 * j + y by omega]
    rw [Finset.sum_congr rfl fun x _ => hx x, Finset.sum_comm]
    have hy : ∀ y, ∑ x ∈ Finset.range 32, g y x τ = half 1 (half 2 (half 4 (half 8 (half 16 (g y))))) 0 τ := by
      intro y
      generalize g y = u
      simp only [half, Finset.sum_range_succ, Finset.sum_range_zero, Nat.reduceAdd, Nat.add_zero, Nat.zero_add]
      omega
    rw [Finset.sum_congr rfl fun y _ => hy y]
    exact sum_eight (fun y => half 1 (half 2 (half 4 (half 8 (half 16 (g y))))) 0) τ
  rw [hs]
  simpa [ones] using h9

end Cert.Proof

end

end
-- ==== Proof.Ref.lean ====
/- The reference's scores at the ideal floats: each of the four blocks at an index as a sum of products. -/
module

public import proofs.«01_k».proof.Proof.Gen.ReferenceIdeal.Read
public import Idealize.ShloMosaic.Lib.ValueIdxCore
public import Idealize.ShloMosaic.Lib.Pipeline.Value

@[expose] public section

noncomputable section

namespace Cert.Proof.Ref

open Idealize.ShloMosaic Idealize.ShloMosaic.ValueIdx Cert.ReferenceIdeal Cert.ReferenceIdeal.Gen Cert.ReferenceIdeal.Read

/-- Matrix `p`'s linear layer at a row and a feature. -/
def aff (x : S4x2048x32.Idx → EReal) (w : S4x32x32.Idx → EReal) (b : S4x32.Idx → EReal) (p : Fin 4) (r : Fin 2048) (k : Fin 32) : EReal :=
  (∑ d : Fin 32, x (ix3 p r d) * w (ix3 p k d)) + b (ix2 p k)

/-- Matrix `p`'s score of a row and a column. -/
def score (x1 x2 : S4x2048x32.Idx → EReal) (x3 : S4x32x32.Idx → EReal) (x4 : S4x32.Idx → EReal) (x5 : S4x32x32.Idx → EReal) (x6 : S4x32.Idx → EReal)
    (p : Fin 4) (r c : Fin 2048) : EReal := ∑ k : Fin 32, aff x1 x3 x4 p r k * aff x2 x5 x6 p c k

variable (x1 x2 : S4x2048x32.Idx → EReal) (x3 : S4x32x32.Idx → EReal) (x4 : S4x32.Idx → EReal) (x5 : S4x32x32.Idx → EReal) (x6 : S4x32.Idx → EReal)

theorem left_0 (r : Fin 2048) (k : Fin 32) : (val_main_v10 (F := Ideal) x1 x3 x4 (ix2 r k) : EReal) = aff x1 x3 x4 0 r k := by
  rw [val_main_v10_apply]
  refine congrArg₂ (fun a b : EReal => a + b) ?_ ?_
  · rw [val_main_v5_apply]
    refine Finset.sum_congr rfl fun d _ => ?_
    rw [val_main_v1_apply, val_main_v0_apply, val_main_v4_apply, val_main_v3_apply, val_main_v2_apply]
    refine congrArg₂ (fun a b : EReal => a * b) (congrArg x1 (funext fun a => Fin.ext ?_)) (congrArg x3 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v9_apply, val_main_v8_apply, val_main_v7_apply, val_main_v6_apply]
    refine congrArg x4 (funext fun a => Fin.ext ?_)
    match a with
    | ⟨0, _⟩ => rfl
    | ⟨1, _⟩ => show k.val % 32 = k.val; omega

theorem right_0 (r : Fin 2048) (k : Fin 32) : (val_main_v21 (F := Ideal) x2 x5 x6 (ix2 r k) : EReal) = aff x2 x5 x6 0 r k := by
  rw [val_main_v21_apply]
  refine congrArg₂ (fun a b : EReal => a + b) ?_ ?_
  · rw [val_main_v16_apply]
    refine Finset.sum_congr rfl fun d _ => ?_
    rw [val_main_v12_apply, val_main_v11_apply, val_main_v15_apply, val_main_v14_apply, val_main_v13_apply]
    refine congrArg₂ (fun a b : EReal => a * b) (congrArg x2 (funext fun a => Fin.ext ?_)) (congrArg x5 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v20_apply, val_main_v19_apply, val_main_v18_apply, val_main_v17_apply]
    refine congrArg x6 (funext fun a => Fin.ext ?_)
    match a with
    | ⟨0, _⟩ => rfl
    | ⟨1, _⟩ => show k.val % 32 = k.val; omega

theorem block_0 (r c : Fin 2048) : (val_main_v23 (F := Ideal) x1 x2 x3 x4 x5 x6 (ix2 r c) : EReal) = score x1 x2 x3 x4 x5 x6 0 r c := by
  rw [val_main_v23_apply]
  refine Finset.sum_congr rfl fun k _ => ?_
  rw [val_main_v22_apply]
  refine congrArg₂ (fun a b : EReal => a * b) ((congrArg _ ?_).trans (left_0 x1 x3 x4 r k)) ((congrArg _ ?_).trans (right_0 x2 x5 x6 c k))
  · funext a
    match a with
    | ⟨0, _⟩ => rfl
    | ⟨1, _⟩ => rfl
  · funext a
    match a with
    | ⟨0, _⟩ => rfl
    | ⟨1, _⟩ => rfl

theorem left_1 (r : Fin 2048) (k : Fin 32) : (val_main_v34 (F := Ideal) x1 x3 x4 (ix2 r k) : EReal) = aff x1 x3 x4 1 r k := by
  rw [val_main_v34_apply]
  refine congrArg₂ (fun a b : EReal => a + b) ?_ ?_
  · rw [val_main_v29_apply]
    refine Finset.sum_congr rfl fun d _ => ?_
    rw [val_main_v25_apply, val_main_v24_apply, val_main_v28_apply, val_main_v27_apply, val_main_v26_apply]
    refine congrArg₂ (fun a b : EReal => a * b) (congrArg x1 (funext fun a => Fin.ext ?_)) (congrArg x3 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v33_apply, val_main_v32_apply, val_main_v31_apply, val_main_v30_apply]
    refine congrArg x4 (funext fun a => Fin.ext ?_)
    match a with
    | ⟨0, _⟩ => rfl
    | ⟨1, _⟩ => show k.val % 32 = k.val; omega

theorem right_1 (r : Fin 2048) (k : Fin 32) : (val_main_v45 (F := Ideal) x2 x5 x6 (ix2 r k) : EReal) = aff x2 x5 x6 1 r k := by
  rw [val_main_v45_apply]
  refine congrArg₂ (fun a b : EReal => a + b) ?_ ?_
  · rw [val_main_v40_apply]
    refine Finset.sum_congr rfl fun d _ => ?_
    rw [val_main_v36_apply, val_main_v35_apply, val_main_v39_apply, val_main_v38_apply, val_main_v37_apply]
    refine congrArg₂ (fun a b : EReal => a * b) (congrArg x2 (funext fun a => Fin.ext ?_)) (congrArg x5 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v44_apply, val_main_v43_apply, val_main_v42_apply, val_main_v41_apply]
    refine congrArg x6 (funext fun a => Fin.ext ?_)
    match a with
    | ⟨0, _⟩ => rfl
    | ⟨1, _⟩ => show k.val % 32 = k.val; omega

theorem block_1 (r c : Fin 2048) : (val_main_v47 (F := Ideal) x1 x2 x3 x4 x5 x6 (ix2 r c) : EReal) = score x1 x2 x3 x4 x5 x6 1 r c := by
  rw [val_main_v47_apply]
  refine Finset.sum_congr rfl fun k _ => ?_
  rw [val_main_v46_apply]
  refine congrArg₂ (fun a b : EReal => a * b) ((congrArg _ ?_).trans (left_1 x1 x3 x4 r k)) ((congrArg _ ?_).trans (right_1 x2 x5 x6 c k))
  · funext a
    match a with
    | ⟨0, _⟩ => rfl
    | ⟨1, _⟩ => rfl
  · funext a
    match a with
    | ⟨0, _⟩ => rfl
    | ⟨1, _⟩ => rfl

theorem left_2 (r : Fin 2048) (k : Fin 32) : (val_main_v59 (F := Ideal) x1 x3 x4 (ix2 r k) : EReal) = aff x1 x3 x4 2 r k := by
  rw [val_main_v59_apply]
  refine congrArg₂ (fun a b : EReal => a + b) ?_ ?_
  · rw [val_main_v54_apply]
    refine Finset.sum_congr rfl fun d _ => ?_
    rw [val_main_v50_apply, val_main_v49_apply, val_main_v53_apply, val_main_v52_apply, val_main_v51_apply]
    refine congrArg₂ (fun a b : EReal => a * b) (congrArg x1 (funext fun a => Fin.ext ?_)) (congrArg x3 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v58_apply, val_main_v57_apply, val_main_v56_apply, val_main_v55_apply]
    refine congrArg x4 (funext fun a => Fin.ext ?_)
    match a with
    | ⟨0, _⟩ => rfl
    | ⟨1, _⟩ => show k.val % 32 = k.val; omega

theorem right_2 (r : Fin 2048) (k : Fin 32) : (val_main_v70 (F := Ideal) x2 x5 x6 (ix2 r k) : EReal) = aff x2 x5 x6 2 r k := by
  rw [val_main_v70_apply]
  refine congrArg₂ (fun a b : EReal => a + b) ?_ ?_
  · rw [val_main_v65_apply]
    refine Finset.sum_congr rfl fun d _ => ?_
    rw [val_main_v61_apply, val_main_v60_apply, val_main_v64_apply, val_main_v63_apply, val_main_v62_apply]
    refine congrArg₂ (fun a b : EReal => a * b) (congrArg x2 (funext fun a => Fin.ext ?_)) (congrArg x5 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v69_apply, val_main_v68_apply, val_main_v67_apply, val_main_v66_apply]
    refine congrArg x6 (funext fun a => Fin.ext ?_)
    match a with
    | ⟨0, _⟩ => rfl
    | ⟨1, _⟩ => show k.val % 32 = k.val; omega

theorem block_2 (r c : Fin 2048) : (val_main_v72 (F := Ideal) x1 x2 x3 x4 x5 x6 (ix2 r c) : EReal) = score x1 x2 x3 x4 x5 x6 2 r c := by
  rw [val_main_v72_apply]
  refine Finset.sum_congr rfl fun k _ => ?_
  rw [val_main_v71_apply]
  refine congrArg₂ (fun a b : EReal => a * b) ((congrArg _ ?_).trans (left_2 x1 x3 x4 r k)) ((congrArg _ ?_).trans (right_2 x2 x5 x6 c k))
  · funext a
    match a with
    | ⟨0, _⟩ => rfl
    | ⟨1, _⟩ => rfl
  · funext a
    match a with
    | ⟨0, _⟩ => rfl
    | ⟨1, _⟩ => rfl

theorem left_3 (r : Fin 2048) (k : Fin 32) : (val_main_v83 (F := Ideal) x1 x3 x4 (ix2 r k) : EReal) = aff x1 x3 x4 3 r k := by
  rw [val_main_v83_apply]
  refine congrArg₂ (fun a b : EReal => a + b) ?_ ?_
  · rw [val_main_v78_apply]
    refine Finset.sum_congr rfl fun d _ => ?_
    rw [val_main_v74_apply, val_main_v73_apply, val_main_v77_apply, val_main_v76_apply, val_main_v75_apply]
    refine congrArg₂ (fun a b : EReal => a * b) (congrArg x1 (funext fun a => Fin.ext ?_)) (congrArg x3 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v82_apply, val_main_v81_apply, val_main_v80_apply, val_main_v79_apply]
    refine congrArg x4 (funext fun a => Fin.ext ?_)
    match a with
    | ⟨0, _⟩ => rfl
    | ⟨1, _⟩ => show k.val % 32 = k.val; omega

theorem right_3 (r : Fin 2048) (k : Fin 32) : (val_main_v94 (F := Ideal) x2 x5 x6 (ix2 r k) : EReal) = aff x2 x5 x6 3 r k := by
  rw [val_main_v94_apply]
  refine congrArg₂ (fun a b : EReal => a + b) ?_ ?_
  · rw [val_main_v89_apply]
    refine Finset.sum_congr rfl fun d _ => ?_
    rw [val_main_v85_apply, val_main_v84_apply, val_main_v88_apply, val_main_v87_apply, val_main_v86_apply]
    refine congrArg₂ (fun a b : EReal => a * b) (congrArg x2 (funext fun a => Fin.ext ?_)) (congrArg x5 (funext fun a => Fin.ext ?_))
    · match a with
      | ⟨0, _⟩ => rfl
      | ⟨1, _⟩ => show (r.val * 32 + d.val) / 32 % 2048 = r.val; omega
      | ⟨2, _⟩ => show (r.val * 32 + d.val) % 32 = d.val; omega
    · match a with
      | ⟨0, _⟩ => rfl
      | ⟨1, _⟩ => show (k.val * 32 + d.val) / 32 % 32 = k.val; omega
      | ⟨2, _⟩ => show (k.val * 32 + d.val) % 32 = d.val; omega
  · rw [val_main_v93_apply, val_main_v92_apply, val_main_v91_apply, val_main_v90_apply]
    refine congrArg x6 (funext fun a => Fin.ext ?_)
    match a with
    | ⟨0, _⟩ => rfl
    | ⟨1, _⟩ => show k.val % 32 = k.val; omega

theorem block_3 (r c : Fin 2048) : (val_main_v96 (F := Ideal) x1 x2 x3 x4 x5 x6 (ix2 r c) : EReal) = score x1 x2 x3 x4 x5 x6 3 r c := by
  rw [val_main_v96_apply]
  refine Finset.sum_congr rfl fun k _ => ?_
  rw [val_main_v95_apply]
  refine congrArg₂ (fun a b : EReal => a * b) ((congrArg _ ?_).trans (left_3 x1 x3 x4 r k)) ((congrArg _ ?_).trans (right_3 x2 x5 x6 c k))
  · funext a
    match a with
    | ⟨0, _⟩ => rfl
    | ⟨1, _⟩ => rfl
  · funext a
    match a with
    | ⟨0, _⟩ => rfl
    | ⟨1, _⟩ => rfl

theorem scores_0 (R C : Fin 4096) (r c : Fin 2048) (hr : R.val = r.val) (hc : C.val = c.val) :
    (val_main_v98 (F := Ideal) x1 x2 x3 x4 x5 x6 (ix2 R C) : EReal) = score x1 x2 x3 x4 x5 x6 0 r c := by
  unfold val_main_v98 val_main_v48
  refine (concatenate_pair_apply_left (t := S4096x4096) (s₁ := S2048x4096) (s₂ := S2048x4096) 0 _ _ _ (ix2 R C) rfl (ix2 r C) ?_).trans
    ((concatenate_pair_apply_left (t := S2048x4096) (s₁ := S2048x2048) (s₂ := S2048x2048) 1 _ _ _ (ix2 r C) rfl (ix2 r c) ?_).trans (block_0 x1 x2 x3 x4 x5 x6 r c))
  · intro b
    match b with
    | ⟨0, _⟩ => exact hr.symm
    | ⟨1, _⟩ => rfl
  · intro b
    match b with
    | ⟨0, _⟩ => rfl
    | ⟨1, _⟩ => exact hc.symm

theorem scores_1 (R C : Fin 4096) (r c : Fin 2048) (hr : R.val = r.val) (hc : C.val = c.val + 2048) :
    (val_main_v98 (F := Ideal) x1 x2 x3 x4 x5 x6 (ix2 R C) : EReal) = score x1 x2 x3 x4 x5 x6 1 r c := by
  unfold val_main_v98 val_main_v48
  refine (concatenate_pair_apply_left (t := S4096x4096) (s₁ := S2048x4096) (s₂ := S2048x4096) 0 _ _ _ (ix2 R C) rfl (ix2 r C) ?_).trans
    ((concatenate_pair_apply_right (t := S2048x4096) (s₁ := S2048x2048) (s₂ := S2048x2048) 1 _ _ _ (ix2 r C) rfl rfl (ix2 r c) ?_ ?_).trans (block_1 x1 x2 x3 x4 x5 x6 r c))
  · intro b
    match b with
    | ⟨0, _⟩ => exact hr.symm
    | ⟨1, _⟩ => rfl
  · intro b hb
    match b with
    | ⟨0, _⟩ => rfl
    | ⟨1, _⟩ => exact absurd rfl hb
  · exact hc.symm

theorem scores_2 (R C : Fin 4096) (r c : Fin 2048) (hr : R.val = r.val + 2048) (hc : C.val = c.val) :
    (val_main_v98 (F := Ideal) x1 x2 x3 x4 x5 x6 (ix2 R C) : EReal) = score x1 x2 x3 x4 x5 x6 2 r c := by
  unfold val_main_v98 val_main_v97
  refine (concatenate_pair_apply_right (t := S4096x4096) (s₁ := S2048x4096) (s₂ := S2048x4096) 0 _ _ _ (ix2 R C) rfl rfl (ix2 r C) ?_ ?_).trans
    ((concatenate_pair_apply_left (t := S2048x4096) (s₁ := S2048x2048) (s₂ := S2048x2048) 1 _ _ _ (ix2 r C) rfl (ix2 r c) ?_).trans (block_2 x1 x2 x3 x4 x5 x6 r c))
  · intro b hb
    match b with
    | ⟨0, _⟩ => exact absurd rfl hb
    | ⟨1, _⟩ => rfl
  · exact hr.symm
  · intro b
    match b with
    | ⟨0, _⟩ => rfl
    | ⟨1, _⟩ => exact hc.symm

theorem scores_3 (R C : Fin 4096) (r c : Fin 2048) (hr : R.val = r.val + 2048) (hc : C.val = c.val + 2048) :
    (val_main_v98 (F := Ideal) x1 x2 x3 x4 x5 x6 (ix2 R C) : EReal) = score x1 x2 x3 x4 x5 x6 3 r c := by
  unfold val_main_v98 val_main_v97
  refine (concatenate_pair_apply_right (t := S4096x4096) (s₁ := S2048x4096) (s₂ := S2048x4096) 0 _ _ _ (ix2 R C) rfl rfl (ix2 r C) ?_ ?_).trans
    ((concatenate_pair_apply_right (t := S2048x4096) (s₁ := S2048x2048) (s₂ := S2048x2048) 1 _ _ _ (ix2 r C) rfl rfl (ix2 r c) ?_ ?_).trans (block_3 x1 x2 x3 x4 x5 x6 r c))
  · intro b hb
    match b with
    | ⟨0, _⟩ => exact absurd rfl hb
    | ⟨1, _⟩ => rfl
  · exact hr.symm
  · intro b hb
    match b with
    | ⟨0, _⟩ => rfl
    | ⟨1, _⟩ => exact absurd rfl hb
  · exact hc.symm

end Cert.Proof.Ref

end
-- ==== Proof.Scores.lean ====
/- One grid point's tile holds the reference's scores of its rows, and its threshold is reached as the reference's row says. -/
module

public import proofs.«01_k».proof.Proof.Point
public import proofs.«01_k».proof.Proof.Char
public import proofs.«01_k».proof.Proof.Ref

@[expose] public section

noncomputable section

namespace Cert.Proof

open Idealize.ShloMosaic Idealize.ShloMosaic.ValueIdx Idealize.ShloMosaic.TcCoe Idealize.SL.Sem Cert.KernelIdeal Cert.KernelIdeal.Gen
open Cert.ReferenceIdeal.Read (val_main_v98)

variable (m : (ℓ : Loc nD τ sig) → Buf (Elt Ideal) ℓ) (c : Dev nD) (t : Fin cfg0.N)

/-- The first embedding table. -/
abbrev emb1 : S4x2048x32.Idx → EReal := m ((c : Thread nD τ).loc main_arg1)
/-- The second embedding table. -/
abbrev emb2 : S4x2048x32.Idx → EReal := m ((c : Thread nD τ).loc main_arg2)
/-- The first layer's weights. -/
abbrev wgt1 : S4x32x32.Idx → EReal := m ((c : Thread nD τ).loc main_arg3)
/-- The first layer's biases. -/
abbrev bia1 : S4x32.Idx → EReal := m ((c : Thread nD τ).loc main_arg4)
/-- The second layer's weights. -/
abbrev wgt2 : S4x32x32.Idx → EReal := m ((c : Thread nD τ).loc main_arg5)
/-- The second layer's biases. -/
abbrev bia2 : S4x32.Idx → EReal := m ((c : Thread nD τ).loc main_arg6)

theorem feat1_at (p : Fin 2) (z : Fin 512) (k : Fin 32) (P : Fin 4) (R : Fin 2048) (hP : P.val = 2 * (t.val / 4) + p.val)
    (hR : R.val = 512 * (t.val % 4) + z.val) :
    feat1 (argsAt m c t) p z k = Ref.aff (emb1 m c) (wgt1 m c) (bia1 m c) P R k := by
  unfold feat1 Ref.aff
  refine congrArg₂ (fun a b : EReal => a + b) (Finset.sum_congr rfl fun d _ => congrArg₂ (fun a b : EReal => a * b) ?_ ?_) ?_
  · exact iblk0_at m c t p z d P R hP hR
  · exact iblk2_at m c t p k d P hP
  · exact iblk3_at m c t p k P hP

theorem feat2_at (p : Fin 2) (r : Fin 2048) (k : Fin 32) (P : Fin 4) (hP : P.val = 2 * (t.val / 4) + p.val) :
    feat2 (argsAt m c t) p r k = Ref.aff (emb2 m c) (wgt2 m c) (bia2 m c) P r k := by
  unfold feat2 Ref.aff
  refine congrArg₂ (fun a b : EReal => a + b) (Finset.sum_congr rfl fun d _ => congrArg₂ (fun a b : EReal => a * b) ?_ ?_) ?_
  · exact iblk1_at m c t p r d P hP
  · exact iblk4_at m c t p k d P hP
  · exact iblk5_at m c t p k P hP

theorem tile_score (p : Fin 2) (C : Fin 4096) (r : Fin 2048) (hC : C.val = r.val + 2048 * p.val) (z : Fin 512) (P : Fin 4) (R : Fin 2048)
    (hP : P.val = 2 * (t.val / 4) + p.val) (hR : R.val = 512 * (t.val % 4) + z.val) :
    (tile (argsAt m c t) (ix2 C z) : EReal) = Ref.score (emb1 m c) (emb2 m c) (wgt1 m c) (bia1 m c) (wgt2 m c) (bia2 m c) P R r := by
  have h : (tile (argsAt m c t) (ix2 C z) : EReal) = ∑ k : Fin 32, feat2 (argsAt m c t) p r k * feat1 (argsAt m c t) p z k := by
    match p, hC with
    | ⟨0, _⟩, hC => exact tile_top _ C r (by simpa using hC) z
    | ⟨1, _⟩, hC => exact tile_bot _ C r (by simpa using hC) z
  rw [h]
  unfold Ref.score
  exact Finset.sum_congr rfl fun k _ => by rw [feat1_at m c t p z k P R hP hR, feat2_at m c t p r k P hP, mul_comm]

/-- The reference's scores. -/
abbrev scores : S4096x4096.Idx → EReal := val_main_v98 (F := Ideal) (emb1 m c) (emb2 m c) (wgt1 m c) (bia1 m c) (wgt2 m c) (bia2 m c)

/-- A point's tile holds its rows' scores. -/
theorem tile_eq (z : Fin 512) (C R : Fin 4096) (hR : R.val = 512 * t.val + z.val) :
    (tile (argsAt m c t) (ix2 C z) : EReal) = scores m c (ix2 R C) := by
  have ht : t.val < 8 := t.isLt
  have hr : 512 * (t.val % 4) + z.val < 2048 := by omega
  have hc : C.val % 2048 < 2048 := by omega
  by_cases h1 : t.val < 4 <;> by_cases h2 : C.val < 2048
  · exact (tile_score m c t 0 C ⟨_, hc⟩ (by show C.val = C.val % 2048 + 2048 * 0; omega) z 0 ⟨_, hr⟩ (by show 0 = 2 * (t.val / 4) + 0; omega) rfl).trans
      (Ref.scores_0 _ _ _ _ _ _ R C ⟨_, hr⟩ ⟨_, hc⟩ (by show R.val = 512 * (t.val % 4) + z.val; omega) (by show C.val = C.val % 2048; omega)).symm
  · exact (tile_score m c t 1 C ⟨_, hc⟩ (by show C.val = C.val % 2048 + 2048 * 1; omega) z 1 ⟨_, hr⟩ (by show 1 = 2 * (t.val / 4) + 1; omega) rfl).trans
      (Ref.scores_1 _ _ _ _ _ _ R C ⟨_, hr⟩ ⟨_, hc⟩ (by show R.val = 512 * (t.val % 4) + z.val; omega) (by show C.val = C.val % 2048 + 2048; omega)).symm
  · exact (tile_score m c t 0 C ⟨_, hc⟩ (by show C.val = C.val % 2048 + 2048 * 0; omega) z 2 ⟨_, hr⟩ (by show 2 = 2 * (t.val / 4) + 0; omega) rfl).trans
      (Ref.scores_2 _ _ _ _ _ _ R C ⟨_, hr⟩ ⟨_, hc⟩ (by show R.val = 512 * (t.val % 4) + z.val + 2048; omega) (by show C.val = C.val % 2048; omega)).symm
  · exact (tile_score m c t 1 C ⟨_, hc⟩ (by show C.val = C.val % 2048 + 2048 * 1; omega) z 3 ⟨_, hr⟩ (by show 3 = 2 * (t.val / 4) + 1; omega) rfl).trans
      (Ref.scores_3 _ _ _ _ _ _ R C ⟨_, hr⟩ ⟨_, hc⟩ (by show R.val = 512 * (t.val % 4) + z.val + 2048; omega) (by show C.val = C.val % 2048 + 2048; omega)).symm

/-- Row `R` of the scores, as a function of the column's number. -/
def rowOf (X : (⟨2, ![4096, 4096]⟩ : Shape).Idx → EReal) (R : Fin 4096) (i : ℕ) : EReal := if h : i < 4096 then X (ix2 R ⟨i, h⟩) else 0

theorem rowOf_fin (X : (⟨2, ![4096, 4096]⟩ : Shape).Idx → EReal) (R i : Fin 4096) : rowOf X R i.val = X (ix2 R i) := by
  unfold rowOf
  rw [dif_pos i.isLt]

/-- The threshold is reached exactly when twenty of the row's scores reach it. -/
theorem thresh_at (z : Fin 512) (R : Fin 4096) (hR : R.val = 512 * t.val + z.val) (τ : EReal) :
    τ ≤ M9 (argsAt m c t) 19 (ix2 0 z) ↔ 19 < reach (rowOf (scores m c) R) τ := by
  refine thresh_iff _ z _ (fun x y j hj => ?_) τ
  rw [col_at _ j hj]
  exact (tile_eq m c t z ⟨128 * x.val + 8 * j + y.val, by omega⟩ R hR).trans (rowOf_fin (scores m c) R ⟨128 * x.val + 8 * j + y.val, by omega⟩).symm

end Cert.Proof

end
-- ==== Proof.TopK.lean ====
/- The top-`n` operation at the ideal floats puts a row in falling order, and keeps the first `n` values and places.
   The entry at place 19 is reached by `τ` exactly when at least twenty of the row's entries reach `τ`. -/
module

public import proofs.«01_k».proof.Proof.Char
public import Idealize.ShloMosaic.Lib.SortFacts
public import Idealize.ShloMosaic.Lib.WordCmp
public import Mathlib.Algebra.BigOperators.Fin

@[expose] public section

noncomputable section

namespace Cert.Proof

open Idealize.ShloMosaic Idealize.ShloMosaic.ValueIdx

/-- In a list of 4096 put in falling order by a permutation, entry 19 is reached exactly when at least twenty entries are. -/
theorem falling_iff (a : Fin 4096 → EReal) (σ : Fin 4096 → Fin 4096) (hσ : Function.Bijective σ)
    (hf : ∀ i j, i < j → a (σ j) ≤ a (σ i)) (T : ℕ → EReal) (hT : ∀ i : Fin 4096, T i.val = a i) (τ : EReal) :
    τ ≤ a (σ ⟨19, by decide⟩) ↔ 19 < reach T τ := by
  have hc : reach T τ = (Finset.univ.filter fun k : Fin 4096 => τ ≤ a (σ k)).card := by
    unfold reach
    rw [Finset.sum_range, Finset.card_filter, ← hσ.sum_comp fun i : Fin 4096 => if τ ≤ T i.val then 1 else 0]
    exact Finset.sum_congr rfl fun k _ => by rw [hT]
  rw [hc]
  constructor
  · intro h
    have hs : (Finset.Iic (⟨19, by decide⟩ : Fin 4096)) ⊆ Finset.univ.filter fun k : Fin 4096 => τ ≤ a (σ k) := by
      intro k hk
      rw [Finset.mem_Iic] at hk
      refine Finset.mem_filter.2 ⟨Finset.mem_univ _, ?_⟩
      rcases hk.lt_or_eq with hlt | heq
      · exact h.trans (hf _ _ hlt)
      · rw [heq]; exact h
    have := Finset.card_le_card hs
    rw [Fin.card_Iic] at this
    exact this
  · intro h
    by_contra hn
    have hs : (Finset.univ.filter fun k : Fin 4096 => τ ≤ a (σ k)) ⊆ Finset.Iio (⟨19, by decide⟩ : Fin 4096) := by
      intro k hk
      have hk' := (Finset.mem_filter.1 hk).2
      rw [Finset.mem_Iio]
      by_contra hge
      rcases (not_lt.1 hge).lt_or_eq with hlt | heq
      · exact hn (hk'.trans (hf _ _ hlt))
      · exact hn (by rw [heq]; exact hk')
    have := Finset.card_le_card hs
    rw [Fin.card_Iio] at this
    exact absurd h (not_lt.2 this)

/-- The comparison that puts a row in falling order. -/
def above (a : Fin 4096 → EReal) (k k' : Fin 4096) : Bool := (FloatOps.cmpfTotal (F := Ideal) (φ := .f32) .gt (a k) (a k')) == 1#1

theorem above_iff (a : Fin 4096 → EReal) (k k' : Fin 4096) : above a k k' = true ↔ a k' < a k := by
  unfold above
  rw [beq_iff_eq]
  exact WordCmp.ofBool_decide_eq_one_iff _

theorem above_false (a : Fin 4096 → EReal) (k k' : Fin 4096) : above a k k' = false ↔ a k ≤ a k' := by
  rw [← Bool.not_eq_true, above_iff, not_lt]

/-- The row the sort leaves is falling. -/
theorem above_falling (a : Fin 4096 → EReal) (i j : Fin 4096) (h : i < j) :
    a (sortedFrom (above a) j) ≤ a (sortedFrom (above a) i) :=
  (above_false a _ _).1 (sortedFrom_noInversion (above a) (above a)
    (fun p q hp => (above_false a _ _).2 (((above_iff a _ _).1 hp).le)) (fun _ _ hp => hp)
    (fun p q r h1 h2 => (above_false a _ _).2 (((above_false a _ _).1 h1).trans ((above_false a _ _).1 h2))) i j h)

/-- The order a row is put in, greatest first: `order X R q` is the column of row `R`'s entry at place `q`. -/
def order (X : (⟨2, ![4096, 4096]⟩ : Shape).Idx → EReal) (R : Fin 4096) : Fin 4096 → Fin 4096 := sortedFrom (above fun k => X (ix2 R k))

theorem order_bijective (X : (⟨2, ![4096, 4096]⟩ : Shape).Idx → EReal) (R : Fin 4096) : Function.Bijective (order X R) :=
  ⟨sortedFrom_injective _, sortedFrom_surjective _⟩

theorem order_falling (X : (⟨2, ![4096, 4096]⟩ : Shape).Idx → EReal) (R i j : Fin 4096) (h : i ≤ j) :
    X (ix2 R (order X R j)) ≤ X (ix2 R (order X R i)) := by
  rcases h.lt_or_eq with hlt | heq
  · exact above_falling (fun k => X (ix2 R k)) i j hlt
  · rw [heq]

/-- The top-`k` values are the first of the sorted. -/
theorem topK_fst {s t : Shape} {α : Type} (d : ℕ) (gt : α → α → BitVec 1) (x : s.Idx → α) (h : s.Slices (fun _ => 0) t) :
    (Host.topK t d gt x h).1 = extractStridedSlice t (fun _ => 0) (Host.sort2 s d (fun l r => gt l.1 r.1) x
      (fun i => if hd : d < s.rank then iotaInDim s 32 ⟨d, hd⟩ i else 0#32)).1 h := rfl

/-- The top-`k` places are the first of the places sorted along. -/
theorem topK_snd {s t : Shape} {α : Type} (d : ℕ) (gt : α → α → BitVec 1) (x : s.Idx → α) (h : s.Slices (fun _ => 0) t) :
    (Host.topK t d gt x h).2 = extractStridedSlice t (fun _ => 0) (Host.sort2 s d (fun l r => gt l.1 r.1) x
      (fun i => if hd : d < s.rank then iotaInDim s 32 ⟨d, hd⟩ i else 0#32)).2 h := rfl

/-- The first operand of a sort of two by the first operand's order. -/
theorem sort2_fst {s : Shape} {α β : Type} (d : ℕ) (gt : α → α → BitVec 1) (x : s.Idx → α) (y : s.Idx → β) (hd : d < s.rank) (j : s.Idx) :
    (Host.sort2 s d (fun l r => gt l.1 r.1) x y).1 j
      = x (j.along ⟨d, hd⟩ (sortedFrom (fun k k' => gt (x (j.along ⟨d, hd⟩ k)) (x (j.along ⟨d, hd⟩ k')) == 1#1) (j ⟨d, hd⟩))) := by
  unfold Host.sort2
  rw [dif_pos hd]

/-- The second operand is carried along. -/
theorem sort2_snd {s : Shape} {α β : Type} (d : ℕ) (gt : α → α → BitVec 1) (x : s.Idx → α) (y : s.Idx → β) (hd : d < s.rank) (j : s.Idx) :
    (Host.sort2 s d (fun l r => gt l.1 r.1) x y).2 j
      = y (j.along ⟨d, hd⟩ (sortedFrom (fun k k' => gt (x (j.along ⟨d, hd⟩ k)) (x (j.along ⟨d, hd⟩ k')) == 1#1) (j ⟨d, hd⟩))) := by
  unfold Host.sort2
  rw [dif_pos hd]

theorem along_row (R q k : Fin 4096) : Shape.Idx.along (s := ⟨2, ![4096, 4096]⟩) (ix2 R q) 1 k = ix2 R k := by
  unfold Shape.Idx.along
  funext a
  match a with
  | ⟨0, _⟩ => rfl
  | ⟨1, _⟩ => rfl

/-- The permutation the sort applies to row `R` is its order. -/
theorem order_eq (X : (⟨2, ![4096, 4096]⟩ : Shape).Idx → EReal) (R q : Fin 4096) :
    sortedFrom (fun k k' : Fin 4096 => FloatOps.cmpfTotal (F := Ideal) (φ := .f32) .gt
      (X (Shape.Idx.along (s := ⟨2, ![4096, 4096]⟩) (ix2 R q) 1 k)) (X (Shape.Idx.along (s := ⟨2, ![4096, 4096]⟩) (ix2 R q) 1 k')) == 1#1) q
      = order X R q := by
  refine congrArg (fun f : Fin 4096 → Fin 4096 → Bool => sortedFrom f q) (funext fun k => funext fun k' => ?_)
  exact congrArg₂ (fun p q : EReal => FloatOps.cmpfTotal (F := Ideal) (φ := .f32) .gt p q == 1#1) (congrArg X (along_row R q k)) (congrArg X (along_row R q k'))

/-- Value `j` of the top `n` of row `R` is the entry at place `j` of the order. -/
theorem topK_val {n : ℕ} (X : (⟨2, ![4096, 4096]⟩ : Shape).Idx → EReal) (h : (⟨2, ![4096, 4096]⟩ : Shape).Slices (fun _ => 0) ⟨2, ![4096, n]⟩)
    (R : Fin 4096) (j : Fin n) (q : Fin 4096) (hq : q.val = j.val) :
    (Host.topK ⟨2, ![4096, n]⟩ 1 (FloatOps.cmpfTotal (F := Ideal) (φ := .f32) .gt) X h).1 (ix2 R j) = X (ix2 R (order X R q)) := by
  rw [topK_fst]
  refine (extractStridedSlice_apply _ _ h _ (ix2 R q) ?_).trans ?_
  · intro a
    match a with
    | ⟨0, _⟩ => exact (Nat.zero_add _).symm
    | ⟨1, _⟩ => exact hq.trans (Nat.zero_add _).symm
  · refine (sort2_fst 1 _ X _ (by decide) (ix2 R q)).trans ?_
    exact congrArg X ((along_row R q _).trans (congrArg (ix2 R) (order_eq X R q)))

/-- Its place is the column there. -/
theorem topK_idx {n : ℕ} (X : (⟨2, ![4096, 4096]⟩ : Shape).Idx → EReal) (h : (⟨2, ![4096, 4096]⟩ : Shape).Slices (fun _ => 0) ⟨2, ![4096, n]⟩)
    (R : Fin 4096) (j : Fin n) (q : Fin 4096) (hq : q.val = j.val) :
    (Host.topK ⟨2, ![4096, n]⟩ 1 (FloatOps.cmpfTotal (F := Ideal) (φ := .f32) .gt) X h).2 (ix2 R j) = BitVec.ofNat 32 (order X R q).val := by
  rw [topK_snd]
  refine (extractStridedSlice_apply _ _ h _ (ix2 R q) ?_).trans ?_
  · intro a
    match a with
    | ⟨0, _⟩ => exact (Nat.zero_add _).symm
    | ⟨1, _⟩ => exact hq.trans (Nat.zero_add _).symm
  · refine (sort2_snd 1 _ X _ (by decide) (ix2 R q)).trans ?_
    beta_reduce
    rw [dif_pos (by decide)]
    refine (congrArg (iotaInDim (⟨2, ![4096, 4096]⟩ : Shape) 32 1) (along_row R q _)).trans ?_
    exact congrArg (fun k : Fin 4096 => BitVec.ofNat 32 k.val) (order_eq X R q)

end Cert.Proof

end
-- ==== Proof.Mask.lean ====
/- The reference's mask at an index: one at the columns of the row's first twenty places, zero elsewhere. -/
module

public import proofs.«01_k».proof.Proof.TopK
public import proofs.«01_k».proof.Proof.Gen.ReferenceIdeal.Read
public import Idealize.ShloMosaic.Lib.Routing.OpsPair
public import Idealize.ShloMosaic.Lib.Routing.OpsSet
public import Idealize.ShloMosaic.Lib.IdealHost
public import Idealize.ShloMosaic.Lib.WordArith

@[expose] public section

noncomputable section

namespace Cert.Proof.Ref

open Idealize.ShloMosaic Idealize.ShloMosaic.ValueIdx Cert.ReferenceIdeal Cert.ReferenceIdeal.Gen Cert.ReferenceIdeal.Read
open Idealize.ShloMosaic.Routing (scatter_lands2 scatter_set_hit scatter_set_miss wrap_of_lt)

variable (x1 x2 : S4x2048x32.Idx → EReal) (x3 : S4x32x32.Idx → EReal) (x4 : S4x32.Idx → EReal) (x5 : S4x32x32.Idx → EReal) (x6 : S4x32.Idx → EReal)

/-- One of the first twenty places, as a place of the whole row. -/
abbrev up (b : Fin 20) : Fin 4096 := ⟨b.val, b.isLt.trans (by norm_num)⟩

theorem word_small (a : Fin 4096) : (BitVec.ofNat 32 a.val).toNat < 2 ^ (32 - 1) := by
  rw [BitVec.toNat_ofNat]
  exact (Nat.mod_le _ _).trans_lt (a.isLt.trans (by norm_num))

theorem word_int (a : Fin 4096) : (BitVec.ofNat 32 a.val).toInt = a.val := StableHlo.Predicate.toInt_ofNat_small _ (a.isLt.trans (by norm_num))

/-- The first index word of an update is its row. -/
theorem word_row (a : Fin 4096) (b : Fin 20) : val_main_v115 (F := Ideal) x1 x2 x3 x4 x5 x6 (ix3 a b (0 : Fin 2)) = BitVec.ofNat 32 a.val := by
  unfold val_main_v115
  refine (concatenate_pair_apply_left (t := S4096x20x2) (s₁ := S4096x20x1) (s₂ := S4096x20x1) 2 _ _ _ (ix3 a b (0 : Fin 2)) rfl (ix3 a b (0 : Fin 1)) ?_).trans ?_
  · intro q
    match q with
    | ⟨0, _⟩ => rfl
    | ⟨1, _⟩ => rfl
    | ⟨2, _⟩ => rfl
  · rw [val_main_v113_apply, val_main_v112_apply, val_main_v106_apply, val_main_v103_apply, val_main_v102_apply, val_main_c_apply, val_main_v100_apply,
      val_main_v99_apply]
    exact wrap_of_lt (BitVec.ofNat 32 a.val) _ (word_small a)

/-- The second is the column at its place of the row's order. -/
theorem word_col (a : Fin 4096) (b : Fin 20) : val_main_v115 (F := Ideal) x1 x2 x3 x4 x5 x6 (ix3 a b (1 : Fin 2))
    = BitVec.ofNat 32 (order (val_main_v98 (F := Ideal) x1 x2 x3 x4 x5 x6) a (up b)).val := by
  unfold val_main_v115
  refine (concatenate_pair_apply_right (t := S4096x20x2) (s₁ := S4096x20x1) (s₂ := S4096x20x1) 2 _ _ _ (ix3 a b (1 : Fin 2)) rfl rfl (ix3 a b (0 : Fin 1)) ?_ ?_).trans ?_
  · intro q hq
    match q with
    | ⟨0, _⟩ => rfl
    | ⟨1, _⟩ => rfl
    | ⟨2, _⟩ => exact absurd rfl hq
  · rfl
  · rw [val_main_v114_apply, val_main_v111_apply, val_main_v108_apply, val_main_v107_apply, val_main_c_1_apply]
    have ei : idx_main_v114 (ix3 a b (0 : Fin 1)) = ix2 a b := by
      funext q
      match q with
      | ⟨0, _⟩ => rfl
      | ⟨1, _⟩ => rfl
    have e : val_main_indices (F := Ideal) x1 x2 x3 x4 x5 x6 (ix2 a b) = BitVec.ofNat 32 (order (val_main_v98 (F := Ideal) x1 x2 x3 x4 x5 x6) a (up b)).val :=
      topK_idx (val_main_v98 (F := Ideal) x1 x2 x3 x4 x5 x6) sliceFits_S4096x4096_S4096x20 a b (up b) rfl
    rw [ei, e]
    exact wrap_of_lt _ _ (word_small _)

/-- The mask is one at the column of a place below twenty. -/
theorem mask_hit (R C : Fin 4096) (q : Fin 20) (hq : order (val_main_v98 (F := Ideal) x1 x2 x3 x4 x5 x6) R (up q) = C) :
    (val_main_v117 (F := Ideal) x1 x2 x3 x4 x5 x6 (ix2 R C) : EReal) = 1 := by
  unfold val_main_v117
  refine scatter_set_hit _ _ _ _ _ _ (fun k _ => ?_) (ix2 R q) ?_
  · rw [val_main_v116_apply, val_main_cst_3_apply]
    exact Ideal.ofBits_one_f32
  · refine (scatter_lands2 _ rfl rfl rfl _ R q R C).2 ⟨?_, ?_⟩
    · rw [word_row, word_int]
    · rw [word_col, hq, word_int]

/-- It is zero at every other column. -/
theorem mask_miss (R C : Fin 4096) (h : ∀ q : Fin 20, order (val_main_v98 (F := Ideal) x1 x2 x3 x4 x5 x6) R (up q) ≠ C) :
    (val_main_v117 (F := Ideal) x1 x2 x3 x4 x5 x6 (ix2 R C) : EReal) = 0 := by
  unfold val_main_v117
  refine (scatter_set_miss _ _ _ _ _ (fun k hk => ?_)).trans ?_
  · obtain ⟨a, b, rfl⟩ : ∃ (a : Fin 4096) (b : Fin 20), k = ix2 a b := ⟨k 0, k 1, eq_ix2 k⟩
    have h2 := (scatter_lands2 _ rfl rfl rfl _ a b R C).1 hk
    rw [word_row, word_col, word_int, word_int] at h2
    obtain rfl : a = R := Fin.ext (by exact_mod_cast h2.1)
    exact h b (Fin.ext (by exact_mod_cast h2.2))
  · rw [val_main_v101_apply, val_main_cst_apply]
    exact Ideal.ofBits_zero_f32

end Cert.Proof.Ref

end
-- ==== Proof.Tie.lean ====
/- What the precondition says of a row: the entry at place 20 of its order is less than the entry at place 19, or the latter is zero. -/
module

public import proofs.«01_k».proof.Proof.TopK
public import proofs.«01_k».proof.Proof.Gen.ReferenceIdeal.Read
public import proofs.«01_k».proof.Pre_no_tie
public import Idealize.ShloMosaic.Lib.IdealHost

@[expose] public section

noncomputable section

namespace Cert.Proof

open Idealize.ShloMosaic Idealize.ShloMosaic.ValueIdx Cert.Pre_no_tie

/-- The precondition's side conditions on its shapes. -/
instance preFacts : Cert.Pre_no_tie.Facts := by constructor <;> decide

/-- The precondition's last operations, over the scores: a row's 20th greatest is greater than its 21st, or is zero. -/
def tieFree (X : FVec Ideal S4096x4096 .f32) : IVec S4096 1 :=
  ori
    (cmpf .ogt
      (shapeCast S4096 (extractStridedSlice S4096x1 ![0, 19] (Host.topK S4096x21 1 (FloatOps.cmpfTotal .gt) X Facts.sliceFits_S4096x4096_S4096x21).1
        Facts.slices_S4096x21_S4096x1_0_19) Facts.shapeCasts_S4096x1_S4096)
      (shapeCast S4096 (extractStridedSlice S4096x1 ![0, 20] (Host.topK S4096x21 1 (FloatOps.cmpfTotal .gt) X Facts.sliceFits_S4096x4096_S4096x21).1
        Facts.slices_S4096x21_S4096x1_0_20) Facts.shapeCasts_S4096x1_S4096))
    (cmpf .oeq
      (shapeCast S4096 (extractStridedSlice S4096x1 ![0, 19] (Host.topK S4096x21 1 (FloatOps.cmpfTotal .gt) X Facts.sliceFits_S4096x4096_S4096x21).1
        Facts.slices_S4096x21_S4096x1_0_19) Facts.shapeCasts_S4096x1_S4096)
      (broadcastInDim S4096 ![] Facts.bcast_S_S4096 (constant S_ .f32 0x00000000#32)))

/-- The precondition computes the reference's scores and then that. -/
theorem pre_eq (x0 : IVec S4096 32) (x1 x2 : FVec Ideal S4x2048x32 .f32) (x3 : FVec Ideal S4x32x32 .f32) (x4 : FVec Ideal S4x32 .f32)
    (x5 : FVec Ideal S4x32x32 .f32) (x6 : FVec Ideal S4x32 .f32) :
    Cert.Pre_no_tie.fn (F := Ideal) x0 x1 x2 x3 x4 x5 x6 = tieFree (Cert.ReferenceIdeal.Read.val_main_v98 (F := Ideal) x1 x2 x3 x4 x5 x6) := rfl

/-- A column of the table of the greatest twenty-one, as a list. -/
theorem column_at (V : (⟨2, ![4096, 21]⟩ : Shape).Idx → EReal) (o : ℕ) (j : Fin 21) (hj : j.val = o) (h : (⟨2, ![4096, 21]⟩ : Shape).Slices ![0, o] ⟨2, ![4096, 1]⟩)
    (h' : (⟨2, ![4096, 1]⟩ : Shape).ShapeCasts ⟨1, ![4096]⟩) (R : Fin 4096) :
    shapeCast ⟨1, ![4096]⟩ (extractStridedSlice ⟨2, ![4096, 1]⟩ ![0, o] V h) h' (ix1 R) = V (ix2 R j) := by
  refine (shapeCast_apply _ _ _ (ix2 R (0 : Fin 1)) ?_).trans (extractStridedSlice_apply _ _ _ _ (ix2 R j) ?_)
  · rw [Shape.rowMajor_val_two, Shape.rowMajor_val_one]
    exact Nat.mul_one R.val
  · intro a
    match a with
    | ⟨0, _⟩ => exact (Nat.zero_add _).symm
    | ⟨1, _⟩ => exact hj

theorem or_one : ∀ u v : BitVec 1, IntOp.ori u v = 1#1 → u = 1#1 ∨ v = 1#1 := by decide

theorem tieFree_row (X : (⟨2, ![4096, 4096]⟩ : Shape).Idx → EReal) (h : tieFree X = fun _ => 1#1) (R : Fin 4096) :
    X (ix2 R (order X R ⟨20, by decide⟩)) < X (ix2 R (order X R ⟨19, by decide⟩)) ∨ X (ix2 R (order X R ⟨19, by decide⟩)) = 0 := by
  have e19 := (column_at _ 19 ⟨19, by decide⟩ rfl Facts.slices_S4096x21_S4096x1_0_19 Facts.shapeCasts_S4096x1_S4096 R).trans
    (topK_val X Facts.sliceFits_S4096x4096_S4096x21 R ⟨19, by decide⟩ ⟨19, by decide⟩ rfl)
  have e20 := (column_at _ 20 ⟨20, by decide⟩ rfl Facts.slices_S4096x21_S4096x1_0_20 Facts.shapeCasts_S4096x1_S4096 R).trans
    (topK_val X Facts.sliceFits_S4096x4096_S4096x21 R ⟨20, by decide⟩ ⟨20, by decide⟩ rfl)
  rcases or_one _ _ (congrFun h (ix1 R)) with h1 | h1
  · have h2 := (WordCmp.ofBool_decide_eq_one_iff _).1 h1
    exact Or.inl (lt_of_eq_of_lt e20.symm (lt_of_lt_of_eq h2 e19))
  · have h2 := (WordCmp.ofBool_decide_eq_one_iff _).1 h1
    exact Or.inr (e19.symm.trans (h2.trans Ideal.ofBits_zero_f32))

end Cert.Proof

end
-- ==== Proof.Final.lean ====
/- The kernel's result is the reference's, at every index, when no row ties at its twentieth place. -/
module

public import proofs.«01_k».proof.Proof.Scores
public import proofs.«01_k».proof.Proof.Mask
public import proofs.«01_k».proof.Proof.Tie

@[expose] public section

noncomputable section

namespace Cert.Proof

open Idealize.ShloMosaic Idealize.ShloMosaic.ValueIdx Idealize.ShloMosaic.TcCoe Idealize.SL.Sem Cert.KernelIdeal Cert.KernelIdeal.Gen
open Cert.ReferenceIdeal.Read (val_main_v118 val_main_v118_apply val_main_v117)

/-- What the kernel writes for a score `v` under a threshold `θ`. -/
def kept (v θ : EReal) : EReal := Scalar.select (FloatOps.cmpf (F := Ideal) (φ := .f32) .oge v θ) v (FloatOps.ofBits (F := Ideal) .f32 0x00000000#32)

theorem kept_of_le (v θ : EReal) (h : θ ≤ v) : kept v θ = v := by
  unfold kept
  rw [show FloatOps.cmpf (F := Ideal) (φ := .f32) .oge v θ = 1#1 from (WordCmp.ofBool_decide_eq_one_iff _).2 h]
  rfl

theorem kept_of_not_le (v θ : EReal) (h : ¬ θ ≤ v) : kept v θ = 0 := by
  have e : FloatOps.cmpf (F := Ideal) (φ := .f32) .oge v θ = 0#1 := congrArg BitVec.ofBool (decide_eq_false h)
  unfold kept
  rw [e]
  exact Ideal.ofBits_zero_f32

variable (m : (ℓ : Loc nD τ sig) → Buf (Elt Ideal) ℓ) (c : Dev nD)

/-- A row's threshold is its entry at place 19. -/
theorem thresh_eq (t : Fin cfg0.N) (z : Fin 512) (R : Fin 4096) (hR : R.val = 512 * t.val + z.val) :
    (M9 (argsAt m c t) 19 (ix2 0 z) : EReal) = scores m c (ix2 R (order (scores m c) R ⟨19, by decide⟩)) :=
  eq_of_forall_le_iff fun τ => (thresh_at m c t z R hR τ).trans
    (falling_iff (fun k => scores m c (ix2 R k)) (order (scores m c) R) (order_bijective _ R) (fun i j h => order_falling _ R i j h.le) _ (rowOf_fin _ R) τ).symm

/-- A score is kept when it is among the row's first twenty places, and zero otherwise. -/
theorem kept_eq (R C : Fin 4096) (h : tieFree (scores m c) = fun _ => 1#1) :
    kept (scores m c (ix2 R C)) (scores m c (ix2 R (order (scores m c) R ⟨19, by decide⟩)))
      = val_main_v118 (F := Ideal) (emb1 m c) (emb2 m c) (wgt1 m c) (bia1 m c) (wgt2 m c) (bia2 m c) (ix2 R C) := by
  obtain ⟨q, hq⟩ := (order_bijective (scores m c) R).2 C
  rw [val_main_v118_apply]
  change _ = (scores m c (ix2 R C) : EReal) * (val_main_v117 (F := Ideal) (emb1 m c) (emb2 m c) (wgt1 m c) (bia1 m c) (wgt2 m c) (bia2 m c) (ix2 R C) : EReal)
  by_cases hlt : q.val < 20
  · rw [Ref.mask_hit _ _ _ _ _ _ R C ⟨q.val, hlt⟩ hq, mul_one]
    refine kept_of_le _ _ ?_
    rw [← hq]
    exact order_falling _ R _ _ (Nat.le_of_lt_succ hlt)
  · rw [Ref.mask_miss _ _ _ _ _ _ R C (fun q' hq' => hlt (by
      have e := (order_bijective (scores m c) R).1 (hq'.trans hq.symm)
      rw [← e]
      exact q'.isLt)), mul_zero]
    by_cases hle : scores m c (ix2 R (order (scores m c) R ⟨19, by decide⟩)) ≤ scores m c (ix2 R C)
    · rw [kept_of_le _ _ hle]
      have h20 : scores m c (ix2 R C) ≤ scores m c (ix2 R (order (scores m c) R ⟨20, by decide⟩)) := by
        conv_lhs => rw [← hq]
        exact order_falling _ R _ _ (not_lt.1 hlt)
      have h19 : scores m c (ix2 R C) ≤ scores m c (ix2 R (order (scores m c) R ⟨19, by decide⟩)) := h20.trans (order_falling _ R _ _ (Nat.le_succ 19))
      rcases tieFree_row (scores m c) h R with ht | ht
      · exact absurd (hle.trans h20) (not_le.2 ht)
      · exact (le_antisymm h19 hle).trans ht
    · exact kept_of_not_le _ _ hle

/-- The two results agree at every index. -/
theorem result_eq (h : tieFree (scores m c) = fun _ => 1#1) :
    (dats m 0 c).arrAt 6 cfg0.N = val_main_v118 (F := Ideal) (emb1 m c) (emb2 m c) (wgt1 m c) (bia1 m c) (wgt2 m c) (bia2 m c) := by
  funext i
  obtain ⟨R, C, rfl⟩ : ∃ R C : Fin 4096, i = ix2 R C := ⟨i 0, i 1, eq_ix2 i⟩
  have ht : R.val / 512 < cfg0.N := by show R.val / 512 < 8; omega
  have hR : R.val = 512 * (⟨R.val / 512, ht⟩ : Fin cfg0.N).val + (⟨R.val % 512, Nat.mod_lt _ (by decide)⟩ : Fin 512).val := by
    show R.val = 512 * (R.val / 512) + R.val % 512; omega
  refine (result_at m c ⟨R.val / 512, ht⟩ ⟨R.val % 512, Nat.mod_lt _ (by decide)⟩ C R hR).trans ?_
  exact (congrArg₂ kept (tile_eq m c ⟨R.val / 512, ht⟩ ⟨R.val % 512, Nat.mod_lt _ (by decide)⟩ C R hR)
    (thresh_eq m c ⟨R.val / 512, ht⟩ ⟨R.val % 512, Nat.mod_lt _ (by decide)⟩ R hR)).trans (kept_eq m c R C h)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem Cert.Kernel

/-- Both programs run and leave equal results, whatever arguments satisfy the precondition. -/
theorem algebraic : Cert.algebraic_KernelIdeal_ReferenceIdeal_pre_no_tie (hKernelIdeal := Cert.KernelIdeal.Gen.facts)
    (hReferenceIdeal := Cert.ReferenceIdeal.Gen.facts) (hPre_no_tie := preFacts) := by
  intro m g m' g' hpre hargs
  refine ⟨fun c => (Cert.KernelIdeal.Gen.dats m 0 c).arrAt 6 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨-, h1, h2, h3, h4, h5, h6⟩ := hargs c
  rw [Cert.ReferenceIdeal.Read.val_main_v118_eq, h1, h2, h3, h4, h5, h6]
  exact (result_eq m c ((pre_eq _ _ _ _ _ _ _).symm.trans (hpre c))).symm

theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  trivial,
  algebraic⟩

end Cert.Proof

end
